-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x2816 : Shape := ⟨3, ![128, 1, 2816]⟩
abbrev S128x1x4 : Shape := ⟨3, ![128, 1, 4]⟩
abbrev S8x3072x2816 : Shape := ⟨3, ![8, 3072, 2816]⟩
abbrev S8x3072 : Shape := ⟨2, ![8, 3072]⟩
abbrev S8x2816x1536 : Shape := ⟨3, ![8, 2816, 1536]⟩
abbrev S8x2816 : Shape := ⟨2, ![8, 2816]⟩
abbrev S128x4 : Shape := ⟨2, ![128, 4]⟩
abbrev S128x2816 : Shape := ⟨2, ![128, 2816]⟩
abbrev S2x3072x2816 : Shape := ⟨3, ![2, 3072, 2816]⟩
abbrev S2x2816x1536 : Shape := ⟨3, ![2, 2816, 1536]⟩
abbrev S128x1536 : Shape := ⟨2, ![128, 1536]⟩
abbrev S9 : Shape := ⟨1, ![9]⟩
abbrev S2x6 : Shape := ⟨2, ![2, 6]⟩
abbrev S2x2 : Shape := ⟨2, ![2, 2]⟩
abbrev S1x128x4 : Shape := ⟨3, ![1, 128, 4]⟩
abbrev S1 : Shape := ⟨1, ![1]⟩
abbrev S1x1x1 : Shape := ⟨3, ![1, 1, 1]⟩
abbrev S1x1 : Shape := ⟨2, ![1, 1]⟩
abbrev S_ : Shape := ⟨0, ![]⟩
abbrev S1x256x2816 : Shape := ⟨3, ![1, 256, 2816]⟩
abbrev S256x2816 : Shape := ⟨2, ![256, 2816]⟩
abbrev S1x1408x1536 : Shape := ⟨3, ![1, 1408, 1536]⟩
abbrev S1408x1536 : Shape := ⟨2, ![1408, 1536]⟩
abbrev S128 : Shape := ⟨1, ![128]⟩
abbrev S128x1 : Shape := ⟨2, ![128, 1]⟩
abbrev S128x256 : Shape := ⟨2, ![128, 256]⟩
abbrev S1x256 : Shape := ⟨2, ![1, 256]⟩
abbrev S128x1408 : Shape := ⟨2, ![128, 1408]⟩
abbrev S1x1408 : Shape := ⟨2, ![1, 1408]⟩

abbrev nBuf : Space → Nat
  | .hbm => 11
  | .vmem => 10
  | .smem => 1
  | _ => 0

abbrev bufTy : (tb : Table) → Fin (tcTables nBuf tb) → BufTy
  | .hbm, ⟨0, _⟩ => ⟨S128x1x2816, .bf16⟩
  | .hbm, ⟨1, _⟩ => ⟨S128x1x4, .i32⟩
  | .hbm, ⟨2, _⟩ => ⟨S128x1x4, .f32⟩
  | .hbm, ⟨3, _⟩ => ⟨S8x3072x2816, .i8⟩
  | .hbm, ⟨4, _⟩ => ⟨S8x3072, .f32⟩
  | .hbm, ⟨5, _⟩ => ⟨S8x2816x1536, .i8⟩
  | .hbm, ⟨6, _⟩ => ⟨S8x2816, .f32⟩
  | .hbm, ⟨7, _⟩ => ⟨S128x4, .i32⟩
  | .hbm, ⟨8, _⟩ => ⟨S128x4, .f32⟩
  | .hbm, ⟨9, _⟩ => ⟨S128x2816, .bf16⟩
  | .hbm, ⟨10, _⟩ => ⟨S128x2816, .bf16⟩
  | .local _ .vmem, ⟨0, _⟩ => ⟨S128x4, .i32⟩
  | .local _ .vmem, ⟨1, _⟩ => ⟨S128x4, .f32⟩
  | .local _ .vmem, ⟨2, _⟩ => ⟨S128x2816, .bf16⟩
  | .local _ .vmem, ⟨3, _⟩ => ⟨S8x3072, .f32⟩
  | .local _ .vmem, ⟨4, _⟩ => ⟨S8x2816, .f32⟩
  | .local _ .vmem, ⟨5, _⟩ => ⟨S128x2816, .bf16⟩
  | .local _ .vmem, ⟨6, _⟩ => ⟨S2x3072x2816, .i8⟩
  | .local _ .vmem, ⟨7, _⟩ => ⟨S2x2816x1536, .i8⟩
  | .local _ .vmem, ⟨8, _⟩ => ⟨S128x1536, .bf16⟩
  | .local _ .vmem, ⟨9, _⟩ => ⟨S128x2816, .f32⟩
  | .local _ .smem, ⟨0, _⟩ => ⟨S9, .i32⟩
  | _, _ => ⟨S128x1x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_off1 (v10 : BitVec 32) : Fin 1 → Nat :=
  let c0_i32_4 : BitVec 32 := 0#32
  let v12 : BitVec 32 := Scalar.addi c0_i32_4 v10
  let v22 : Index := Scalar.indexCast v12
  ![v22.toNat]

def k0_chk1 (v10 : BitVec 32) : Prop :=
  (∀ a, (k0_off1 v10) a + S1.size a ≤ S9.size a)
theorem k0_off1_inb : ∀ (v10 : BitVec 32) (k0_hw1 : k0_chk1 v10), ∀ a, (k0_off1 v10) a + S1.size a ≤ S9.size a := fun v10 k0_hw1 => k0_hw1

def k0_off2 (v10 : BitVec 32) (v21 : BitVec 32) : Fin 1 → Nat :=
  let c0_i32_4 : BitVec 32 := 0#32
  let v12 : BitVec 32 := Scalar.addi c0_i32_4 v10
  let v24 : BitVec 32 := Scalar.addi v12 v21
  let v34 : Index := Scalar.indexCast v24
  ![v34.toNat]

def k0_chk2 (v10 : BitVec 32) (v21 : BitVec 32) : Prop :=
  (∀ a, (k0_off2 v10 v21) a + S1.size a ≤ S9.size a)
theorem k0_off2_inb : ∀ (v10 : BitVec 32) (v21 : BitVec 32) (k0_hw2 : k0_chk2 v10 v21), ∀ a, (k0_off2 v10 v21) a + S1.size a ≤ S9.size a := fun v10 v21 k0_hw2 => k0_hw2

def k0_off3 (v10 : BitVec 32) (v21 : BitVec 32) (v33 : BitVec 32) : Fin 1 → Nat :=
  let c0_i32_4 : BitVec 32 := 0#32
  let v12 : BitVec 32 := Scalar.addi c0_i32_4 v10
  let v24 : BitVec 32 := Scalar.addi v12 v21
  let v36 : BitVec 32 := Scalar.addi v24 v33
  let v46 : Index := Scalar.indexCast v36
  ![v46.toNat]

def k0_chk3 (v10 : BitVec 32) (v21 : BitVec 32) (v33 : BitVec 32) : Prop :=
  (∀ a, (k0_off3 v10 v21 v33) a + S1.size a ≤ S9.size a)
theorem k0_off3_inb : ∀ (v10 : BitVec 32) (v21 : BitVec 32) (v33 : BitVec 32) (k0_hw3 : k0_chk3 v10 v21 v33), ∀ a, (k0_off3 v10 v21 v33) a + S1.size a ≤ S9.size a := fun v10 v21 v33 k0_hw3 => k0_hw3

def k0_off4 (v10 : BitVec 32) (v21 : BitVec 32) (v33 : BitVec 32) (v45 : BitVec 32) : Fin 1 → Nat :=
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v58 : Index := Scalar.indexCast v48
  ![v58.toNat]

def k0_chk4 (v10 : BitVec 32) (v21 : BitVec 32) (v33 : BitVec 32) (v45 : BitVec 32) : Prop :=
  (∀ a, (k0_off4 v10 v21 v33 v45) a + S1.size a ≤ S9.size a)
theorem k0_off4_inb : ∀ (v10 : BitVec 32) (v21 : BitVec 32) (v33 : BitVec 32) (v45 : BitVec 32) (k0_hw4 : k0_chk4 v10 v21 v33 v45), ∀ a, (k0_off4 v10 v21 v33 v45) a + S1.size a ≤ S9.size a := fun v10 v21 v33 v45 k0_hw4 => k0_hw4

def k0_off5 (v10 : BitVec 32) (v21 : BitVec 32) (v33 : BitVec 32) (v45 : BitVec 32) (v57 : BitVec 32) : Fin 1 → Nat :=
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v70 : Index := Scalar.indexCast v60
  ![v70.toNat]

def k0_chk5 (v10 : BitVec 32) (v21 : BitVec 32) (v33 : BitVec 32) (v45 : BitVec 32) (v57 : BitVec 32) : Prop :=
  (∀ a, (k0_off5 v10 v21 v33 v45 v57) a + S1.size a ≤ S9.size a)
theorem k0_off5_inb : ∀ (v10 : BitVec 32) (v21 : BitVec 32) (v33 : BitVec 32) (v45 : BitVec 32) (v57 : BitVec 32) (k0_hw5 : k0_chk5 v10 v21 v33 v45 v57), ∀ a, (k0_off5 v10 v21 v33 v45 v57) a + S1.size a ≤ S9.size a := fun v10 v21 v33 v45 v57 k0_hw5 => k0_hw5

def k0_off6 (v10 : BitVec 32) (v21 : BitVec 32) (v33 : BitVec 32) (v45 : BitVec 32) (v57 : BitVec 32) (v69 : BitVec 32) : Fin 1 → Nat :=
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v82 : Index := Scalar.indexCast v72
  ![v82.toNat]

def k0_chk6 (v10 : BitVec 32) (v21 : BitVec 32) (v33 : BitVec 32) (v45 : BitVec 32) (v57 : BitVec 32) (v69 : BitVec 32) : Prop :=
  (∀ a, (k0_off6 v10 v21 v33 v45 v57 v69) a + S1.size a ≤ S9.size a)
theorem k0_off6_inb : ∀ (v10 : BitVec 32) (v21 : BitVec 32) (v33 : BitVec 32) (v45 : BitVec 32) (v57 : BitVec 32) (v69 : BitVec 32) (k0_hw6 : k0_chk6 v10 v21 v33 v45 v57 v69), ∀ a, (k0_off6 v10 v21 v33 v45 v57 v69) a + S1.size a ≤ S9.size a := fun v10 v21 v33 v45 v57 v69 k0_hw6 => k0_hw6

def k0_off7 (v10 : BitVec 32) (v21 : BitVec 32) (v33 : BitVec 32) (v45 : BitVec 32) (v57 : BitVec 32) (v69 : BitVec 32) (v81 : BitVec 32) : Fin 1 → Nat :=
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v94 : Index := Scalar.indexCast v84
  ![v94.toNat]

def k0_chk7 (v10 : BitVec 32) (v21 : BitVec 32) (v33 : BitVec 32) (v45 : BitVec 32) (v57 : BitVec 32) (v69 : BitVec 32) (v81 : BitVec 32) : Prop :=
  (∀ a, (k0_off7 v10 v21 v33 v45 v57 v69 v81) a + S1.size a ≤ S9.size a)
theorem k0_off7_inb : ∀ (v10 : BitVec 32) (v21 : BitVec 32) (v33 : BitVec 32) (v45 : BitVec 32) (v57 : BitVec 32) (v69 : BitVec 32) (v81 : BitVec 32) (k0_hw7 : k0_chk7 v10 v21 v33 v45 v57 v69 v81), ∀ a, (k0_off7 v10 v21 v33 v45 v57 v69 v81) a + S1.size a ≤ S9.size a := fun v10 v21 v33 v45 v57 v69 v81 k0_hw7 => k0_hw7

def k0_off8 (v119 : BitVec 32) : Fin 3 → Nat :=
  let c0_i32_61 : BitVec 32 := 0#32
  let c0_i32_62 : BitVec 32 := 0#32
  ![v119.toNat, 0, 0]
def k0_cond1 (v10 : BitVec 32) (v21 : BitVec 32) (v33 : BitVec 32) (v45 : BitVec 32) (v57 : BitVec 32) (v69 : BitVec 32) (v81 : BitVec 32) (v93 : BitVec 32) : BitVec 1 :=
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_34 : BitVec 32 := 0#32
  let v97 : BitVec 1 := Scalar.cmpi .sgt v96 c0_i32_34
  let v98 : BitVec 32 := Scalar.extui v97
  let c0_i32_35 : BitVec 32 := 0#32
  let v99 : BitVec 1 := Scalar.cmpi .ne v98 c0_i32_35
  v99

def k0_off9 (v119 : BitVec 32) : Fin 3 → Nat :=
  let c1536_i32_67 : BitVec 32 := 1536#32
  let c0_i32_68 : BitVec 32 := 0#32
  ![v119.toNat, 1536, 0]
def k0_off10 (v119 : BitVec 32) : Fin 3 → Nat :=
  let c256_i32_73 : BitVec 32 := 256#32
  let c0_i32_74 : BitVec 32 := 0#32
  ![v119.toNat, 256, 0]
def k0_off11 (v119 : BitVec 32) : Fin 3 → Nat :=
  let c1792_i32_79 : BitVec 32 := 1792#32
  let c0_i32_80 : BitVec 32 := 0#32
  ![v119.toNat, 1792, 0]
def k0_off12 (v119 : BitVec 32) : Fin 3 → Nat :=
  let c512_i32_85 : BitVec 32 := 512#32
  let c0_i32_86 : BitVec 32 := 0#32
  ![v119.toNat, 512, 0]
def k0_off13 (v119 : BitVec 32) : Fin 3 → Nat :=
  let c2048_i32_91 : BitVec 32 := 2048#32
  let c0_i32_92 : BitVec 32 := 0#32
  ![v119.toNat, 2048, 0]
def k0_off14 (v119 : BitVec 32) : Fin 3 → Nat :=
  let c768_i32_97 : BitVec 32 := 768#32
  let c0_i32_98 : BitVec 32 := 0#32
  ![v119.toNat, 768, 0]
def k0_off15 (v119 : BitVec 32) : Fin 3 → Nat :=
  let c2304_i32_103 : BitVec 32 := 2304#32
  let c0_i32_104 : BitVec 32 := 0#32
  ![v119.toNat, 2304, 0]
def k0_off16 (v119 : BitVec 32) : Fin 3 → Nat :=
  let c1024_i32_109 : BitVec 32 := 1024#32
  let c0_i32_110 : BitVec 32 := 0#32
  ![v119.toNat, 1024, 0]
def k0_off17 (v119 : BitVec 32) : Fin 3 → Nat :=
  let c2560_i32_115 : BitVec 32 := 2560#32
  let c0_i32_116 : BitVec 32 := 0#32
  ![v119.toNat, 2560, 0]
def k0_off18 (v119 : BitVec 32) : Fin 3 → Nat :=
  let c1280_i32_121 : BitVec 32 := 1280#32
  let c0_i32_122 : BitVec 32 := 0#32
  ![v119.toNat, 1280, 0]
def k0_off19 (v119 : BitVec 32) : Fin 3 → Nat :=
  let c2816_i32_127 : BitVec 32 := 2816#32
  let c0_i32_128 : BitVec 32 := 0#32
  ![v119.toNat, 2816, 0]
def k0_off20 (v119 : BitVec 32) : Fin 3 → Nat :=
  let c0_i32_134 : BitVec 32 := 0#32
  let c0_i32_135 : BitVec 32 := 0#32
  ![v119.toNat, 0, 0]
def k0_off21 (v119 : BitVec 32) : Fin 3 → Nat :=
  let c1408_i32_140 : BitVec 32 := 1408#32
  let c0_i32_141 : BitVec 32 := 0#32
  ![v119.toNat, 1408, 0]

def k0_chk8 (v10 : BitVec 32) (v21 : BitVec 32) (v33 : BitVec 32) (v45 : BitVec 32) (v57 : BitVec 32) (v69 : BitVec 32) (v81 : BitVec 32) (v93 : BitVec 32) (v119 : BitVec 32) : Prop :=
  (∀ (k0_h1 : k0_cond1 v10 v21 v33 v45 v57 v69 v81 v93 = 1#1), ∀ a, (k0_off8 v119) a + S1x256x2816.size a ≤ S8x3072x2816.size a) ∧
  (∀ (k0_h1 : k0_cond1 v10 v21 v33 v45 v57 v69 v81 v93 = 1#1), ∀ (hinb : ∀ a, (k0_off8 v119) a + S1x256x2816.size a ≤ S8x3072x2816.size a), (Rect.unit (s := S8x3072x2816) (k0_off8 v119) S1x256x2816.size hinb).WholeWords (EltTy.packing .i8)) ∧
  (∀ (k0_h1 : k0_cond1 v10 v21 v33 v45 v57 v69 v81 v93 = 1#1), ∀ a, (k0_off9 v119) a + S1x256x2816.size a ≤ S8x3072x2816.size a) ∧
  (∀ (k0_h1 : k0_cond1 v10 v21 v33 v45 v57 v69 v81 v93 = 1#1), ∀ (hinb : ∀ a, (k0_off9 v119) a + S1x256x2816.size a ≤ S8x3072x2816.size a), (Rect.unit (s := S8x3072x2816) (k0_off9 v119) S1x256x2816.size hinb).WholeWords (EltTy.packing .i8)) ∧
  (∀ (k0_h1 : k0_cond1 v10 v21 v33 v45 v57 v69 v81 v93 = 1#1), ∀ a, (k0_off10 v119) a + S1x256x2816.size a ≤ S8x3072x2816.size a) ∧
  (∀ (k0_h1 : k0_cond1 v10 v21 v33 v45 v57 v69 v81 v93 = 1#1), ∀ (hinb : ∀ a, (k0_off10 v119) a + S1x256x2816.size a ≤ S8x3072x2816.size a), (Rect.unit (s := S8x3072x2816) (k0_off10 v119) S1x256x2816.size hinb).WholeWords (EltTy.packing .i8)) ∧
  (∀ (k0_h1 : k0_cond1 v10 v21 v33 v45 v57 v69 v81 v93 = 1#1), ∀ a, (k0_off11 v119) a + S1x256x2816.size a ≤ S8x3072x2816.size a) ∧
  (∀ (k0_h1 : k0_cond1 v10 v21 v33 v45 v57 v69 v81 v93 = 1#1), ∀ (hinb : ∀ a, (k0_off11 v119) a + S1x256x2816.size a ≤ S8x3072x2816.size a), (Rect.unit (s := S8x3072x2816) (k0_off11 v119) S1x256x2816.size hinb).WholeWords (EltTy.packing .i8)) ∧
  (∀ (k0_h1 : k0_cond1 v10 v21 v33 v45 v57 v69 v81 v93 = 1#1), ∀ a, (k0_off12 v119) a + S1x256x2816.size a ≤ S8x3072x2816.size a) ∧
  (∀ (k0_h1 : k0_cond1 v10 v21 v33 v45 v57 v69 v81 v93 = 1#1), ∀ (hinb : ∀ a, (k0_off12 v119) a + S1x256x2816.size a ≤ S8x3072x2816.size a), (Rect.unit (s := S8x3072x2816) (k0_off12 v119) S1x256x2816.size hinb).WholeWords (EltTy.packing .i8)) ∧
  (∀ (k0_h1 : k0_cond1 v10 v21 v33 v45 v57 v69 v81 v93 = 1#1), ∀ a, (k0_off13 v119) a + S1x256x2816.size a ≤ S8x3072x2816.size a) ∧
  (∀ (k0_h1 : k0_cond1 v10 v21 v33 v45 v57 v69 v81 v93 = 1#1), ∀ (hinb : ∀ a, (k0_off13 v119) a + S1x256x2816.size a ≤ S8x3072x2816.size a), (Rect.unit (s := S8x3072x2816) (k0_off13 v119) S1x256x2816.size hinb).WholeWords (EltTy.packing .i8)) ∧
  (∀ (k0_h1 : k0_cond1 v10 v21 v33 v45 v57 v69 v81 v93 = 1#1), ∀ a, (k0_off14 v119) a + S1x256x2816.size a ≤ S8x3072x2816.size a) ∧
  (∀ (k0_h1 : k0_cond1 v10 v21 v33 v45 v57 v69 v81 v93 = 1#1), ∀ (hinb : ∀ a, (k0_off14 v119) a + S1x256x2816.size a ≤ S8x3072x2816.size a), (Rect.unit (s := S8x3072x2816) (k0_off14 v119) S1x256x2816.size hinb).WholeWords (EltTy.packing .i8)) ∧
  (∀ (k0_h1 : k0_cond1 v10 v21 v33 v45 v57 v69 v81 v93 = 1#1), ∀ a, (k0_off15 v119) a + S1x256x2816.size a ≤ S8x3072x2816.size a) ∧
  (∀ (k0_h1 : k0_cond1 v10 v21 v33 v45 v57 v69 v81 v93 = 1#1), ∀ (hinb : ∀ a, (k0_off15 v119) a + S1x256x2816.size a ≤ S8x3072x2816.size a), (Rect.unit (s := S8x3072x2816) (k0_off15 v119) S1x256x2816.size hinb).WholeWords (EltTy.packing .i8)) ∧
  (∀ (k0_h1 : k0_cond1 v10 v21 v33 v45 v57 v69 v81 v93 = 1#1), ∀ a, (k0_off16 v119) a + S1x256x2816.size a ≤ S8x3072x2816.size a) ∧
  (∀ (k0_h1 : k0_cond1 v10 v21 v33 v45 v57 v69 v81 v93 = 1#1), ∀ (hinb : ∀ a, (k0_off16 v119) a + S1x256x2816.size a ≤ S8x3072x2816.size a), (Rect.unit (s := S8x3072x2816) (k0_off16 v119) S1x256x2816.size hinb).WholeWords (EltTy.packing .i8)) ∧
  (∀ (k0_h1 : k0_cond1 v10 v21 v33 v45 v57 v69 v81 v93 = 1#1), ∀ a, (k0_off17 v119) a + S1x256x2816.size a ≤ S8x3072x2816.size a) ∧
  (∀ (k0_h1 : k0_cond1 v10 v21 v33 v45 v57 v69 v81 v93 = 1#1), ∀ (hinb : ∀ a, (k0_off17 v119) a + S1x256x2816.size a ≤ S8x3072x2816.size a), (Rect.unit (s := S8x3072x2816) (k0_off17 v119) S1x256x2816.size hinb).WholeWords (EltTy.packing .i8)) ∧
  (∀ (k0_h1 : k0_cond1 v10 v21 v33 v45 v57 v69 v81 v93 = 1#1), ∀ a, (k0_off18 v119) a + S1x256x2816.size a ≤ S8x3072x2816.size a) ∧
  (∀ (k0_h1 : k0_cond1 v10 v21 v33 v45 v57 v69 v81 v93 = 1#1), ∀ (hinb : ∀ a, (k0_off18 v119) a + S1x256x2816.size a ≤ S8x3072x2816.size a), (Rect.unit (s := S8x3072x2816) (k0_off18 v119) S1x256x2816.size hinb).WholeWords (EltTy.packing .i8)) ∧
  (∀ (k0_h1 : k0_cond1 v10 v21 v33 v45 v57 v69 v81 v93 = 1#1), ∀ a, (k0_off19 v119) a + S1x256x2816.size a ≤ S8x3072x2816.size a) ∧
  (∀ (k0_h1 : k0_cond1 v10 v21 v33 v45 v57 v69 v81 v93 = 1#1), ∀ (hinb : ∀ a, (k0_off19 v119) a + S1x256x2816.size a ≤ S8x3072x2816.size a), (Rect.unit (s := S8x3072x2816) (k0_off19 v119) S1x256x2816.size hinb).WholeWords (EltTy.packing .i8)) ∧
  (∀ (k0_h1 : k0_cond1 v10 v21 v33 v45 v57 v69 v81 v93 = 1#1), ∀ a, (k0_off20 v119) a + S1x1408x1536.size a ≤ S8x2816x1536.size a) ∧
  (∀ (k0_h1 : k0_cond1 v10 v21 v33 v45 v57 v69 v81 v93 = 1#1), ∀ (hinb : ∀ a, (k0_off20 v119) a + S1x1408x1536.size a ≤ S8x2816x1536.size a), (Rect.unit (s := S8x2816x1536) (k0_off20 v119) S1x1408x1536.size hinb).WholeWords (EltTy.packing .i8)) ∧
  (∀ (k0_h1 : k0_cond1 v10 v21 v33 v45 v57 v69 v81 v93 = 1#1), ∀ a, (k0_off21 v119) a + S1x1408x1536.size a ≤ S8x2816x1536.size a) ∧
  (∀ (k0_h1 : k0_cond1 v10 v21 v33 v45 v57 v69 v81 v93 = 1#1), ∀ (hinb : ∀ a, (k0_off21 v119) a + S1x1408x1536.size a ≤ S8x2816x1536.size a), (Rect.unit (s := S8x2816x1536) (k0_off21 v119) S1x1408x1536.size hinb).WholeWords (EltTy.packing .i8))
theorem k0_off8_inb : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), ∀ a, (k0_off8 v119) a + S1x256x2816.size a ≤ S8x3072x2816.size a := fun v10 v21 v33 v45 v57 v69 v81 v93 v119 k0_hw8 k0_h1 => k0_hw8.1 k0_h1
theorem k0_off8_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), (Rect.unit (s := S8x3072x2816) (k0_off8 v119) S1x256x2816.size (k0_off8_inb v10 v21 v33 v45 v57 v69 v81 v93 v119 k0_hw8 k0_h1)).WholeWords (EltTy.packing .i8) := fun v10 v21 v33 v45 v57 v69 v81 v93 v119 k0_hw8 k0_h1 => k0_hw8.2.1 k0_h1 (k0_off8_inb v10 v21 v33 v45 v57 v69 v81 v93 v119 k0_hw8 k0_h1)
theorem k0_off9_inb : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), ∀ a, (k0_off9 v119) a + S1x256x2816.size a ≤ S8x3072x2816.size a := fun v10 v21 v33 v45 v57 v69 v81 v93 v119 k0_hw8 k0_h1 => k0_hw8.2.2.1 k0_h1
theorem k0_off9_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), (Rect.unit (s := S8x3072x2816) (k0_off9 v119) S1x256x2816.size (k0_off9_inb v10 v21 v33 v45 v57 v69 v81 v93 v119 k0_hw8 k0_h1)).WholeWords (EltTy.packing .i8) := fun v10 v21 v33 v45 v57 v69 v81 v93 v119 k0_hw8 k0_h1 => k0_hw8.2.2.2.1 k0_h1 (k0_off9_inb v10 v21 v33 v45 v57 v69 v81 v93 v119 k0_hw8 k0_h1)
theorem k0_off10_inb : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), ∀ a, (k0_off10 v119) a + S1x256x2816.size a ≤ S8x3072x2816.size a := fun v10 v21 v33 v45 v57 v69 v81 v93 v119 k0_hw8 k0_h1 => k0_hw8.2.2.2.2.1 k0_h1
theorem k0_off10_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), (Rect.unit (s := S8x3072x2816) (k0_off10 v119) S1x256x2816.size (k0_off10_inb v10 v21 v33 v45 v57 v69 v81 v93 v119 k0_hw8 k0_h1)).WholeWords (EltTy.packing .i8) := fun v10 v21 v33 v45 v57 v69 v81 v93 v119 k0_hw8 k0_h1 => k0_hw8.2.2.2.2.2.1 k0_h1 (k0_off10_inb v10 v21 v33 v45 v57 v69 v81 v93 v119 k0_hw8 k0_h1)
theorem k0_off11_inb : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), ∀ a, (k0_off11 v119) a + S1x256x2816.size a ≤ S8x3072x2816.size a := fun v10 v21 v33 v45 v57 v69 v81 v93 v119 k0_hw8 k0_h1 => k0_hw8.2.2.2.2.2.2.1 k0_h1
theorem k0_off11_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), (Rect.unit (s := S8x3072x2816) (k0_off11 v119) S1x256x2816.size (k0_off11_inb v10 v21 v33 v45 v57 v69 v81 v93 v119 k0_hw8 k0_h1)).WholeWords (EltTy.packing .i8) := fun v10 v21 v33 v45 v57 v69 v81 v93 v119 k0_hw8 k0_h1 => k0_hw8.2.2.2.2.2.2.2.1 k0_h1 (k0_off11_inb v10 v21 v33 v45 v57 v69 v81 v93 v119 k0_hw8 k0_h1)
theorem k0_off12_inb : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), ∀ a, (k0_off12 v119) a + S1x256x2816.size a ≤ S8x3072x2816.size a := fun v10 v21 v33 v45 v57 v69 v81 v93 v119 k0_hw8 k0_h1 => k0_hw8.2.2.2.2.2.2.2.2.1 k0_h1
theorem k0_off12_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), (Rect.unit (s := S8x3072x2816) (k0_off12 v119) S1x256x2816.size (k0_off12_inb v10 v21 v33 v45 v57 v69 v81 v93 v119 k0_hw8 k0_h1)).WholeWords (EltTy.packing .i8) := fun v10 v21 v33 v45 v57 v69 v81 v93 v119 k0_hw8 k0_h1 => k0_hw8.2.2.2.2.2.2.2.2.2.1 k0_h1 (k0_off12_inb v10 v21 v33 v45 v57 v69 v81 v93 v119 k0_hw8 k0_h1)
theorem k0_off13_inb : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), ∀ a, (k0_off13 v119) a + S1x256x2816.size a ≤ S8x3072x2816.size a := fun v10 v21 v33 v45 v57 v69 v81 v93 v119 k0_hw8 k0_h1 => k0_hw8.2.2.2.2.2.2.2.2.2.2.1 k0_h1
theorem k0_off13_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), (Rect.unit (s := S8x3072x2816) (k0_off13 v119) S1x256x2816.size (k0_off13_inb v10 v21 v33 v45 v57 v69 v81 v93 v119 k0_hw8 k0_h1)).WholeWords (EltTy.packing .i8) := fun v10 v21 v33 v45 v57 v69 v81 v93 v119 k0_hw8 k0_h1 => k0_hw8.2.2.2.2.2.2.2.2.2.2.2.1 k0_h1 (k0_off13_inb v10 v21 v33 v45 v57 v69 v81 v93 v119 k0_hw8 k0_h1)
theorem k0_off14_inb : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), ∀ a, (k0_off14 v119) a + S1x256x2816.size a ≤ S8x3072x2816.size a := fun v10 v21 v33 v45 v57 v69 v81 v93 v119 k0_hw8 k0_h1 => k0_hw8.2.2.2.2.2.2.2.2.2.2.2.2.1 k0_h1
theorem k0_off14_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), (Rect.unit (s := S8x3072x2816) (k0_off14 v119) S1x256x2816.size (k0_off14_inb v10 v21 v33 v45 v57 v69 v81 v93 v119 k0_hw8 k0_h1)).WholeWords (EltTy.packing .i8) := fun v10 v21 v33 v45 v57 v69 v81 v93 v119 k0_hw8 k0_h1 => k0_hw8.2.2.2.2.2.2.2.2.2.2.2.2.2.1 k0_h1 (k0_off14_inb v10 v21 v33 v45 v57 v69 v81 v93 v119 k0_hw8 k0_h1)
theorem k0_off15_inb : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), ∀ a, (k0_off15 v119) a + S1x256x2816.size a ≤ S8x3072x2816.size a := fun v10 v21 v33 v45 v57 v69 v81 v93 v119 k0_hw8 k0_h1 => k0_hw8.2.2.2.2.2.2.2.2.2.2.2.2.2.2.1 k0_h1
theorem k0_off15_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), (Rect.unit (s := S8x3072x2816) (k0_off15 v119) S1x256x2816.size (k0_off15_inb v10 v21 v33 v45 v57 v69 v81 v93 v119 k0_hw8 k0_h1)).WholeWords (EltTy.packing .i8) := fun v10 v21 v33 v45 v57 v69 v81 v93 v119 k0_hw8 k0_h1 => k0_hw8.2.2.2.2.2.2.2.2.2.2.2.2.2.2.2.1 k0_h1 (k0_off15_inb v10 v21 v33 v45 v57 v69 v81 v93 v119 k0_hw8 k0_h1)
theorem k0_off16_inb : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), ∀ a, (k0_off16 v119) a + S1x256x2816.size a ≤ S8x3072x2816.size a := fun v10 v21 v33 v45 v57 v69 v81 v93 v119 k0_hw8 k0_h1 => k0_hw8.2.2.2.2.2.2.2.2.2.2.2.2.2.2.2.2.1 k0_h1
theorem k0_off16_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), (Rect.unit (s := S8x3072x2816) (k0_off16 v119) S1x256x2816.size (k0_off16_inb v10 v21 v33 v45 v57 v69 v81 v93 v119 k0_hw8 k0_h1)).WholeWords (EltTy.packing .i8) := fun v10 v21 v33 v45 v57 v69 v81 v93 v119 k0_hw8 k0_h1 => k0_hw8.2.2.2.2.2.2.2.2.2.2.2.2.2.2.2.2.2.1 k0_h1 (k0_off16_inb v10 v21 v33 v45 v57 v69 v81 v93 v119 k0_hw8 k0_h1)
theorem k0_off17_inb : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), ∀ a, (k0_off17 v119) a + S1x256x2816.size a ≤ S8x3072x2816.size a := fun v10 v21 v33 v45 v57 v69 v81 v93 v119 k0_hw8 k0_h1 => k0_hw8.2.2.2.2.2.2.2.2.2.2.2.2.2.2.2.2.2.2.1 k0_h1
theorem k0_off17_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), (Rect.unit (s := S8x3072x2816) (k0_off17 v119) S1x256x2816.size (k0_off17_inb v10 v21 v33 v45 v57 v69 v81 v93 v119 k0_hw8 k0_h1)).WholeWords (EltTy.packing .i8) := fun v10 v21 v33 v45 v57 v69 v81 v93 v119 k0_hw8 k0_h1 => k0_hw8.2.2.2.2.2.2.2.2.2.2.2.2.2.2.2.2.2.2.2.1 k0_h1 (k0_off17_inb v10 v21 v33 v45 v57 v69 v81 v93 v119 k0_hw8 k0_h1)
theorem k0_off18_inb : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), ∀ a, (k0_off18 v119) a + S1x256x2816.size a ≤ S8x3072x2816.size a := fun v10 v21 v33 v45 v57 v69 v81 v93 v119 k0_hw8 k0_h1 => k0_hw8.2.2.2.2.2.2.2.2.2.2.2.2.2.2.2.2.2.2.2.2.1 k0_h1
theorem k0_off18_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), (Rect.unit (s := S8x3072x2816) (k0_off18 v119) S1x256x2816.size (k0_off18_inb v10 v21 v33 v45 v57 v69 v81 v93 v119 k0_hw8 k0_h1)).WholeWords (EltTy.packing .i8) := fun v10 v21 v33 v45 v57 v69 v81 v93 v119 k0_hw8 k0_h1 => k0_hw8.2.2.2.2.2.2.2.2.2.2.2.2.2.2.2.2.2.2.2.2.2.1 k0_h1 (k0_off18_inb v10 v21 v33 v45 v57 v69 v81 v93 v119 k0_hw8 k0_h1)
theorem k0_off19_inb : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), ∀ a, (k0_off19 v119) a + S1x256x2816.size a ≤ S8x3072x2816.size a := fun v10 v21 v33 v45 v57 v69 v81 v93 v119 k0_hw8 k0_h1 => k0_hw8.2.2.2.2.2.2.2.2.2.2.2.2.2.2.2.2.2.2.2.2.2.2.1 k0_h1
theorem k0_off19_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), (Rect.unit (s := S8x3072x2816) (k0_off19 v119) S1x256x2816.size (k0_off19_inb v10 v21 v33 v45 v57 v69 v81 v93 v119 k0_hw8 k0_h1)).WholeWords (EltTy.packing .i8) := fun v10 v21 v33 v45 v57 v69 v81 v93 v119 k0_hw8 k0_h1 => k0_hw8.2.2.2.2.2.2.2.2.2.2.2.2.2.2.2.2.2.2.2.2.2.2.2.1 k0_h1 (k0_off19_inb v10 v21 v33 v45 v57 v69 v81 v93 v119 k0_hw8 k0_h1)
theorem k0_off20_inb : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), ∀ a, (k0_off20 v119) a + S1x1408x1536.size a ≤ S8x2816x1536.size a := fun v10 v21 v33 v45 v57 v69 v81 v93 v119 k0_hw8 k0_h1 => k0_hw8.2.2.2.2.2.2.2.2.2.2.2.2.2.2.2.2.2.2.2.2.2.2.2.2.1 k0_h1
theorem k0_off20_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), (Rect.unit (s := S8x2816x1536) (k0_off20 v119) S1x1408x1536.size (k0_off20_inb v10 v21 v33 v45 v57 v69 v81 v93 v119 k0_hw8 k0_h1)).WholeWords (EltTy.packing .i8) := fun v10 v21 v33 v45 v57 v69 v81 v93 v119 k0_hw8 k0_h1 => k0_hw8.2.2.2.2.2.2.2.2.2.2.2.2.2.2.2.2.2.2.2.2.2.2.2.2.2.1 k0_h1 (k0_off20_inb v10 v21 v33 v45 v57 v69 v81 v93 v119 k0_hw8 k0_h1)
theorem k0_off21_inb : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), ∀ a, (k0_off21 v119) a + S1x1408x1536.size a ≤ S8x2816x1536.size a := fun v10 v21 v33 v45 v57 v69 v81 v93 v119 k0_hw8 k0_h1 => k0_hw8.2.2.2.2.2.2.2.2.2.2.2.2.2.2.2.2.2.2.2.2.2.2.2.2.2.2.1 k0_h1
theorem k0_off21_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw8 : k0_chk8 v10 v21 v33 v45 v57 v69 v81 v93 v119), ∀ (k0_h1 : k0_cond1 v10 v21 v33 v45 v57 v69 v81 v93 = 1#1), (Rect.unit (s := S8x2816x1536) (k0_off21 v119) S1x1408x1536.size (k0_off21_inb v10 v21 v33 v45 v57 v69 v81 v93 v119 k0_hw8 k0_h1)).WholeWords (EltTy.packing .i8) := fun v10 v21 v33 v45 v57 v69 v81 v93 v119 k0_hw8 k0_h1 => k0_hw8.2.2.2.2.2.2.2.2.2.2.2.2.2.2.2.2.2.2.2.2.2.2.2.2.2.2.2 k0_h1 (k0_off21_inb v10 v21 v33 v45 v57 v69 v81 v93 v119 k0_hw8 k0_h1)

def k0_off22 (v119 : BitVec 32) : Fin 3 → Nat :=
  let c0_i32_60 : BitVec 32 := 0#32
  let c0_i32_61 : BitVec 32 := 0#32
  ![v119.toNat, 0, 0]
def k0_cond2 (v10 : BitVec 32) (v21 : BitVec 32) (v33 : BitVec 32) (v45 : BitVec 32) (v57 : BitVec 32) (v69 : BitVec 32) (v81 : BitVec 32) (v93 : BitVec 32) : BitVec 1 :=
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c1_i32_36 : BitVec 32 := 1#32
  let v100 : BitVec 1 := Scalar.cmpi .sgt v96 c1_i32_36
  let v101 : BitVec 32 := Scalar.extui v100
  let c0_i32_37 : BitVec 32 := 0#32
  let v102 : BitVec 1 := Scalar.cmpi .ne v101 c0_i32_37
  v102

def k0_off23 (v119 : BitVec 32) : Fin 3 → Nat :=
  let c1536_i32_66 : BitVec 32 := 1536#32
  let c0_i32_67 : BitVec 32 := 0#32
  ![v119.toNat, 1536, 0]
def k0_off24 (v119 : BitVec 32) : Fin 3 → Nat :=
  let c256_i32_72 : BitVec 32 := 256#32
  let c0_i32_73 : BitVec 32 := 0#32
  ![v119.toNat, 256, 0]
def k0_off25 (v119 : BitVec 32) : Fin 3 → Nat :=
  let c1792_i32_78 : BitVec 32 := 1792#32
  let c0_i32_79 : BitVec 32 := 0#32
  ![v119.toNat, 1792, 0]
def k0_off26 (v119 : BitVec 32) : Fin 3 → Nat :=
  let c512_i32_84 : BitVec 32 := 512#32
  let c0_i32_85 : BitVec 32 := 0#32
  ![v119.toNat, 512, 0]
def k0_off27 (v119 : BitVec 32) : Fin 3 → Nat :=
  let c2048_i32_90 : BitVec 32 := 2048#32
  let c0_i32_91 : BitVec 32 := 0#32
  ![v119.toNat, 2048, 0]
def k0_off28 (v119 : BitVec 32) : Fin 3 → Nat :=
  let c768_i32_96 : BitVec 32 := 768#32
  let c0_i32_97 : BitVec 32 := 0#32
  ![v119.toNat, 768, 0]
def k0_off29 (v119 : BitVec 32) : Fin 3 → Nat :=
  let c2304_i32_102 : BitVec 32 := 2304#32
  let c0_i32_103 : BitVec 32 := 0#32
  ![v119.toNat, 2304, 0]
def k0_off30 (v119 : BitVec 32) : Fin 3 → Nat :=
  let c1024_i32_108 : BitVec 32 := 1024#32
  let c0_i32_109 : BitVec 32 := 0#32
  ![v119.toNat, 1024, 0]
def k0_off31 (v119 : BitVec 32) : Fin 3 → Nat :=
  let c2560_i32_114 : BitVec 32 := 2560#32
  let c0_i32_115 : BitVec 32 := 0#32
  ![v119.toNat, 2560, 0]
def k0_off32 (v119 : BitVec 32) : Fin 3 → Nat :=
  let c1280_i32_120 : BitVec 32 := 1280#32
  let c0_i32_121 : BitVec 32 := 0#32
  ![v119.toNat, 1280, 0]
def k0_off33 (v119 : BitVec 32) : Fin 3 → Nat :=
  let c2816_i32_126 : BitVec 32 := 2816#32
  let c0_i32_127 : BitVec 32 := 0#32
  ![v119.toNat, 2816, 0]
def k0_off34 (v119 : BitVec 32) : Fin 3 → Nat :=
  let c0_i32_133 : BitVec 32 := 0#32
  let c0_i32_134 : BitVec 32 := 0#32
  ![v119.toNat, 0, 0]
def k0_off35 (v119 : BitVec 32) : Fin 3 → Nat :=
  let c1408_i32_139 : BitVec 32 := 1408#32
  let c0_i32_140 : BitVec 32 := 0#32
  ![v119.toNat, 1408, 0]

def k0_chk9 (v10 : BitVec 32) (v21 : BitVec 32) (v33 : BitVec 32) (v45 : BitVec 32) (v57 : BitVec 32) (v69 : BitVec 32) (v81 : BitVec 32) (v93 : BitVec 32) (v119 : BitVec 32) : Prop :=
  (∀ (k0_h2 : k0_cond2 v10 v21 v33 v45 v57 v69 v81 v93 = 1#1), ∀ a, (k0_off22 v119) a + S1x256x2816.size a ≤ S8x3072x2816.size a) ∧
  (∀ (k0_h2 : k0_cond2 v10 v21 v33 v45 v57 v69 v81 v93 = 1#1), ∀ (hinb : ∀ a, (k0_off22 v119) a + S1x256x2816.size a ≤ S8x3072x2816.size a), (Rect.unit (s := S8x3072x2816) (k0_off22 v119) S1x256x2816.size hinb).WholeWords (EltTy.packing .i8)) ∧
  (∀ (k0_h2 : k0_cond2 v10 v21 v33 v45 v57 v69 v81 v93 = 1#1), ∀ a, (k0_off23 v119) a + S1x256x2816.size a ≤ S8x3072x2816.size a) ∧
  (∀ (k0_h2 : k0_cond2 v10 v21 v33 v45 v57 v69 v81 v93 = 1#1), ∀ (hinb : ∀ a, (k0_off23 v119) a + S1x256x2816.size a ≤ S8x3072x2816.size a), (Rect.unit (s := S8x3072x2816) (k0_off23 v119) S1x256x2816.size hinb).WholeWords (EltTy.packing .i8)) ∧
  (∀ (k0_h2 : k0_cond2 v10 v21 v33 v45 v57 v69 v81 v93 = 1#1), ∀ a, (k0_off24 v119) a + S1x256x2816.size a ≤ S8x3072x2816.size a) ∧
  (∀ (k0_h2 : k0_cond2 v10 v21 v33 v45 v57 v69 v81 v93 = 1#1), ∀ (hinb : ∀ a, (k0_off24 v119) a + S1x256x2816.size a ≤ S8x3072x2816.size a), (Rect.unit (s := S8x3072x2816) (k0_off24 v119) S1x256x2816.size hinb).WholeWords (EltTy.packing .i8)) ∧
  (∀ (k0_h2 : k0_cond2 v10 v21 v33 v45 v57 v69 v81 v93 = 1#1), ∀ a, (k0_off25 v119) a + S1x256x2816.size a ≤ S8x3072x2816.size a) ∧
  (∀ (k0_h2 : k0_cond2 v10 v21 v33 v45 v57 v69 v81 v93 = 1#1), ∀ (hinb : ∀ a, (k0_off25 v119) a + S1x256x2816.size a ≤ S8x3072x2816.size a), (Rect.unit (s := S8x3072x2816) (k0_off25 v119) S1x256x2816.size hinb).WholeWords (EltTy.packing .i8)) ∧
  (∀ (k0_h2 : k0_cond2 v10 v21 v33 v45 v57 v69 v81 v93 = 1#1), ∀ a, (k0_off26 v119) a + S1x256x2816.size a ≤ S8x3072x2816.size a) ∧
  (∀ (k0_h2 : k0_cond2 v10 v21 v33 v45 v57 v69 v81 v93 = 1#1), ∀ (hinb : ∀ a, (k0_off26 v119) a + S1x256x2816.size a ≤ S8x3072x2816.size a), (Rect.unit (s := S8x3072x2816) (k0_off26 v119) S1x256x2816.size hinb).WholeWords (EltTy.packing .i8)) ∧
  (∀ (k0_h2 : k0_cond2 v10 v21 v33 v45 v57 v69 v81 v93 = 1#1), ∀ a, (k0_off27 v119) a + S1x256x2816.size a ≤ S8x3072x2816.size a) ∧
  (∀ (k0_h2 : k0_cond2 v10 v21 v33 v45 v57 v69 v81 v93 = 1#1), ∀ (hinb : ∀ a, (k0_off27 v119) a + S1x256x2816.size a ≤ S8x3072x2816.size a), (Rect.unit (s := S8x3072x2816) (k0_off27 v119) S1x256x2816.size hinb).WholeWords (EltTy.packing .i8)) ∧
  (∀ (k0_h2 : k0_cond2 v10 v21 v33 v45 v57 v69 v81 v93 = 1#1), ∀ a, (k0_off28 v119) a + S1x256x2816.size a ≤ S8x3072x2816.size a) ∧
  (∀ (k0_h2 : k0_cond2 v10 v21 v33 v45 v57 v69 v81 v93 = 1#1), ∀ (hinb : ∀ a, (k0_off28 v119) a + S1x256x2816.size a ≤ S8x3072x2816.size a), (Rect.unit (s := S8x3072x2816) (k0_off28 v119) S1x256x2816.size hinb).WholeWords (EltTy.packing .i8)) ∧
  (∀ (k0_h2 : k0_cond2 v10 v21 v33 v45 v57 v69 v81 v93 = 1#1), ∀ a, (k0_off29 v119) a + S1x256x2816.size a ≤ S8x3072x2816.size a) ∧
  (∀ (k0_h2 : k0_cond2 v10 v21 v33 v45 v57 v69 v81 v93 = 1#1), ∀ (hinb : ∀ a, (k0_off29 v119) a + S1x256x2816.size a ≤ S8x3072x2816.size a), (Rect.unit (s := S8x3072x2816) (k0_off29 v119) S1x256x2816.size hinb).WholeWords (EltTy.packing .i8)) ∧
  (∀ (k0_h2 : k0_cond2 v10 v21 v33 v45 v57 v69 v81 v93 = 1#1), ∀ a, (k0_off30 v119) a + S1x256x2816.size a ≤ S8x3072x2816.size a) ∧
  (∀ (k0_h2 : k0_cond2 v10 v21 v33 v45 v57 v69 v81 v93 = 1#1), ∀ (hinb : ∀ a, (k0_off30 v119) a + S1x256x2816.size a ≤ S8x3072x2816.size a), (Rect.unit (s := S8x3072x2816) (k0_off30 v119) S1x256x2816.size hinb).WholeWords (EltTy.packing .i8)) ∧
  (∀ (k0_h2 : k0_cond2 v10 v21 v33 v45 v57 v69 v81 v93 = 1#1), ∀ a, (k0_off31 v119) a + S1x256x2816.size a ≤ S8x3072x2816.size a) ∧
  (∀ (k0_h2 : k0_cond2 v10 v21 v33 v45 v57 v69 v81 v93 = 1#1), ∀ (hinb : ∀ a, (k0_off31 v119) a + S1x256x2816.size a ≤ S8x3072x2816.size a), (Rect.unit (s := S8x3072x2816) (k0_off31 v119) S1x256x2816.size hinb).WholeWords (EltTy.packing .i8)) ∧
  (∀ (k0_h2 : k0_cond2 v10 v21 v33 v45 v57 v69 v81 v93 = 1#1), ∀ a, (k0_off32 v119) a + S1x256x2816.size a ≤ S8x3072x2816.size a) ∧
  (∀ (k0_h2 : k0_cond2 v10 v21 v33 v45 v57 v69 v81 v93 = 1#1), ∀ (hinb : ∀ a, (k0_off32 v119) a + S1x256x2816.size a ≤ S8x3072x2816.size a), (Rect.unit (s := S8x3072x2816) (k0_off32 v119) S1x256x2816.size hinb).WholeWords (EltTy.packing .i8)) ∧
  (∀ (k0_h2 : k0_cond2 v10 v21 v33 v45 v57 v69 v81 v93 = 1#1), ∀ a, (k0_off33 v119) a + S1x256x2816.size a ≤ S8x3072x2816.size a) ∧
  (∀ (k0_h2 : k0_cond2 v10 v21 v33 v45 v57 v69 v81 v93 = 1#1), ∀ (hinb : ∀ a, (k0_off33 v119) a + S1x256x2816.size a ≤ S8x3072x2816.size a), (Rect.unit (s := S8x3072x2816) (k0_off33 v119) S1x256x2816.size hinb).WholeWords (EltTy.packing .i8)) ∧
  (∀ (k0_h2 : k0_cond2 v10 v21 v33 v45 v57 v69 v81 v93 = 1#1), ∀ a, (k0_off34 v119) a + S1x1408x1536.size a ≤ S8x2816x1536.size a) ∧
  (∀ (k0_h2 : k0_cond2 v10 v21 v33 v45 v57 v69 v81 v93 = 1#1), ∀ (hinb : ∀ a, (k0_off34 v119) a + S1x1408x1536.size a ≤ S8x2816x1536.size a), (Rect.unit (s := S8x2816x1536) (k0_off34 v119) S1x1408x1536.size hinb).WholeWords (EltTy.packing .i8)) ∧
  (∀ (k0_h2 : k0_cond2 v10 v21 v33 v45 v57 v69 v81 v93 = 1#1), ∀ a, (k0_off35 v119) a + S1x1408x1536.size a ≤ S8x2816x1536.size a) ∧
  (∀ (k0_h2 : k0_cond2 v10 v21 v33 v45 v57 v69 v81 v93 = 1#1), ∀ (hinb : ∀ a, (k0_off35 v119) a + S1x1408x1536.size a ≤ S8x2816x1536.size a), (Rect.unit (s := S8x2816x1536) (k0_off35 v119) S1x1408x1536.size hinb).WholeWords (EltTy.packing .i8))
theorem k0_off22_inb : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), ∀ a, (k0_off22 v119) a + S1x256x2816.size a ≤ S8x3072x2816.size a := fun v10 v21 v33 v45 v57 v69 v81 v93 v119 k0_hw9 k0_h2 => k0_hw9.1 k0_h2
theorem k0_off22_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), (Rect.unit (s := S8x3072x2816) (k0_off22 v119) S1x256x2816.size (k0_off22_inb v10 v21 v33 v45 v57 v69 v81 v93 v119 k0_hw9 k0_h2)).WholeWords (EltTy.packing .i8) := fun v10 v21 v33 v45 v57 v69 v81 v93 v119 k0_hw9 k0_h2 => k0_hw9.2.1 k0_h2 (k0_off22_inb v10 v21 v33 v45 v57 v69 v81 v93 v119 k0_hw9 k0_h2)
theorem k0_off23_inb : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), ∀ a, (k0_off23 v119) a + S1x256x2816.size a ≤ S8x3072x2816.size a := fun v10 v21 v33 v45 v57 v69 v81 v93 v119 k0_hw9 k0_h2 => k0_hw9.2.2.1 k0_h2
theorem k0_off23_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), (Rect.unit (s := S8x3072x2816) (k0_off23 v119) S1x256x2816.size (k0_off23_inb v10 v21 v33 v45 v57 v69 v81 v93 v119 k0_hw9 k0_h2)).WholeWords (EltTy.packing .i8) := fun v10 v21 v33 v45 v57 v69 v81 v93 v119 k0_hw9 k0_h2 => k0_hw9.2.2.2.1 k0_h2 (k0_off23_inb v10 v21 v33 v45 v57 v69 v81 v93 v119 k0_hw9 k0_h2)
theorem k0_off24_inb : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), ∀ a, (k0_off24 v119) a + S1x256x2816.size a ≤ S8x3072x2816.size a := fun v10 v21 v33 v45 v57 v69 v81 v93 v119 k0_hw9 k0_h2 => k0_hw9.2.2.2.2.1 k0_h2
theorem k0_off24_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), (Rect.unit (s := S8x3072x2816) (k0_off24 v119) S1x256x2816.size (k0_off24_inb v10 v21 v33 v45 v57 v69 v81 v93 v119 k0_hw9 k0_h2)).WholeWords (EltTy.packing .i8) := fun v10 v21 v33 v45 v57 v69 v81 v93 v119 k0_hw9 k0_h2 => k0_hw9.2.2.2.2.2.1 k0_h2 (k0_off24_inb v10 v21 v33 v45 v57 v69 v81 v93 v119 k0_hw9 k0_h2)
theorem k0_off25_inb : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), ∀ a, (k0_off25 v119) a + S1x256x2816.size a ≤ S8x3072x2816.size a := fun v10 v21 v33 v45 v57 v69 v81 v93 v119 k0_hw9 k0_h2 => k0_hw9.2.2.2.2.2.2.1 k0_h2
theorem k0_off25_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), (Rect.unit (s := S8x3072x2816) (k0_off25 v119) S1x256x2816.size (k0_off25_inb v10 v21 v33 v45 v57 v69 v81 v93 v119 k0_hw9 k0_h2)).WholeWords (EltTy.packing .i8) := fun v10 v21 v33 v45 v57 v69 v81 v93 v119 k0_hw9 k0_h2 => k0_hw9.2.2.2.2.2.2.2.1 k0_h2 (k0_off25_inb v10 v21 v33 v45 v57 v69 v81 v93 v119 k0_hw9 k0_h2)
theorem k0_off26_inb : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), ∀ a, (k0_off26 v119) a + S1x256x2816.size a ≤ S8x3072x2816.size a := fun v10 v21 v33 v45 v57 v69 v81 v93 v119 k0_hw9 k0_h2 => k0_hw9.2.2.2.2.2.2.2.2.1 k0_h2
theorem k0_off26_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), (Rect.unit (s := S8x3072x2816) (k0_off26 v119) S1x256x2816.size (k0_off26_inb v10 v21 v33 v45 v57 v69 v81 v93 v119 k0_hw9 k0_h2)).WholeWords (EltTy.packing .i8) := fun v10 v21 v33 v45 v57 v69 v81 v93 v119 k0_hw9 k0_h2 => k0_hw9.2.2.2.2.2.2.2.2.2.1 k0_h2 (k0_off26_inb v10 v21 v33 v45 v57 v69 v81 v93 v119 k0_hw9 k0_h2)
theorem k0_off27_inb : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), ∀ a, (k0_off27 v119) a + S1x256x2816.size a ≤ S8x3072x2816.size a := fun v10 v21 v33 v45 v57 v69 v81 v93 v119 k0_hw9 k0_h2 => k0_hw9.2.2.2.2.2.2.2.2.2.2.1 k0_h2
theorem k0_off27_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), (Rect.unit (s := S8x3072x2816) (k0_off27 v119) S1x256x2816.size (k0_off27_inb v10 v21 v33 v45 v57 v69 v81 v93 v119 k0_hw9 k0_h2)).WholeWords (EltTy.packing .i8) := fun v10 v21 v33 v45 v57 v69 v81 v93 v119 k0_hw9 k0_h2 => k0_hw9.2.2.2.2.2.2.2.2.2.2.2.1 k0_h2 (k0_off27_inb v10 v21 v33 v45 v57 v69 v81 v93 v119 k0_hw9 k0_h2)
theorem k0_off28_inb : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), ∀ a, (k0_off28 v119) a + S1x256x2816.size a ≤ S8x3072x2816.size a := fun v10 v21 v33 v45 v57 v69 v81 v93 v119 k0_hw9 k0_h2 => k0_hw9.2.2.2.2.2.2.2.2.2.2.2.2.1 k0_h2
theorem k0_off28_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), (Rect.unit (s := S8x3072x2816) (k0_off28 v119) S1x256x2816.size (k0_off28_inb v10 v21 v33 v45 v57 v69 v81 v93 v119 k0_hw9 k0_h2)).WholeWords (EltTy.packing .i8) := fun v10 v21 v33 v45 v57 v69 v81 v93 v119 k0_hw9 k0_h2 => k0_hw9.2.2.2.2.2.2.2.2.2.2.2.2.2.1 k0_h2 (k0_off28_inb v10 v21 v33 v45 v57 v69 v81 v93 v119 k0_hw9 k0_h2)
theorem k0_off29_inb : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), ∀ a, (k0_off29 v119) a + S1x256x2816.size a ≤ S8x3072x2816.size a := fun v10 v21 v33 v45 v57 v69 v81 v93 v119 k0_hw9 k0_h2 => k0_hw9.2.2.2.2.2.2.2.2.2.2.2.2.2.2.1 k0_h2
theorem k0_off29_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), (Rect.unit (s := S8x3072x2816) (k0_off29 v119) S1x256x2816.size (k0_off29_inb v10 v21 v33 v45 v57 v69 v81 v93 v119 k0_hw9 k0_h2)).WholeWords (EltTy.packing .i8) := fun v10 v21 v33 v45 v57 v69 v81 v93 v119 k0_hw9 k0_h2 => k0_hw9.2.2.2.2.2.2.2.2.2.2.2.2.2.2.2.1 k0_h2 (k0_off29_inb v10 v21 v33 v45 v57 v69 v81 v93 v119 k0_hw9 k0_h2)
theorem k0_off30_inb : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), ∀ a, (k0_off30 v119) a + S1x256x2816.size a ≤ S8x3072x2816.size a := fun v10 v21 v33 v45 v57 v69 v81 v93 v119 k0_hw9 k0_h2 => k0_hw9.2.2.2.2.2.2.2.2.2.2.2.2.2.2.2.2.1 k0_h2
theorem k0_off30_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), (Rect.unit (s := S8x3072x2816) (k0_off30 v119) S1x256x2816.size (k0_off30_inb v10 v21 v33 v45 v57 v69 v81 v93 v119 k0_hw9 k0_h2)).WholeWords (EltTy.packing .i8) := fun v10 v21 v33 v45 v57 v69 v81 v93 v119 k0_hw9 k0_h2 => k0_hw9.2.2.2.2.2.2.2.2.2.2.2.2.2.2.2.2.2.1 k0_h2 (k0_off30_inb v10 v21 v33 v45 v57 v69 v81 v93 v119 k0_hw9 k0_h2)
theorem k0_off31_inb : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), ∀ a, (k0_off31 v119) a + S1x256x2816.size a ≤ S8x3072x2816.size a := fun v10 v21 v33 v45 v57 v69 v81 v93 v119 k0_hw9 k0_h2 => k0_hw9.2.2.2.2.2.2.2.2.2.2.2.2.2.2.2.2.2.2.1 k0_h2
theorem k0_off31_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), (Rect.unit (s := S8x3072x2816) (k0_off31 v119) S1x256x2816.size (k0_off31_inb v10 v21 v33 v45 v57 v69 v81 v93 v119 k0_hw9 k0_h2)).WholeWords (EltTy.packing .i8) := fun v10 v21 v33 v45 v57 v69 v81 v93 v119 k0_hw9 k0_h2 => k0_hw9.2.2.2.2.2.2.2.2.2.2.2.2.2.2.2.2.2.2.2.1 k0_h2 (k0_off31_inb v10 v21 v33 v45 v57 v69 v81 v93 v119 k0_hw9 k0_h2)
theorem k0_off32_inb : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), ∀ a, (k0_off32 v119) a + S1x256x2816.size a ≤ S8x3072x2816.size a := fun v10 v21 v33 v45 v57 v69 v81 v93 v119 k0_hw9 k0_h2 => k0_hw9.2.2.2.2.2.2.2.2.2.2.2.2.2.2.2.2.2.2.2.2.1 k0_h2
theorem k0_off32_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), (Rect.unit (s := S8x3072x2816) (k0_off32 v119) S1x256x2816.size (k0_off32_inb v10 v21 v33 v45 v57 v69 v81 v93 v119 k0_hw9 k0_h2)).WholeWords (EltTy.packing .i8) := fun v10 v21 v33 v45 v57 v69 v81 v93 v119 k0_hw9 k0_h2 => k0_hw9.2.2.2.2.2.2.2.2.2.2.2.2.2.2.2.2.2.2.2.2.2.1 k0_h2 (k0_off32_inb v10 v21 v33 v45 v57 v69 v81 v93 v119 k0_hw9 k0_h2)
theorem k0_off33_inb : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), ∀ a, (k0_off33 v119) a + S1x256x2816.size a ≤ S8x3072x2816.size a := fun v10 v21 v33 v45 v57 v69 v81 v93 v119 k0_hw9 k0_h2 => k0_hw9.2.2.2.2.2.2.2.2.2.2.2.2.2.2.2.2.2.2.2.2.2.2.1 k0_h2
theorem k0_off33_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), (Rect.unit (s := S8x3072x2816) (k0_off33 v119) S1x256x2816.size (k0_off33_inb v10 v21 v33 v45 v57 v69 v81 v93 v119 k0_hw9 k0_h2)).WholeWords (EltTy.packing .i8) := fun v10 v21 v33 v45 v57 v69 v81 v93 v119 k0_hw9 k0_h2 => k0_hw9.2.2.2.2.2.2.2.2.2.2.2.2.2.2.2.2.2.2.2.2.2.2.2.1 k0_h2 (k0_off33_inb v10 v21 v33 v45 v57 v69 v81 v93 v119 k0_hw9 k0_h2)
theorem k0_off34_inb : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), ∀ a, (k0_off34 v119) a + S1x1408x1536.size a ≤ S8x2816x1536.size a := fun v10 v21 v33 v45 v57 v69 v81 v93 v119 k0_hw9 k0_h2 => k0_hw9.2.2.2.2.2.2.2.2.2.2.2.2.2.2.2.2.2.2.2.2.2.2.2.2.1 k0_h2
theorem k0_off34_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), (Rect.unit (s := S8x2816x1536) (k0_off34 v119) S1x1408x1536.size (k0_off34_inb v10 v21 v33 v45 v57 v69 v81 v93 v119 k0_hw9 k0_h2)).WholeWords (EltTy.packing .i8) := fun v10 v21 v33 v45 v57 v69 v81 v93 v119 k0_hw9 k0_h2 => k0_hw9.2.2.2.2.2.2.2.2.2.2.2.2.2.2.2.2.2.2.2.2.2.2.2.2.2.1 k0_h2 (k0_off34_inb v10 v21 v33 v45 v57 v69 v81 v93 v119 k0_hw9 k0_h2)
theorem k0_off35_inb : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), ∀ a, (k0_off35 v119) a + S1x1408x1536.size a ≤ S8x2816x1536.size a := fun v10 v21 v33 v45 v57 v69 v81 v93 v119 k0_hw9 k0_h2 => k0_hw9.2.2.2.2.2.2.2.2.2.2.2.2.2.2.2.2.2.2.2.2.2.2.2.2.2.2.1 k0_h2
theorem k0_off35_wordsi8 : ∀ (v10 : BitVec 32) (v21 : BitVec 32) (v33 : BitVec 32) (v45 : BitVec 32) (v57 : BitVec 32) (v69 : BitVec 32) (v81 : BitVec 32) (v93 : BitVec 32) (v119 : BitVec 32) (k0_hw9 : k0_chk9 v10 v21 v33 v45 v57 v69 v81 v93 v119), ∀ (k0_h2 : k0_cond2 v10 v21 v33 v45 v57 v69 v81 v93 = 1#1), (Rect.unit (s := S8x2816x1536) (k0_off35 v119) S1x1408x1536.size (k0_off35_inb v10 v21 v33 v45 v57 v69 v81 v93 v119 k0_hw9 k0_h2)).WholeWords (EltTy.packing .i8) := fun v10 v21 v33 v45 v57 v69 v81 v93 v119 k0_hw9 k0_h2 => k0_hw9.2.2.2.2.2.2.2.2.2.2.2.2.2.2.2.2.2.2.2.2.2.2.2.2.2.2.2 k0_h2 (k0_off35_inb v10 v21 v33 v45 v57 v69 v81 v93 v119 k0_hw9 k0_h2)

@[reducible] def k0_t1_loop (v10 : BitVec 32) (v21 : BitVec 32) (v33 : BitVec 32) (v45 : BitVec 32) (v57 : BitVec 32) (v69 : BitVec 32) (v81 : BitVec 32) (v93 : BitVec 32) : Scf.Loop 32 :=
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_49 : BitVec 32 := 1#32
  ⟨c0_i32_47, v115, c1_i32_49⟩

def k0_off36 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 1 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let v121 : Index := Scalar.indexCast v120
  ![v121.toNat]
def k0_off37 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 1 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_57 : BitVec 32 := 2#32
  let v126 : BitVec 32 := Scalar.addi v120 c2_i32_57
  let c7_i32_58 : BitVec 32 := 7#32
  let v127 : BitVec 32 := Scalar.minsi v126 c7_i32_58
  let v128 : Index := Scalar.indexCast v127
  ![v128.toNat]
def k0_off38 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 2 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_69 : BitVec 32 := 0#32
  ![v123.toNat, 0]
def k0_off39 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_70 : BitVec 32 := 0#32
  let c0_i32_71 : BitVec 32 := 0#32
  ![v123.toNat, 0, 0]
def k0_off40 (v122 : BitVec 32) : Fin 3 → Nat :=
  let c0_i32_72 : BitVec 32 := 0#32
  let c0_i32_73 : BitVec 32 := 0#32
  ![v122.toNat, 0, 0]

def k0_off41 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 2 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_74 : BitVec 32 := 0#32
  ![v123.toNat, 0]
def k0_off42 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1536_i32 : BitVec 32 := 1536#32
  let c0_i32_75 : BitVec 32 := 0#32
  ![v123.toNat, 1536, 0]
def k0_off43 (v122 : BitVec 32) : Fin 3 → Nat :=
  let c1536_i32_76 : BitVec 32 := 1536#32
  let c0_i32_77 : BitVec 32 := 0#32
  ![v122.toNat, 1536, 0]
def k0_off44 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v161 : Index := Scalar.indexCast v123
  let c0_80 : Index := 0#32
  let c0_81 : Index := 0#32
  ![v161.toNat, 0, 0]
def k0_off45 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v166 : Index := Scalar.indexCast v123
  let c1536 : Index := 1536#32
  let c0_83 : Index := 0#32
  ![v166.toNat, 1536, 0]
def k0_off46 (v122 : BitVec 32) : Fin 2 → Nat :=
  let v171 : Index := Scalar.indexCast v122
  let c0_85 : Index := 0#32
  ![v171.toNat, 0]
def k0_off47 (v122 : BitVec 32) : Fin 2 → Nat :=
  let v175 : Index := Scalar.indexCast v122
  let c1536_86 : Index := 1536#32
  ![v175.toNat, 1536]
def k0_off48 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 2 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_221 : BitVec 32 := 0#32
  ![v123.toNat, 0]
def k0_cond3 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : BitVec 1 :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_56 : BitVec 32 := 2#32
  let v124 : BitVec 32 := Scalar.addi v120 c2_i32_56
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let v125 : BitVec 1 := Scalar.cmpi .slt v124 v96
  let v190 : BitVec 32 := Scalar.extui v125
  let c0_i32_90 : BitVec 32 := 0#32
  let v191 : BitVec 1 := Scalar.cmpi .ne v190 c0_i32_90
  v191

def k0_off49 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_222 : BitVec 32 := 0#32
  let c0_i32_223 : BitVec 32 := 0#32
  ![v123.toNat, 0, 0]
def k0_off50 (v129 : BitVec 32) : Fin 3 → Nat :=
  let c0_i32_224 : BitVec 32 := 0#32
  let c0_i32_225 : BitVec 32 := 0#32
  ![v129.toNat, 0, 0]

def k0_off51 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 2 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_226 : BitVec 32 := 0#32
  ![v123.toNat, 0]
def k0_off52 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1536_i32_227 : BitVec 32 := 1536#32
  let c0_i32_228 : BitVec 32 := 0#32
  ![v123.toNat, 1536, 0]
def k0_off53 (v129 : BitVec 32) : Fin 3 → Nat :=
  let c1536_i32_229 : BitVec 32 := 1536#32
  let c0_i32_230 : BitVec 32 := 0#32
  ![v129.toNat, 1536, 0]
def k0_off54 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 2 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1_i32_91 : BitVec 32 := 1#32
  ![v123.toNat, 1]
def k0_off55 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c256_i32 : BitVec 32 := 256#32
  let c0_i32_92 : BitVec 32 := 0#32
  ![v123.toNat, 256, 0]
def k0_off56 (v122 : BitVec 32) : Fin 3 → Nat :=
  let c256_i32_93 : BitVec 32 := 256#32
  let c0_i32_94 : BitVec 32 := 0#32
  ![v122.toNat, 256, 0]
def k0_off57 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1792_i32 : BitVec 32 := 1792#32
  let c0_i32_96 : BitVec 32 := 0#32
  ![v123.toNat, 1792, 0]
def k0_off58 (v122 : BitVec 32) : Fin 3 → Nat :=
  let c1792_i32_97 : BitVec 32 := 1792#32
  let c0_i32_98 : BitVec 32 := 0#32
  ![v122.toNat, 1792, 0]
def k0_off59 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v206 : Index := Scalar.indexCast v123
  let c256 : Index := 256#32
  let c0_101 : Index := 0#32
  ![v206.toNat, 256, 0]
def k0_off60 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v211 : Index := Scalar.indexCast v123
  let c1792 : Index := 1792#32
  let c0_103 : Index := 0#32
  ![v211.toNat, 1792, 0]
def k0_off61 (v122 : BitVec 32) : Fin 2 → Nat :=
  let v216 : Index := Scalar.indexCast v122
  let c256_105 : Index := 256#32
  ![v216.toNat, 256]
def k0_off62 (v122 : BitVec 32) : Fin 2 → Nat :=
  let v220 : Index := Scalar.indexCast v122
  let c1792_106 : Index := 1792#32
  ![v220.toNat, 1792]
def k0_off63 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 2 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1_i32_221 : BitVec 32 := 1#32
  ![v123.toNat, 1]
def k0_cond4 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : BitVec 1 :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_56 : BitVec 32 := 2#32
  let v124 : BitVec 32 := Scalar.addi v120 c2_i32_56
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let v125 : BitVec 1 := Scalar.cmpi .slt v124 v96
  let v235 : BitVec 32 := Scalar.extui v125
  let c0_i32_110 : BitVec 32 := 0#32
  let v236 : BitVec 1 := Scalar.cmpi .ne v235 c0_i32_110
  v236

def k0_off64 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c256_i32_222 : BitVec 32 := 256#32
  let c0_i32_223 : BitVec 32 := 0#32
  ![v123.toNat, 256, 0]
def k0_off65 (v129 : BitVec 32) : Fin 3 → Nat :=
  let c256_i32_224 : BitVec 32 := 256#32
  let c0_i32_225 : BitVec 32 := 0#32
  ![v129.toNat, 256, 0]
def k0_off66 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1792_i32_227 : BitVec 32 := 1792#32
  let c0_i32_228 : BitVec 32 := 0#32
  ![v123.toNat, 1792, 0]
def k0_off67 (v129 : BitVec 32) : Fin 3 → Nat :=
  let c1792_i32_229 : BitVec 32 := 1792#32
  let c0_i32_230 : BitVec 32 := 0#32
  ![v129.toNat, 1792, 0]
def k0_off68 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 2 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2_i32_111 : BitVec 32 := 2#32
  ![v123.toNat, 2]
def k0_off69 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c512_i32 : BitVec 32 := 512#32
  let c0_i32_112 : BitVec 32 := 0#32
  ![v123.toNat, 512, 0]
def k0_off70 (v122 : BitVec 32) : Fin 3 → Nat :=
  let c512_i32_113 : BitVec 32 := 512#32
  let c0_i32_114 : BitVec 32 := 0#32
  ![v122.toNat, 512, 0]
def k0_off71 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2048_i32 : BitVec 32 := 2048#32
  let c0_i32_116 : BitVec 32 := 0#32
  ![v123.toNat, 2048, 0]
def k0_off72 (v122 : BitVec 32) : Fin 3 → Nat :=
  let c2048_i32_117 : BitVec 32 := 2048#32
  let c0_i32_118 : BitVec 32 := 0#32
  ![v122.toNat, 2048, 0]
def k0_off73 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v251 : Index := Scalar.indexCast v123
  let c512 : Index := 512#32
  let c0_121 : Index := 0#32
  ![v251.toNat, 512, 0]
def k0_off74 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v256 : Index := Scalar.indexCast v123
  let c2048 : Index := 2048#32
  let c0_123 : Index := 0#32
  ![v256.toNat, 2048, 0]
def k0_off75 (v122 : BitVec 32) : Fin 2 → Nat :=
  let v261 : Index := Scalar.indexCast v122
  let c512_125 : Index := 512#32
  ![v261.toNat, 512]
def k0_off76 (v122 : BitVec 32) : Fin 2 → Nat :=
  let v265 : Index := Scalar.indexCast v122
  let c2048_126 : Index := 2048#32
  ![v265.toNat, 2048]
def k0_off77 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 2 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2_i32_221 : BitVec 32 := 2#32
  ![v123.toNat, 2]
def k0_cond5 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : BitVec 1 :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_56 : BitVec 32 := 2#32
  let v124 : BitVec 32 := Scalar.addi v120 c2_i32_56
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let v125 : BitVec 1 := Scalar.cmpi .slt v124 v96
  let v280 : BitVec 32 := Scalar.extui v125
  let c0_i32_130 : BitVec 32 := 0#32
  let v281 : BitVec 1 := Scalar.cmpi .ne v280 c0_i32_130
  v281

def k0_off78 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c512_i32_222 : BitVec 32 := 512#32
  let c0_i32_223 : BitVec 32 := 0#32
  ![v123.toNat, 512, 0]
def k0_off79 (v129 : BitVec 32) : Fin 3 → Nat :=
  let c512_i32_224 : BitVec 32 := 512#32
  let c0_i32_225 : BitVec 32 := 0#32
  ![v129.toNat, 512, 0]
def k0_off80 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2048_i32_227 : BitVec 32 := 2048#32
  let c0_i32_228 : BitVec 32 := 0#32
  ![v123.toNat, 2048, 0]
def k0_off81 (v129 : BitVec 32) : Fin 3 → Nat :=
  let c2048_i32_229 : BitVec 32 := 2048#32
  let c0_i32_230 : BitVec 32 := 0#32
  ![v129.toNat, 2048, 0]
def k0_off82 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 2 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c3_i32_131 : BitVec 32 := 3#32
  ![v123.toNat, 3]
def k0_off83 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c768_i32 : BitVec 32 := 768#32
  let c0_i32_132 : BitVec 32 := 0#32
  ![v123.toNat, 768, 0]
def k0_off84 (v122 : BitVec 32) : Fin 3 → Nat :=
  let c768_i32_133 : BitVec 32 := 768#32
  let c0_i32_134 : BitVec 32 := 0#32
  ![v122.toNat, 768, 0]
def k0_off85 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2304_i32 : BitVec 32 := 2304#32
  let c0_i32_136 : BitVec 32 := 0#32
  ![v123.toNat, 2304, 0]
def k0_off86 (v122 : BitVec 32) : Fin 3 → Nat :=
  let c2304_i32_137 : BitVec 32 := 2304#32
  let c0_i32_138 : BitVec 32 := 0#32
  ![v122.toNat, 2304, 0]
def k0_off87 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v296 : Index := Scalar.indexCast v123
  let c768 : Index := 768#32
  let c0_141 : Index := 0#32
  ![v296.toNat, 768, 0]
def k0_off88 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v301 : Index := Scalar.indexCast v123
  let c2304 : Index := 2304#32
  let c0_143 : Index := 0#32
  ![v301.toNat, 2304, 0]
def k0_off89 (v122 : BitVec 32) : Fin 2 → Nat :=
  let v306 : Index := Scalar.indexCast v122
  let c768_145 : Index := 768#32
  ![v306.toNat, 768]
def k0_off90 (v122 : BitVec 32) : Fin 2 → Nat :=
  let v310 : Index := Scalar.indexCast v122
  let c2304_146 : Index := 2304#32
  ![v310.toNat, 2304]
def k0_off91 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 2 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c3_i32_221 : BitVec 32 := 3#32
  ![v123.toNat, 3]
def k0_cond6 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : BitVec 1 :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_56 : BitVec 32 := 2#32
  let v124 : BitVec 32 := Scalar.addi v120 c2_i32_56
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let v125 : BitVec 1 := Scalar.cmpi .slt v124 v96
  let v325 : BitVec 32 := Scalar.extui v125
  let c0_i32_150 : BitVec 32 := 0#32
  let v326 : BitVec 1 := Scalar.cmpi .ne v325 c0_i32_150
  v326

def k0_off92 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c768_i32_222 : BitVec 32 := 768#32
  let c0_i32_223 : BitVec 32 := 0#32
  ![v123.toNat, 768, 0]
def k0_off93 (v129 : BitVec 32) : Fin 3 → Nat :=
  let c768_i32_224 : BitVec 32 := 768#32
  let c0_i32_225 : BitVec 32 := 0#32
  ![v129.toNat, 768, 0]
def k0_off94 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2304_i32_227 : BitVec 32 := 2304#32
  let c0_i32_228 : BitVec 32 := 0#32
  ![v123.toNat, 2304, 0]
def k0_off95 (v129 : BitVec 32) : Fin 3 → Nat :=
  let c2304_i32_229 : BitVec 32 := 2304#32
  let c0_i32_230 : BitVec 32 := 0#32
  ![v129.toNat, 2304, 0]
def k0_off96 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 2 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c4_i32_151 : BitVec 32 := 4#32
  ![v123.toNat, 4]
def k0_off97 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1024_i32 : BitVec 32 := 1024#32
  let c0_i32_152 : BitVec 32 := 0#32
  ![v123.toNat, 1024, 0]
def k0_off98 (v122 : BitVec 32) : Fin 3 → Nat :=
  let c1024_i32_153 : BitVec 32 := 1024#32
  let c0_i32_154 : BitVec 32 := 0#32
  ![v122.toNat, 1024, 0]
def k0_off99 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2560_i32 : BitVec 32 := 2560#32
  let c0_i32_156 : BitVec 32 := 0#32
  ![v123.toNat, 2560, 0]
def k0_off100 (v122 : BitVec 32) : Fin 3 → Nat :=
  let c2560_i32_157 : BitVec 32 := 2560#32
  let c0_i32_158 : BitVec 32 := 0#32
  ![v122.toNat, 2560, 0]
def k0_off101 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v341 : Index := Scalar.indexCast v123
  let c1024 : Index := 1024#32
  let c0_161 : Index := 0#32
  ![v341.toNat, 1024, 0]
def k0_off102 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v346 : Index := Scalar.indexCast v123
  let c2560 : Index := 2560#32
  let c0_163 : Index := 0#32
  ![v346.toNat, 2560, 0]
def k0_off103 (v122 : BitVec 32) : Fin 2 → Nat :=
  let v351 : Index := Scalar.indexCast v122
  let c1024_165 : Index := 1024#32
  ![v351.toNat, 1024]
def k0_off104 (v122 : BitVec 32) : Fin 2 → Nat :=
  let v355 : Index := Scalar.indexCast v122
  let c2560_166 : Index := 2560#32
  ![v355.toNat, 2560]
def k0_off105 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 2 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c4_i32_221 : BitVec 32 := 4#32
  ![v123.toNat, 4]
def k0_cond7 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : BitVec 1 :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_56 : BitVec 32 := 2#32
  let v124 : BitVec 32 := Scalar.addi v120 c2_i32_56
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let v125 : BitVec 1 := Scalar.cmpi .slt v124 v96
  let v370 : BitVec 32 := Scalar.extui v125
  let c0_i32_170 : BitVec 32 := 0#32
  let v371 : BitVec 1 := Scalar.cmpi .ne v370 c0_i32_170
  v371

def k0_off106 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1024_i32_222 : BitVec 32 := 1024#32
  let c0_i32_223 : BitVec 32 := 0#32
  ![v123.toNat, 1024, 0]
def k0_off107 (v129 : BitVec 32) : Fin 3 → Nat :=
  let c1024_i32_224 : BitVec 32 := 1024#32
  let c0_i32_225 : BitVec 32 := 0#32
  ![v129.toNat, 1024, 0]
def k0_off108 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2560_i32_227 : BitVec 32 := 2560#32
  let c0_i32_228 : BitVec 32 := 0#32
  ![v123.toNat, 2560, 0]
def k0_off109 (v129 : BitVec 32) : Fin 3 → Nat :=
  let c2560_i32_229 : BitVec 32 := 2560#32
  let c0_i32_230 : BitVec 32 := 0#32
  ![v129.toNat, 2560, 0]
def k0_off110 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 2 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c5_i32_171 : BitVec 32 := 5#32
  ![v123.toNat, 5]
def k0_off111 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1280_i32 : BitVec 32 := 1280#32
  let c0_i32_172 : BitVec 32 := 0#32
  ![v123.toNat, 1280, 0]
def k0_off112 (v122 : BitVec 32) : Fin 3 → Nat :=
  let c1280_i32_173 : BitVec 32 := 1280#32
  let c0_i32_174 : BitVec 32 := 0#32
  ![v122.toNat, 1280, 0]
def k0_off113 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2816_i32 : BitVec 32 := 2816#32
  let c0_i32_176 : BitVec 32 := 0#32
  ![v123.toNat, 2816, 0]
def k0_off114 (v122 : BitVec 32) : Fin 3 → Nat :=
  let c2816_i32_177 : BitVec 32 := 2816#32
  let c0_i32_178 : BitVec 32 := 0#32
  ![v122.toNat, 2816, 0]
def k0_off115 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v386 : Index := Scalar.indexCast v123
  let c1280 : Index := 1280#32
  let c0_181 : Index := 0#32
  ![v386.toNat, 1280, 0]
def k0_off116 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v391 : Index := Scalar.indexCast v123
  let c2816 : Index := 2816#32
  let c0_183 : Index := 0#32
  ![v391.toNat, 2816, 0]
def k0_off117 (v122 : BitVec 32) : Fin 2 → Nat :=
  let v396 : Index := Scalar.indexCast v122
  let c1280_185 : Index := 1280#32
  ![v396.toNat, 1280]
def k0_off118 (v122 : BitVec 32) : Fin 2 → Nat :=
  let v400 : Index := Scalar.indexCast v122
  let c2816_186 : Index := 2816#32
  ![v400.toNat, 2816]
def k0_off119 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 2 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c5_i32_221 : BitVec 32 := 5#32
  ![v123.toNat, 5]
def k0_cond8 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : BitVec 1 :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_56 : BitVec 32 := 2#32
  let v124 : BitVec 32 := Scalar.addi v120 c2_i32_56
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let v125 : BitVec 1 := Scalar.cmpi .slt v124 v96
  let v415 : BitVec 32 := Scalar.extui v125
  let c0_i32_190 : BitVec 32 := 0#32
  let v416 : BitVec 1 := Scalar.cmpi .ne v415 c0_i32_190
  v416

def k0_off120 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1280_i32_222 : BitVec 32 := 1280#32
  let c0_i32_223 : BitVec 32 := 0#32
  ![v123.toNat, 1280, 0]
def k0_off121 (v129 : BitVec 32) : Fin 3 → Nat :=
  let c1280_i32_224 : BitVec 32 := 1280#32
  let c0_i32_225 : BitVec 32 := 0#32
  ![v129.toNat, 1280, 0]
def k0_off122 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2816_i32_227 : BitVec 32 := 2816#32
  let c0_i32_228 : BitVec 32 := 0#32
  ![v123.toNat, 2816, 0]
def k0_off123 (v129 : BitVec 32) : Fin 3 → Nat :=
  let c2816_i32_229 : BitVec 32 := 2816#32
  let c0_i32_230 : BitVec 32 := 0#32
  ![v129.toNat, 2816, 0]
def k0_off124 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 2 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_191 : BitVec 32 := 0#32
  ![v123.toNat, 0]
def k0_off125 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_192 : BitVec 32 := 0#32
  let c0_i32_193 : BitVec 32 := 0#32
  ![v123.toNat, 0, 0]
def k0_off126 (v122 : BitVec 32) : Fin 3 → Nat :=
  let c0_i32_194 : BitVec 32 := 0#32
  let c0_i32_195 : BitVec 32 := 0#32
  ![v122.toNat, 0, 0]
def k0_off127 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v424 : Index := Scalar.indexCast v123
  let c0_198 : Index := 0#32
  let c0_199 : Index := 0#32
  ![v424.toNat, 0, 0]
def k0_off128 (v122 : BitVec 32) : Fin 2 → Nat :=
  let v429 : Index := Scalar.indexCast v122
  let c0_201 : Index := 0#32
  ![v429.toNat, 0]
def k0_off129 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 2 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_221 : BitVec 32 := 0#32
  ![v123.toNat, 0]
def k0_cond9 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : BitVec 1 :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_56 : BitVec 32 := 2#32
  let v124 : BitVec 32 := Scalar.addi v120 c2_i32_56
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let v125 : BitVec 1 := Scalar.cmpi .slt v124 v96
  let v440 : BitVec 32 := Scalar.extui v125
  let c0_i32_206 : BitVec 32 := 0#32
  let v441 : BitVec 1 := Scalar.cmpi .ne v440 c0_i32_206
  v441

def k0_off130 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_222 : BitVec 32 := 0#32
  let c0_i32_223 : BitVec 32 := 0#32
  ![v123.toNat, 0, 0]
def k0_off131 (v129 : BitVec 32) : Fin 3 → Nat :=
  let c0_i32_224 : BitVec 32 := 0#32
  let c0_i32_225 : BitVec 32 := 0#32
  ![v129.toNat, 0, 0]
def k0_off132 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 2 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1_i32_207 : BitVec 32 := 1#32
  ![v123.toNat, 1]
def k0_off133 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1408_i32 : BitVec 32 := 1408#32
  let c0_i32_208 : BitVec 32 := 0#32
  ![v123.toNat, 1408, 0]
def k0_off134 (v122 : BitVec 32) : Fin 3 → Nat :=
  let c1408_i32_209 : BitVec 32 := 1408#32
  let c0_i32_210 : BitVec 32 := 0#32
  ![v122.toNat, 1408, 0]
def k0_off135 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v449 : Index := Scalar.indexCast v123
  let c1408 : Index := 1408#32
  let c0_213 : Index := 0#32
  ![v449.toNat, 1408, 0]
def k0_off136 (v122 : BitVec 32) : Fin 2 → Nat :=
  let v454 : Index := Scalar.indexCast v122
  let c1408_215 : Index := 1408#32
  ![v454.toNat, 1408]

def k0_chk11_0 (v122 : BitVec 32) : Prop :=
  (∀ a, (k0_off40 v122) a + S1x256x2816.size a ≤ S8x3072x2816.size a) ∧
  (∀ (hinb : ∀ a, (k0_off40 v122) a + S1x256x2816.size a ≤ S8x3072x2816.size a), (Rect.unit (s := S8x3072x2816) (k0_off40 v122) S1x256x2816.size hinb).WholeWords (EltTy.packing .i8)) ∧
  (∀ a, (k0_off43 v122) a + S1x256x2816.size a ≤ S8x3072x2816.size a) ∧
  (∀ (hinb : ∀ a, (k0_off43 v122) a + S1x256x2816.size a ≤ S8x3072x2816.size a), (Rect.unit (s := S8x3072x2816) (k0_off43 v122) S1x256x2816.size hinb).WholeWords (EltTy.packing .i8)) ∧
  (∀ a, (k0_off46 v122) a + S1x256.size a ≤ S8x3072.size a) ∧
  (∀ a, (k0_off47 v122) a + S1x256.size a ≤ S8x3072.size a) ∧
  (∀ a, (k0_off56 v122) a + S1x256x2816.size a ≤ S8x3072x2816.size a) ∧
  (∀ (hinb : ∀ a, (k0_off56 v122) a + S1x256x2816.size a ≤ S8x3072x2816.size a), (Rect.unit (s := S8x3072x2816) (k0_off56 v122) S1x256x2816.size hinb).WholeWords (EltTy.packing .i8)) ∧
  (∀ a, (k0_off58 v122) a + S1x256x2816.size a ≤ S8x3072x2816.size a) ∧
  (∀ (hinb : ∀ a, (k0_off58 v122) a + S1x256x2816.size a ≤ S8x3072x2816.size a), (Rect.unit (s := S8x3072x2816) (k0_off58 v122) S1x256x2816.size hinb).WholeWords (EltTy.packing .i8)) ∧
  (∀ a, (k0_off61 v122) a + S1x256.size a ≤ S8x3072.size a) ∧
  (∀ a, (k0_off62 v122) a + S1x256.size a ≤ S8x3072.size a) ∧
  (∀ a, (k0_off70 v122) a + S1x256x2816.size a ≤ S8x3072x2816.size a) ∧
  (∀ (hinb : ∀ a, (k0_off70 v122) a + S1x256x2816.size a ≤ S8x3072x2816.size a), (Rect.unit (s := S8x3072x2816) (k0_off70 v122) S1x256x2816.size hinb).WholeWords (EltTy.packing .i8)) ∧
  (∀ a, (k0_off72 v122) a + S1x256x2816.size a ≤ S8x3072x2816.size a) ∧
  (∀ (hinb : ∀ a, (k0_off72 v122) a + S1x256x2816.size a ≤ S8x3072x2816.size a), (Rect.unit (s := S8x3072x2816) (k0_off72 v122) S1x256x2816.size hinb).WholeWords (EltTy.packing .i8)) ∧
  (∀ a, (k0_off75 v122) a + S1x256.size a ≤ S8x3072.size a) ∧
  (∀ a, (k0_off76 v122) a + S1x256.size a ≤ S8x3072.size a) ∧
  (∀ a, (k0_off84 v122) a + S1x256x2816.size a ≤ S8x3072x2816.size a) ∧
  (∀ (hinb : ∀ a, (k0_off84 v122) a + S1x256x2816.size a ≤ S8x3072x2816.size a), (Rect.unit (s := S8x3072x2816) (k0_off84 v122) S1x256x2816.size hinb).WholeWords (EltTy.packing .i8)) ∧
  (∀ a, (k0_off86 v122) a + S1x256x2816.size a ≤ S8x3072x2816.size a) ∧
  (∀ (hinb : ∀ a, (k0_off86 v122) a + S1x256x2816.size a ≤ S8x3072x2816.size a), (Rect.unit (s := S8x3072x2816) (k0_off86 v122) S1x256x2816.size hinb).WholeWords (EltTy.packing .i8)) ∧
  (∀ a, (k0_off89 v122) a + S1x256.size a ≤ S8x3072.size a) ∧
  (∀ a, (k0_off90 v122) a + S1x256.size a ≤ S8x3072.size a) ∧
  (∀ a, (k0_off98 v122) a + S1x256x2816.size a ≤ S8x3072x2816.size a) ∧
  (∀ (hinb : ∀ a, (k0_off98 v122) a + S1x256x2816.size a ≤ S8x3072x2816.size a), (Rect.unit (s := S8x3072x2816) (k0_off98 v122) S1x256x2816.size hinb).WholeWords (EltTy.packing .i8)) ∧
  (∀ a, (k0_off100 v122) a + S1x256x2816.size a ≤ S8x3072x2816.size a) ∧
  (∀ (hinb : ∀ a, (k0_off100 v122) a + S1x256x2816.size a ≤ S8x3072x2816.size a), (Rect.unit (s := S8x3072x2816) (k0_off100 v122) S1x256x2816.size hinb).WholeWords (EltTy.packing .i8)) ∧
  (∀ a, (k0_off103 v122) a + S1x256.size a ≤ S8x3072.size a) ∧
  (∀ a, (k0_off104 v122) a + S1x256.size a ≤ S8x3072.size a) ∧
  (∀ a, (k0_off112 v122) a + S1x256x2816.size a ≤ S8x3072x2816.size a) ∧
  (∀ (hinb : ∀ a, (k0_off112 v122) a + S1x256x2816.size a ≤ S8x3072x2816.size a), (Rect.unit (s := S8x3072x2816) (k0_off112 v122) S1x256x2816.size hinb).WholeWords (EltTy.packing .i8))
def k0_chk11_1 (v122 : BitVec 32) : Prop :=
  (∀ a, (k0_off114 v122) a + S1x256x2816.size a ≤ S8x3072x2816.size a) ∧
  (∀ (hinb : ∀ a, (k0_off114 v122) a + S1x256x2816.size a ≤ S8x3072x2816.size a), (Rect.unit (s := S8x3072x2816) (k0_off114 v122) S1x256x2816.size hinb).WholeWords (EltTy.packing .i8)) ∧
  (∀ a, (k0_off117 v122) a + S1x256.size a ≤ S8x3072.size a) ∧
  (∀ a, (k0_off118 v122) a + S1x256.size a ≤ S8x3072.size a) ∧
  (∀ a, (k0_off126 v122) a + S1x1408x1536.size a ≤ S8x2816x1536.size a) ∧
  (∀ (hinb : ∀ a, (k0_off126 v122) a + S1x1408x1536.size a ≤ S8x2816x1536.size a), (Rect.unit (s := S8x2816x1536) (k0_off126 v122) S1x1408x1536.size hinb).WholeWords (EltTy.packing .i8)) ∧
  (∀ a, (k0_off128 v122) a + S1x1408.size a ≤ S8x2816.size a) ∧
  (∀ a, (k0_off134 v122) a + S1x1408x1536.size a ≤ S8x2816x1536.size a) ∧
  (∀ (hinb : ∀ a, (k0_off134 v122) a + S1x1408x1536.size a ≤ S8x2816x1536.size a), (Rect.unit (s := S8x2816x1536) (k0_off134 v122) S1x1408x1536.size hinb).WholeWords (EltTy.packing .i8)) ∧
  (∀ a, (k0_off136 v122) a + S1x1408.size a ≤ S8x2816.size a)
def k0_chk11 (v122 : BitVec 32) : Prop :=
  k0_chk11_0 v122 ∧
  k0_chk11_1 v122
theorem k0_off40_inb : ∀ (v122 : BitVec 32) (k0_hw11 : k0_chk11 v122), ∀ a, (k0_off40 v122) a + S1x256x2816.size a ≤ S8x3072x2816.size a := fun v122 k0_hw11 => k0_hw11.1.1
theorem k0_off40_wordsi8 : ∀ (v122 : BitVec 32) (k0_hw11 : k0_chk11 v122), (Rect.unit (s := S8x3072x2816) (k0_off40 v122) S1x256x2816.size (k0_off40_inb v122 k0_hw11)).WholeWords (EltTy.packing .i8) := fun v122 k0_hw11 => k0_hw11.1.2.1 (k0_off40_inb v122 k0_hw11)
theorem k0_off43_inb : ∀ (v122 : BitVec 32) (k0_hw11 : k0_chk11 v122), ∀ a, (k0_off43 v122) a + S1x256x2816.size a ≤ S8x3072x2816.size a := fun v122 k0_hw11 => k0_hw11.1.2.2.1
theorem k0_off43_wordsi8 : ∀ (v122 : BitVec 32) (k0_hw11 : k0_chk11 v122), (Rect.unit (s := S8x3072x2816) (k0_off43 v122) S1x256x2816.size (k0_off43_inb v122 k0_hw11)).WholeWords (EltTy.packing .i8) := fun v122 k0_hw11 => k0_hw11.1.2.2.2.1 (k0_off43_inb v122 k0_hw11)
theorem k0_off46_inb : ∀ (v122 : BitVec 32) (k0_hw11 : k0_chk11 v122), ∀ a, (k0_off46 v122) a + S1x256.size a ≤ S8x3072.size a := fun v122 k0_hw11 => k0_hw11.1.2.2.2.2.1
theorem k0_off47_inb : ∀ (v122 : BitVec 32) (k0_hw11 : k0_chk11 v122), ∀ a, (k0_off47 v122) a + S1x256.size a ≤ S8x3072.size a := fun v122 k0_hw11 => k0_hw11.1.2.2.2.2.2.1
theorem k0_off56_inb : ∀ (v122 : BitVec 32) (k0_hw11 : k0_chk11 v122), ∀ a, (k0_off56 v122) a + S1x256x2816.size a ≤ S8x3072x2816.size a := fun v122 k0_hw11 => k0_hw11.1.2.2.2.2.2.2.1
theorem k0_off56_wordsi8 : ∀ (v122 : BitVec 32) (k0_hw11 : k0_chk11 v122), (Rect.unit (s := S8x3072x2816) (k0_off56 v122) S1x256x2816.size (k0_off56_inb v122 k0_hw11)).WholeWords (EltTy.packing .i8) := fun v122 k0_hw11 => k0_hw11.1.2.2.2.2.2.2.2.1 (k0_off56_inb v122 k0_hw11)
theorem k0_off58_inb : ∀ (v122 : BitVec 32) (k0_hw11 : k0_chk11 v122), ∀ a, (k0_off58 v122) a + S1x256x2816.size a ≤ S8x3072x2816.size a := fun v122 k0_hw11 => k0_hw11.1.2.2.2.2.2.2.2.2.1
theorem k0_off58_wordsi8 : ∀ (v122 : BitVec 32) (k0_hw11 : k0_chk11 v122), (Rect.unit (s := S8x3072x2816) (k0_off58 v122) S1x256x2816.size (k0_off58_inb v122 k0_hw11)).WholeWords (EltTy.packing .i8) := fun v122 k0_hw11 => k0_hw11.1.2.2.2.2.2.2.2.2.2.1 (k0_off58_inb v122 k0_hw11)
theorem k0_off61_inb : ∀ (v122 : BitVec 32) (k0_hw11 : k0_chk11 v122), ∀ a, (k0_off61 v122) a + S1x256.size a ≤ S8x3072.size a := fun v122 k0_hw11 => k0_hw11.1.2.2.2.2.2.2.2.2.2.2.1
theorem k0_off62_inb : ∀ (v122 : BitVec 32) (k0_hw11 : k0_chk11 v122), ∀ a, (k0_off62 v122) a + S1x256.size a ≤ S8x3072.size a := fun v122 k0_hw11 => k0_hw11.1.2.2.2.2.2.2.2.2.2.2.2.1
theorem k0_off70_inb : ∀ (v122 : BitVec 32) (k0_hw11 : k0_chk11 v122), ∀ a, (k0_off70 v122) a + S1x256x2816.size a ≤ S8x3072x2816.size a := fun v122 k0_hw11 => k0_hw11.1.2.2.2.2.2.2.2.2.2.2.2.2.1
theorem k0_off70_wordsi8 : ∀ (v122 : BitVec 32) (k0_hw11 : k0_chk11 v122), (Rect.unit (s := S8x3072x2816) (k0_off70 v122) S1x256x2816.size (k0_off70_inb v122 k0_hw11)).WholeWords (EltTy.packing .i8) := fun v122 k0_hw11 => k0_hw11.1.2.2.2.2.2.2.2.2.2.2.2.2.2.1 (k0_off70_inb v122 k0_hw11)
theorem k0_off72_inb : ∀ (v122 : BitVec 32) (k0_hw11 : k0_chk11 v122), ∀ a, (k0_off72 v122) a + S1x256x2816.size a ≤ S8x3072x2816.size a := fun v122 k0_hw11 => k0_hw11.1.2.2.2.2.2.2.2.2.2.2.2.2.2.2.1
theorem k0_off72_wordsi8 : ∀ (v122 : BitVec 32) (k0_hw11 : k0_chk11 v122), (Rect.unit (s := S8x3072x2816) (k0_off72 v122) S1x256x2816.size (k0_off72_inb v122 k0_hw11)).WholeWords (EltTy.packing .i8) := fun v122 k0_hw11 => k0_hw11.1.2.2.2.2.2.2.2.2.2.2.2.2.2.2.2.1 (k0_off72_inb v122 k0_hw11)
theorem k0_off75_inb : ∀ (v122 : BitVec 32) (k0_hw11 : k0_chk11 v122), ∀ a, (k0_off75 v122) a + S1x256.size a ≤ S8x3072.size a := fun v122 k0_hw11 => k0_hw11.1.2.2.2.2.2.2.2.2.2.2.2.2.2.2.2.2.1
theorem k0_off76_inb : ∀ (v122 : BitVec 32) (k0_hw11 : k0_chk11 v122), ∀ a, (k0_off76 v122) a + S1x256.size a ≤ S8x3072.size a := fun v122 k0_hw11 => k0_hw11.1.2.2.2.2.2.2.2.2.2.2.2.2.2.2.2.2.2.1
theorem k0_off84_inb : ∀ (v122 : BitVec 32) (k0_hw11 : k0_chk11 v122), ∀ a, (k0_off84 v122) a + S1x256x2816.size a ≤ S8x3072x2816.size a := fun v122 k0_hw11 => k0_hw11.1.2.2.2.2.2.2.2.2.2.2.2.2.2.2.2.2.2.2.1
theorem k0_off84_wordsi8 : ∀ (v122 : BitVec 32) (k0_hw11 : k0_chk11 v122), (Rect.unit (s := S8x3072x2816) (k0_off84 v122) S1x256x2816.size (k0_off84_inb v122 k0_hw11)).WholeWords (EltTy.packing .i8) := fun v122 k0_hw11 => k0_hw11.1.2.2.2.2.2.2.2.2.2.2.2.2.2.2.2.2.2.2.2.1 (k0_off84_inb v122 k0_hw11)
theorem k0_off86_inb : ∀ (v122 : BitVec 32) (k0_hw11 : k0_chk11 v122), ∀ a, (k0_off86 v122) a + S1x256x2816.size a ≤ S8x3072x2816.size a := fun v122 k0_hw11 => k0_hw11.1.2.2.2.2.2.2.2.2.2.2.2.2.2.2.2.2.2.2.2.2.1
theorem k0_off86_wordsi8 : ∀ (v122 : BitVec 32) (k0_hw11 : k0_chk11 v122), (Rect.unit (s := S8x3072x2816) (k0_off86 v122) S1x256x2816.size (k0_off86_inb v122 k0_hw11)).WholeWords (EltTy.packing .i8) := fun v122 k0_hw11 => k0_hw11.1.2.2.2.2.2.2.2.2.2.2.2.2.2.2.2.2.2.2.2.2.2.1 (k0_off86_inb v122 k0_hw11)
theorem k0_off89_inb : ∀ (v122 : BitVec 32) (k0_hw11 : k0_chk11 v122), ∀ a, (k0_off89 v122) a + S1x256.size a ≤ S8x3072.size a := fun v122 k0_hw11 => k0_hw11.1.2.2.2.2.2.2.2.2.2.2.2.2.2.2.2.2.2.2.2.2.2.2.1
theorem k0_off90_inb : ∀ (v122 : BitVec 32) (k0_hw11 : k0_chk11 v122), ∀ a, (k0_off90 v122) a + S1x256.size a ≤ S8x3072.size a := fun v122 k0_hw11 => k0_hw11.1.2.2.2.2.2.2.2.2.2.2.2.2.2.2.2.2.2.2.2.2.2.2.2.1
theorem k0_off98_inb : ∀ (v122 : BitVec 32) (k0_hw11 : k0_chk11 v122), ∀ a, (k0_off98 v122) a + S1x256x2816.size a ≤ S8x3072x2816.size a := fun v122 k0_hw11 => k0_hw11.1.2.2.2.2.2.2.2.2.2.2.2.2.2.2.2.2.2.2.2.2.2.2.2.2.1
theorem k0_off98_wordsi8 : ∀ (v122 : BitVec 32) (k0_hw11 : k0_chk11 v122), (Rect.unit (s := S8x3072x2816) (k0_off98 v122) S1x256x2816.size (k0_off98_inb v122 k0_hw11)).WholeWords (EltTy.packing .i8) := fun v122 k0_hw11 => k0_hw11.1.2.2.2.2.2.2.2.2.2.2.2.2.2.2.2.2.2.2.2.2.2.2.2.2.2.1 (k0_off98_inb v122 k0_hw11)
theorem k0_off100_inb : ∀ (v122 : BitVec 32) (k0_hw11 : k0_chk11 v122), ∀ a, (k0_off100 v122) a + S1x256x2816.size a ≤ S8x3072x2816.size a := fun v122 k0_hw11 => k0_hw11.1.2.2.2.2.2.2.2.2.2.2.2.2.2.2.2.2.2.2.2.2.2.2.2.2.2.2.1
theorem k0_off100_wordsi8 : ∀ (v122 : BitVec 32) (k0_hw11 : k0_chk11 v122), (Rect.unit (s := S8x3072x2816) (k0_off100 v122) S1x256x2816.size (k0_off100_inb v122 k0_hw11)).WholeWords (EltTy.packing .i8) := fun v122 k0_hw11 => k0_hw11.1.2.2.2.2.2.2.2.2.2.2.2.2.2.2.2.2.2.2.2.2.2.2.2.2.2.2.2.1 (k0_off100_inb v122 k0_hw11)
theorem k0_off103_inb : ∀ (v122 : BitVec 32) (k0_hw11 : k0_chk11 v122), ∀ a, (k0_off103 v122) a + S1x256.size a ≤ S8x3072.size a := fun v122 k0_hw11 => k0_hw11.1.2.2.2.2.2.2.2.2.2.2.2.2.2.2.2.2.2.2.2.2.2.2.2.2.2.2.2.2.1
theorem k0_off104_inb : ∀ (v122 : BitVec 32) (k0_hw11 : k0_chk11 v122), ∀ a, (k0_off104 v122) a + S1x256.size a ≤ S8x3072.size a := fun v122 k0_hw11 => k0_hw11.1.2.2.2.2.2.2.2.2.2.2.2.2.2.2.2.2.2.2.2.2.2.2.2.2.2.2.2.2.2.1
theorem k0_off112_inb : ∀ (v122 : BitVec 32) (k0_hw11 : k0_chk11 v122), ∀ a, (k0_off112 v122) a + S1x256x2816.size a ≤ S8x3072x2816.size a := fun v122 k0_hw11 => k0_hw11.1.2.2.2.2.2.2.2.2.2.2.2.2.2.2.2.2.2.2.2.2.2.2.2.2.2.2.2.2.2.2.1
theorem k0_off112_wordsi8 : ∀ (v122 : BitVec 32) (k0_hw11 : k0_chk11 v122), (Rect.unit (s := S8x3072x2816) (k0_off112 v122) S1x256x2816.size (k0_off112_inb v122 k0_hw11)).WholeWords (EltTy.packing .i8) := fun v122 k0_hw11 => k0_hw11.1.2.2.2.2.2.2.2.2.2.2.2.2.2.2.2.2.2.2.2.2.2.2.2.2.2.2.2.2.2.2.2 (k0_off112_inb v122 k0_hw11)
theorem k0_off114_inb : ∀ (v122 : BitVec 32) (k0_hw11 : k0_chk11 v122), ∀ a, (k0_off114 v122) a + S1x256x2816.size a ≤ S8x3072x2816.size a := fun v122 k0_hw11 => k0_hw11.2.1
theorem k0_off114_wordsi8 : ∀ (v122 : BitVec 32) (k0_hw11 : k0_chk11 v122), (Rect.unit (s := S8x3072x2816) (k0_off114 v122) S1x256x2816.size (k0_off114_inb v122 k0_hw11)).WholeWords (EltTy.packing .i8) := fun v122 k0_hw11 => k0_hw11.2.2.1 (k0_off114_inb v122 k0_hw11)
theorem k0_off117_inb : ∀ (v122 : BitVec 32) (k0_hw11 : k0_chk11 v122), ∀ a, (k0_off117 v122) a + S1x256.size a ≤ S8x3072.size a := fun v122 k0_hw11 => k0_hw11.2.2.2.1
theorem k0_off118_inb : ∀ (v122 : BitVec 32) (k0_hw11 : k0_chk11 v122), ∀ a, (k0_off118 v122) a + S1x256.size a ≤ S8x3072.size a := fun v122 k0_hw11 => k0_hw11.2.2.2.2.1
theorem k0_off126_inb : ∀ (v122 : BitVec 32) (k0_hw11 : k0_chk11 v122), ∀ a, (k0_off126 v122) a + S1x1408x1536.size a ≤ S8x2816x1536.size a := fun v122 k0_hw11 => k0_hw11.2.2.2.2.2.1
theorem k0_off126_wordsi8 : ∀ (v122 : BitVec 32) (k0_hw11 : k0_chk11 v122), (Rect.unit (s := S8x2816x1536) (k0_off126 v122) S1x1408x1536.size (k0_off126_inb v122 k0_hw11)).WholeWords (EltTy.packing .i8) := fun v122 k0_hw11 => k0_hw11.2.2.2.2.2.2.1 (k0_off126_inb v122 k0_hw11)
theorem k0_off128_inb : ∀ (v122 : BitVec 32) (k0_hw11 : k0_chk11 v122), ∀ a, (k0_off128 v122) a + S1x1408.size a ≤ S8x2816.size a := fun v122 k0_hw11 => k0_hw11.2.2.2.2.2.2.2.1
theorem k0_off134_inb : ∀ (v122 : BitVec 32) (k0_hw11 : k0_chk11 v122), ∀ a, (k0_off134 v122) a + S1x1408x1536.size a ≤ S8x2816x1536.size a := fun v122 k0_hw11 => k0_hw11.2.2.2.2.2.2.2.2.1
theorem k0_off134_wordsi8 : ∀ (v122 : BitVec 32) (k0_hw11 : k0_chk11 v122), (Rect.unit (s := S8x2816x1536) (k0_off134 v122) S1x1408x1536.size (k0_off134_inb v122 k0_hw11)).WholeWords (EltTy.packing .i8) := fun v122 k0_hw11 => k0_hw11.2.2.2.2.2.2.2.2.2.1 (k0_off134_inb v122 k0_hw11)
theorem k0_off136_inb : ∀ (v122 : BitVec 32) (k0_hw11 : k0_chk11 v122), ∀ a, (k0_off136 v122) a + S1x1408.size a ≤ S8x2816.size a := fun v122 k0_hw11 => k0_hw11.2.2.2.2.2.2.2.2.2.2

def k0_off137 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 2 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1_i32_221 : BitVec 32 := 1#32
  ![v123.toNat, 1]
def k0_cond10 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : BitVec 1 :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_56 : BitVec 32 := 2#32
  let v124 : BitVec 32 := Scalar.addi v120 c2_i32_56
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let v125 : BitVec 1 := Scalar.cmpi .slt v124 v96
  let v465 : BitVec 32 := Scalar.extui v125
  let c0_i32_220 : BitVec 32 := 0#32
  let v466 : BitVec 1 := Scalar.cmpi .ne v465 c0_i32_220
  v466

def k0_off138 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) : Fin 3 → Nat :=
  let c0_i32_46 : BitVec 32 := 0#32
  let c0_i32_47 : BitVec 32 := 0#32
  let c1_i32_49 : BitVec 32 := 1#32
  let arg15 : BitVec 32 := Scf.iv c0_i32_47 c1_i32_49 k0_t1
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1408_i32_222 : BitVec 32 := 1408#32
  let c0_i32_223 : BitVec 32 := 0#32
  ![v123.toNat, 1408, 0]
def k0_off139 (v129 : BitVec 32) : Fin 3 → Nat :=
  let c1408_i32_224 : BitVec 32 := 1408#32
  let c0_i32_225 : BitVec 32 := 0#32
  ![v129.toNat, 1408, 0]

def k0_chk12 (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) : Prop :=
  (∀ (k0_h3 : k0_cond3 v10 v21 v33 v45 v57 v69 v81 v93 k0_t1 = 1#1), ∀ a, (k0_off50 v129) a + S1x256x2816.size a ≤ S8x3072x2816.size a) ∧
  (∀ (k0_h3 : k0_cond3 v10 v21 v33 v45 v57 v69 v81 v93 k0_t1 = 1#1), ∀ (hinb : ∀ a, (k0_off50 v129) a + S1x256x2816.size a ≤ S8x3072x2816.size a), (Rect.unit (s := S8x3072x2816) (k0_off50 v129) S1x256x2816.size hinb).WholeWords (EltTy.packing .i8)) ∧
  (∀ (k0_h3 : k0_cond3 v10 v21 v33 v45 v57 v69 v81 v93 k0_t1 = 1#1), ∀ a, (k0_off53 v129) a + S1x256x2816.size a ≤ S8x3072x2816.size a) ∧
  (∀ (k0_h3 : k0_cond3 v10 v21 v33 v45 v57 v69 v81 v93 k0_t1 = 1#1), ∀ (hinb : ∀ a, (k0_off53 v129) a + S1x256x2816.size a ≤ S8x3072x2816.size a), (Rect.unit (s := S8x3072x2816) (k0_off53 v129) S1x256x2816.size hinb).WholeWords (EltTy.packing .i8)) ∧
  (∀ (k0_h4 : k0_cond4 v10 v21 v33 v45 v57 v69 v81 v93 k0_t1 = 1#1), ∀ a, (k0_off65 v129) a + S1x256x2816.size a ≤ S8x3072x2816.size a) ∧
  (∀ (k0_h4 : k0_cond4 v10 v21 v33 v45 v57 v69 v81 v93 k0_t1 = 1#1), ∀ (hinb : ∀ a, (k0_off65 v129) a + S1x256x2816.size a ≤ S8x3072x2816.size a), (Rect.unit (s := S8x3072x2816) (k0_off65 v129) S1x256x2816.size hinb).WholeWords (EltTy.packing .i8)) ∧
  (∀ (k0_h4 : k0_cond4 v10 v21 v33 v45 v57 v69 v81 v93 k0_t1 = 1#1), ∀ a, (k0_off67 v129) a + S1x256x2816.size a ≤ S8x3072x2816.size a) ∧
  (∀ (k0_h4 : k0_cond4 v10 v21 v33 v45 v57 v69 v81 v93 k0_t1 = 1#1), ∀ (hinb : ∀ a, (k0_off67 v129) a + S1x256x2816.size a ≤ S8x3072x2816.size a), (Rect.unit (s := S8x3072x2816) (k0_off67 v129) S1x256x2816.size hinb).WholeWords (EltTy.packing .i8)) ∧
  (∀ (k0_h5 : k0_cond5 v10 v21 v33 v45 v57 v69 v81 v93 k0_t1 = 1#1), ∀ a, (k0_off79 v129) a + S1x256x2816.size a ≤ S8x3072x2816.size a) ∧
  (∀ (k0_h5 : k0_cond5 v10 v21 v33 v45 v57 v69 v81 v93 k0_t1 = 1#1), ∀ (hinb : ∀ a, (k0_off79 v129) a + S1x256x2816.size a ≤ S8x3072x2816.size a), (Rect.unit (s := S8x3072x2816) (k0_off79 v129) S1x256x2816.size hinb).WholeWords (EltTy.packing .i8)) ∧
  (∀ (k0_h5 : k0_cond5 v10 v21 v33 v45 v57 v69 v81 v93 k0_t1 = 1#1), ∀ a, (k0_off81 v129) a + S1x256x2816.size a ≤ S8x3072x2816.size a) ∧
  (∀ (k0_h5 : k0_cond5 v10 v21 v33 v45 v57 v69 v81 v93 k0_t1 = 1#1), ∀ (hinb : ∀ a, (k0_off81 v129) a + S1x256x2816.size a ≤ S8x3072x2816.size a), (Rect.unit (s := S8x3072x2816) (k0_off81 v129) S1x256x2816.size hinb).WholeWords (EltTy.packing .i8)) ∧
  (∀ (k0_h6 : k0_cond6 v10 v21 v33 v45 v57 v69 v81 v93 k0_t1 = 1#1), ∀ a, (k0_off93 v129) a + S1x256x2816.size a ≤ S8x3072x2816.size a) ∧
  (∀ (k0_h6 : k0_cond6 v10 v21 v33 v45 v57 v69 v81 v93 k0_t1 = 1#1), ∀ (hinb : ∀ a, (k0_off93 v129) a + S1x256x2816.size a ≤ S8x3072x2816.size a), (Rect.unit (s := S8x3072x2816) (k0_off93 v129) S1x256x2816.size hinb).WholeWords (EltTy.packing .i8)) ∧
  (∀ (k0_h6 : k0_cond6 v10 v21 v33 v45 v57 v69 v81 v93 k0_t1 = 1#1), ∀ a, (k0_off95 v129) a + S1x256x2816.size a ≤ S8x3072x2816.size a) ∧
  (∀ (k0_h6 : k0_cond6 v10 v21 v33 v45 v57 v69 v81 v93 k0_t1 = 1#1), ∀ (hinb : ∀ a, (k0_off95 v129) a + S1x256x2816.size a ≤ S8x3072x2816.size a), (Rect.unit (s := S8x3072x2816) (k0_off95 v129) S1x256x2816.size hinb).WholeWords (EltTy.packing .i8)) ∧
  (∀ (k0_h7 : k0_cond7 v10 v21 v33 v45 v57 v69 v81 v93 k0_t1 = 1#1), ∀ a, (k0_off107 v129) a + S1x256x2816.size a ≤ S8x3072x2816.size a) ∧
  (∀ (k0_h7 : k0_cond7 v10 v21 v33 v45 v57 v69 v81 v93 k0_t1 = 1#1), ∀ (hinb : ∀ a, (k0_off107 v129) a + S1x256x2816.size a ≤ S8x3072x2816.size a), (Rect.unit (s := S8x3072x2816) (k0_off107 v129) S1x256x2816.size hinb).WholeWords (EltTy.packing .i8)) ∧
  (∀ (k0_h7 : k0_cond7 v10 v21 v33 v45 v57 v69 v81 v93 k0_t1 = 1#1), ∀ a, (k0_off109 v129) a + S1x256x2816.size a ≤ S8x3072x2816.size a) ∧
  (∀ (k0_h7 : k0_cond7 v10 v21 v33 v45 v57 v69 v81 v93 k0_t1 = 1#1), ∀ (hinb : ∀ a, (k0_off109 v129) a + S1x256x2816.size a ≤ S8x3072x2816.size a), (Rect.unit (s := S8x3072x2816) (k0_off109 v129) S1x256x2816.size hinb).WholeWords (EltTy.packing .i8)) ∧
  (∀ (k0_h8 : k0_cond8 v10 v21 v33 v45 v57 v69 v81 v93 k0_t1 = 1#1), ∀ a, (k0_off121 v129) a + S1x256x2816.size a ≤ S8x3072x2816.size a) ∧
  (∀ (k0_h8 : k0_cond8 v10 v21 v33 v45 v57 v69 v81 v93 k0_t1 = 1#1), ∀ (hinb : ∀ a, (k0_off121 v129) a + S1x256x2816.size a ≤ S8x3072x2816.size a), (Rect.unit (s := S8x3072x2816) (k0_off121 v129) S1x256x2816.size hinb).WholeWords (EltTy.packing .i8)) ∧
  (∀ (k0_h8 : k0_cond8 v10 v21 v33 v45 v57 v69 v81 v93 k0_t1 = 1#1), ∀ a, (k0_off123 v129) a + S1x256x2816.size a ≤ S8x3072x2816.size a) ∧
  (∀ (k0_h8 : k0_cond8 v10 v21 v33 v45 v57 v69 v81 v93 k0_t1 = 1#1), ∀ (hinb : ∀ a, (k0_off123 v129) a + S1x256x2816.size a ≤ S8x3072x2816.size a), (Rect.unit (s := S8x3072x2816) (k0_off123 v129) S1x256x2816.size hinb).WholeWords (EltTy.packing .i8)) ∧
  (∀ (k0_h9 : k0_cond9 v10 v21 v33 v45 v57 v69 v81 v93 k0_t1 = 1#1), ∀ a, (k0_off131 v129) a + S1x1408x1536.size a ≤ S8x2816x1536.size a) ∧
  (∀ (k0_h9 : k0_cond9 v10 v21 v33 v45 v57 v69 v81 v93 k0_t1 = 1#1), ∀ (hinb : ∀ a, (k0_off131 v129) a + S1x1408x1536.size a ≤ S8x2816x1536.size a), (Rect.unit (s := S8x2816x1536) (k0_off131 v129) S1x1408x1536.size hinb).WholeWords (EltTy.packing .i8)) ∧
  (∀ (k0_h10 : k0_cond10 v10 v21 v33 v45 v57 v69 v81 v93 k0_t1 = 1#1), ∀ a, (k0_off139 v129) a + S1x1408x1536.size a ≤ S8x2816x1536.size a) ∧
  (∀ (k0_h10 : k0_cond10 v10 v21 v33 v45 v57 v69 v81 v93 k0_t1 = 1#1), ∀ (hinb : ∀ a, (k0_off139 v129) a + S1x1408x1536.size a ≤ S8x2816x1536.size a), (Rect.unit (s := S8x2816x1536) (k0_off139 v129) S1x1408x1536.size hinb).WholeWords (EltTy.packing .i8))
theorem k0_off50_inb : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h3 : k0_cond3 v10 v21 v33 v45 v57 v69 v81 v93 k0_t1 = 1#1), ∀ a, (k0_off50 v129) a + S1x256x2816.size a ≤ S8x3072x2816.size a := fun v10 v21 v33 v45 v57 v69 v81 v93 k0_t1 v129 k0_hw12 k0_h3 => k0_hw12.1 k0_h3
theorem k0_off50_wordsi8 : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h3 : k0_cond3 v10 v21 v33 v45 v57 v69 v81 v93 k0_t1 = 1#1), (Rect.unit (s := S8x3072x2816) (k0_off50 v129) S1x256x2816.size (k0_off50_inb v10 v21 v33 v45 v57 v69 v81 v93 k0_t1 v129 k0_hw12 k0_h3)).WholeWords (EltTy.packing .i8) := fun v10 v21 v33 v45 v57 v69 v81 v93 k0_t1 v129 k0_hw12 k0_h3 => k0_hw12.2.1 k0_h3 (k0_off50_inb v10 v21 v33 v45 v57 v69 v81 v93 k0_t1 v129 k0_hw12 k0_h3)
theorem k0_off53_inb : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h3 : k0_cond3 v10 v21 v33 v45 v57 v69 v81 v93 k0_t1 = 1#1), ∀ a, (k0_off53 v129) a + S1x256x2816.size a ≤ S8x3072x2816.size a := fun v10 v21 v33 v45 v57 v69 v81 v93 k0_t1 v129 k0_hw12 k0_h3 => k0_hw12.2.2.1 k0_h3
theorem k0_off53_wordsi8 : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h3 : k0_cond3 v10 v21 v33 v45 v57 v69 v81 v93 k0_t1 = 1#1), (Rect.unit (s := S8x3072x2816) (k0_off53 v129) S1x256x2816.size (k0_off53_inb v10 v21 v33 v45 v57 v69 v81 v93 k0_t1 v129 k0_hw12 k0_h3)).WholeWords (EltTy.packing .i8) := fun v10 v21 v33 v45 v57 v69 v81 v93 k0_t1 v129 k0_hw12 k0_h3 => k0_hw12.2.2.2.1 k0_h3 (k0_off53_inb v10 v21 v33 v45 v57 v69 v81 v93 k0_t1 v129 k0_hw12 k0_h3)
theorem k0_off65_inb : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h4 : k0_cond4 v10 v21 v33 v45 v57 v69 v81 v93 k0_t1 = 1#1), ∀ a, (k0_off65 v129) a + S1x256x2816.size a ≤ S8x3072x2816.size a := fun v10 v21 v33 v45 v57 v69 v81 v93 k0_t1 v129 k0_hw12 k0_h4 => k0_hw12.2.2.2.2.1 k0_h4
theorem k0_off65_wordsi8 : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h4 : k0_cond4 v10 v21 v33 v45 v57 v69 v81 v93 k0_t1 = 1#1), (Rect.unit (s := S8x3072x2816) (k0_off65 v129) S1x256x2816.size (k0_off65_inb v10 v21 v33 v45 v57 v69 v81 v93 k0_t1 v129 k0_hw12 k0_h4)).WholeWords (EltTy.packing .i8) := fun v10 v21 v33 v45 v57 v69 v81 v93 k0_t1 v129 k0_hw12 k0_h4 => k0_hw12.2.2.2.2.2.1 k0_h4 (k0_off65_inb v10 v21 v33 v45 v57 v69 v81 v93 k0_t1 v129 k0_hw12 k0_h4)
theorem k0_off67_inb : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h4 : k0_cond4 v10 v21 v33 v45 v57 v69 v81 v93 k0_t1 = 1#1), ∀ a, (k0_off67 v129) a + S1x256x2816.size a ≤ S8x3072x2816.size a := fun v10 v21 v33 v45 v57 v69 v81 v93 k0_t1 v129 k0_hw12 k0_h4 => k0_hw12.2.2.2.2.2.2.1 k0_h4
theorem k0_off67_wordsi8 : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h4 : k0_cond4 v10 v21 v33 v45 v57 v69 v81 v93 k0_t1 = 1#1), (Rect.unit (s := S8x3072x2816) (k0_off67 v129) S1x256x2816.size (k0_off67_inb v10 v21 v33 v45 v57 v69 v81 v93 k0_t1 v129 k0_hw12 k0_h4)).WholeWords (EltTy.packing .i8) := fun v10 v21 v33 v45 v57 v69 v81 v93 k0_t1 v129 k0_hw12 k0_h4 => k0_hw12.2.2.2.2.2.2.2.1 k0_h4 (k0_off67_inb v10 v21 v33 v45 v57 v69 v81 v93 k0_t1 v129 k0_hw12 k0_h4)
theorem k0_off79_inb : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h5 : k0_cond5 v10 v21 v33 v45 v57 v69 v81 v93 k0_t1 = 1#1), ∀ a, (k0_off79 v129) a + S1x256x2816.size a ≤ S8x3072x2816.size a := fun v10 v21 v33 v45 v57 v69 v81 v93 k0_t1 v129 k0_hw12 k0_h5 => k0_hw12.2.2.2.2.2.2.2.2.1 k0_h5
theorem k0_off79_wordsi8 : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h5 : k0_cond5 v10 v21 v33 v45 v57 v69 v81 v93 k0_t1 = 1#1), (Rect.unit (s := S8x3072x2816) (k0_off79 v129) S1x256x2816.size (k0_off79_inb v10 v21 v33 v45 v57 v69 v81 v93 k0_t1 v129 k0_hw12 k0_h5)).WholeWords (EltTy.packing .i8) := fun v10 v21 v33 v45 v57 v69 v81 v93 k0_t1 v129 k0_hw12 k0_h5 => k0_hw12.2.2.2.2.2.2.2.2.2.1 k0_h5 (k0_off79_inb v10 v21 v33 v45 v57 v69 v81 v93 k0_t1 v129 k0_hw12 k0_h5)
theorem k0_off81_inb : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h5 : k0_cond5 v10 v21 v33 v45 v57 v69 v81 v93 k0_t1 = 1#1), ∀ a, (k0_off81 v129) a + S1x256x2816.size a ≤ S8x3072x2816.size a := fun v10 v21 v33 v45 v57 v69 v81 v93 k0_t1 v129 k0_hw12 k0_h5 => k0_hw12.2.2.2.2.2.2.2.2.2.2.1 k0_h5
theorem k0_off81_wordsi8 : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h5 : k0_cond5 v10 v21 v33 v45 v57 v69 v81 v93 k0_t1 = 1#1), (Rect.unit (s := S8x3072x2816) (k0_off81 v129) S1x256x2816.size (k0_off81_inb v10 v21 v33 v45 v57 v69 v81 v93 k0_t1 v129 k0_hw12 k0_h5)).WholeWords (EltTy.packing .i8) := fun v10 v21 v33 v45 v57 v69 v81 v93 k0_t1 v129 k0_hw12 k0_h5 => k0_hw12.2.2.2.2.2.2.2.2.2.2.2.1 k0_h5 (k0_off81_inb v10 v21 v33 v45 v57 v69 v81 v93 k0_t1 v129 k0_hw12 k0_h5)
theorem k0_off93_inb : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h6 : k0_cond6 v10 v21 v33 v45 v57 v69 v81 v93 k0_t1 = 1#1), ∀ a, (k0_off93 v129) a + S1x256x2816.size a ≤ S8x3072x2816.size a := fun v10 v21 v33 v45 v57 v69 v81 v93 k0_t1 v129 k0_hw12 k0_h6 => k0_hw12.2.2.2.2.2.2.2.2.2.2.2.2.1 k0_h6
theorem k0_off93_wordsi8 : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h6 : k0_cond6 v10 v21 v33 v45 v57 v69 v81 v93 k0_t1 = 1#1), (Rect.unit (s := S8x3072x2816) (k0_off93 v129) S1x256x2816.size (k0_off93_inb v10 v21 v33 v45 v57 v69 v81 v93 k0_t1 v129 k0_hw12 k0_h6)).WholeWords (EltTy.packing .i8) := fun v10 v21 v33 v45 v57 v69 v81 v93 k0_t1 v129 k0_hw12 k0_h6 => k0_hw12.2.2.2.2.2.2.2.2.2.2.2.2.2.1 k0_h6 (k0_off93_inb v10 v21 v33 v45 v57 v69 v81 v93 k0_t1 v129 k0_hw12 k0_h6)
theorem k0_off95_inb : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h6 : k0_cond6 v10 v21 v33 v45 v57 v69 v81 v93 k0_t1 = 1#1), ∀ a, (k0_off95 v129) a + S1x256x2816.size a ≤ S8x3072x2816.size a := fun v10 v21 v33 v45 v57 v69 v81 v93 k0_t1 v129 k0_hw12 k0_h6 => k0_hw12.2.2.2.2.2.2.2.2.2.2.2.2.2.2.1 k0_h6
theorem k0_off95_wordsi8 : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h6 : k0_cond6 v10 v21 v33 v45 v57 v69 v81 v93 k0_t1 = 1#1), (Rect.unit (s := S8x3072x2816) (k0_off95 v129) S1x256x2816.size (k0_off95_inb v10 v21 v33 v45 v57 v69 v81 v93 k0_t1 v129 k0_hw12 k0_h6)).WholeWords (EltTy.packing .i8) := fun v10 v21 v33 v45 v57 v69 v81 v93 k0_t1 v129 k0_hw12 k0_h6 => k0_hw12.2.2.2.2.2.2.2.2.2.2.2.2.2.2.2.1 k0_h6 (k0_off95_inb v10 v21 v33 v45 v57 v69 v81 v93 k0_t1 v129 k0_hw12 k0_h6)
theorem k0_off107_inb : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h7 : k0_cond7 v10 v21 v33 v45 v57 v69 v81 v93 k0_t1 = 1#1), ∀ a, (k0_off107 v129) a + S1x256x2816.size a ≤ S8x3072x2816.size a := fun v10 v21 v33 v45 v57 v69 v81 v93 k0_t1 v129 k0_hw12 k0_h7 => k0_hw12.2.2.2.2.2.2.2.2.2.2.2.2.2.2.2.2.1 k0_h7
theorem k0_off107_wordsi8 : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h7 : k0_cond7 v10 v21 v33 v45 v57 v69 v81 v93 k0_t1 = 1#1), (Rect.unit (s := S8x3072x2816) (k0_off107 v129) S1x256x2816.size (k0_off107_inb v10 v21 v33 v45 v57 v69 v81 v93 k0_t1 v129 k0_hw12 k0_h7)).WholeWords (EltTy.packing .i8) := fun v10 v21 v33 v45 v57 v69 v81 v93 k0_t1 v129 k0_hw12 k0_h7 => k0_hw12.2.2.2.2.2.2.2.2.2.2.2.2.2.2.2.2.2.1 k0_h7 (k0_off107_inb v10 v21 v33 v45 v57 v69 v81 v93 k0_t1 v129 k0_hw12 k0_h7)
theorem k0_off109_inb : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h7 : k0_cond7 v10 v21 v33 v45 v57 v69 v81 v93 k0_t1 = 1#1), ∀ a, (k0_off109 v129) a + S1x256x2816.size a ≤ S8x3072x2816.size a := fun v10 v21 v33 v45 v57 v69 v81 v93 k0_t1 v129 k0_hw12 k0_h7 => k0_hw12.2.2.2.2.2.2.2.2.2.2.2.2.2.2.2.2.2.2.1 k0_h7
theorem k0_off109_wordsi8 : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h7 : k0_cond7 v10 v21 v33 v45 v57 v69 v81 v93 k0_t1 = 1#1), (Rect.unit (s := S8x3072x2816) (k0_off109 v129) S1x256x2816.size (k0_off109_inb v10 v21 v33 v45 v57 v69 v81 v93 k0_t1 v129 k0_hw12 k0_h7)).WholeWords (EltTy.packing .i8) := fun v10 v21 v33 v45 v57 v69 v81 v93 k0_t1 v129 k0_hw12 k0_h7 => k0_hw12.2.2.2.2.2.2.2.2.2.2.2.2.2.2.2.2.2.2.2.1 k0_h7 (k0_off109_inb v10 v21 v33 v45 v57 v69 v81 v93 k0_t1 v129 k0_hw12 k0_h7)
theorem k0_off121_inb : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h8 : k0_cond8 v10 v21 v33 v45 v57 v69 v81 v93 k0_t1 = 1#1), ∀ a, (k0_off121 v129) a + S1x256x2816.size a ≤ S8x3072x2816.size a := fun v10 v21 v33 v45 v57 v69 v81 v93 k0_t1 v129 k0_hw12 k0_h8 => k0_hw12.2.2.2.2.2.2.2.2.2.2.2.2.2.2.2.2.2.2.2.2.1 k0_h8
theorem k0_off121_wordsi8 : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h8 : k0_cond8 v10 v21 v33 v45 v57 v69 v81 v93 k0_t1 = 1#1), (Rect.unit (s := S8x3072x2816) (k0_off121 v129) S1x256x2816.size (k0_off121_inb v10 v21 v33 v45 v57 v69 v81 v93 k0_t1 v129 k0_hw12 k0_h8)).WholeWords (EltTy.packing .i8) := fun v10 v21 v33 v45 v57 v69 v81 v93 k0_t1 v129 k0_hw12 k0_h8 => k0_hw12.2.2.2.2.2.2.2.2.2.2.2.2.2.2.2.2.2.2.2.2.2.1 k0_h8 (k0_off121_inb v10 v21 v33 v45 v57 v69 v81 v93 k0_t1 v129 k0_hw12 k0_h8)
theorem k0_off123_inb : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h8 : k0_cond8 v10 v21 v33 v45 v57 v69 v81 v93 k0_t1 = 1#1), ∀ a, (k0_off123 v129) a + S1x256x2816.size a ≤ S8x3072x2816.size a := fun v10 v21 v33 v45 v57 v69 v81 v93 k0_t1 v129 k0_hw12 k0_h8 => k0_hw12.2.2.2.2.2.2.2.2.2.2.2.2.2.2.2.2.2.2.2.2.2.2.1 k0_h8
theorem k0_off123_wordsi8 : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h8 : k0_cond8 v10 v21 v33 v45 v57 v69 v81 v93 k0_t1 = 1#1), (Rect.unit (s := S8x3072x2816) (k0_off123 v129) S1x256x2816.size (k0_off123_inb v10 v21 v33 v45 v57 v69 v81 v93 k0_t1 v129 k0_hw12 k0_h8)).WholeWords (EltTy.packing .i8) := fun v10 v21 v33 v45 v57 v69 v81 v93 k0_t1 v129 k0_hw12 k0_h8 => k0_hw12.2.2.2.2.2.2.2.2.2.2.2.2.2.2.2.2.2.2.2.2.2.2.2.1 k0_h8 (k0_off123_inb v10 v21 v33 v45 v57 v69 v81 v93 k0_t1 v129 k0_hw12 k0_h8)
theorem k0_off131_inb : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h9 : k0_cond9 v10 v21 v33 v45 v57 v69 v81 v93 k0_t1 = 1#1), ∀ a, (k0_off131 v129) a + S1x1408x1536.size a ≤ S8x2816x1536.size a := fun v10 v21 v33 v45 v57 v69 v81 v93 k0_t1 v129 k0_hw12 k0_h9 => k0_hw12.2.2.2.2.2.2.2.2.2.2.2.2.2.2.2.2.2.2.2.2.2.2.2.2.1 k0_h9
theorem k0_off131_wordsi8 : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h9 : k0_cond9 v10 v21 v33 v45 v57 v69 v81 v93 k0_t1 = 1#1), (Rect.unit (s := S8x2816x1536) (k0_off131 v129) S1x1408x1536.size (k0_off131_inb v10 v21 v33 v45 v57 v69 v81 v93 k0_t1 v129 k0_hw12 k0_h9)).WholeWords (EltTy.packing .i8) := fun v10 v21 v33 v45 v57 v69 v81 v93 k0_t1 v129 k0_hw12 k0_h9 => k0_hw12.2.2.2.2.2.2.2.2.2.2.2.2.2.2.2.2.2.2.2.2.2.2.2.2.2.1 k0_h9 (k0_off131_inb v10 v21 v33 v45 v57 v69 v81 v93 k0_t1 v129 k0_hw12 k0_h9)
theorem k0_off139_inb : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h10 : k0_cond10 v10 v21 v33 v45 v57 v69 v81 v93 k0_t1 = 1#1), ∀ a, (k0_off139 v129) a + S1x1408x1536.size a ≤ S8x2816x1536.size a := fun v10 v21 v33 v45 v57 v69 v81 v93 k0_t1 v129 k0_hw12 k0_h10 => k0_hw12.2.2.2.2.2.2.2.2.2.2.2.2.2.2.2.2.2.2.2.2.2.2.2.2.2.2.1 k0_h10
theorem k0_off139_wordsi8 : ∀ (v10 : BitVec 32) (v21 : BitVec 32) (v33 : BitVec 32) (v45 : BitVec 32) (v57 : BitVec 32) (v69 : BitVec 32) (v81 : BitVec 32) (v93 : BitVec 32) (k0_t1 : Fin (k0_t1_loop v10 v21 v33 v45 v57 v69 v81 v93).trips) (v129 : BitVec 32) (k0_hw12 : k0_chk12 v10 v21 v33 v45 v57 v69 v81 v93 k0_t1 v129), ∀ (k0_h10 : k0_cond10 v10 v21 v33 v45 v57 v69 v81 v93 k0_t1 = 1#1), (Rect.unit (s := S8x2816x1536) (k0_off139 v129) S1x1408x1536.size (k0_off139_inb v10 v21 v33 v45 v57 v69 v81 v93 k0_t1 v129 k0_hw12 k0_h10)).WholeWords (EltTy.packing .i8) := fun v10 v21 v33 v45 v57 v69 v81 v93 k0_t1 v129 k0_hw12 k0_h10 => k0_hw12.2.2.2.2.2.2.2.2.2.2.2.2.2.2.2.2.2.2.2.2.2.2.2.2.2.2.2 k0_h10 (k0_off139_inb v10 v21 v33 v45 v57 v69 v81 v93 k0_t1 v129 k0_hw12 k0_h10)

@[reducible] def k0_t2_loop (v10 : BitVec 32) (v21 : BitVec 32) (v33 : BitVec 32) (v45 : BitVec 32) (v57 : BitVec 32) (v69 : BitVec 32) (v81 : BitVec 32) (v93 : BitVec 32) : Scf.Loop 32 :=
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let v112 : BitVec 32 := Scalar.addi c0_i32_47 v111
  let c1_i32_50 : BitVec 32 := 1#32
  ⟨v115, v112, c1_i32_50⟩
def k0_off140 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 1 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let v121 : Index := Scalar.indexCast v120
  ![v121.toNat]
def k0_off141 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 1 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_57 : BitVec 32 := 2#32
  let v126 : BitVec 32 := Scalar.addi v120 c2_i32_57
  let c7_i32_58 : BitVec 32 := 7#32
  let v127 : BitVec 32 := Scalar.minsi v126 c7_i32_58
  let v128 : Index := Scalar.indexCast v127
  ![v128.toNat]
def k0_off142 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 2 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_69 : BitVec 32 := 0#32
  ![v123.toNat, 0]
def k0_off143 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_70 : BitVec 32 := 0#32
  let c0_i32_71 : BitVec 32 := 0#32
  ![v123.toNat, 0, 0]
def k0_off144 (v122 : BitVec 32) : Fin 3 → Nat :=
  let c0_i32_72 : BitVec 32 := 0#32
  let c0_i32_73 : BitVec 32 := 0#32
  ![v122.toNat, 0, 0]

def k0_off145 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 2 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_74 : BitVec 32 := 0#32
  ![v123.toNat, 0]
def k0_off146 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1536_i32 : BitVec 32 := 1536#32
  let c0_i32_75 : BitVec 32 := 0#32
  ![v123.toNat, 1536, 0]
def k0_off147 (v122 : BitVec 32) : Fin 3 → Nat :=
  let c1536_i32_76 : BitVec 32 := 1536#32
  let c0_i32_77 : BitVec 32 := 0#32
  ![v122.toNat, 1536, 0]
def k0_off148 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v161 : Index := Scalar.indexCast v123
  let c0_80 : Index := 0#32
  let c0_81 : Index := 0#32
  ![v161.toNat, 0, 0]
def k0_off149 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v166 : Index := Scalar.indexCast v123
  let c1536 : Index := 1536#32
  let c0_83 : Index := 0#32
  ![v166.toNat, 1536, 0]
def k0_off150 (v122 : BitVec 32) : Fin 2 → Nat :=
  let v171 : Index := Scalar.indexCast v122
  let c0_85 : Index := 0#32
  ![v171.toNat, 0]
def k0_off151 (v122 : BitVec 32) : Fin 2 → Nat :=
  let v175 : Index := Scalar.indexCast v122
  let c1536_86 : Index := 1536#32
  ![v175.toNat, 1536]
def k0_off152 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 2 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_221 : BitVec 32 := 0#32
  ![v123.toNat, 0]
def k0_cond11 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : BitVec 1 :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_56 : BitVec 32 := 2#32
  let v124 : BitVec 32 := Scalar.addi v120 c2_i32_56
  let v125 : BitVec 1 := Scalar.cmpi .slt v124 v96
  let v190 : BitVec 32 := Scalar.extui v125
  let c0_i32_90 : BitVec 32 := 0#32
  let v191 : BitVec 1 := Scalar.cmpi .ne v190 c0_i32_90
  v191

def k0_off153 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_222 : BitVec 32 := 0#32
  let c0_i32_223 : BitVec 32 := 0#32
  ![v123.toNat, 0, 0]
def k0_off154 (v129 : BitVec 32) : Fin 3 → Nat :=
  let c0_i32_224 : BitVec 32 := 0#32
  let c0_i32_225 : BitVec 32 := 0#32
  ![v129.toNat, 0, 0]

def k0_off155 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 2 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_226 : BitVec 32 := 0#32
  ![v123.toNat, 0]
def k0_off156 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1536_i32_227 : BitVec 32 := 1536#32
  let c0_i32_228 : BitVec 32 := 0#32
  ![v123.toNat, 1536, 0]
def k0_off157 (v129 : BitVec 32) : Fin 3 → Nat :=
  let c1536_i32_229 : BitVec 32 := 1536#32
  let c0_i32_230 : BitVec 32 := 0#32
  ![v129.toNat, 1536, 0]
def k0_off158 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 2 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1_i32_91 : BitVec 32 := 1#32
  ![v123.toNat, 1]
def k0_off159 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c256_i32 : BitVec 32 := 256#32
  let c0_i32_92 : BitVec 32 := 0#32
  ![v123.toNat, 256, 0]
def k0_off160 (v122 : BitVec 32) : Fin 3 → Nat :=
  let c256_i32_93 : BitVec 32 := 256#32
  let c0_i32_94 : BitVec 32 := 0#32
  ![v122.toNat, 256, 0]
def k0_off161 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1792_i32 : BitVec 32 := 1792#32
  let c0_i32_96 : BitVec 32 := 0#32
  ![v123.toNat, 1792, 0]
def k0_off162 (v122 : BitVec 32) : Fin 3 → Nat :=
  let c1792_i32_97 : BitVec 32 := 1792#32
  let c0_i32_98 : BitVec 32 := 0#32
  ![v122.toNat, 1792, 0]
def k0_off163 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v206 : Index := Scalar.indexCast v123
  let c256 : Index := 256#32
  let c0_101 : Index := 0#32
  ![v206.toNat, 256, 0]
def k0_off164 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v211 : Index := Scalar.indexCast v123
  let c1792 : Index := 1792#32
  let c0_103 : Index := 0#32
  ![v211.toNat, 1792, 0]
def k0_off165 (v122 : BitVec 32) : Fin 2 → Nat :=
  let v216 : Index := Scalar.indexCast v122
  let c256_105 : Index := 256#32
  ![v216.toNat, 256]
def k0_off166 (v122 : BitVec 32) : Fin 2 → Nat :=
  let v220 : Index := Scalar.indexCast v122
  let c1792_106 : Index := 1792#32
  ![v220.toNat, 1792]
def k0_off167 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 2 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1_i32_221 : BitVec 32 := 1#32
  ![v123.toNat, 1]
def k0_cond12 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : BitVec 1 :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_56 : BitVec 32 := 2#32
  let v124 : BitVec 32 := Scalar.addi v120 c2_i32_56
  let v125 : BitVec 1 := Scalar.cmpi .slt v124 v96
  let v235 : BitVec 32 := Scalar.extui v125
  let c0_i32_110 : BitVec 32 := 0#32
  let v236 : BitVec 1 := Scalar.cmpi .ne v235 c0_i32_110
  v236

def k0_off168 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c256_i32_222 : BitVec 32 := 256#32
  let c0_i32_223 : BitVec 32 := 0#32
  ![v123.toNat, 256, 0]
def k0_off169 (v129 : BitVec 32) : Fin 3 → Nat :=
  let c256_i32_224 : BitVec 32 := 256#32
  let c0_i32_225 : BitVec 32 := 0#32
  ![v129.toNat, 256, 0]
def k0_off170 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1792_i32_227 : BitVec 32 := 1792#32
  let c0_i32_228 : BitVec 32 := 0#32
  ![v123.toNat, 1792, 0]
def k0_off171 (v129 : BitVec 32) : Fin 3 → Nat :=
  let c1792_i32_229 : BitVec 32 := 1792#32
  let c0_i32_230 : BitVec 32 := 0#32
  ![v129.toNat, 1792, 0]
def k0_off172 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 2 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2_i32_111 : BitVec 32 := 2#32
  ![v123.toNat, 2]
def k0_off173 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c512_i32 : BitVec 32 := 512#32
  let c0_i32_112 : BitVec 32 := 0#32
  ![v123.toNat, 512, 0]
def k0_off174 (v122 : BitVec 32) : Fin 3 → Nat :=
  let c512_i32_113 : BitVec 32 := 512#32
  let c0_i32_114 : BitVec 32 := 0#32
  ![v122.toNat, 512, 0]
def k0_off175 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2048_i32 : BitVec 32 := 2048#32
  let c0_i32_116 : BitVec 32 := 0#32
  ![v123.toNat, 2048, 0]
def k0_off176 (v122 : BitVec 32) : Fin 3 → Nat :=
  let c2048_i32_117 : BitVec 32 := 2048#32
  let c0_i32_118 : BitVec 32 := 0#32
  ![v122.toNat, 2048, 0]
def k0_off177 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v251 : Index := Scalar.indexCast v123
  let c512 : Index := 512#32
  let c0_121 : Index := 0#32
  ![v251.toNat, 512, 0]
def k0_off178 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v256 : Index := Scalar.indexCast v123
  let c2048 : Index := 2048#32
  let c0_123 : Index := 0#32
  ![v256.toNat, 2048, 0]
def k0_off179 (v122 : BitVec 32) : Fin 2 → Nat :=
  let v261 : Index := Scalar.indexCast v122
  let c512_125 : Index := 512#32
  ![v261.toNat, 512]
def k0_off180 (v122 : BitVec 32) : Fin 2 → Nat :=
  let v265 : Index := Scalar.indexCast v122
  let c2048_126 : Index := 2048#32
  ![v265.toNat, 2048]
def k0_off181 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 2 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2_i32_221 : BitVec 32 := 2#32
  ![v123.toNat, 2]
def k0_cond13 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : BitVec 1 :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_56 : BitVec 32 := 2#32
  let v124 : BitVec 32 := Scalar.addi v120 c2_i32_56
  let v125 : BitVec 1 := Scalar.cmpi .slt v124 v96
  let v280 : BitVec 32 := Scalar.extui v125
  let c0_i32_130 : BitVec 32 := 0#32
  let v281 : BitVec 1 := Scalar.cmpi .ne v280 c0_i32_130
  v281

def k0_off182 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c512_i32_222 : BitVec 32 := 512#32
  let c0_i32_223 : BitVec 32 := 0#32
  ![v123.toNat, 512, 0]
def k0_off183 (v129 : BitVec 32) : Fin 3 → Nat :=
  let c512_i32_224 : BitVec 32 := 512#32
  let c0_i32_225 : BitVec 32 := 0#32
  ![v129.toNat, 512, 0]
def k0_off184 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2048_i32_227 : BitVec 32 := 2048#32
  let c0_i32_228 : BitVec 32 := 0#32
  ![v123.toNat, 2048, 0]
def k0_off185 (v129 : BitVec 32) : Fin 3 → Nat :=
  let c2048_i32_229 : BitVec 32 := 2048#32
  let c0_i32_230 : BitVec 32 := 0#32
  ![v129.toNat, 2048, 0]
def k0_off186 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 2 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c3_i32_131 : BitVec 32 := 3#32
  ![v123.toNat, 3]
def k0_off187 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c768_i32 : BitVec 32 := 768#32
  let c0_i32_132 : BitVec 32 := 0#32
  ![v123.toNat, 768, 0]
def k0_off188 (v122 : BitVec 32) : Fin 3 → Nat :=
  let c768_i32_133 : BitVec 32 := 768#32
  let c0_i32_134 : BitVec 32 := 0#32
  ![v122.toNat, 768, 0]
def k0_off189 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2304_i32 : BitVec 32 := 2304#32
  let c0_i32_136 : BitVec 32 := 0#32
  ![v123.toNat, 2304, 0]
def k0_off190 (v122 : BitVec 32) : Fin 3 → Nat :=
  let c2304_i32_137 : BitVec 32 := 2304#32
  let c0_i32_138 : BitVec 32 := 0#32
  ![v122.toNat, 2304, 0]
def k0_off191 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v296 : Index := Scalar.indexCast v123
  let c768 : Index := 768#32
  let c0_141 : Index := 0#32
  ![v296.toNat, 768, 0]
def k0_off192 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v301 : Index := Scalar.indexCast v123
  let c2304 : Index := 2304#32
  let c0_143 : Index := 0#32
  ![v301.toNat, 2304, 0]
def k0_off193 (v122 : BitVec 32) : Fin 2 → Nat :=
  let v306 : Index := Scalar.indexCast v122
  let c768_145 : Index := 768#32
  ![v306.toNat, 768]
def k0_off194 (v122 : BitVec 32) : Fin 2 → Nat :=
  let v310 : Index := Scalar.indexCast v122
  let c2304_146 : Index := 2304#32
  ![v310.toNat, 2304]
def k0_off195 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 2 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c3_i32_221 : BitVec 32 := 3#32
  ![v123.toNat, 3]
def k0_cond14 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : BitVec 1 :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_56 : BitVec 32 := 2#32
  let v124 : BitVec 32 := Scalar.addi v120 c2_i32_56
  let v125 : BitVec 1 := Scalar.cmpi .slt v124 v96
  let v325 : BitVec 32 := Scalar.extui v125
  let c0_i32_150 : BitVec 32 := 0#32
  let v326 : BitVec 1 := Scalar.cmpi .ne v325 c0_i32_150
  v326

def k0_off196 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c768_i32_222 : BitVec 32 := 768#32
  let c0_i32_223 : BitVec 32 := 0#32
  ![v123.toNat, 768, 0]
def k0_off197 (v129 : BitVec 32) : Fin 3 → Nat :=
  let c768_i32_224 : BitVec 32 := 768#32
  let c0_i32_225 : BitVec 32 := 0#32
  ![v129.toNat, 768, 0]
def k0_off198 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2304_i32_227 : BitVec 32 := 2304#32
  let c0_i32_228 : BitVec 32 := 0#32
  ![v123.toNat, 2304, 0]
def k0_off199 (v129 : BitVec 32) : Fin 3 → Nat :=
  let c2304_i32_229 : BitVec 32 := 2304#32
  let c0_i32_230 : BitVec 32 := 0#32
  ![v129.toNat, 2304, 0]
def k0_off200 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 2 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c4_i32_151 : BitVec 32 := 4#32
  ![v123.toNat, 4]
def k0_off201 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1024_i32 : BitVec 32 := 1024#32
  let c0_i32_152 : BitVec 32 := 0#32
  ![v123.toNat, 1024, 0]
def k0_off202 (v122 : BitVec 32) : Fin 3 → Nat :=
  let c1024_i32_153 : BitVec 32 := 1024#32
  let c0_i32_154 : BitVec 32 := 0#32
  ![v122.toNat, 1024, 0]
def k0_off203 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2560_i32 : BitVec 32 := 2560#32
  let c0_i32_156 : BitVec 32 := 0#32
  ![v123.toNat, 2560, 0]
def k0_off204 (v122 : BitVec 32) : Fin 3 → Nat :=
  let c2560_i32_157 : BitVec 32 := 2560#32
  let c0_i32_158 : BitVec 32 := 0#32
  ![v122.toNat, 2560, 0]
def k0_off205 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v341 : Index := Scalar.indexCast v123
  let c1024 : Index := 1024#32
  let c0_161 : Index := 0#32
  ![v341.toNat, 1024, 0]
def k0_off206 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v346 : Index := Scalar.indexCast v123
  let c2560 : Index := 2560#32
  let c0_163 : Index := 0#32
  ![v346.toNat, 2560, 0]
def k0_off207 (v122 : BitVec 32) : Fin 2 → Nat :=
  let v351 : Index := Scalar.indexCast v122
  let c1024_165 : Index := 1024#32
  ![v351.toNat, 1024]
def k0_off208 (v122 : BitVec 32) : Fin 2 → Nat :=
  let v355 : Index := Scalar.indexCast v122
  let c2560_166 : Index := 2560#32
  ![v355.toNat, 2560]
def k0_off209 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 2 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c4_i32_221 : BitVec 32 := 4#32
  ![v123.toNat, 4]
def k0_cond15 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : BitVec 1 :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_56 : BitVec 32 := 2#32
  let v124 : BitVec 32 := Scalar.addi v120 c2_i32_56
  let v125 : BitVec 1 := Scalar.cmpi .slt v124 v96
  let v370 : BitVec 32 := Scalar.extui v125
  let c0_i32_170 : BitVec 32 := 0#32
  let v371 : BitVec 1 := Scalar.cmpi .ne v370 c0_i32_170
  v371

def k0_off210 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1024_i32_222 : BitVec 32 := 1024#32
  let c0_i32_223 : BitVec 32 := 0#32
  ![v123.toNat, 1024, 0]
def k0_off211 (v129 : BitVec 32) : Fin 3 → Nat :=
  let c1024_i32_224 : BitVec 32 := 1024#32
  let c0_i32_225 : BitVec 32 := 0#32
  ![v129.toNat, 1024, 0]
def k0_off212 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2560_i32_227 : BitVec 32 := 2560#32
  let c0_i32_228 : BitVec 32 := 0#32
  ![v123.toNat, 2560, 0]
def k0_off213 (v129 : BitVec 32) : Fin 3 → Nat :=
  let c2560_i32_229 : BitVec 32 := 2560#32
  let c0_i32_230 : BitVec 32 := 0#32
  ![v129.toNat, 2560, 0]
def k0_off214 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 2 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c5_i32_171 : BitVec 32 := 5#32
  ![v123.toNat, 5]
def k0_off215 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1280_i32 : BitVec 32 := 1280#32
  let c0_i32_172 : BitVec 32 := 0#32
  ![v123.toNat, 1280, 0]
def k0_off216 (v122 : BitVec 32) : Fin 3 → Nat :=
  let c1280_i32_173 : BitVec 32 := 1280#32
  let c0_i32_174 : BitVec 32 := 0#32
  ![v122.toNat, 1280, 0]
def k0_off217 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2816_i32 : BitVec 32 := 2816#32
  let c0_i32_176 : BitVec 32 := 0#32
  ![v123.toNat, 2816, 0]
def k0_off218 (v122 : BitVec 32) : Fin 3 → Nat :=
  let c2816_i32_177 : BitVec 32 := 2816#32
  let c0_i32_178 : BitVec 32 := 0#32
  ![v122.toNat, 2816, 0]
def k0_off219 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v386 : Index := Scalar.indexCast v123
  let c1280 : Index := 1280#32
  let c0_181 : Index := 0#32
  ![v386.toNat, 1280, 0]
def k0_off220 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v391 : Index := Scalar.indexCast v123
  let c2816 : Index := 2816#32
  let c0_183 : Index := 0#32
  ![v391.toNat, 2816, 0]
def k0_off221 (v122 : BitVec 32) : Fin 2 → Nat :=
  let v396 : Index := Scalar.indexCast v122
  let c1280_185 : Index := 1280#32
  ![v396.toNat, 1280]
def k0_off222 (v122 : BitVec 32) : Fin 2 → Nat :=
  let v400 : Index := Scalar.indexCast v122
  let c2816_186 : Index := 2816#32
  ![v400.toNat, 2816]
def k0_off223 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 2 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c5_i32_221 : BitVec 32 := 5#32
  ![v123.toNat, 5]
def k0_cond16 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : BitVec 1 :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_56 : BitVec 32 := 2#32
  let v124 : BitVec 32 := Scalar.addi v120 c2_i32_56
  let v125 : BitVec 1 := Scalar.cmpi .slt v124 v96
  let v415 : BitVec 32 := Scalar.extui v125
  let c0_i32_190 : BitVec 32 := 0#32
  let v416 : BitVec 1 := Scalar.cmpi .ne v415 c0_i32_190
  v416

def k0_off224 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1280_i32_222 : BitVec 32 := 1280#32
  let c0_i32_223 : BitVec 32 := 0#32
  ![v123.toNat, 1280, 0]
def k0_off225 (v129 : BitVec 32) : Fin 3 → Nat :=
  let c1280_i32_224 : BitVec 32 := 1280#32
  let c0_i32_225 : BitVec 32 := 0#32
  ![v129.toNat, 1280, 0]
def k0_off226 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c2816_i32_227 : BitVec 32 := 2816#32
  let c0_i32_228 : BitVec 32 := 0#32
  ![v123.toNat, 2816, 0]
def k0_off227 (v129 : BitVec 32) : Fin 3 → Nat :=
  let c2816_i32_229 : BitVec 32 := 2816#32
  let c0_i32_230 : BitVec 32 := 0#32
  ![v129.toNat, 2816, 0]
def k0_off228 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 2 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_191 : BitVec 32 := 0#32
  ![v123.toNat, 0]
def k0_off229 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_192 : BitVec 32 := 0#32
  let c0_i32_193 : BitVec 32 := 0#32
  ![v123.toNat, 0, 0]
def k0_off230 (v122 : BitVec 32) : Fin 3 → Nat :=
  let c0_i32_194 : BitVec 32 := 0#32
  let c0_i32_195 : BitVec 32 := 0#32
  ![v122.toNat, 0, 0]
def k0_off231 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v424 : Index := Scalar.indexCast v123
  let c0_198 : Index := 0#32
  let c0_199 : Index := 0#32
  ![v424.toNat, 0, 0]
def k0_off232 (v122 : BitVec 32) : Fin 2 → Nat :=
  let v429 : Index := Scalar.indexCast v122
  let c0_201 : Index := 0#32
  ![v429.toNat, 0]
def k0_off233 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 2 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_221 : BitVec 32 := 0#32
  ![v123.toNat, 0]
def k0_cond17 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : BitVec 1 :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_56 : BitVec 32 := 2#32
  let v124 : BitVec 32 := Scalar.addi v120 c2_i32_56
  let v125 : BitVec 1 := Scalar.cmpi .slt v124 v96
  let v440 : BitVec 32 := Scalar.extui v125
  let c0_i32_206 : BitVec 32 := 0#32
  let v441 : BitVec 1 := Scalar.cmpi .ne v440 c0_i32_206
  v441

def k0_off234 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c0_i32_222 : BitVec 32 := 0#32
  let c0_i32_223 : BitVec 32 := 0#32
  ![v123.toNat, 0, 0]
def k0_off235 (v129 : BitVec 32) : Fin 3 → Nat :=
  let c0_i32_224 : BitVec 32 := 0#32
  let c0_i32_225 : BitVec 32 := 0#32
  ![v129.toNat, 0, 0]
def k0_off236 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 2 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1_i32_207 : BitVec 32 := 1#32
  ![v123.toNat, 1]
def k0_off237 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1408_i32 : BitVec 32 := 1408#32
  let c0_i32_208 : BitVec 32 := 0#32
  ![v123.toNat, 1408, 0]
def k0_off238 (v122 : BitVec 32) : Fin 3 → Nat :=
  let c1408_i32_209 : BitVec 32 := 1408#32
  let c0_i32_210 : BitVec 32 := 0#32
  ![v122.toNat, 1408, 0]
def k0_off239 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let v449 : Index := Scalar.indexCast v123
  let c1408 : Index := 1408#32
  let c0_213 : Index := 0#32
  ![v449.toNat, 1408, 0]
def k0_off240 (v122 : BitVec 32) : Fin 2 → Nat :=
  let v454 : Index := Scalar.indexCast v122
  let c1408_215 : Index := 1408#32
  ![v454.toNat, 1408]

def k0_chk13_0 (v122 : BitVec 32) : Prop :=
  (∀ a, (k0_off144 v122) a + S1x256x2816.size a ≤ S8x3072x2816.size a) ∧
  (∀ (hinb : ∀ a, (k0_off144 v122) a + S1x256x2816.size a ≤ S8x3072x2816.size a), (Rect.unit (s := S8x3072x2816) (k0_off144 v122) S1x256x2816.size hinb).WholeWords (EltTy.packing .i8)) ∧
  (∀ a, (k0_off147 v122) a + S1x256x2816.size a ≤ S8x3072x2816.size a) ∧
  (∀ (hinb : ∀ a, (k0_off147 v122) a + S1x256x2816.size a ≤ S8x3072x2816.size a), (Rect.unit (s := S8x3072x2816) (k0_off147 v122) S1x256x2816.size hinb).WholeWords (EltTy.packing .i8)) ∧
  (∀ a, (k0_off150 v122) a + S1x256.size a ≤ S8x3072.size a) ∧
  (∀ a, (k0_off151 v122) a + S1x256.size a ≤ S8x3072.size a) ∧
  (∀ a, (k0_off160 v122) a + S1x256x2816.size a ≤ S8x3072x2816.size a) ∧
  (∀ (hinb : ∀ a, (k0_off160 v122) a + S1x256x2816.size a ≤ S8x3072x2816.size a), (Rect.unit (s := S8x3072x2816) (k0_off160 v122) S1x256x2816.size hinb).WholeWords (EltTy.packing .i8)) ∧
  (∀ a, (k0_off162 v122) a + S1x256x2816.size a ≤ S8x3072x2816.size a) ∧
  (∀ (hinb : ∀ a, (k0_off162 v122) a + S1x256x2816.size a ≤ S8x3072x2816.size a), (Rect.unit (s := S8x3072x2816) (k0_off162 v122) S1x256x2816.size hinb).WholeWords (EltTy.packing .i8)) ∧
  (∀ a, (k0_off165 v122) a + S1x256.size a ≤ S8x3072.size a) ∧
  (∀ a, (k0_off166 v122) a + S1x256.size a ≤ S8x3072.size a) ∧
  (∀ a, (k0_off174 v122) a + S1x256x2816.size a ≤ S8x3072x2816.size a) ∧
  (∀ (hinb : ∀ a, (k0_off174 v122) a + S1x256x2816.size a ≤ S8x3072x2816.size a), (Rect.unit (s := S8x3072x2816) (k0_off174 v122) S1x256x2816.size hinb).WholeWords (EltTy.packing .i8)) ∧
  (∀ a, (k0_off176 v122) a + S1x256x2816.size a ≤ S8x3072x2816.size a) ∧
  (∀ (hinb : ∀ a, (k0_off176 v122) a + S1x256x2816.size a ≤ S8x3072x2816.size a), (Rect.unit (s := S8x3072x2816) (k0_off176 v122) S1x256x2816.size hinb).WholeWords (EltTy.packing .i8)) ∧
  (∀ a, (k0_off179 v122) a + S1x256.size a ≤ S8x3072.size a) ∧
  (∀ a, (k0_off180 v122) a + S1x256.size a ≤ S8x3072.size a) ∧
  (∀ a, (k0_off188 v122) a + S1x256x2816.size a ≤ S8x3072x2816.size a) ∧
  (∀ (hinb : ∀ a, (k0_off188 v122) a + S1x256x2816.size a ≤ S8x3072x2816.size a), (Rect.unit (s := S8x3072x2816) (k0_off188 v122) S1x256x2816.size hinb).WholeWords (EltTy.packing .i8)) ∧
  (∀ a, (k0_off190 v122) a + S1x256x2816.size a ≤ S8x3072x2816.size a) ∧
  (∀ (hinb : ∀ a, (k0_off190 v122) a + S1x256x2816.size a ≤ S8x3072x2816.size a), (Rect.unit (s := S8x3072x2816) (k0_off190 v122) S1x256x2816.size hinb).WholeWords (EltTy.packing .i8)) ∧
  (∀ a, (k0_off193 v122) a + S1x256.size a ≤ S8x3072.size a) ∧
  (∀ a, (k0_off194 v122) a + S1x256.size a ≤ S8x3072.size a) ∧
  (∀ a, (k0_off202 v122) a + S1x256x2816.size a ≤ S8x3072x2816.size a) ∧
  (∀ (hinb : ∀ a, (k0_off202 v122) a + S1x256x2816.size a ≤ S8x3072x2816.size a), (Rect.unit (s := S8x3072x2816) (k0_off202 v122) S1x256x2816.size hinb).WholeWords (EltTy.packing .i8)) ∧
  (∀ a, (k0_off204 v122) a + S1x256x2816.size a ≤ S8x3072x2816.size a) ∧
  (∀ (hinb : ∀ a, (k0_off204 v122) a + S1x256x2816.size a ≤ S8x3072x2816.size a), (Rect.unit (s := S8x3072x2816) (k0_off204 v122) S1x256x2816.size hinb).WholeWords (EltTy.packing .i8)) ∧
  (∀ a, (k0_off207 v122) a + S1x256.size a ≤ S8x3072.size a) ∧
  (∀ a, (k0_off208 v122) a + S1x256.size a ≤ S8x3072.size a) ∧
  (∀ a, (k0_off216 v122) a + S1x256x2816.size a ≤ S8x3072x2816.size a) ∧
  (∀ (hinb : ∀ a, (k0_off216 v122) a + S1x256x2816.size a ≤ S8x3072x2816.size a), (Rect.unit (s := S8x3072x2816) (k0_off216 v122) S1x256x2816.size hinb).WholeWords (EltTy.packing .i8))
def k0_chk13_1 (v122 : BitVec 32) : Prop :=
  (∀ a, (k0_off218 v122) a + S1x256x2816.size a ≤ S8x3072x2816.size a) ∧
  (∀ (hinb : ∀ a, (k0_off218 v122) a + S1x256x2816.size a ≤ S8x3072x2816.size a), (Rect.unit (s := S8x3072x2816) (k0_off218 v122) S1x256x2816.size hinb).WholeWords (EltTy.packing .i8)) ∧
  (∀ a, (k0_off221 v122) a + S1x256.size a ≤ S8x3072.size a) ∧
  (∀ a, (k0_off222 v122) a + S1x256.size a ≤ S8x3072.size a) ∧
  (∀ a, (k0_off230 v122) a + S1x1408x1536.size a ≤ S8x2816x1536.size a) ∧
  (∀ (hinb : ∀ a, (k0_off230 v122) a + S1x1408x1536.size a ≤ S8x2816x1536.size a), (Rect.unit (s := S8x2816x1536) (k0_off230 v122) S1x1408x1536.size hinb).WholeWords (EltTy.packing .i8)) ∧
  (∀ a, (k0_off232 v122) a + S1x1408.size a ≤ S8x2816.size a) ∧
  (∀ a, (k0_off238 v122) a + S1x1408x1536.size a ≤ S8x2816x1536.size a) ∧
  (∀ (hinb : ∀ a, (k0_off238 v122) a + S1x1408x1536.size a ≤ S8x2816x1536.size a), (Rect.unit (s := S8x2816x1536) (k0_off238 v122) S1x1408x1536.size hinb).WholeWords (EltTy.packing .i8)) ∧
  (∀ a, (k0_off240 v122) a + S1x1408.size a ≤ S8x2816.size a)
def k0_chk13 (v122 : BitVec 32) : Prop :=
  k0_chk13_0 v122 ∧
  k0_chk13_1 v122
theorem k0_off144_inb : ∀ (v122 : BitVec 32) (k0_hw13 : k0_chk13 v122), ∀ a, (k0_off144 v122) a + S1x256x2816.size a ≤ S8x3072x2816.size a := fun v122 k0_hw13 => k0_hw13.1.1
theorem k0_off144_wordsi8 : ∀ (v122 : BitVec 32) (k0_hw13 : k0_chk13 v122), (Rect.unit (s := S8x3072x2816) (k0_off144 v122) S1x256x2816.size (k0_off144_inb v122 k0_hw13)).WholeWords (EltTy.packing .i8) := fun v122 k0_hw13 => k0_hw13.1.2.1 (k0_off144_inb v122 k0_hw13)
theorem k0_off147_inb : ∀ (v122 : BitVec 32) (k0_hw13 : k0_chk13 v122), ∀ a, (k0_off147 v122) a + S1x256x2816.size a ≤ S8x3072x2816.size a := fun v122 k0_hw13 => k0_hw13.1.2.2.1
theorem k0_off147_wordsi8 : ∀ (v122 : BitVec 32) (k0_hw13 : k0_chk13 v122), (Rect.unit (s := S8x3072x2816) (k0_off147 v122) S1x256x2816.size (k0_off147_inb v122 k0_hw13)).WholeWords (EltTy.packing .i8) := fun v122 k0_hw13 => k0_hw13.1.2.2.2.1 (k0_off147_inb v122 k0_hw13)
theorem k0_off150_inb : ∀ (v122 : BitVec 32) (k0_hw13 : k0_chk13 v122), ∀ a, (k0_off150 v122) a + S1x256.size a ≤ S8x3072.size a := fun v122 k0_hw13 => k0_hw13.1.2.2.2.2.1
theorem k0_off151_inb : ∀ (v122 : BitVec 32) (k0_hw13 : k0_chk13 v122), ∀ a, (k0_off151 v122) a + S1x256.size a ≤ S8x3072.size a := fun v122 k0_hw13 => k0_hw13.1.2.2.2.2.2.1
theorem k0_off160_inb : ∀ (v122 : BitVec 32) (k0_hw13 : k0_chk13 v122), ∀ a, (k0_off160 v122) a + S1x256x2816.size a ≤ S8x3072x2816.size a := fun v122 k0_hw13 => k0_hw13.1.2.2.2.2.2.2.1
theorem k0_off160_wordsi8 : ∀ (v122 : BitVec 32) (k0_hw13 : k0_chk13 v122), (Rect.unit (s := S8x3072x2816) (k0_off160 v122) S1x256x2816.size (k0_off160_inb v122 k0_hw13)).WholeWords (EltTy.packing .i8) := fun v122 k0_hw13 => k0_hw13.1.2.2.2.2.2.2.2.1 (k0_off160_inb v122 k0_hw13)
theorem k0_off162_inb : ∀ (v122 : BitVec 32) (k0_hw13 : k0_chk13 v122), ∀ a, (k0_off162 v122) a + S1x256x2816.size a ≤ S8x3072x2816.size a := fun v122 k0_hw13 => k0_hw13.1.2.2.2.2.2.2.2.2.1
theorem k0_off162_wordsi8 : ∀ (v122 : BitVec 32) (k0_hw13 : k0_chk13 v122), (Rect.unit (s := S8x3072x2816) (k0_off162 v122) S1x256x2816.size (k0_off162_inb v122 k0_hw13)).WholeWords (EltTy.packing .i8) := fun v122 k0_hw13 => k0_hw13.1.2.2.2.2.2.2.2.2.2.1 (k0_off162_inb v122 k0_hw13)
theorem k0_off165_inb : ∀ (v122 : BitVec 32) (k0_hw13 : k0_chk13 v122), ∀ a, (k0_off165 v122) a + S1x256.size a ≤ S8x3072.size a := fun v122 k0_hw13 => k0_hw13.1.2.2.2.2.2.2.2.2.2.2.1
theorem k0_off166_inb : ∀ (v122 : BitVec 32) (k0_hw13 : k0_chk13 v122), ∀ a, (k0_off166 v122) a + S1x256.size a ≤ S8x3072.size a := fun v122 k0_hw13 => k0_hw13.1.2.2.2.2.2.2.2.2.2.2.2.1
theorem k0_off174_inb : ∀ (v122 : BitVec 32) (k0_hw13 : k0_chk13 v122), ∀ a, (k0_off174 v122) a + S1x256x2816.size a ≤ S8x3072x2816.size a := fun v122 k0_hw13 => k0_hw13.1.2.2.2.2.2.2.2.2.2.2.2.2.1
theorem k0_off174_wordsi8 : ∀ (v122 : BitVec 32) (k0_hw13 : k0_chk13 v122), (Rect.unit (s := S8x3072x2816) (k0_off174 v122) S1x256x2816.size (k0_off174_inb v122 k0_hw13)).WholeWords (EltTy.packing .i8) := fun v122 k0_hw13 => k0_hw13.1.2.2.2.2.2.2.2.2.2.2.2.2.2.1 (k0_off174_inb v122 k0_hw13)
theorem k0_off176_inb : ∀ (v122 : BitVec 32) (k0_hw13 : k0_chk13 v122), ∀ a, (k0_off176 v122) a + S1x256x2816.size a ≤ S8x3072x2816.size a := fun v122 k0_hw13 => k0_hw13.1.2.2.2.2.2.2.2.2.2.2.2.2.2.2.1
theorem k0_off176_wordsi8 : ∀ (v122 : BitVec 32) (k0_hw13 : k0_chk13 v122), (Rect.unit (s := S8x3072x2816) (k0_off176 v122) S1x256x2816.size (k0_off176_inb v122 k0_hw13)).WholeWords (EltTy.packing .i8) := fun v122 k0_hw13 => k0_hw13.1.2.2.2.2.2.2.2.2.2.2.2.2.2.2.2.1 (k0_off176_inb v122 k0_hw13)
theorem k0_off179_inb : ∀ (v122 : BitVec 32) (k0_hw13 : k0_chk13 v122), ∀ a, (k0_off179 v122) a + S1x256.size a ≤ S8x3072.size a := fun v122 k0_hw13 => k0_hw13.1.2.2.2.2.2.2.2.2.2.2.2.2.2.2.2.2.1
theorem k0_off180_inb : ∀ (v122 : BitVec 32) (k0_hw13 : k0_chk13 v122), ∀ a, (k0_off180 v122) a + S1x256.size a ≤ S8x3072.size a := fun v122 k0_hw13 => k0_hw13.1.2.2.2.2.2.2.2.2.2.2.2.2.2.2.2.2.2.1
theorem k0_off188_inb : ∀ (v122 : BitVec 32) (k0_hw13 : k0_chk13 v122), ∀ a, (k0_off188 v122) a + S1x256x2816.size a ≤ S8x3072x2816.size a := fun v122 k0_hw13 => k0_hw13.1.2.2.2.2.2.2.2.2.2.2.2.2.2.2.2.2.2.2.1
theorem k0_off188_wordsi8 : ∀ (v122 : BitVec 32) (k0_hw13 : k0_chk13 v122), (Rect.unit (s := S8x3072x2816) (k0_off188 v122) S1x256x2816.size (k0_off188_inb v122 k0_hw13)).WholeWords (EltTy.packing .i8) := fun v122 k0_hw13 => k0_hw13.1.2.2.2.2.2.2.2.2.2.2.2.2.2.2.2.2.2.2.2.1 (k0_off188_inb v122 k0_hw13)
theorem k0_off190_inb : ∀ (v122 : BitVec 32) (k0_hw13 : k0_chk13 v122), ∀ a, (k0_off190 v122) a + S1x256x2816.size a ≤ S8x3072x2816.size a := fun v122 k0_hw13 => k0_hw13.1.2.2.2.2.2.2.2.2.2.2.2.2.2.2.2.2.2.2.2.2.1
theorem k0_off190_wordsi8 : ∀ (v122 : BitVec 32) (k0_hw13 : k0_chk13 v122), (Rect.unit (s := S8x3072x2816) (k0_off190 v122) S1x256x2816.size (k0_off190_inb v122 k0_hw13)).WholeWords (EltTy.packing .i8) := fun v122 k0_hw13 => k0_hw13.1.2.2.2.2.2.2.2.2.2.2.2.2.2.2.2.2.2.2.2.2.2.1 (k0_off190_inb v122 k0_hw13)
theorem k0_off193_inb : ∀ (v122 : BitVec 32) (k0_hw13 : k0_chk13 v122), ∀ a, (k0_off193 v122) a + S1x256.size a ≤ S8x3072.size a := fun v122 k0_hw13 => k0_hw13.1.2.2.2.2.2.2.2.2.2.2.2.2.2.2.2.2.2.2.2.2.2.2.1
theorem k0_off194_inb : ∀ (v122 : BitVec 32) (k0_hw13 : k0_chk13 v122), ∀ a, (k0_off194 v122) a + S1x256.size a ≤ S8x3072.size a := fun v122 k0_hw13 => k0_hw13.1.2.2.2.2.2.2.2.2.2.2.2.2.2.2.2.2.2.2.2.2.2.2.2.1
theorem k0_off202_inb : ∀ (v122 : BitVec 32) (k0_hw13 : k0_chk13 v122), ∀ a, (k0_off202 v122) a + S1x256x2816.size a ≤ S8x3072x2816.size a := fun v122 k0_hw13 => k0_hw13.1.2.2.2.2.2.2.2.2.2.2.2.2.2.2.2.2.2.2.2.2.2.2.2.2.1
theorem k0_off202_wordsi8 : ∀ (v122 : BitVec 32) (k0_hw13 : k0_chk13 v122), (Rect.unit (s := S8x3072x2816) (k0_off202 v122) S1x256x2816.size (k0_off202_inb v122 k0_hw13)).WholeWords (EltTy.packing .i8) := fun v122 k0_hw13 => k0_hw13.1.2.2.2.2.2.2.2.2.2.2.2.2.2.2.2.2.2.2.2.2.2.2.2.2.2.1 (k0_off202_inb v122 k0_hw13)
theorem k0_off204_inb : ∀ (v122 : BitVec 32) (k0_hw13 : k0_chk13 v122), ∀ a, (k0_off204 v122) a + S1x256x2816.size a ≤ S8x3072x2816.size a := fun v122 k0_hw13 => k0_hw13.1.2.2.2.2.2.2.2.2.2.2.2.2.2.2.2.2.2.2.2.2.2.2.2.2.2.2.1
theorem k0_off204_wordsi8 : ∀ (v122 : BitVec 32) (k0_hw13 : k0_chk13 v122), (Rect.unit (s := S8x3072x2816) (k0_off204 v122) S1x256x2816.size (k0_off204_inb v122 k0_hw13)).WholeWords (EltTy.packing .i8) := fun v122 k0_hw13 => k0_hw13.1.2.2.2.2.2.2.2.2.2.2.2.2.2.2.2.2.2.2.2.2.2.2.2.2.2.2.2.1 (k0_off204_inb v122 k0_hw13)
theorem k0_off207_inb : ∀ (v122 : BitVec 32) (k0_hw13 : k0_chk13 v122), ∀ a, (k0_off207 v122) a + S1x256.size a ≤ S8x3072.size a := fun v122 k0_hw13 => k0_hw13.1.2.2.2.2.2.2.2.2.2.2.2.2.2.2.2.2.2.2.2.2.2.2.2.2.2.2.2.2.1
theorem k0_off208_inb : ∀ (v122 : BitVec 32) (k0_hw13 : k0_chk13 v122), ∀ a, (k0_off208 v122) a + S1x256.size a ≤ S8x3072.size a := fun v122 k0_hw13 => k0_hw13.1.2.2.2.2.2.2.2.2.2.2.2.2.2.2.2.2.2.2.2.2.2.2.2.2.2.2.2.2.2.1
theorem k0_off216_inb : ∀ (v122 : BitVec 32) (k0_hw13 : k0_chk13 v122), ∀ a, (k0_off216 v122) a + S1x256x2816.size a ≤ S8x3072x2816.size a := fun v122 k0_hw13 => k0_hw13.1.2.2.2.2.2.2.2.2.2.2.2.2.2.2.2.2.2.2.2.2.2.2.2.2.2.2.2.2.2.2.1
theorem k0_off216_wordsi8 : ∀ (v122 : BitVec 32) (k0_hw13 : k0_chk13 v122), (Rect.unit (s := S8x3072x2816) (k0_off216 v122) S1x256x2816.size (k0_off216_inb v122 k0_hw13)).WholeWords (EltTy.packing .i8) := fun v122 k0_hw13 => k0_hw13.1.2.2.2.2.2.2.2.2.2.2.2.2.2.2.2.2.2.2.2.2.2.2.2.2.2.2.2.2.2.2.2 (k0_off216_inb v122 k0_hw13)
theorem k0_off218_inb : ∀ (v122 : BitVec 32) (k0_hw13 : k0_chk13 v122), ∀ a, (k0_off218 v122) a + S1x256x2816.size a ≤ S8x3072x2816.size a := fun v122 k0_hw13 => k0_hw13.2.1
theorem k0_off218_wordsi8 : ∀ (v122 : BitVec 32) (k0_hw13 : k0_chk13 v122), (Rect.unit (s := S8x3072x2816) (k0_off218 v122) S1x256x2816.size (k0_off218_inb v122 k0_hw13)).WholeWords (EltTy.packing .i8) := fun v122 k0_hw13 => k0_hw13.2.2.1 (k0_off218_inb v122 k0_hw13)
theorem k0_off221_inb : ∀ (v122 : BitVec 32) (k0_hw13 : k0_chk13 v122), ∀ a, (k0_off221 v122) a + S1x256.size a ≤ S8x3072.size a := fun v122 k0_hw13 => k0_hw13.2.2.2.1
theorem k0_off222_inb : ∀ (v122 : BitVec 32) (k0_hw13 : k0_chk13 v122), ∀ a, (k0_off222 v122) a + S1x256.size a ≤ S8x3072.size a := fun v122 k0_hw13 => k0_hw13.2.2.2.2.1
theorem k0_off230_inb : ∀ (v122 : BitVec 32) (k0_hw13 : k0_chk13 v122), ∀ a, (k0_off230 v122) a + S1x1408x1536.size a ≤ S8x2816x1536.size a := fun v122 k0_hw13 => k0_hw13.2.2.2.2.2.1
theorem k0_off230_wordsi8 : ∀ (v122 : BitVec 32) (k0_hw13 : k0_chk13 v122), (Rect.unit (s := S8x2816x1536) (k0_off230 v122) S1x1408x1536.size (k0_off230_inb v122 k0_hw13)).WholeWords (EltTy.packing .i8) := fun v122 k0_hw13 => k0_hw13.2.2.2.2.2.2.1 (k0_off230_inb v122 k0_hw13)
theorem k0_off232_inb : ∀ (v122 : BitVec 32) (k0_hw13 : k0_chk13 v122), ∀ a, (k0_off232 v122) a + S1x1408.size a ≤ S8x2816.size a := fun v122 k0_hw13 => k0_hw13.2.2.2.2.2.2.2.1
theorem k0_off238_inb : ∀ (v122 : BitVec 32) (k0_hw13 : k0_chk13 v122), ∀ a, (k0_off238 v122) a + S1x1408x1536.size a ≤ S8x2816x1536.size a := fun v122 k0_hw13 => k0_hw13.2.2.2.2.2.2.2.2.1
theorem k0_off238_wordsi8 : ∀ (v122 : BitVec 32) (k0_hw13 : k0_chk13 v122), (Rect.unit (s := S8x2816x1536) (k0_off238 v122) S1x1408x1536.size (k0_off238_inb v122 k0_hw13)).WholeWords (EltTy.packing .i8) := fun v122 k0_hw13 => k0_hw13.2.2.2.2.2.2.2.2.2.1 (k0_off238_inb v122 k0_hw13)
theorem k0_off240_inb : ∀ (v122 : BitVec 32) (k0_hw13 : k0_chk13 v122), ∀ a, (k0_off240 v122) a + S1x1408.size a ≤ S8x2816.size a := fun v122 k0_hw13 => k0_hw13.2.2.2.2.2.2.2.2.2.2

def k0_off241 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 2 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1_i32_221 : BitVec 32 := 1#32
  ![v123.toNat, 1]
def k0_cond18 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : BitVec 1 :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_56 : BitVec 32 := 2#32
  let v124 : BitVec 32 := Scalar.addi v120 c2_i32_56
  let v125 : BitVec 1 := Scalar.cmpi .slt v124 v96
  let v465 : BitVec 32 := Scalar.extui v125
  let c0_i32_220 : BitVec 32 := 0#32
  let v466 : BitVec 1 := Scalar.cmpi .ne v465 c0_i32_220
  v466

def k0_off242 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) : Fin 3 → Nat :=
  let c0_i32_46 : BitVec 32 := 0#32
  let c0_i32_47 : BitVec 32 := 0#32
  let c0_i32_4 : BitVec 32 := 0#32
  let v12 : BitVec 32 := Scalar.addi c0_i32_4 v10
  let v24 : BitVec 32 := Scalar.addi v12 v21
  let v36 : BitVec 32 := Scalar.addi v24 v33
  let v48 : BitVec 32 := Scalar.addi v36 v45
  let v60 : BitVec 32 := Scalar.addi v48 v57
  let v72 : BitVec 32 := Scalar.addi v60 v69
  let v84 : BitVec 32 := Scalar.addi v72 v81
  let v96 : BitVec 32 := Scalar.addi v84 v93
  let c0_i32_41 : BitVec 32 := 0#32
  let v107 : BitVec 32 := Scalar.subi v96 c0_i32_41
  let c1_i32_42 : BitVec 32 := 1#32
  let c1_i32_43 : BitVec 32 := 1#32
  let v108 : BitVec 32 := Scalar.subi c1_i32_42 c1_i32_43
  let v109 : BitVec 32 := Scalar.addi v107 v108
  let c1_i32_44 : BitVec 32 := 1#32
  let v110 : BitVec 32 := Scalar.divsi v109 c1_i32_44
  let v111 : BitVec 32 := Scalar.subi v110 c0_i32_47
  let c1_i32_48 : BitVec 32 := 1#32
  let v113 : BitVec 32 := Scalar.divsi v111 c1_i32_48
  let v114 : BitVec 32 := Scalar.muli v113 c1_i32_48
  let v115 : BitVec 32 := Scalar.addi c0_i32_47 v114
  let c1_i32_50 : BitVec 32 := 1#32
  let arg15 : BitVec 32 := Scf.iv v115 c1_i32_50 k0_t2
  let c1_i32_45 : BitVec 32 := 1#32
  let v119 : BitVec 32 := Scalar.muli arg15 c1_i32_45
  let v120 : BitVec 32 := Scalar.addi c0_i32_46 v119
  let c2_i32_55 : BitVec 32 := 2#32
  let v123 : BitVec 32 := Scalar.remsi v120 c2_i32_55
  let c1408_i32_222 : BitVec 32 := 1408#32
  let c0_i32_223 : BitVec 32 := 0#32
  ![v123.toNat, 1408, 0]
def k0_off243 (v129 : BitVec 32) : Fin 3 → Nat :=
  let c1408_i32_224 : BitVec 32 := 1408#32
  let c0_i32_225 : BitVec 32 := 0#32
  ![v129.toNat, 1408, 0]

def k0_chk14 (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) : Prop :=
  (∀ (k0_h11 : k0_cond11 v10 v21 v33 v45 v57 v69 v81 v93 k0_t2 = 1#1), ∀ a, (k0_off154 v129) a + S1x256x2816.size a ≤ S8x3072x2816.size a) ∧
  (∀ (k0_h11 : k0_cond11 v10 v21 v33 v45 v57 v69 v81 v93 k0_t2 = 1#1), ∀ (hinb : ∀ a, (k0_off154 v129) a + S1x256x2816.size a ≤ S8x3072x2816.size a), (Rect.unit (s := S8x3072x2816) (k0_off154 v129) S1x256x2816.size hinb).WholeWords (EltTy.packing .i8)) ∧
  (∀ (k0_h11 : k0_cond11 v10 v21 v33 v45 v57 v69 v81 v93 k0_t2 = 1#1), ∀ a, (k0_off157 v129) a + S1x256x2816.size a ≤ S8x3072x2816.size a) ∧
  (∀ (k0_h11 : k0_cond11 v10 v21 v33 v45 v57 v69 v81 v93 k0_t2 = 1#1), ∀ (hinb : ∀ a, (k0_off157 v129) a + S1x256x2816.size a ≤ S8x3072x2816.size a), (Rect.unit (s := S8x3072x2816) (k0_off157 v129) S1x256x2816.size hinb).WholeWords (EltTy.packing .i8)) ∧
  (∀ (k0_h12 : k0_cond12 v10 v21 v33 v45 v57 v69 v81 v93 k0_t2 = 1#1), ∀ a, (k0_off169 v129) a + S1x256x2816.size a ≤ S8x3072x2816.size a) ∧
  (∀ (k0_h12 : k0_cond12 v10 v21 v33 v45 v57 v69 v81 v93 k0_t2 = 1#1), ∀ (hinb : ∀ a, (k0_off169 v129) a + S1x256x2816.size a ≤ S8x3072x2816.size a), (Rect.unit (s := S8x3072x2816) (k0_off169 v129) S1x256x2816.size hinb).WholeWords (EltTy.packing .i8)) ∧
  (∀ (k0_h12 : k0_cond12 v10 v21 v33 v45 v57 v69 v81 v93 k0_t2 = 1#1), ∀ a, (k0_off171 v129) a + S1x256x2816.size a ≤ S8x3072x2816.size a) ∧
  (∀ (k0_h12 : k0_cond12 v10 v21 v33 v45 v57 v69 v81 v93 k0_t2 = 1#1), ∀ (hinb : ∀ a, (k0_off171 v129) a + S1x256x2816.size a ≤ S8x3072x2816.size a), (Rect.unit (s := S8x3072x2816) (k0_off171 v129) S1x256x2816.size hinb).WholeWords (EltTy.packing .i8)) ∧
  (∀ (k0_h13 : k0_cond13 v10 v21 v33 v45 v57 v69 v81 v93 k0_t2 = 1#1), ∀ a, (k0_off183 v129) a + S1x256x2816.size a ≤ S8x3072x2816.size a) ∧
  (∀ (k0_h13 : k0_cond13 v10 v21 v33 v45 v57 v69 v81 v93 k0_t2 = 1#1), ∀ (hinb : ∀ a, (k0_off183 v129) a + S1x256x2816.size a ≤ S8x3072x2816.size a), (Rect.unit (s := S8x3072x2816) (k0_off183 v129) S1x256x2816.size hinb).WholeWords (EltTy.packing .i8)) ∧
  (∀ (k0_h13 : k0_cond13 v10 v21 v33 v45 v57 v69 v81 v93 k0_t2 = 1#1), ∀ a, (k0_off185 v129) a + S1x256x2816.size a ≤ S8x3072x2816.size a) ∧
  (∀ (k0_h13 : k0_cond13 v10 v21 v33 v45 v57 v69 v81 v93 k0_t2 = 1#1), ∀ (hinb : ∀ a, (k0_off185 v129) a + S1x256x2816.size a ≤ S8x3072x2816.size a), (Rect.unit (s := S8x3072x2816) (k0_off185 v129) S1x256x2816.size hinb).WholeWords (EltTy.packing .i8)) ∧
  (∀ (k0_h14 : k0_cond14 v10 v21 v33 v45 v57 v69 v81 v93 k0_t2 = 1#1), ∀ a, (k0_off197 v129) a + S1x256x2816.size a ≤ S8x3072x2816.size a) ∧
  (∀ (k0_h14 : k0_cond14 v10 v21 v33 v45 v57 v69 v81 v93 k0_t2 = 1#1), ∀ (hinb : ∀ a, (k0_off197 v129) a + S1x256x2816.size a ≤ S8x3072x2816.size a), (Rect.unit (s := S8x3072x2816) (k0_off197 v129) S1x256x2816.size hinb).WholeWords (EltTy.packing .i8)) ∧
  (∀ (k0_h14 : k0_cond14 v10 v21 v33 v45 v57 v69 v81 v93 k0_t2 = 1#1), ∀ a, (k0_off199 v129) a + S1x256x2816.size a ≤ S8x3072x2816.size a) ∧
  (∀ (k0_h14 : k0_cond14 v10 v21 v33 v45 v57 v69 v81 v93 k0_t2 = 1#1), ∀ (hinb : ∀ a, (k0_off199 v129) a + S1x256x2816.size a ≤ S8x3072x2816.size a), (Rect.unit (s := S8x3072x2816) (k0_off199 v129) S1x256x2816.size hinb).WholeWords (EltTy.packing .i8)) ∧
  (∀ (k0_h15 : k0_cond15 v10 v21 v33 v45 v57 v69 v81 v93 k0_t2 = 1#1), ∀ a, (k0_off211 v129) a + S1x256x2816.size a ≤ S8x3072x2816.size a) ∧
  (∀ (k0_h15 : k0_cond15 v10 v21 v33 v45 v57 v69 v81 v93 k0_t2 = 1#1), ∀ (hinb : ∀ a, (k0_off211 v129) a + S1x256x2816.size a ≤ S8x3072x2816.size a), (Rect.unit (s := S8x3072x2816) (k0_off211 v129) S1x256x2816.size hinb).WholeWords (EltTy.packing .i8)) ∧
  (∀ (k0_h15 : k0_cond15 v10 v21 v33 v45 v57 v69 v81 v93 k0_t2 = 1#1), ∀ a, (k0_off213 v129) a + S1x256x2816.size a ≤ S8x3072x2816.size a) ∧
  (∀ (k0_h15 : k0_cond15 v10 v21 v33 v45 v57 v69 v81 v93 k0_t2 = 1#1), ∀ (hinb : ∀ a, (k0_off213 v129) a + S1x256x2816.size a ≤ S8x3072x2816.size a), (Rect.unit (s := S8x3072x2816) (k0_off213 v129) S1x256x2816.size hinb).WholeWords (EltTy.packing .i8)) ∧
  (∀ (k0_h16 : k0_cond16 v10 v21 v33 v45 v57 v69 v81 v93 k0_t2 = 1#1), ∀ a, (k0_off225 v129) a + S1x256x2816.size a ≤ S8x3072x2816.size a) ∧
  (∀ (k0_h16 : k0_cond16 v10 v21 v33 v45 v57 v69 v81 v93 k0_t2 = 1#1), ∀ (hinb : ∀ a, (k0_off225 v129) a + S1x256x2816.size a ≤ S8x3072x2816.size a), (Rect.unit (s := S8x3072x2816) (k0_off225 v129) S1x256x2816.size hinb).WholeWords (EltTy.packing .i8)) ∧
  (∀ (k0_h16 : k0_cond16 v10 v21 v33 v45 v57 v69 v81 v93 k0_t2 = 1#1), ∀ a, (k0_off227 v129) a + S1x256x2816.size a ≤ S8x3072x2816.size a) ∧
  (∀ (k0_h16 : k0_cond16 v10 v21 v33 v45 v57 v69 v81 v93 k0_t2 = 1#1), ∀ (hinb : ∀ a, (k0_off227 v129) a + S1x256x2816.size a ≤ S8x3072x2816.size a), (Rect.unit (s := S8x3072x2816) (k0_off227 v129) S1x256x2816.size hinb).WholeWords (EltTy.packing .i8)) ∧
  (∀ (k0_h17 : k0_cond17 v10 v21 v33 v45 v57 v69 v81 v93 k0_t2 = 1#1), ∀ a, (k0_off235 v129) a + S1x1408x1536.size a ≤ S8x2816x1536.size a) ∧
  (∀ (k0_h17 : k0_cond17 v10 v21 v33 v45 v57 v69 v81 v93 k0_t2 = 1#1), ∀ (hinb : ∀ a, (k0_off235 v129) a + S1x1408x1536.size a ≤ S8x2816x1536.size a), (Rect.unit (s := S8x2816x1536) (k0_off235 v129) S1x1408x1536.size hinb).WholeWords (EltTy.packing .i8)) ∧
  (∀ (k0_h18 : k0_cond18 v10 v21 v33 v45 v57 v69 v81 v93 k0_t2 = 1#1), ∀ a, (k0_off243 v129) a + S1x1408x1536.size a ≤ S8x2816x1536.size a) ∧
  (∀ (k0_h18 : k0_cond18 v10 v21 v33 v45 v57 v69 v81 v93 k0_t2 = 1#1), ∀ (hinb : ∀ a, (k0_off243 v129) a + S1x1408x1536.size a ≤ S8x2816x1536.size a), (Rect.unit (s := S8x2816x1536) (k0_off243 v129) S1x1408x1536.size hinb).WholeWords (EltTy.packing .i8))
theorem k0_off154_inb : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h11 : k0_cond11 v10 v21 v33 v45 v57 v69 v81 v93 k0_t2 = 1#1), ∀ a, (k0_off154 v129) a + S1x256x2816.size a ≤ S8x3072x2816.size a := fun v10 v21 v33 v45 v57 v69 v81 v93 k0_t2 v129 k0_hw14 k0_h11 => k0_hw14.1 k0_h11
theorem k0_off154_wordsi8 : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h11 : k0_cond11 v10 v21 v33 v45 v57 v69 v81 v93 k0_t2 = 1#1), (Rect.unit (s := S8x3072x2816) (k0_off154 v129) S1x256x2816.size (k0_off154_inb v10 v21 v33 v45 v57 v69 v81 v93 k0_t2 v129 k0_hw14 k0_h11)).WholeWords (EltTy.packing .i8) := fun v10 v21 v33 v45 v57 v69 v81 v93 k0_t2 v129 k0_hw14 k0_h11 => k0_hw14.2.1 k0_h11 (k0_off154_inb v10 v21 v33 v45 v57 v69 v81 v93 k0_t2 v129 k0_hw14 k0_h11)
theorem k0_off157_inb : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h11 : k0_cond11 v10 v21 v33 v45 v57 v69 v81 v93 k0_t2 = 1#1), ∀ a, (k0_off157 v129) a + S1x256x2816.size a ≤ S8x3072x2816.size a := fun v10 v21 v33 v45 v57 v69 v81 v93 k0_t2 v129 k0_hw14 k0_h11 => k0_hw14.2.2.1 k0_h11
theorem k0_off157_wordsi8 : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h11 : k0_cond11 v10 v21 v33 v45 v57 v69 v81 v93 k0_t2 = 1#1), (Rect.unit (s := S8x3072x2816) (k0_off157 v129) S1x256x2816.size (k0_off157_inb v10 v21 v33 v45 v57 v69 v81 v93 k0_t2 v129 k0_hw14 k0_h11)).WholeWords (EltTy.packing .i8) := fun v10 v21 v33 v45 v57 v69 v81 v93 k0_t2 v129 k0_hw14 k0_h11 => k0_hw14.2.2.2.1 k0_h11 (k0_off157_inb v10 v21 v33 v45 v57 v69 v81 v93 k0_t2 v129 k0_hw14 k0_h11)
theorem k0_off169_inb : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h12 : k0_cond12 v10 v21 v33 v45 v57 v69 v81 v93 k0_t2 = 1#1), ∀ a, (k0_off169 v129) a + S1x256x2816.size a ≤ S8x3072x2816.size a := fun v10 v21 v33 v45 v57 v69 v81 v93 k0_t2 v129 k0_hw14 k0_h12 => k0_hw14.2.2.2.2.1 k0_h12
theorem k0_off169_wordsi8 : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h12 : k0_cond12 v10 v21 v33 v45 v57 v69 v81 v93 k0_t2 = 1#1), (Rect.unit (s := S8x3072x2816) (k0_off169 v129) S1x256x2816.size (k0_off169_inb v10 v21 v33 v45 v57 v69 v81 v93 k0_t2 v129 k0_hw14 k0_h12)).WholeWords (EltTy.packing .i8) := fun v10 v21 v33 v45 v57 v69 v81 v93 k0_t2 v129 k0_hw14 k0_h12 => k0_hw14.2.2.2.2.2.1 k0_h12 (k0_off169_inb v10 v21 v33 v45 v57 v69 v81 v93 k0_t2 v129 k0_hw14 k0_h12)
theorem k0_off171_inb : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h12 : k0_cond12 v10 v21 v33 v45 v57 v69 v81 v93 k0_t2 = 1#1), ∀ a, (k0_off171 v129) a + S1x256x2816.size a ≤ S8x3072x2816.size a := fun v10 v21 v33 v45 v57 v69 v81 v93 k0_t2 v129 k0_hw14 k0_h12 => k0_hw14.2.2.2.2.2.2.1 k0_h12
theorem k0_off171_wordsi8 : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h12 : k0_cond12 v10 v21 v33 v45 v57 v69 v81 v93 k0_t2 = 1#1), (Rect.unit (s := S8x3072x2816) (k0_off171 v129) S1x256x2816.size (k0_off171_inb v10 v21 v33 v45 v57 v69 v81 v93 k0_t2 v129 k0_hw14 k0_h12)).WholeWords (EltTy.packing .i8) := fun v10 v21 v33 v45 v57 v69 v81 v93 k0_t2 v129 k0_hw14 k0_h12 => k0_hw14.2.2.2.2.2.2.2.1 k0_h12 (k0_off171_inb v10 v21 v33 v45 v57 v69 v81 v93 k0_t2 v129 k0_hw14 k0_h12)
theorem k0_off183_inb : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h13 : k0_cond13 v10 v21 v33 v45 v57 v69 v81 v93 k0_t2 = 1#1), ∀ a, (k0_off183 v129) a + S1x256x2816.size a ≤ S8x3072x2816.size a := fun v10 v21 v33 v45 v57 v69 v81 v93 k0_t2 v129 k0_hw14 k0_h13 => k0_hw14.2.2.2.2.2.2.2.2.1 k0_h13
theorem k0_off183_wordsi8 : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h13 : k0_cond13 v10 v21 v33 v45 v57 v69 v81 v93 k0_t2 = 1#1), (Rect.unit (s := S8x3072x2816) (k0_off183 v129) S1x256x2816.size (k0_off183_inb v10 v21 v33 v45 v57 v69 v81 v93 k0_t2 v129 k0_hw14 k0_h13)).WholeWords (EltTy.packing .i8) := fun v10 v21 v33 v45 v57 v69 v81 v93 k0_t2 v129 k0_hw14 k0_h13 => k0_hw14.2.2.2.2.2.2.2.2.2.1 k0_h13 (k0_off183_inb v10 v21 v33 v45 v57 v69 v81 v93 k0_t2 v129 k0_hw14 k0_h13)
theorem k0_off185_inb : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h13 : k0_cond13 v10 v21 v33 v45 v57 v69 v81 v93 k0_t2 = 1#1), ∀ a, (k0_off185 v129) a + S1x256x2816.size a ≤ S8x3072x2816.size a := fun v10 v21 v33 v45 v57 v69 v81 v93 k0_t2 v129 k0_hw14 k0_h13 => k0_hw14.2.2.2.2.2.2.2.2.2.2.1 k0_h13
theorem k0_off185_wordsi8 : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h13 : k0_cond13 v10 v21 v33 v45 v57 v69 v81 v93 k0_t2 = 1#1), (Rect.unit (s := S8x3072x2816) (k0_off185 v129) S1x256x2816.size (k0_off185_inb v10 v21 v33 v45 v57 v69 v81 v93 k0_t2 v129 k0_hw14 k0_h13)).WholeWords (EltTy.packing .i8) := fun v10 v21 v33 v45 v57 v69 v81 v93 k0_t2 v129 k0_hw14 k0_h13 => k0_hw14.2.2.2.2.2.2.2.2.2.2.2.1 k0_h13 (k0_off185_inb v10 v21 v33 v45 v57 v69 v81 v93 k0_t2 v129 k0_hw14 k0_h13)
theorem k0_off197_inb : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h14 : k0_cond14 v10 v21 v33 v45 v57 v69 v81 v93 k0_t2 = 1#1), ∀ a, (k0_off197 v129) a + S1x256x2816.size a ≤ S8x3072x2816.size a := fun v10 v21 v33 v45 v57 v69 v81 v93 k0_t2 v129 k0_hw14 k0_h14 => k0_hw14.2.2.2.2.2.2.2.2.2.2.2.2.1 k0_h14
theorem k0_off197_wordsi8 : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h14 : k0_cond14 v10 v21 v33 v45 v57 v69 v81 v93 k0_t2 = 1#1), (Rect.unit (s := S8x3072x2816) (k0_off197 v129) S1x256x2816.size (k0_off197_inb v10 v21 v33 v45 v57 v69 v81 v93 k0_t2 v129 k0_hw14 k0_h14)).WholeWords (EltTy.packing .i8) := fun v10 v21 v33 v45 v57 v69 v81 v93 k0_t2 v129 k0_hw14 k0_h14 => k0_hw14.2.2.2.2.2.2.2.2.2.2.2.2.2.1 k0_h14 (k0_off197_inb v10 v21 v33 v45 v57 v69 v81 v93 k0_t2 v129 k0_hw14 k0_h14)
theorem k0_off199_inb : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h14 : k0_cond14 v10 v21 v33 v45 v57 v69 v81 v93 k0_t2 = 1#1), ∀ a, (k0_off199 v129) a + S1x256x2816.size a ≤ S8x3072x2816.size a := fun v10 v21 v33 v45 v57 v69 v81 v93 k0_t2 v129 k0_hw14 k0_h14 => k0_hw14.2.2.2.2.2.2.2.2.2.2.2.2.2.2.1 k0_h14
theorem k0_off199_wordsi8 : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h14 : k0_cond14 v10 v21 v33 v45 v57 v69 v81 v93 k0_t2 = 1#1), (Rect.unit (s := S8x3072x2816) (k0_off199 v129) S1x256x2816.size (k0_off199_inb v10 v21 v33 v45 v57 v69 v81 v93 k0_t2 v129 k0_hw14 k0_h14)).WholeWords (EltTy.packing .i8) := fun v10 v21 v33 v45 v57 v69 v81 v93 k0_t2 v129 k0_hw14 k0_h14 => k0_hw14.2.2.2.2.2.2.2.2.2.2.2.2.2.2.2.1 k0_h14 (k0_off199_inb v10 v21 v33 v45 v57 v69 v81 v93 k0_t2 v129 k0_hw14 k0_h14)
theorem k0_off211_inb : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h15 : k0_cond15 v10 v21 v33 v45 v57 v69 v81 v93 k0_t2 = 1#1), ∀ a, (k0_off211 v129) a + S1x256x2816.size a ≤ S8x3072x2816.size a := fun v10 v21 v33 v45 v57 v69 v81 v93 k0_t2 v129 k0_hw14 k0_h15 => k0_hw14.2.2.2.2.2.2.2.2.2.2.2.2.2.2.2.2.1 k0_h15
theorem k0_off211_wordsi8 : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h15 : k0_cond15 v10 v21 v33 v45 v57 v69 v81 v93 k0_t2 = 1#1), (Rect.unit (s := S8x3072x2816) (k0_off211 v129) S1x256x2816.size (k0_off211_inb v10 v21 v33 v45 v57 v69 v81 v93 k0_t2 v129 k0_hw14 k0_h15)).WholeWords (EltTy.packing .i8) := fun v10 v21 v33 v45 v57 v69 v81 v93 k0_t2 v129 k0_hw14 k0_h15 => k0_hw14.2.2.2.2.2.2.2.2.2.2.2.2.2.2.2.2.2.1 k0_h15 (k0_off211_inb v10 v21 v33 v45 v57 v69 v81 v93 k0_t2 v129 k0_hw14 k0_h15)
theorem k0_off213_inb : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h15 : k0_cond15 v10 v21 v33 v45 v57 v69 v81 v93 k0_t2 = 1#1), ∀ a, (k0_off213 v129) a + S1x256x2816.size a ≤ S8x3072x2816.size a := fun v10 v21 v33 v45 v57 v69 v81 v93 k0_t2 v129 k0_hw14 k0_h15 => k0_hw14.2.2.2.2.2.2.2.2.2.2.2.2.2.2.2.2.2.2.1 k0_h15
theorem k0_off213_wordsi8 : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h15 : k0_cond15 v10 v21 v33 v45 v57 v69 v81 v93 k0_t2 = 1#1), (Rect.unit (s := S8x3072x2816) (k0_off213 v129) S1x256x2816.size (k0_off213_inb v10 v21 v33 v45 v57 v69 v81 v93 k0_t2 v129 k0_hw14 k0_h15)).WholeWords (EltTy.packing .i8) := fun v10 v21 v33 v45 v57 v69 v81 v93 k0_t2 v129 k0_hw14 k0_h15 => k0_hw14.2.2.2.2.2.2.2.2.2.2.2.2.2.2.2.2.2.2.2.1 k0_h15 (k0_off213_inb v10 v21 v33 v45 v57 v69 v81 v93 k0_t2 v129 k0_hw14 k0_h15)
theorem k0_off225_inb : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h16 : k0_cond16 v10 v21 v33 v45 v57 v69 v81 v93 k0_t2 = 1#1), ∀ a, (k0_off225 v129) a + S1x256x2816.size a ≤ S8x3072x2816.size a := fun v10 v21 v33 v45 v57 v69 v81 v93 k0_t2 v129 k0_hw14 k0_h16 => k0_hw14.2.2.2.2.2.2.2.2.2.2.2.2.2.2.2.2.2.2.2.2.1 k0_h16
theorem k0_off225_wordsi8 : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h16 : k0_cond16 v10 v21 v33 v45 v57 v69 v81 v93 k0_t2 = 1#1), (Rect.unit (s := S8x3072x2816) (k0_off225 v129) S1x256x2816.size (k0_off225_inb v10 v21 v33 v45 v57 v69 v81 v93 k0_t2 v129 k0_hw14 k0_h16)).WholeWords (EltTy.packing .i8) := fun v10 v21 v33 v45 v57 v69 v81 v93 k0_t2 v129 k0_hw14 k0_h16 => k0_hw14.2.2.2.2.2.2.2.2.2.2.2.2.2.2.2.2.2.2.2.2.2.1 k0_h16 (k0_off225_inb v10 v21 v33 v45 v57 v69 v81 v93 k0_t2 v129 k0_hw14 k0_h16)
theorem k0_off227_inb : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h16 : k0_cond16 v10 v21 v33 v45 v57 v69 v81 v93 k0_t2 = 1#1), ∀ a, (k0_off227 v129) a + S1x256x2816.size a ≤ S8x3072x2816.size a := fun v10 v21 v33 v45 v57 v69 v81 v93 k0_t2 v129 k0_hw14 k0_h16 => k0_hw14.2.2.2.2.2.2.2.2.2.2.2.2.2.2.2.2.2.2.2.2.2.2.1 k0_h16
theorem k0_off227_wordsi8 : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h16 : k0_cond16 v10 v21 v33 v45 v57 v69 v81 v93 k0_t2 = 1#1), (Rect.unit (s := S8x3072x2816) (k0_off227 v129) S1x256x2816.size (k0_off227_inb v10 v21 v33 v45 v57 v69 v81 v93 k0_t2 v129 k0_hw14 k0_h16)).WholeWords (EltTy.packing .i8) := fun v10 v21 v33 v45 v57 v69 v81 v93 k0_t2 v129 k0_hw14 k0_h16 => k0_hw14.2.2.2.2.2.2.2.2.2.2.2.2.2.2.2.2.2.2.2.2.2.2.2.1 k0_h16 (k0_off227_inb v10 v21 v33 v45 v57 v69 v81 v93 k0_t2 v129 k0_hw14 k0_h16)
theorem k0_off235_inb : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h17 : k0_cond17 v10 v21 v33 v45 v57 v69 v81 v93 k0_t2 = 1#1), ∀ a, (k0_off235 v129) a + S1x1408x1536.size a ≤ S8x2816x1536.size a := fun v10 v21 v33 v45 v57 v69 v81 v93 k0_t2 v129 k0_hw14 k0_h17 => k0_hw14.2.2.2.2.2.2.2.2.2.2.2.2.2.2.2.2.2.2.2.2.2.2.2.2.1 k0_h17
theorem k0_off235_wordsi8 : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h17 : k0_cond17 v10 v21 v33 v45 v57 v69 v81 v93 k0_t2 = 1#1), (Rect.unit (s := S8x2816x1536) (k0_off235 v129) S1x1408x1536.size (k0_off235_inb v10 v21 v33 v45 v57 v69 v81 v93 k0_t2 v129 k0_hw14 k0_h17)).WholeWords (EltTy.packing .i8) := fun v10 v21 v33 v45 v57 v69 v81 v93 k0_t2 v129 k0_hw14 k0_h17 => k0_hw14.2.2.2.2.2.2.2.2.2.2.2.2.2.2.2.2.2.2.2.2.2.2.2.2.2.1 k0_h17 (k0_off235_inb v10 v21 v33 v45 v57 v69 v81 v93 k0_t2 v129 k0_hw14 k0_h17)
theorem k0_off243_inb : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h18 : k0_cond18 v10 v21 v33 v45 v57 v69 v81 v93 k0_t2 = 1#1), ∀ a, (k0_off243 v129) a + S1x1408x1536.size a ≤ S8x2816x1536.size a := fun v10 v21 v33 v45 v57 v69 v81 v93 k0_t2 v129 k0_hw14 k0_h18 => k0_hw14.2.2.2.2.2.2.2.2.2.2.2.2.2.2.2.2.2.2.2.2.2.2.2.2.2.2.1 k0_h18
theorem k0_off243_wordsi8 : ∀ (v10 : BitVec 32) (v21 : BitVec 32) (v33 : BitVec 32) (v45 : BitVec 32) (v57 : BitVec 32) (v69 : BitVec 32) (v81 : BitVec 32) (v93 : BitVec 32) (k0_t2 : Fin (k0_t2_loop v10 v21 v33 v45 v57 v69 v81 v93).trips) (v129 : BitVec 32) (k0_hw14 : k0_chk14 v10 v21 v33 v45 v57 v69 v81 v93 k0_t2 v129), ∀ (k0_h18 : k0_cond18 v10 v21 v33 v45 v57 v69 v81 v93 k0_t2 = 1#1), (Rect.unit (s := S8x2816x1536) (k0_off243 v129) S1x1408x1536.size (k0_off243_inb v10 v21 v33 v45 v57 v69 v81 v93 k0_t2 v129 k0_hw14 k0_h18)).WholeWords (EltTy.packing .i8) := fun v10 v21 v33 v45 v57 v69 v81 v93 k0_t2 v129 k0_hw14 k0_h18 => k0_hw14.2.2.2.2.2.2.2.2.2.2.2.2.2.2.2.2.2.2.2.2.2.2.2.2.2.2.2 k0_h18 (k0_off243_inb v10 v21 v33 v45 v57 v69 v81 v93 k0_t2 v129 k0_hw14 k0_h18)

def k0_chk10_0 (v10 : BitVec 32) (v21 : BitVec 32) (v33 : BitVec 32) (v45 : BitVec 32) (v57 : BitVec 32) (v69 : BitVec 32) (v81 : BitVec 32) (v93 : BitVec 32) : Prop :=
  ((k0_t1_loop v10 v21 v33 v45 v57 v69 v81 v93).OK) ∧
  (∀ k0_t1 : Fin (k0_t1_loop v10 v21 v33 v45 v57 v69 v81 v93).trips, ∀ a, (k0_off36 v10 v21 v33 v45 v57 v69 v81 v93 k0_t1) a + S1.size a ≤ S9.size a) ∧
  (∀ k0_t1 : Fin (k0_t1_loop v10 v21 v33 v45 v57 v69 v81 v93).trips, ∀ a, (k0_off37 v10 v21 v33 v45 v57 v69 v81 v93 k0_t1) a + S1.size a ≤ S9.size a) ∧
  (∀ k0_t1 : Fin (k0_t1_loop v10 v21 v33 v45 v57 v69 v81 v93).trips, ∀ a, (k0_off38 v10 v21 v33 v45 v57 v69 v81 v93 k0_t1) a + S1x1.size a ≤ S2x6.size a) ∧
  (∀ k0_t1 : Fin (k0_t1_loop v10 v21 v33 v45 v57 v69 v81 v93).trips, ∀ a, (k0_off39 v10 v21 v33 v45 v57 v69 v81 v93 k0_t1) a + S1x256x2816.size a ≤ S2x3072x2816.size a) ∧
  (∀ k0_t1 : Fin (k0_t1_loop v10 v21 v33 v45 v57 v69 v81 v93).trips, ∀ (hinb : ∀ a, (k0_off39 v10 v21 v33 v45 v57 v69 v81 v93 k0_t1) a + S1x256x2816.size a ≤ S2x3072x2816.size a), (Rect.unit (s := S2x3072x2816) (k0_off39 v10 v21 v33 v45 v57 v69 v81 v93 k0_t1) S1x256x2816.size hinb).WholeWords (EltTy.packing .i8)) ∧
  (∀ k0_t1 : Fin (k0_t1_loop v10 v21 v33 v45 v57 v69 v81 v93).trips, ∀ a, (k0_off41 v10 v21 v33 v45 v57 v69 v81 v93 k0_t1) a + S1x1.size a ≤ S2x6.size a) ∧
  (∀ k0_t1 : Fin (k0_t1_loop v10 v21 v33 v45 v57 v69 v81 v93).trips, ∀ a, (k0_off42 v10 v21 v33 v45 v57 v69 v81 v93 k0_t1) a + S1x256x2816.size a ≤ S2x3072x2816.size a) ∧
  (∀ k0_t1 : Fin (k0_t1_loop v10 v21 v33 v45 v57 v69 v81 v93).trips, ∀ (hinb : ∀ a, (k0_off42 v10 v21 v33 v45 v57 v69 v81 v93 k0_t1) a + S1x256x2816.size a ≤ S2x3072x2816.size a), (Rect.unit (s := S2x3072x2816) (k0_off42 v10 v21 v33 v45 v57 v69 v81 v93 k0_t1) S1x256x2816.size hinb).WholeWords (EltTy.packing .i8)) ∧
  (∀ k0_t1 : Fin (k0_t1_loop v10 v21 v33 v45 v57 v69 v81 v93).trips, ∀ a, (k0_off44 v10 v21 v33 v45 v57 v69 v81 v93 k0_t1) a + S1x256x2816.size a ≤ S2x3072x2816.size a) ∧
  (∀ k0_t1 : Fin (k0_t1_loop v10 v21 v33 v45 v57 v69 v81 v93).trips, ∀ a, (k0_off45 v10 v21 v33 v45 v57 v69 v81 v93 k0_t1) a + S1x256x2816.size a ≤ S2x3072x2816.size a) ∧
  (∀ k0_t1 : Fin (k0_t1_loop v10 v21 v33 v45 v57 v69 v81 v93).trips, ∀ (k0_h3 : k0_cond3 v10 v21 v33 v45 v57 v69 v81 v93 k0_t1 = 1#1), ∀ a, (k0_off48 v10 v21 v33 v45 v57 v69 v81 v93 k0_t1) a + S1x1.size a ≤ S2x6.size a) ∧
  (∀ k0_t1 : Fin (k0_t1_loop v10 v21 v33 v45 v57 v69 v81 v93).trips, ∀ (k0_h3 : k0_cond3 v10 v21 v33 v45 v57 v69 v81 v93 k0_t1 = 1#1), ∀ a, (k0_off49 v10 v21 v33 v45 v57 v69 v81 v93 k0_t1) a + S1x256x2816.size a ≤ S2x3072x2816.size a) ∧
  (∀ k0_t1 : Fin (k0_t1_loop v10 v21 v33 v45 v57 v69 v81 v93).trips, ∀ (k0_h3 : k0_cond3 v10 v21 v33 v45 v57 v69 v81 v93 k0_t1 = 1#1), ∀ (hinb : ∀ a, (k0_off49 v10 v21 v33 v45 v57 v69 v81 v93 k0_t1) a + S1x256x2816.size a ≤ S2x3072x2816.size a), (Rect.unit (s := S2x3072x2816) (k0_off49 v10 v21 v33 v45 v57 v69 v81 v93 k0_t1) S1x256x2816.size hinb).WholeWords (EltTy.packing .i8)) ∧
  (∀ k0_t1 : Fin (k0_t1_loop v10 v21 v33 v45 v57 v69 v81 v93).trips, ∀ (k0_h3 : k0_cond3 v10 v21 v33 v45 v57 v69 v81 v93 k0_t1 = 1#1), ∀ a, (k0_off51 v10 v21 v33 v45 v57 v69 v81 v93 k0_t1) a + S1x1.size a ≤ S2x6.size a) ∧
  (∀ k0_t1 : Fin (k0_t1_loop v10 v21 v33 v45 v57 v69 v81 v93).trips, ∀ (k0_h3 : k0_cond3 v10 v21 v33 v45 v57 v69 v81 v93 k0_t1 = 1#1), ∀ a, (k0_off52 v10 v21 v33 v45 v57 v69 v81 v93 k0_t1) a + S1x256x2816.size a ≤ S2x3072x2816.size a) ∧
  (∀ k0_t1 : Fin (k0_t1_loop v10 v21 v33 v45 v57 v69 v81 v93).trips, ∀ (k0_h3 : k0_cond3 v10 v21 v33 v45 v57 v69 v81 v93 k0_t1 = 1#1), ∀ (hinb : ∀ a, (k0_off52 v10 v21 v33 v45 v57 v69 v81 v93 k0_t1) a + S1x256x2816.size a ≤ S2x3072x2816.size a), (Rect.unit (s := S2x3072x2816) (k0_off52 v10 v21 v33 v45 v57 v69 v81 v93 k0_t1) S1x256x2816.size hinb).WholeWords (EltTy.packing .i8)) ∧
  (∀ k0_t1 : Fin (k0_t1_loop v10 v21 v33 v45 v57 v69 v81 v93).trips, ∀ a, (k0_off54 v10 v21 v33 v45 v57 v69 v81 v93 k0_t1) a + S1x1.size a ≤ S2x6.size a) ∧
  (∀ k0_t1 : Fin (k0_t1_loop v10 v21 v33 v45 v57 v69 v81 v93).trips, ∀ a, (k0_off55 v10 v21 v33 v45 v57 v69 v81 v93 k0_t1) a + S1x256x2816.size a ≤ S2x3072x2816.size a) ∧
  (∀ k0_t1 : Fin (k0_t1_loop v10 v21 v33 v45 v57 v69 v81 v93).trips, ∀ (hinb : ∀ a, (k0_off55 v10 v21 v33 v45 v57 v69 v81 v93 k0_t1) a + S1x256x2816.size a ≤ S2x3072x2816.size a), (Rect.unit (s := S2x3072x2816) (k0_off55 v10 v21 v33 v45 v57 v69 v81 v93 k0_t1) S1x256x2816.size hinb).WholeWords (EltTy.packing .i8)) ∧
  (∀ k0_t1 : Fin (k0_t1_loop v10 v21 v33 v45 v57 v69 v81 v93).trips, ∀ a, (k0_off57 v10 v21 v33 v45 v57 v69 v81 v93 k0_t1) a + S1x256x2816.size a ≤ S2x3072x2816.size a) ∧
  (∀ k0_t1 : Fin (k0_t1_loop v10 v21 v33 v45 v57 v69 v81 v93).trips, ∀ (hinb : ∀ a, (k0_off57 v10 v21 v33 v45 v57 v69 v81 v93 k0_t1) a + S1x256x2816.size a ≤ S2x3072x2816.size a), (Rect.unit (s := S2x3072x2816) (k0_off57 v10 v21 v33 v45 v57 v69 v81 v93 k0_t1) S1x256x2816.size hinb).WholeWords (EltTy.packing .i8)) ∧
  (∀ k0_t1 : Fin (k0_t1_loop v10 v21 v33 v45 v57 v69 v81 v93).trips, ∀ a, (k0_off59 v10 v21 v33 v45 v57 v69 v81 v93 k0_t1) a + S1x256x2816.size a ≤ S2x3072x2816.size a) ∧
  (∀ k0_t1 : Fin (k0_t1_loop v10 v21 v33 v45 v57 v69 v81 v93).trips, ∀ a, (k0_off60 v10 v21 v33 v45 v57 v69 v81 v93 k0_t1) a + S1x256x2816.size a ≤ S2x3072x2816.size a) ∧
  (∀ k0_t1 : Fin (k0_t1_loop v10 v21 v33 v45 v57 v69 v81 v93).trips, ∀ (k0_h4 : k0_cond4 v10 v21 v33 v45 v57 v69 v81 v93 k0_t1 = 1#1), ∀ a, (k0_off63 v10 v21 v33 v45 v57 v69 v81 v93 k0_t1) a + S1x1.size a ≤ S2x6.size a) ∧
  (∀ k0_t1 : Fin (k0_t1_loop v10 v21 v33 v45 v57 v69 v81 v93).trips, ∀ (k0_h4 : k0_cond4 v10 v21 v33 v45 v57 v69 v81 v93 k0_t1 = 1#1), ∀ a, (k0_off64 v10 v21 v33 v45 v57 v69 v81 v93 k0_t1) a + S1x256x2816.size a ≤ S2x3072x2816.size a) ∧
  (∀ k0_t1 : Fin (k0_t1_loop v10 v21 v33 v45 v57 v69 v81 v93).trips, ∀ (k0_h4 : k0_cond4 v10 v21 v33 v45 v57 v69 v81 v93 k0_t1 = 1#1), ∀ (hinb : ∀ a, (k0_off64 v10 v21 v33 v45 v57 v69 v81 v93 k0_t1) a + S1x256x2816.size a ≤ S2x3072x2816.size a), (Rect.unit (s := S2x3072x2816) (k0_off64 v10 v21 v33 v45 v57 v69 v81 v93 k0_t1) S1x256x2816.size hinb).WholeWords (EltTy.packing .i8)) ∧
  (∀ k0_t1 : Fin (k0_t1_loop v10 v21 v33 v45 v57 v69 v81 v93).trips, ∀ (k0_h4 : k0_cond4 v10 v21 v33 v45 v57 v69 v81 v93 k0_t1 = 1#1), ∀ a, (k0_off66 v10 v21 v33 v45 v57 v69 v81 v93 k0_t1) a + S1x256x2816.size a ≤ S2x3072x2816.size a) ∧
  (∀ k0_t1 : Fin (k0_t1_loop v10 v21 v33 v45 v57 v69 v81 v93).trips, ∀ (k0_h4 : k0_cond4 v10 v21 v33 v45 v57 v69 v81 v93 k0_t1 = 1#1), ∀ (hinb : ∀ a, (k0_off66 v10 v21 v33 v45 v57 v69 v81 v93 k0_t1) a + S1x256x2816.size a ≤ S2x3072x2816.size a), (Rect.unit (s := S2x3072x2816) (k0_off66 v10 v21 v33 v45 v57 v69 v81 v93 k0_t1) S1x256x2816.size hinb).WholeWords (EltTy.packing .i8)) ∧
  (∀ k0_t1 : Fin (k0_t1_loop v10 v21 v33 v45 v57 v69 v81 v93).trips, ∀ a, (k0_off68 v10 v21 v33 v45 v57 v69 v81 v93 k0_t1) a + S1x1.size a ≤ S2x6.size a) ∧
  (∀ k0_t1 : Fin (k0_t1_loop v10 v21 v33 v45 v57 v69 v81 v93).trips, ∀ a, (k0_off69 v10 v21 v33 v45 v57 v69 v81 v93 k0_t1) a + S1x256x2816.size a ≤ S2x3072x2816.size a) ∧
  (∀ k0_t1 : Fin (k0_t1_loop v10 v21 v33 v45 v57 v69 v81 v93).trips, ∀ (hinb : ∀ a, (k0_off69 v10 v21 v33 v45 v57 v69 v81 v93 k0_t1) a + S1x256x2816.size a ≤ S2x3072x2816.size a), (Rect.unit (s := S2x3072x2816) (k0_off69 v10 v21 v33 v45 v57 v69 v81 v93 k0_t1) S1x256x2816.size hinb).WholeWords (EltTy.packing .i8))
def k0_chk10_1 (v10 : BitVec 32) (v21 : BitVec 32) (v33 : BitVec 32) (v45 : BitVec 32) (v57 : BitVec 32) (v69 : BitVec 32) (v81 : BitVec 32) (v93 : BitVec 32) : Prop :=
  (∀ k0_t1 : Fin (k0_t1_loop v10 v21 v33 v45 v57 v69 v81 v93).trips, ∀ a, (k0_off71 v10 v21 v33 v45 v57 v69 v81 v93 k0_t1) a + S1x256x2816.size a ≤ S2x3072x2816.size a) ∧
  (∀ k0_t1 : Fin (k0_t1_loop v10 v21 v33 v45 v57 v69 v81 v93).trips, ∀ (hinb : ∀ a, (k0_off71 v10 v21 v33 v45 v57 v69 v81 v93 k0_t1) a + S1x256x2816.size a ≤ S2x3072x2816.size a), (Rect.unit (s := S2x3072x2816) (k0_off71 v10 v21 v33 v45 v57 v69 v81 v93 k0_t1) S1x256x2816.size hinb).WholeWords (EltTy.packing .i8)) ∧
  (∀ k0_t1 : Fin (k0_t1_loop v10 v21 v33 v45 v57 v69 v81 v93).trips, ∀ a, (k0_off73 v10 v21 v33 v45 v57 v69 v81 v93 k0_t1) a + S1x256x2816.size a ≤ S2x3072x2816.size a) ∧
  (∀ k0_t1 : Fin (k0_t1_loop v10 v21 v33 v45 v57 v69 v81 v93).trips, ∀ a, (k0_off74 v10 v21 v33 v45 v57 v69 v81 v93 k0_t1) a + S1x256x2816.size a ≤ S2x3072x2816.size a) ∧
  (∀ k0_t1 : Fin (k0_t1_loop v10 v21 v33 v45 v57 v69 v81 v93).trips, ∀ (k0_h5 : k0_cond5 v10 v21 v33 v45 v57 v69 v81 v93 k0_t1 = 1#1), ∀ a, (k0_off77 v10 v21 v33 v45 v57 v69 v81 v93 k0_t1) a + S1x1.size a ≤ S2x6.size a) ∧
  (∀ k0_t1 : Fin (k0_t1_loop v10 v21 v33 v45 v57 v69 v81 v93).trips, ∀ (k0_h5 : k0_cond5 v10 v21 v33 v45 v57 v69 v81 v93 k0_t1 = 1#1), ∀ a, (k0_off78 v10 v21 v33 v45 v57 v69 v81 v93 k0_t1) a + S1x256x2816.size a ≤ S2x3072x2816.size a) ∧
  (∀ k0_t1 : Fin (k0_t1_loop v10 v21 v33 v45 v57 v69 v81 v93).trips, ∀ (k0_h5 : k0_cond5 v10 v21 v33 v45 v57 v69 v81 v93 k0_t1 = 1#1), ∀ (hinb : ∀ a, (k0_off78 v10 v21 v33 v45 v57 v69 v81 v93 k0_t1) a + S1x256x2816.size a ≤ S2x3072x2816.size a), (Rect.unit (s := S2x3072x2816) (k0_off78 v10 v21 v33 v45 v57 v69 v81 v93 k0_t1) S1x256x2816.size hinb).WholeWords (EltTy.packing .i8)) ∧
  (∀ k0_t1 : Fin (k0_t1_loop v10 v21 v33 v45 v57 v69 v81 v93).trips, ∀ (k0_h5 : k0_cond5 v10 v21 v33 v45 v57 v69 v81 v93 k0_t1 = 1#1), ∀ a, (k0_off80 v10 v21 v33 v45 v57 v69 v81 v93 k0_t1) a + S1x256x2816.size a ≤ S2x3072x2816.size a) ∧
  (∀ k0_t1 : Fin (k0_t1_loop v10 v21 v33 v45 v57 v69 v81 v93).trips, ∀ (k0_h5 : k0_cond5 v10 v21 v33 v45 v57 v69 v81 v93 k0_t1 = 1#1), ∀ (hinb : ∀ a, (k0_off80 v10 v21 v33 v45 v57 v69 v81 v93 k0_t1) a + S1x256x2816.size a ≤ S2x3072x2816.size a), (Rect.unit (s := S2x3072x2816) (k0_off80 v10 v21 v33 v45 v57 v69 v81 v93 k0_t1) S1x256x2816.size hinb).WholeWords (EltTy.packing .i8)) ∧
  (∀ k0_t1 : Fin (k0_t1_loop v10 v21 v33 v45 v57 v69 v81 v93).trips, ∀ a, (k0_off82 v10 v21 v33 v45 v57 v69 v81 v93 k0_t1) a + S1x1.size a ≤ S2x6.size a) ∧
  (∀ k0_t1 : Fin (k0_t1_loop v10 v21 v33 v45 v57 v69 v81 v93).trips, ∀ a, (k0_off83 v10 v21 v33 v45 v57 v69 v81 v93 k0_t1) a + S1x256x2816.size a ≤ S2x3072x2816.size a) ∧
  (∀ k0_t1 : Fin (k0_t1_loop v10 v21 v33 v45 v57 v69 v81 v93).trips, ∀ (hinb : ∀ a, (k0_off83 v10 v21 v33 v45 v57 v69 v81 v93 k0_t1) a + S1x256x2816.size a ≤ S2x3072x2816.size a), (Rect.unit (s := S2x3072x2816) (k0_off83 v10 v21 v33 v45 v57 v69 v81 v93 k0_t1) S1x256x2816.size hinb).WholeWords (EltTy.packing .i8)) ∧
  (∀ k0_t1 : Fin (k0_t1_loop v10 v21 v33 v45 v57 v69 v81 v93).trips, ∀ a, (k0_off85 v10 v21 v33 v45 v57 v69 v81 v93 k0_t1) a + S1x256x2816.size a ≤ S2x3072x2816.size a) ∧
  (∀ k0_t1 : Fin (k0_t1_loop v10 v21 v33 v45 v57 v69 v81 v93).trips, ∀ (hinb : ∀ a, (k0_off85 v10 v21 v33 v45 v57 v69 v81 v93 k0_t1) a + S1x256x2816.size a ≤ S2x3072x2816.size a), (Rect.unit (s := S2x3072x2816) (k0_off85 v10 v21 v33 v45 v57 v69 v81 v93 k0_t1) S1x256x2816.size hinb).WholeWords (EltTy.packing .i8)) ∧
  (∀ k0_t1 : Fin (k0_t1_loop v10 v21 v33 v45 v57 v69 v81 v93).trips, ∀ a, (k0_off87 v10 v21 v33 v45 v57 v69 v81 v93 k0_t1) a + S1x256x2816.size a ≤ S2x3072x2816.size a) ∧
  (∀ k0_t1 : Fin (k0_t1_loop v10 v21 v33 v45 v57 v69 v81 v93).trips, ∀ a, (k0_off88 v10 v21 v33 v45 v57 v69 v81 v93 k0_t1) a + S1x256x2816.size a ≤ S2x3072x2816.size a) ∧
  (∀ k0_t1 : Fin (k0_t1_loop v10 v21 v33 v45 v57 v69 v81 v93).trips, ∀ (k0_h6 : k0_cond6 v10 v21 v33 v45 v57 v69 v81 v93 k0_t1 = 1#1), ∀ a, (k0_off91 v10 v21 v33 v45 v57 v69 v81 v93 k0_t1) a + S1x1.size a ≤ S2x6.size a) ∧
  (∀ k0_t1 : Fin (k0_t1_loop v10 v21 v33 v45 v57 v69 v81 v93).trips, ∀ (k0_h6 : k0_cond6 v10 v21 v33 v45 v57 v69 v81 v93 k0_t1 = 1#1), ∀ a, (k0_off92 v10 v21 v33 v45 v57 v69 v81 v93 k0_t1) a + S1x256x2816.size a ≤ S2x3072x2816.size a) ∧
  (∀ k0_t1 : Fin (k0_t1_loop v10 v21 v33 v45 v57 v69 v81 v93).trips, ∀ (k0_h6 : k0_cond6 v10 v21 v33 v45 v57 v69 v81 v93 k0_t1 = 1#1), ∀ (hinb : ∀ a, (k0_off92 v10 v21 v33 v45 v57 v69 v81 v93 k0_t1) a + S1x256x2816.size a ≤ S2x3072x2816.size a), (Rect.unit (s := S2x3072x2816) (k0_off92 v10 v21 v33 v45 v57 v69 v81 v93 k0_t1) S1x256x2816.size hinb).WholeWords (EltTy.packing .i8)) ∧
  (∀ k0_t1 : Fin (k0_t1_loop v10 v21 v33 v45 v57 v69 v81 v93).trips, ∀ (k0_h6 : k0_cond6 v10 v21 v33 v45 v57 v69 v81 v93 k0_t1 = 1#1), ∀ a, (k0_off94 v10 v21 v33 v45 v57 v69 v81 v93 k0_t1) a + S1x256x2816.size a ≤ S2x3072x2816.size a) ∧
  (∀ k0_t1 : Fin (k0_t1_loop v10 v21 v33 v45 v57 v69 v81 v93).trips, ∀ (k0_h6 : k0_cond6 v10 v21 v33 v45 v57 v69 v81 v93 k0_t1 = 1#1), ∀ (hinb : ∀ a, (k0_off94 v10 v21 v33 v45 v57 v69 v81 v93 k0_t1) a + S1x256x2816.size a ≤ S2x3072x2816.size a), (Rect.unit (s := S2x3072x2816) (k0_off94 v10 v21 v33 v45 v57 v69 v81 v93 k0_t1) S1x256x2816.size hinb).WholeWords (EltTy.packing .i8)) ∧
  (∀ k0_t1 : Fin (k0_t1_loop v10 v21 v33 v45 v57 v69 v81 v93).trips, ∀ a, (k0_off96 v10 v21 v33 v45 v57 v69 v81 v93 k0_t1) a + S1x1.size a ≤ S2x6.size a) ∧
  (∀ k0_t1 : Fin (k0_t1_loop v10 v21 v33 v45 v57 v69 v81 v93).trips, ∀ a, (k0_off97 v10 v21 v33 v45 v57 v69 v81 v93 k0_t1) a + S1x256x2816.size a ≤ S2x3072x2816.size a) ∧
  (∀ k0_t1 : Fin (k0_t1_loop v10 v21 v33 v45 v57 v69 v81 v93).trips, ∀ (hinb : ∀ a, (k0_off97 v10 v21 v33 v45 v57 v69 v81 v93 k0_t1) a + S1x256x2816.size a ≤ S2x3072x2816.size a), (Rect.unit (s := S2x3072x2816) (k0_off97 v10 v21 v33 v45 v57 v69 v81 v93 k0_t1) S1x256x2816.size hinb).WholeWords (EltTy.packing .i8)) ∧
  (∀ k0_t1 : Fin (k0_t1_loop v10 v21 v33 v45 v57 v69 v81 v93).trips, ∀ a, (k0_off99 v10 v21 v33 v45 v57 v69 v81 v93 k0_t1) a + S1x256x2816.size a ≤ S2x3072x2816.size a) ∧
  (∀ k0_t1 : Fin (k0_t1_loop v10 v21 v33 v45 v57 v69 v81 v93).trips, ∀ (hinb : ∀ a, (k0_off99 v10 v21 v33 v45 v57 v69 v81 v93 k0_t1) a + S1x256x2816.size a ≤ S2x3072x2816.size a), (Rect.unit (s := S2x3072x2816) (k0_off99 v10 v21 v33 v45 v57 v69 v81 v93 k0_t1) S1x256x2816.size hinb).WholeWords (EltTy.packing .i8)) ∧
  (∀ k0_t1 : Fin (k0_t1_loop v10 v21 v33 v45 v57 v69 v81 v93).trips, ∀ a, (k0_off101 v10 v21 v33 v45 v57 v69 v81 v93 k0_t1) a + S1x256x2816.size a ≤ S2x3072x2816.size a) ∧
  (∀ k0_t1 : Fin (k0_t1_loop v10 v21 v33 v45 v57 v69 v81 v93).trips, ∀ a, (k0_off102 v10 v21 v33 v45 v57 v69 v81 v93 k0_t1) a + S1x256x2816.size a ≤ S2x3072x2816.size a) ∧
  (∀ k0_t1 : Fin (k0_t1_loop v10 v21 v33 v45 v57 v69 v81 v93).trips, ∀ (k0_h7 : k0_cond7 v10 v21 v33 v45 v57 v69 v81 v93 k0_t1 = 1#1), ∀ a, (k0_off105 v10 v21 v33 v45 v57 v69 v81 v93 k0_t1) a + S1x1.size a ≤ S2x6.size a) ∧
  (∀ k0_t1 : Fin (k0_t1_loop v10 v21 v33 v45 v57 v69 v81 v93).trips, ∀ (k0_h7 : k0_cond7 v10 v21 v33 v45 v57 v69 v81 v93 k0_t1 = 1#1), ∀ a, (k0_off106 v10 v21 v33 v45 v57 v69 v81 v93 k0_t1) a + S1x256x2816.size a ≤ S2x3072x2816.size a) ∧
  (∀ k0_t1 : Fin (k0_t1_loop v10 v21 v33 v45 v57 v69 v81 v93).trips, ∀ (k0_h7 : k0_cond7 v10 v21 v33 v45 v57 v69 v81 v93 k0_t1 = 1#1), ∀ (hinb : ∀ a, (k0_off106 v10 v21 v33 v45 v57 v69 v81 v93 k0_t1) a + S1x256x2816.size a ≤ S2x3072x2816.size a), (Rect.unit (s := S2x3072x2816) (k0_off106 v10 v21 v33 v45 v57 v69 v81 v93 k0_t1) S1x256x2816.size hinb).WholeWords (EltTy.packing .i8)) ∧
  (∀ k0_t1 : Fin (k0_t1_loop v10 v21 v33 v45 v57 v69 v81 v93).trips, ∀ (k0_h7 : k0_cond7 v10 v21 v33 v45 v57 v69 v81 v93 k0_t1 = 1#1), ∀ a, (k0_off108 v10 v21 v33 v45 v57 v69 v81 v93 k0_t1) a + S1x256x2816.size a ≤ S2x3072x2816.size a)
def k0_chk10_2 (v10 : BitVec 32) (v21 : BitVec 32) (v33 : BitVec 32) (v45 : BitVec 32) (v57 : BitVec 32) (v69 : BitVec 32) (v81 : BitVec 32) (v93 : BitVec 32) : Prop :=
  (∀ k0_t1 : Fin (k0_t1_loop v10 v21 v33 v45 v57 v69 v81 v93).trips, ∀ (k0_h7 : k0_cond7 v10 v21 v33 v45 v57 v69 v81 v93 k0_t1 = 1#1), ∀ (hinb : ∀ a, (k0_off108 v10 v21 v33 v45 v57 v69 v81 v93 k0_t1) a + S1x256x2816.size a ≤ S2x3072x2816.size a), (Rect.unit (s := S2x3072x2816) (k0_off108 v10 v21 v33 v45 v57 v69 v81 v93 k0_t1) S1x256x2816.size hinb).WholeWords (EltTy.packing .i8)) ∧
  (∀ k0_t1 : Fin (k0_t1_loop v10 v21 v33 v45 v57 v69 v81 v93).trips, ∀ a, (k0_off110 v10 v21 v33 v45 v57 v69 v81 v93 k0_t1) a + S1x1.size a ≤ S2x6.size a) ∧
  (∀ k0_t1 : Fin (k0_t1_loop v10 v21 v33 v45 v57 v69 v81 v93).trips, ∀ a, (k0_off111 v10 v21 v33 v45 v57 v69 v81 v93 k0_t1) a + S1x256x2816.size a ≤ S2x3072x2816.size a) ∧
  (∀ k0_t1 : Fin (k0_t1_loop v10 v21 v33 v45 v57 v69 v81 v93).trips, ∀ (hinb : ∀ a, (k0_off111 v10 v21 v33 v45 v57 v69 v81 v93 k0_t1) a + S1x256x2816.size a ≤ S2x3072x2816.size a), (Rect.unit (s := S2x3072x2816) (k0_off111 v10 v21 v33 v45 v57 v69 v81 v93 k0_t1) S1x256x2816.size hinb).WholeWords (EltTy.packing .i8)) ∧
  (∀ k0_t1 : Fin (k0_t1_loop v10 v21 v33 v45 v57 v69 v81 v93).trips, ∀ a, (k0_off113 v10 v21 v33 v45 v57 v69 v81 v93 k0_t1) a + S1x256x2816.size a ≤ S2x3072x2816.size a) ∧
  (∀ k0_t1 : Fin (k0_t1_loop v10 v21 v33 v45 v57 v69 v81 v93).trips, ∀ (hinb : ∀ a, (k0_off113 v10 v21 v33 v45 v57 v69 v81 v93 k0_t1) a + S1x256x2816.size a ≤ S2x3072x2816.size a), (Rect.unit (s := S2x3072x2816) (k0_off113 v10 v21 v33 v45 v57 v69 v81 v93 k0_t1) S1x256x2816.size hinb).WholeWords (EltTy.packing .i8)) ∧
  (∀ k0_t1 : Fin (k0_t1_loop v10 v21 v33 v45 v57 v69 v81 v93).trips, ∀ a, (k0_off115 v10 v21 v33 v45 v57 v69 v81 v93 k0_t1) a + S1x256x2816.size a ≤ S2x3072x2816.size a) ∧
  (∀ k0_t1 : Fin (k0_t1_loop v10 v21 v33 v45 v57 v69 v81 v93).trips, ∀ a, (k0_off116 v10 v21 v33 v45 v57 v69 v81 v93 k0_t1) a + S1x256x2816.size a ≤ S2x3072x2816.size a) ∧
  (∀ k0_t1 : Fin (k0_t1_loop v10 v21 v33 v45 v57 v69 v81 v93).trips, ∀ (k0_h8 : k0_cond8 v10 v21 v33 v45 v57 v69 v81 v93 k0_t1 = 1#1), ∀ a, (k0_off119 v10 v21 v33 v45 v57 v69 v81 v93 k0_t1) a + S1x1.size a ≤ S2x6.size a) ∧
  (∀ k0_t1 : Fin (k0_t1_loop v10 v21 v33 v45 v57 v69 v81 v93).trips, ∀ (k0_h8 : k0_cond8 v10 v21 v33 v45 v57 v69 v81 v93 k0_t1 = 1#1), ∀ a, (k0_off120 v10 v21 v33 v45 v57 v69 v81 v93 k0_t1) a + S1x256x2816.size a ≤ S2x3072x2816.size a) ∧
  (∀ k0_t1 : Fin (k0_t1_loop v10 v21 v33 v45 v57 v69 v81 v93).trips, ∀ (k0_h8 : k0_cond8 v10 v21 v33 v45 v57 v69 v81 v93 k0_t1 = 1#1), ∀ (hinb : ∀ a, (k0_off120 v10 v21 v33 v45 v57 v69 v81 v93 k0_t1) a + S1x256x2816.size a ≤ S2x3072x2816.size a), (Rect.unit (s := S2x3072x2816) (k0_off120 v10 v21 v33 v45 v57 v69 v81 v93 k0_t1) S1x256x2816.size hinb).WholeWords (EltTy.packing .i8)) ∧
  (∀ k0_t1 : Fin (k0_t1_loop v10 v21 v33 v45 v57 v69 v81 v93).trips, ∀ (k0_h8 : k0_cond8 v10 v21 v33 v45 v57 v69 v81 v93 k0_t1 = 1#1), ∀ a, (k0_off122 v10 v21 v33 v45 v57 v69 v81 v93 k0_t1) a + S1x256x2816.size a ≤ S2x3072x2816.size a) ∧
  (∀ k0_t1 : Fin (k0_t1_loop v10 v21 v33 v45 v57 v69 v81 v93).trips, ∀ (k0_h8 : k0_cond8 v10 v21 v33 v45 v57 v69 v81 v93 k0_t1 = 1#1), ∀ (hinb : ∀ a, (k0_off122 v10 v21 v33 v45 v57 v69 v81 v93 k0_t1) a + S1x256x2816.size a ≤ S2x3072x2816.size a), (Rect.unit (s := S2x3072x2816) (k0_off122 v10 v21 v33 v45 v57 v69 v81 v93 k0_t1) S1x256x2816.size hinb).WholeWords (EltTy.packing .i8)) ∧
  (∀ k0_t1 : Fin (k0_t1_loop v10 v21 v33 v45 v57 v69 v81 v93).trips, ∀ a, (k0_off124 v10 v21 v33 v45 v57 v69 v81 v93 k0_t1) a + S1x1.size a ≤ S2x2.size a) ∧
  (∀ k0_t1 : Fin (k0_t1_loop v10 v21 v33 v45 v57 v69 v81 v93).trips, ∀ a, (k0_off125 v10 v21 v33 v45 v57 v69 v81 v93 k0_t1) a + S1x1408x1536.size a ≤ S2x2816x1536.size a) ∧
  (∀ k0_t1 : Fin (k0_t1_loop v10 v21 v33 v45 v57 v69 v81 v93).trips, ∀ (hinb : ∀ a, (k0_off125 v10 v21 v33 v45 v57 v69 v81 v93 k0_t1) a + S1x1408x1536.size a ≤ S2x2816x1536.size a), (Rect.unit (s := S2x2816x1536) (k0_off125 v10 v21 v33 v45 v57 v69 v81 v93 k0_t1) S1x1408x1536.size hinb).WholeWords (EltTy.packing .i8)) ∧
  (∀ k0_t1 : Fin (k0_t1_loop v10 v21 v33 v45 v57 v69 v81 v93).trips, ∀ a, (k0_off127 v10 v21 v33 v45 v57 v69 v81 v93 k0_t1) a + S1x1408x1536.size a ≤ S2x2816x1536.size a) ∧
  (∀ k0_t1 : Fin (k0_t1_loop v10 v21 v33 v45 v57 v69 v81 v93).trips, ∀ (k0_h9 : k0_cond9 v10 v21 v33 v45 v57 v69 v81 v93 k0_t1 = 1#1), ∀ a, (k0_off129 v10 v21 v33 v45 v57 v69 v81 v93 k0_t1) a + S1x1.size a ≤ S2x2.size a) ∧
  (∀ k0_t1 : Fin (k0_t1_loop v10 v21 v33 v45 v57 v69 v81 v93).trips, ∀ (k0_h9 : k0_cond9 v10 v21 v33 v45 v57 v69 v81 v93 k0_t1 = 1#1), ∀ a, (k0_off130 v10 v21 v33 v45 v57 v69 v81 v93 k0_t1) a + S1x1408x1536.size a ≤ S2x2816x1536.size a) ∧
  (∀ k0_t1 : Fin (k0_t1_loop v10 v21 v33 v45 v57 v69 v81 v93).trips, ∀ (k0_h9 : k0_cond9 v10 v21 v33 v45 v57 v69 v81 v93 k0_t1 = 1#1), ∀ (hinb : ∀ a, (k0_off130 v10 v21 v33 v45 v57 v69 v81 v93 k0_t1) a + S1x1408x1536.size a ≤ S2x2816x1536.size a), (Rect.unit (s := S2x2816x1536) (k0_off130 v10 v21 v33 v45 v57 v69 v81 v93 k0_t1) S1x1408x1536.size hinb).WholeWords (EltTy.packing .i8)) ∧
  (∀ k0_t1 : Fin (k0_t1_loop v10 v21 v33 v45 v57 v69 v81 v93).trips, ∀ a, (k0_off132 v10 v21 v33 v45 v57 v69 v81 v93 k0_t1) a + S1x1.size a ≤ S2x2.size a) ∧
  (∀ k0_t1 : Fin (k0_t1_loop v10 v21 v33 v45 v57 v69 v81 v93).trips, ∀ a, (k0_off133 v10 v21 v33 v45 v57 v69 v81 v93 k0_t1) a + S1x1408x1536.size a ≤ S2x2816x1536.size a) ∧
  (∀ k0_t1 : Fin (k0_t1_loop v10 v21 v33 v45 v57 v69 v81 v93).trips, ∀ (hinb : ∀ a, (k0_off133 v10 v21 v33 v45 v57 v69 v81 v93 k0_t1) a + S1x1408x1536.size a ≤ S2x2816x1536.size a), (Rect.unit (s := S2x2816x1536) (k0_off133 v10 v21 v33 v45 v57 v69 v81 v93 k0_t1) S1x1408x1536.size hinb).WholeWords (EltTy.packing .i8)) ∧
  (∀ k0_t1 : Fin (k0_t1_loop v10 v21 v33 v45 v57 v69 v81 v93).trips, ∀ a, (k0_off135 v10 v21 v33 v45 v57 v69 v81 v93 k0_t1) a + S1x1408x1536.size a ≤ S2x2816x1536.size a) ∧
  (∀ k0_t1 : Fin (k0_t1_loop v10 v21 v33 v45 v57 v69 v81 v93).trips, ∀ (k0_h10 : k0_cond10 v10 v21 v33 v45 v57 v69 v81 v93 k0_t1 = 1#1), ∀ a, (k0_off137 v10 v21 v33 v45 v57 v69 v81 v93 k0_t1) a + S1x1.size a ≤ S2x2.size a) ∧
  (∀ k0_t1 : Fin (k0_t1_loop v10 v21 v33 v45 v57 v69 v81 v93).trips, ∀ (k0_h10 : k0_cond10 v10 v21 v33 v45 v57 v69 v81 v93 k0_t1 = 1#1), ∀ a, (k0_off138 v10 v21 v33 v45 v57 v69 v81 v93 k0_t1) a + S1x1408x1536.size a ≤ S2x2816x1536.size a) ∧
  (∀ k0_t1 : Fin (k0_t1_loop v10 v21 v33 v45 v57 v69 v81 v93).trips, ∀ (k0_h10 : k0_cond10 v10 v21 v33 v45 v57 v69 v81 v93 k0_t1 = 1#1), ∀ (hinb : ∀ a, (k0_off138 v10 v21 v33 v45 v57 v69 v81 v93 k0_t1) a + S1x1408x1536.size a ≤ S2x2816x1536.size a), (Rect.unit (s := S2x2816x1536) (k0_off138 v10 v21 v33 v45 v57 v69 v81 v93 k0_t1) S1x1408x1536.size hinb).WholeWords (EltTy.packing .i8)) ∧
  ((k0_t2_loop v10 v21 v33 v45 v57 v69 v81 v93).OK) ∧
  (∀ k0_t2 : Fin (k0_t2_loop v10 v21 v33 v45 v57 v69 v81 v93).trips, ∀ a, (k0_off140 v10 v21 v33 v45 v57 v69 v81 v93 k0_t2) a + S1.size a ≤ S9.size a) ∧
  (∀ k0_t2 : Fin (k0_t2_loop v10 v21 v33 v45 v57 v69 v81 v93).trips, ∀ a, (k0_off141 v10 v21 v33 v45 v57 v69 v81 v93 k0_t2) a + S1.size a ≤ S9.size a) ∧
  (∀ k0_t2 : Fin (k0_t2_loop v10 v21 v33 v45 v57 v69 v81 v93).trips, ∀ a, (k0_off142 v10 v21 v33 v45 v57 v69 v81 v93 k0_t2) a + S1x1.size a ≤ S2x6.size a) ∧
  (∀ k0_t2 : Fin (k0_t2_loop v10 v21 v33 v45 v57 v69 v81 v93).trips, ∀ a, (k0_off143 v10 v21 v33 v45 v57 v69 v81 v93 k0_t2) a + S1x256x2816.size a ≤ S2x3072x2816.size a)
def k0_chk10_3 (v10 : BitVec 32) (v21 : BitVec 32) (v33 : BitVec 32) (v45 : BitVec 32) (v57 : BitVec 32) (v69 : BitVec 32) (v81 : BitVec 32) (v93 : BitVec 32) : Prop :=
  (∀ k0_t2 : Fin (k0_t2_loop v10 v21 v33 v45 v57 v69 v81 v93).trips, ∀ (hinb : ∀ a, (k0_off143 v10 v21 v33 v45 v57 v69 v81 v93 k0_t2) a + S1x256x2816.size a ≤ S2x3072x2816.size a), (Rect.unit (s := S2x3072x2816) (k0_off143 v10 v21 v33 v45 v57 v69 v81 v93 k0_t2) S1x256x2816.size hinb).WholeWords (EltTy.packing .i8)) ∧
  (∀ k0_t2 : Fin (k0_t2_loop v10 v21 v33 v45 v57 v69 v81 v93).trips, ∀ a, (k0_off145 v10 v21 v33 v45 v57 v69 v81 v93 k0_t2) a + S1x1.size a ≤ S2x6.size a) ∧
  (∀ k0_t2 : Fin (k0_t2_loop v10 v21 v33 v45 v57 v69 v81 v93).trips, ∀ a, (k0_off146 v10 v21 v33 v45 v57 v69 v81 v93 k0_t2) a + S1x256x2816.size a ≤ S2x3072x2816.size a) ∧
  (∀ k0_t2 : Fin (k0_t2_loop v10 v21 v33 v45 v57 v69 v81 v93).trips, ∀ (hinb : ∀ a, (k0_off146 v10 v21 v33 v45 v57 v69 v81 v93 k0_t2) a + S1x256x2816.size a ≤ S2x3072x2816.size a), (Rect.unit (s := S2x3072x2816) (k0_off146 v10 v21 v33 v45 v57 v69 v81 v93 k0_t2) S1x256x2816.size hinb).WholeWords (EltTy.packing .i8)) ∧
  (∀ k0_t2 : Fin (k0_t2_loop v10 v21 v33 v45 v57 v69 v81 v93).trips, ∀ a, (k0_off148 v10 v21 v33 v45 v57 v69 v81 v93 k0_t2) a + S1x256x2816.size a ≤ S2x3072x2816.size a) ∧
  (∀ k0_t2 : Fin (k0_t2_loop v10 v21 v33 v45 v57 v69 v81 v93).trips, ∀ a, (k0_off149 v10 v21 v33 v45 v57 v69 v81 v93 k0_t2) a + S1x256x2816.size a ≤ S2x3072x2816.size a) ∧
  (∀ k0_t2 : Fin (k0_t2_loop v10 v21 v33 v45 v57 v69 v81 v93).trips, ∀ (k0_h11 : k0_cond11 v10 v21 v33 v45 v57 v69 v81 v93 k0_t2 = 1#1), ∀ a, (k0_off152 v10 v21 v33 v45 v57 v69 v81 v93 k0_t2) a + S1x1.size a ≤ S2x6.size a) ∧
  (∀ k0_t2 : Fin (k0_t2_loop v10 v21 v33 v45 v57 v69 v81 v93).trips, ∀ (k0_h11 : k0_cond11 v10 v21 v33 v45 v57 v69 v81 v93 k0_t2 = 1#1), ∀ a, (k0_off153 v10 v21 v33 v45 v57 v69 v81 v93 k0_t2) a + S1x256x2816.size a ≤ S2x3072x2816.size a) ∧
  (∀ k0_t2 : Fin (k0_t2_loop v10 v21 v33 v45 v57 v69 v81 v93).trips, ∀ (k0_h11 : k0_cond11 v10 v21 v33 v45 v57 v69 v81 v93 k0_t2 = 1#1), ∀ (hinb : ∀ a, (k0_off153 v10 v21 v33 v45 v57 v69 v81 v93 k0_t2) a + S1x256x2816.size a ≤ S2x3072x2816.size a), (Rect.unit (s := S2x3072x2816) (k0_off153 v10 v21 v33 v45 v57 v69 v81 v93 k0_t2) S1x256x2816.size hinb).WholeWords (EltTy.packing .i8)) ∧
  (∀ k0_t2 : Fin (k0_t2_loop v10 v21 v33 v45 v57 v69 v81 v93).trips, ∀ (k0_h11 : k0_cond11 v10 v21 v33 v45 v57 v69 v81 v93 k0_t2 = 1#1), ∀ a, (k0_off155 v10 v21 v33 v45 v57 v69 v81 v93 k0_t2) a + S1x1.size a ≤ S2x6.size a) ∧
  (∀ k0_t2 : Fin (k0_t2_loop v10 v21 v33 v45 v57 v69 v81 v93).trips, ∀ (k0_h11 : k0_cond11 v10 v21 v33 v45 v57 v69 v81 v93 k0_t2 = 1#1), ∀ a, (k0_off156 v10 v21 v33 v45 v57 v69 v81 v93 k0_t2) a + S1x256x2816.size a ≤ S2x3072x2816.size a) ∧
  (∀ k0_t2 : Fin (k0_t2_loop v10 v21 v33 v45 v57 v69 v81 v93).trips, ∀ (k0_h11 : k0_cond11 v10 v21 v33 v45 v57 v69 v81 v93 k0_t2 = 1#1), ∀ (hinb : ∀ a, (k0_off156 v10 v21 v33 v45 v57 v69 v81 v93 k0_t2) a + S1x256x2816.size a ≤ S2x3072x2816.size a), (Rect.unit (s := S2x3072x2816) (k0_off156 v10 v21 v33 v45 v57 v69 v81 v93 k0_t2) S1x256x2816.size hinb).WholeWords (EltTy.packing .i8)) ∧
  (∀ k0_t2 : Fin (k0_t2_loop v10 v21 v33 v45 v57 v69 v81 v93).trips, ∀ a, (k0_off158 v10 v21 v33 v45 v57 v69 v81 v93 k0_t2) a + S1x1.size a ≤ S2x6.size a) ∧
  (∀ k0_t2 : Fin (k0_t2_loop v10 v21 v33 v45 v57 v69 v81 v93).trips, ∀ a, (k0_off159 v10 v21 v33 v45 v57 v69 v81 v93 k0_t2) a + S1x256x2816.size a ≤ S2x3072x2816.size a) ∧
  (∀ k0_t2 : Fin (k0_t2_loop v10 v21 v33 v45 v57 v69 v81 v93).trips, ∀ (hinb : ∀ a, (k0_off159 v10 v21 v33 v45 v57 v69 v81 v93 k0_t2) a + S1x256x2816.size a ≤ S2x3072x2816.size a), (Rect.unit (s := S2x3072x2816) (k0_off159 v10 v21 v33 v45 v57 v69 v81 v93 k0_t2) S1x256x2816.size hinb).WholeWords (EltTy.packing .i8)) ∧
  (∀ k0_t2 : Fin (k0_t2_loop v10 v21 v33 v45 v57 v69 v81 v93).trips, ∀ a, (k0_off161 v10 v21 v33 v45 v57 v69 v81 v93 k0_t2) a + S1x256x2816.size a ≤ S2x3072x2816.size a) ∧
  (∀ k0_t2 : Fin (k0_t2_loop v10 v21 v33 v45 v57 v69 v81 v93).trips, ∀ (hinb : ∀ a, (k0_off161 v10 v21 v33 v45 v57 v69 v81 v93 k0_t2) a + S1x256x2816.size a ≤ S2x3072x2816.size a), (Rect.unit (s := S2x3072x2816) (k0_off161 v10 v21 v33 v45 v57 v69 v81 v93 k0_t2) S1x256x2816.size hinb).WholeWords (EltTy.packing .i8)) ∧
  (∀ k0_t2 : Fin (k0_t2_loop v10 v21 v33 v45 v57 v69 v81 v93).trips, ∀ a, (k0_off163 v10 v21 v33 v45 v57 v69 v81 v93 k0_t2) a + S1x256x2816.size a ≤ S2x3072x2816.size a) ∧
  (∀ k0_t2 : Fin (k0_t2_loop v10 v21 v33 v45 v57 v69 v81 v93).trips, ∀ a, (k0_off164 v10 v21 v33 v45 v57 v69 v81 v93 k0_t2) a + S1x256x2816.size a ≤ S2x3072x2816.size a) ∧
  (∀ k0_t2 : Fin (k0_t2_loop v10 v21 v33 v45 v57 v69 v81 v93).trips, ∀ (k0_h12 : k0_cond12 v10 v21 v33 v45 v57 v69 v81 v93 k0_t2 = 1#1), ∀ a, (k0_off167 v10 v21 v33 v45 v57 v69 v81 v93 k0_t2) a + S1x1.size a ≤ S2x6.size a) ∧
  (∀ k0_t2 : Fin (k0_t2_loop v10 v21 v33 v45 v57 v69 v81 v93).trips, ∀ (k0_h12 : k0_cond12 v10 v21 v33 v45 v57 v69 v81 v93 k0_t2 = 1#1), ∀ a, (k0_off168 v10 v21 v33 v45 v57 v69 v81 v93 k0_t2) a + S1x256x2816.size a ≤ S2x3072x2816.size a) ∧
  (∀ k0_t2 : Fin (k0_t2_loop v10 v21 v33 v45 v57 v69 v81 v93).trips, ∀ (k0_h12 : k0_cond12 v10 v21 v33 v45 v57 v69 v81 v93 k0_t2 = 1#1), ∀ (hinb : ∀ a, (k0_off168 v10 v21 v33 v45 v57 v69 v81 v93 k0_t2) a + S1x256x2816.size a ≤ S2x3072x2816.size a), (Rect.unit (s := S2x3072x2816) (k0_off168 v10 v21 v33 v45 v57 v69 v81 v93 k0_t2) S1x256x2816.size hinb).WholeWords (EltTy.packing .i8)) ∧
  (∀ k0_t2 : Fin (k0_t2_loop v10 v21 v33 v45 v57 v69 v81 v93).trips, ∀ (k0_h12 : k0_cond12 v10 v21 v33 v45 v57 v69 v81 v93 k0_t2 = 1#1), ∀ a, (k0_off170 v10 v21 v33 v45 v57 v69 v81 v93 k0_t2) a + S1x256x2816.size a ≤ S2x3072x2816.size a) ∧
  (∀ k0_t2 : Fin (k0_t2_loop v10 v21 v33 v45 v57 v69 v81 v93).trips, ∀ (k0_h12 : k0_cond12 v10 v21 v33 v45 v57 v69 v81 v93 k0_t2 = 1#1), ∀ (hinb : ∀ a, (k0_off170 v10 v21 v33 v45 v57 v69 v81 v93 k0_t2) a + S1x256x2816.size a ≤ S2x3072x2816.size a), (Rect.unit (s := S2x3072x2816) (k0_off170 v10 v21 v33 v45 v57 v69 v81 v93 k0_t2) S1x256x2816.size hinb).WholeWords (EltTy.packing .i8)) ∧
  (∀ k0_t2 : Fin (k0_t2_loop v10 v21 v33 v45 v57 v69 v81 v93).trips, ∀ a, (k0_off172 v10 v21 v33 v45 v57 v69 v81 v93 k0_t2) a + S1x1.size a ≤ S2x6.size a) ∧
  (∀ k0_t2 : Fin (k0_t2_loop v10 v21 v33 v45 v57 v69 v81 v93).trips, ∀ a, (k0_off173 v10 v21 v33 v45 v57 v69 v81 v93 k0_t2) a + S1x256x2816.size a ≤ S2x3072x2816.size a) ∧
  (∀ k0_t2 : Fin (k0_t2_loop v10 v21 v33 v45 v57 v69 v81 v93).trips, ∀ (hinb : ∀ a, (k0_off173 v10 v21 v33 v45 v57 v69 v81 v93 k0_t2) a + S1x256x2816.size a ≤ S2x3072x2816.size a), (Rect.unit (s := S2x3072x2816) (k0_off173 v10 v21 v33 v45 v57 v69 v81 v93 k0_t2) S1x256x2816.size hinb).WholeWords (EltTy.packing .i8)) ∧
  (∀ k0_t2 : Fin (k0_t2_loop v10 v21 v33 v45 v57 v69 v81 v93).trips, ∀ a, (k0_off175 v10 v21 v33 v45 v57 v69 v81 v93 k0_t2) a + S1x256x2816.size a ≤ S2x3072x2816.size a) ∧
  (∀ k0_t2 : Fin (k0_t2_loop v10 v21 v33 v45 v57 v69 v81 v93).trips, ∀ (hinb : ∀ a, (k0_off175 v10 v21 v33 v45 v57 v69 v81 v93 k0_t2) a + S1x256x2816.size a ≤ S2x3072x2816.size a), (Rect.unit (s := S2x3072x2816) (k0_off175 v10 v21 v33 v45 v57 v69 v81 v93 k0_t2) S1x256x2816.size hinb).WholeWords (EltTy.packing .i8)) ∧
  (∀ k0_t2 : Fin (k0_t2_loop v10 v21 v33 v45 v57 v69 v81 v93).trips, ∀ a, (k0_off177 v10 v21 v33 v45 v57 v69 v81 v93 k0_t2) a + S1x256x2816.size a ≤ S2x3072x2816.size a) ∧
  (∀ k0_t2 : Fin (k0_t2_loop v10 v21 v33 v45 v57 v69 v81 v93).trips, ∀ a, (k0_off178 v10 v21 v33 v45 v57 v69 v81 v93 k0_t2) a + S1x256x2816.size a ≤ S2x3072x2816.size a) ∧
  (∀ k0_t2 : Fin (k0_t2_loop v10 v21 v33 v45 v57 v69 v81 v93).trips, ∀ (k0_h13 : k0_cond13 v10 v21 v33 v45 v57 v69 v81 v93 k0_t2 = 1#1), ∀ a, (k0_off181 v10 v21 v33 v45 v57 v69 v81 v93 k0_t2) a + S1x1.size a ≤ S2x6.size a)
def k0_chk10_4 (v10 : BitVec 32) (v21 : BitVec 32) (v33 : BitVec 32) (v45 : BitVec 32) (v57 : BitVec 32) (v69 : BitVec 32) (v81 : BitVec 32) (v93 : BitVec 32) : Prop :=
  (∀ k0_t2 : Fin (k0_t2_loop v10 v21 v33 v45 v57 v69 v81 v93).trips, ∀ (k0_h13 : k0_cond13 v10 v21 v33 v45 v57 v69 v81 v93 k0_t2 = 1#1), ∀ a, (k0_off182 v10 v21 v33 v45 v57 v69 v81 v93 k0_t2) a + S1x256x2816.size a ≤ S2x3072x2816.size a) ∧
  (∀ k0_t2 : Fin (k0_t2_loop v10 v21 v33 v45 v57 v69 v81 v93).trips, ∀ (k0_h13 : k0_cond13 v10 v21 v33 v45 v57 v69 v81 v93 k0_t2 = 1#1), ∀ (hinb : ∀ a, (k0_off182 v10 v21 v33 v45 v57 v69 v81 v93 k0_t2) a + S1x256x2816.size a ≤ S2x3072x2816.size a), (Rect.unit (s := S2x3072x2816) (k0_off182 v10 v21 v33 v45 v57 v69 v81 v93 k0_t2) S1x256x2816.size hinb).WholeWords (EltTy.packing .i8)) ∧
  (∀ k0_t2 : Fin (k0_t2_loop v10 v21 v33 v45 v57 v69 v81 v93).trips, ∀ (k0_h13 : k0_cond13 v10 v21 v33 v45 v57 v69 v81 v93 k0_t2 = 1#1), ∀ a, (k0_off184 v10 v21 v33 v45 v57 v69 v81 v93 k0_t2) a + S1x256x2816.size a ≤ S2x3072x2816.size a) ∧
  (∀ k0_t2 : Fin (k0_t2_loop v10 v21 v33 v45 v57 v69 v81 v93).trips, ∀ (k0_h13 : k0_cond13 v10 v21 v33 v45 v57 v69 v81 v93 k0_t2 = 1#1), ∀ (hinb : ∀ a, (k0_off184 v10 v21 v33 v45 v57 v69 v81 v93 k0_t2) a + S1x256x2816.size a ≤ S2x3072x2816.size a), (Rect.unit (s := S2x3072x2816) (k0_off184 v10 v21 v33 v45 v57 v69 v81 v93 k0_t2) S1x256x2816.size hinb).WholeWords (EltTy.packing .i8)) ∧
  (∀ k0_t2 : Fin (k0_t2_loop v10 v21 v33 v45 v57 v69 v81 v93).trips, ∀ a, (k0_off186 v10 v21 v33 v45 v57 v69 v81 v93 k0_t2) a + S1x1.size a ≤ S2x6.size a) ∧
  (∀ k0_t2 : Fin (k0_t2_loop v10 v21 v33 v45 v57 v69 v81 v93).trips, ∀ a, (k0_off187 v10 v21 v33 v45 v57 v69 v81 v93 k0_t2) a + S1x256x2816.size a ≤ S2x3072x2816.size a) ∧
  (∀ k0_t2 : Fin (k0_t2_loop v10 v21 v33 v45 v57 v69 v81 v93).trips, ∀ (hinb : ∀ a, (k0_off187 v10 v21 v33 v45 v57 v69 v81 v93 k0_t2) a + S1x256x2816.size a ≤ S2x3072x2816.size a), (Rect.unit (s := S2x3072x2816) (k0_off187 v10 v21 v33 v45 v57 v69 v81 v93 k0_t2) S1x256x2816.size hinb).WholeWords (EltTy.packing .i8)) ∧
  (∀ k0_t2 : Fin (k0_t2_loop v10 v21 v33 v45 v57 v69 v81 v93).trips, ∀ a, (k0_off189 v10 v21 v33 v45 v57 v69 v81 v93 k0_t2) a + S1x256x2816.size a ≤ S2x3072x2816.size a) ∧
  (∀ k0_t2 : Fin (k0_t2_loop v10 v21 v33 v45 v57 v69 v81 v93).trips, ∀ (hinb : ∀ a, (k0_off189 v10 v21 v33 v45 v57 v69 v81 v93 k0_t2) a + S1x256x2816.size a ≤ S2x3072x2816.size a), (Rect.unit (s := S2x3072x2816) (k0_off189 v10 v21 v33 v45 v57 v69 v81 v93 k0_t2) S1x256x2816.size hinb).WholeWords (EltTy.packing .i8)) ∧
  (∀ k0_t2 : Fin (k0_t2_loop v10 v21 v33 v45 v57 v69 v81 v93).trips, ∀ a, (k0_off191 v10 v21 v33 v45 v57 v69 v81 v93 k0_t2) a + S1x256x2816.size a ≤ S2x3072x2816.size a) ∧
  (∀ k0_t2 : Fin (k0_t2_loop v10 v21 v33 v45 v57 v69 v81 v93).trips, ∀ a, (k0_off192 v10 v21 v33 v45 v57 v69 v81 v93 k0_t2) a + S1x256x2816.size a ≤ S2x3072x2816.size a) ∧
  (∀ k0_t2 : Fin (k0_t2_loop v10 v21 v33 v45 v57 v69 v81 v93).trips, ∀ (k0_h14 : k0_cond14 v10 v21 v33 v45 v57 v69 v81 v93 k0_t2 = 1#1), ∀ a, (k0_off195 v10 v21 v33 v45 v57 v69 v81 v93 k0_t2) a + S1x1.size a ≤ S2x6.size a) ∧
  (∀ k0_t2 : Fin (k0_t2_loop v10 v21 v33 v45 v57 v69 v81 v93).trips, ∀ (k0_h14 : k0_cond14 v10 v21 v33 v45 v57 v69 v81 v93 k0_t2 = 1#1), ∀ a, (k0_off196 v10 v21 v33 v45 v57 v69 v81 v93 k0_t2) a + S1x256x2816.size a ≤ S2x3072x2816.size a) ∧
  (∀ k0_t2 : Fin (k0_t2_loop v10 v21 v33 v45 v57 v69 v81 v93).trips, ∀ (k0_h14 : k0_cond14 v10 v21 v33 v45 v57 v69 v81 v93 k0_t2 = 1#1), ∀ (hinb : ∀ a, (k0_off196 v10 v21 v33 v45 v57 v69 v81 v93 k0_t2) a + S1x256x2816.size a ≤ S2x3072x2816.size a), (Rect.unit (s := S2x3072x2816) (k0_off196 v10 v21 v33 v45 v57 v69 v81 v93 k0_t2) S1x256x2816.size hinb).WholeWords (EltTy.packing .i8)) ∧
  (∀ k0_t2 : Fin (k0_t2_loop v10 v21 v33 v45 v57 v69 v81 v93).trips, ∀ (k0_h14 : k0_cond14 v10 v21 v33 v45 v57 v69 v81 v93 k0_t2 = 1#1), ∀ a, (k0_off198 v10 v21 v33 v45 v57 v69 v81 v93 k0_t2) a + S1x256x2816.size a ≤ S2x3072x2816.size a) ∧
  (∀ k0_t2 : Fin (k0_t2_loop v10 v21 v33 v45 v57 v69 v81 v93).trips, ∀ (k0_h14 : k0_cond14 v10 v21 v33 v45 v57 v69 v81 v93 k0_t2 = 1#1), ∀ (hinb : ∀ a, (k0_off198 v10 v21 v33 v45 v57 v69 v81 v93 k0_t2) a + S1x256x2816.size a ≤ S2x3072x2816.size a), (Rect.unit (s := S2x3072x2816) (k0_off198 v10 v21 v33 v45 v57 v69 v81 v93 k0_t2) S1x256x2816.size hinb).WholeWords (EltTy.packing .i8)) ∧
  (∀ k0_t2 : Fin (k0_t2_loop v10 v21 v33 v45 v57 v69 v81 v93).trips, ∀ a, (k0_off200 v10 v21 v33 v45 v57 v69 v81 v93 k0_t2) a + S1x1.size a ≤ S2x6.size a) ∧
  (∀ k0_t2 : Fin (k0_t2_loop v10 v21 v33 v45 v57 v69 v81 v93).trips, ∀ a, (k0_off201 v10 v21 v33 v45 v57 v69 v81 v93 k0_t2) a + S1x256x2816.size a ≤ S2x3072x2816.size a) ∧
  (∀ k0_t2 : Fin (k0_t2_loop v10 v21 v33 v45 v57 v69 v81 v93).trips, ∀ (hinb : ∀ a, (k0_off201 v10 v21 v33 v45 v57 v69 v81 v93 k0_t2) a + S1x256x2816.size a ≤ S2x3072x2816.size a), (Rect.unit (s := S2x3072x2816) (k0_off201 v10 v21 v33 v45 v57 v69 v81 v93 k0_t2) S1x256x2816.size hinb).WholeWords (EltTy.packing .i8)) ∧
  (∀ k0_t2 : Fin (k0_t2_loop v10 v21 v33 v45 v57 v69 v81 v93).trips, ∀ a, (k0_off203 v10 v21 v33 v45 v57 v69 v81 v93 k0_t2) a + S1x256x2816.size a ≤ S2x3072x2816.size a) ∧
  (∀ k0_t2 : Fin (k0_t2_loop v10 v21 v33 v45 v57 v69 v81 v93).trips, ∀ (hinb : ∀ a, (k0_off203 v10 v21 v33 v45 v57 v69 v81 v93 k0_t2) a + S1x256x2816.size a ≤ S2x3072x2816.size a), (Rect.unit (s := S2x3072x2816) (k0_off203 v10 v21 v33 v45 v57 v69 v81 v93 k0_t2) S1x256x2816.size hinb).WholeWords (EltTy.packing .i8)) ∧
  (∀ k0_t2 : Fin (k0_t2_loop v10 v21 v33 v45 v57 v69 v81 v93).trips, ∀ a, (k0_off205 v10 v21 v33 v45 v57 v69 v81 v93 k0_t2) a + S1x256x2816.size a ≤ S2x3072x2816.size a) ∧
  (∀ k0_t2 : Fin (k0_t2_loop v10 v21 v33 v45 v57 v69 v81 v93).trips, ∀ a, (k0_off206 v10 v21 v33 v45 v57 v69 v81 v93 k0_t2) a + S1x256x2816.size a ≤ S2x3072x2816.size a) ∧
  (∀ k0_t2 : Fin (k0_t2_loop v10 v21 v33 v45 v57 v69 v81 v93).trips, ∀ (k0_h15 : k0_cond15 v10 v21 v33 v45 v57 v69 v81 v93 k0_t2 = 1#1), ∀ a, (k0_off209 v10 v21 v33 v45 v57 v69 v81 v93 k0_t2) a + S1x1.size a ≤ S2x6.size a) ∧
  (∀ k0_t2 : Fin (k0_t2_loop v10 v21 v33 v45 v57 v69 v81 v93).trips, ∀ (k0_h15 : k0_cond15 v10 v21 v33 v45 v57 v69 v81 v93 k0_t2 = 1#1), ∀ a, (k0_off210 v10 v21 v33 v45 v57 v69 v81 v93 k0_t2) a + S1x256x2816.size a ≤ S2x3072x2816.size a) ∧
  (∀ k0_t2 : Fin (k0_t2_loop v10 v21 v33 v45 v57 v69 v81 v93).trips, ∀ (k0_h15 : k0_cond15 v10 v21 v33 v45 v57 v69 v81 v93 k0_t2 = 1#1), ∀ (hinb : ∀ a, (k0_off210 v10 v21 v33 v45 v57 v69 v81 v93 k0_t2) a + S1x256x2816.size a ≤ S2x3072x2816.size a), (Rect.unit (s := S2x3072x2816) (k0_off210 v10 v21 v33 v45 v57 v69 v81 v93 k0_t2) S1x256x2816.size hinb).WholeWords (EltTy.packing .i8)) ∧
  (∀ k0_t2 : Fin (k0_t2_loop v10 v21 v33 v45 v57 v69 v81 v93).trips, ∀ (k0_h15 : k0_cond15 v10 v21 v33 v45 v57 v69 v81 v93 k0_t2 = 1#1), ∀ a, (k0_off212 v10 v21 v33 v45 v57 v69 v81 v93 k0_t2) a + S1x256x2816.size a ≤ S2x3072x2816.size a) ∧
  (∀ k0_t2 : Fin (k0_t2_loop v10 v21 v33 v45 v57 v69 v81 v93).trips, ∀ (k0_h15 : k0_cond15 v10 v21 v33 v45 v57 v69 v81 v93 k0_t2 = 1#1), ∀ (hinb : ∀ a, (k0_off212 v10 v21 v33 v45 v57 v69 v81 v93 k0_t2) a + S1x256x2816.size a ≤ S2x3072x2816.size a), (Rect.unit (s := S2x3072x2816) (k0_off212 v10 v21 v33 v45 v57 v69 v81 v93 k0_t2) S1x256x2816.size hinb).WholeWords (EltTy.packing .i8)) ∧
  (∀ k0_t2 : Fin (k0_t2_loop v10 v21 v33 v45 v57 v69 v81 v93).trips, ∀ a, (k0_off214 v10 v21 v33 v45 v57 v69 v81 v93 k0_t2) a + S1x1.size a ≤ S2x6.size a) ∧
  (∀ k0_t2 : Fin (k0_t2_loop v10 v21 v33 v45 v57 v69 v81 v93).trips, ∀ a, (k0_off215 v10 v21 v33 v45 v57 v69 v81 v93 k0_t2) a + S1x256x2816.size a ≤ S2x3072x2816.size a) ∧
  (∀ k0_t2 : Fin (k0_t2_loop v10 v21 v33 v45 v57 v69 v81 v93).trips, ∀ (hinb : ∀ a, (k0_off215 v10 v21 v33 v45 v57 v69 v81 v93 k0_t2) a + S1x256x2816.size a ≤ S2x3072x2816.size a), (Rect.unit (s := S2x3072x2816) (k0_off215 v10 v21 v33 v45 v57 v69 v81 v93 k0_t2) S1x256x2816.size hinb).WholeWords (EltTy.packing .i8)) ∧
  (∀ k0_t2 : Fin (k0_t2_loop v10 v21 v33 v45 v57 v69 v81 v93).trips, ∀ a, (k0_off217 v10 v21 v33 v45 v57 v69 v81 v93 k0_t2) a + S1x256x2816.size a ≤ S2x3072x2816.size a)
def k0_chk10_5 (v10 : BitVec 32) (v21 : BitVec 32) (v33 : BitVec 32) (v45 : BitVec 32) (v57 : BitVec 32) (v69 : BitVec 32) (v81 : BitVec 32) (v93 : BitVec 32) : Prop :=
  (∀ k0_t2 : Fin (k0_t2_loop v10 v21 v33 v45 v57 v69 v81 v93).trips, ∀ (hinb : ∀ a, (k0_off217 v10 v21 v33 v45 v57 v69 v81 v93 k0_t2) a + S1x256x2816.size a ≤ S2x3072x2816.size a), (Rect.unit (s := S2x3072x2816) (k0_off217 v10 v21 v33 v45 v57 v69 v81 v93 k0_t2) S1x256x2816.size hinb).WholeWords (EltTy.packing .i8)) ∧
  (∀ k0_t2 : Fin (k0_t2_loop v10 v21 v33 v45 v57 v69 v81 v93).trips, ∀ a, (k0_off219 v10 v21 v33 v45 v57 v69 v81 v93 k0_t2) a + S1x256x2816.size a ≤ S2x3072x2816.size a) ∧
  (∀ k0_t2 : Fin (k0_t2_loop v10 v21 v33 v45 v57 v69 v81 v93).trips, ∀ a, (k0_off220 v10 v21 v33 v45 v57 v69 v81 v93 k0_t2) a + S1x256x2816.size a ≤ S2x3072x2816.size a) ∧
  (∀ k0_t2 : Fin (k0_t2_loop v10 v21 v33 v45 v57 v69 v81 v93).trips, ∀ (k0_h16 : k0_cond16 v10 v21 v33 v45 v57 v69 v81 v93 k0_t2 = 1#1), ∀ a, (k0_off223 v10 v21 v33 v45 v57 v69 v81 v93 k0_t2) a + S1x1.size a ≤ S2x6.size a) ∧
  (∀ k0_t2 : Fin (k0_t2_loop v10 v21 v33 v45 v57 v69 v81 v93).trips, ∀ (k0_h16 : k0_cond16 v10 v21 v33 v45 v57 v69 v81 v93 k0_t2 = 1#1), ∀ a, (k0_off224 v10 v21 v33 v45 v57 v69 v81 v93 k0_t2) a + S1x256x2816.size a ≤ S2x3072x2816.size a) ∧
  (∀ k0_t2 : Fin (k0_t2_loop v10 v21 v33 v45 v57 v69 v81 v93).trips, ∀ (k0_h16 : k0_cond16 v10 v21 v33 v45 v57 v69 v81 v93 k0_t2 = 1#1), ∀ (hinb : ∀ a, (k0_off224 v10 v21 v33 v45 v57 v69 v81 v93 k0_t2) a + S1x256x2816.size a ≤ S2x3072x2816.size a), (Rect.unit (s := S2x3072x2816) (k0_off224 v10 v21 v33 v45 v57 v69 v81 v93 k0_t2) S1x256x2816.size hinb).WholeWords (EltTy.packing .i8)) ∧
  (∀ k0_t2 : Fin (k0_t2_loop v10 v21 v33 v45 v57 v69 v81 v93).trips, ∀ (k0_h16 : k0_cond16 v10 v21 v33 v45 v57 v69 v81 v93 k0_t2 = 1#1), ∀ a, (k0_off226 v10 v21 v33 v45 v57 v69 v81 v93 k0_t2) a + S1x256x2816.size a ≤ S2x3072x2816.size a) ∧
  (∀ k0_t2 : Fin (k0_t2_loop v10 v21 v33 v45 v57 v69 v81 v93).trips, ∀ (k0_h16 : k0_cond16 v10 v21 v33 v45 v57 v69 v81 v93 k0_t2 = 1#1), ∀ (hinb : ∀ a, (k0_off226 v10 v21 v33 v45 v57 v69 v81 v93 k0_t2) a + S1x256x2816.size a ≤ S2x3072x2816.size a), (Rect.unit (s := S2x3072x2816) (k0_off226 v10 v21 v33 v45 v57 v69 v81 v93 k0_t2) S1x256x2816.size hinb).WholeWords (EltTy.packing .i8)) ∧
  (∀ k0_t2 : Fin (k0_t2_loop v10 v21 v33 v45 v57 v69 v81 v93).trips, ∀ a, (k0_off228 v10 v21 v33 v45 v57 v69 v81 v93 k0_t2) a + S1x1.size a ≤ S2x2.size a) ∧
  (∀ k0_t2 : Fin (k0_t2_loop v10 v21 v33 v45 v57 v69 v81 v93).trips, ∀ a, (k0_off229 v10 v21 v33 v45 v57 v69 v81 v93 k0_t2) a + S1x1408x1536.size a ≤ S2x2816x1536.size a) ∧
  (∀ k0_t2 : Fin (k0_t2_loop v10 v21 v33 v45 v57 v69 v81 v93).trips, ∀ (hinb : ∀ a, (k0_off229 v10 v21 v33 v45 v57 v69 v81 v93 k0_t2) a + S1x1408x1536.size a ≤ S2x2816x1536.size a), (Rect.unit (s := S2x2816x1536) (k0_off229 v10 v21 v33 v45 v57 v69 v81 v93 k0_t2) S1x1408x1536.size hinb).WholeWords (EltTy.packing .i8)) ∧
  (∀ k0_t2 : Fin (k0_t2_loop v10 v21 v33 v45 v57 v69 v81 v93).trips, ∀ a, (k0_off231 v10 v21 v33 v45 v57 v69 v81 v93 k0_t2) a + S1x1408x1536.size a ≤ S2x2816x1536.size a) ∧
  (∀ k0_t2 : Fin (k0_t2_loop v10 v21 v33 v45 v57 v69 v81 v93).trips, ∀ (k0_h17 : k0_cond17 v10 v21 v33 v45 v57 v69 v81 v93 k0_t2 = 1#1), ∀ a, (k0_off233 v10 v21 v33 v45 v57 v69 v81 v93 k0_t2) a + S1x1.size a ≤ S2x2.size a) ∧
  (∀ k0_t2 : Fin (k0_t2_loop v10 v21 v33 v45 v57 v69 v81 v93).trips, ∀ (k0_h17 : k0_cond17 v10 v21 v33 v45 v57 v69 v81 v93 k0_t2 = 1#1), ∀ a, (k0_off234 v10 v21 v33 v45 v57 v69 v81 v93 k0_t2) a + S1x1408x1536.size a ≤ S2x2816x1536.size a) ∧
  (∀ k0_t2 : Fin (k0_t2_loop v10 v21 v33 v45 v57 v69 v81 v93).trips, ∀ (k0_h17 : k0_cond17 v10 v21 v33 v45 v57 v69 v81 v93 k0_t2 = 1#1), ∀ (hinb : ∀ a, (k0_off234 v10 v21 v33 v45 v57 v69 v81 v93 k0_t2) a + S1x1408x1536.size a ≤ S2x2816x1536.size a), (Rect.unit (s := S2x2816x1536) (k0_off234 v10 v21 v33 v45 v57 v69 v81 v93 k0_t2) S1x1408x1536.size hinb).WholeWords (EltTy.packing .i8)) ∧
  (∀ k0_t2 : Fin (k0_t2_loop v10 v21 v33 v45 v57 v69 v81 v93).trips, ∀ a, (k0_off236 v10 v21 v33 v45 v57 v69 v81 v93 k0_t2) a + S1x1.size a ≤ S2x2.size a) ∧
  (∀ k0_t2 : Fin (k0_t2_loop v10 v21 v33 v45 v57 v69 v81 v93).trips, ∀ a, (k0_off237 v10 v21 v33 v45 v57 v69 v81 v93 k0_t2) a + S1x1408x1536.size a ≤ S2x2816x1536.size a) ∧
  (∀ k0_t2 : Fin (k0_t2_loop v10 v21 v33 v45 v57 v69 v81 v93).trips, ∀ (hinb : ∀ a, (k0_off237 v10 v21 v33 v45 v57 v69 v81 v93 k0_t2) a + S1x1408x1536.size a ≤ S2x2816x1536.size a), (Rect.unit (s := S2x2816x1536) (k0_off237 v10 v21 v33 v45 v57 v69 v81 v93 k0_t2) S1x1408x1536.size hinb).WholeWords (EltTy.packing .i8)) ∧
  (∀ k0_t2 : Fin (k0_t2_loop v10 v21 v33 v45 v57 v69 v81 v93).trips, ∀ a, (k0_off239 v10 v21 v33 v45 v57 v69 v81 v93 k0_t2) a + S1x1408x1536.size a ≤ S2x2816x1536.size a) ∧
  (∀ k0_t2 : Fin (k0_t2_loop v10 v21 v33 v45 v57 v69 v81 v93).trips, ∀ (k0_h18 : k0_cond18 v10 v21 v33 v45 v57 v69 v81 v93 k0_t2 = 1#1), ∀ a, (k0_off241 v10 v21 v33 v45 v57 v69 v81 v93 k0_t2) a + S1x1.size a ≤ S2x2.size a) ∧
  (∀ k0_t2 : Fin (k0_t2_loop v10 v21 v33 v45 v57 v69 v81 v93).trips, ∀ (k0_h18 : k0_cond18 v10 v21 v33 v45 v57 v69 v81 v93 k0_t2 = 1#1), ∀ a, (k0_off242 v10 v21 v33 v45 v57 v69 v81 v93 k0_t2) a + S1x1408x1536.size a ≤ S2x2816x1536.size a) ∧
  (∀ k0_t2 : Fin (k0_t2_loop v10 v21 v33 v45 v57 v69 v81 v93).trips, ∀ (k0_h18 : k0_cond18 v10 v21 v33 v45 v57 v69 v81 v93 k0_t2 = 1#1), ∀ (hinb : ∀ a, (k0_off242 v10 v21 v33 v45 v57 v69 v81 v93 k0_t2) a + S1x1408x1536.size a ≤ S2x2816x1536.size a), (Rect.unit (s := S2x2816x1536) (k0_off242 v10 v21 v33 v45 v57 v69 v81 v93 k0_t2) S1x1408x1536.size hinb).WholeWords (EltTy.packing .i8))
def k0_chk10 (v10 : BitVec 32) (v21 : BitVec 32) (v33 : BitVec 32) (v45 : BitVec 32) (v57 : BitVec 32) (v69 : BitVec 32) (v81 : BitVec 32) (v93 : BitVec 32) : Prop :=
  k0_chk10_0 v10 v21 v33 v45 v57 v69 v81 v93 ∧
  k0_chk10_1 v10 v21 v33 v45 v57 v69 v81 v93 ∧
  k0_chk10_2 v10 v21 v33 v45 v57 v69 v81 v93 ∧
  k0_chk10_3 v10 v21 v33 v45 v57 v69 v81 v93 ∧
  k0_chk10_4 v10 v21 v33 v45 v57 v69 v81 v93 ∧
  k0_chk10_5 v10 v21 v33 v45 v57 v69 v81 v93
theorem k0_t1_ok : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93), (k0_t1_loop v10 v21 v33 v45 v57 v69 v81 v93).OK := fun v10 v21 v33 v45 v57 v69 v81 v93 k0_hw10 => k0_hw10.1.1
theorem k0_off36_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off36 v10 v21 v33 v45 v57 v69 v81 v93 k0_t1) a + S1.size a ≤ S9.size a := fun v10 v21 v33 v45 v57 v69 v81 v93 k0_hw10 k0_t1 => k0_hw10.1.2.1 k0_t1
theorem k0_off37_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off37 v10 v21 v33 v45 v57 v69 v81 v93 k0_t1) a + S1.size a ≤ S9.size a := fun v10 v21 v33 v45 v57 v69 v81 v93 k0_hw10 k0_t1 => k0_hw10.1.2.2.1 k0_t1
theorem k0_off38_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off38 v10 v21 v33 v45 v57 v69 v81 v93 k0_t1) a + S1x1.size a ≤ S2x6.size a := fun v10 v21 v33 v45 v57 v69 v81 v93 k0_hw10 k0_t1 => k0_hw10.1.2.2.2.1 k0_t1
theorem k0_off39_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off39 v10 v21 v33 v45 v57 v69 v81 v93 k0_t1) a + S1x256x2816.size a ≤ S2x3072x2816.size a := fun v10 v21 v33 v45 v57 v69 v81 v93 k0_hw10 k0_t1 => k0_hw10.1.2.2.2.2.1 k0_t1
theorem k0_off39_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), (Rect.unit (s := S2x3072x2816) (k0_off39 v10 v21 v33 v45 v57 v69 v81 v93 k0_t1) S1x256x2816.size (k0_off39_inb v10 v21 v33 v45 v57 v69 v81 v93 k0_hw10 k0_t1)).WholeWords (EltTy.packing .i8) := fun v10 v21 v33 v45 v57 v69 v81 v93 k0_hw10 k0_t1 => k0_hw10.1.2.2.2.2.2.1 k0_t1 (k0_off39_inb v10 v21 v33 v45 v57 v69 v81 v93 k0_hw10 k0_t1)
theorem k0_off41_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off41 v10 v21 v33 v45 v57 v69 v81 v93 k0_t1) a + S1x1.size a ≤ S2x6.size a := fun v10 v21 v33 v45 v57 v69 v81 v93 k0_hw10 k0_t1 => k0_hw10.1.2.2.2.2.2.2.1 k0_t1
theorem k0_off42_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off42 v10 v21 v33 v45 v57 v69 v81 v93 k0_t1) a + S1x256x2816.size a ≤ S2x3072x2816.size a := fun v10 v21 v33 v45 v57 v69 v81 v93 k0_hw10 k0_t1 => k0_hw10.1.2.2.2.2.2.2.2.1 k0_t1
theorem k0_off42_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), (Rect.unit (s := S2x3072x2816) (k0_off42 v10 v21 v33 v45 v57 v69 v81 v93 k0_t1) S1x256x2816.size (k0_off42_inb v10 v21 v33 v45 v57 v69 v81 v93 k0_hw10 k0_t1)).WholeWords (EltTy.packing .i8) := fun v10 v21 v33 v45 v57 v69 v81 v93 k0_hw10 k0_t1 => k0_hw10.1.2.2.2.2.2.2.2.2.1 k0_t1 (k0_off42_inb v10 v21 v33 v45 v57 v69 v81 v93 k0_hw10 k0_t1)
theorem k0_off44_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off44 v10 v21 v33 v45 v57 v69 v81 v93 k0_t1) a + S1x256x2816.size a ≤ S2x3072x2816.size a := fun v10 v21 v33 v45 v57 v69 v81 v93 k0_hw10 k0_t1 => k0_hw10.1.2.2.2.2.2.2.2.2.2.1 k0_t1
theorem k0_off45_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off45 v10 v21 v33 v45 v57 v69 v81 v93 k0_t1) a + S1x256x2816.size a ≤ S2x3072x2816.size a := fun v10 v21 v33 v45 v57 v69 v81 v93 k0_hw10 k0_t1 => k0_hw10.1.2.2.2.2.2.2.2.2.2.2.1 k0_t1
theorem k0_off48_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h3 : k0_cond3 v10 v21 v33 v45 v57 v69 v81 v93 k0_t1 = 1#1), ∀ a, (k0_off48 v10 v21 v33 v45 v57 v69 v81 v93 k0_t1) a + S1x1.size a ≤ S2x6.size a := fun v10 v21 v33 v45 v57 v69 v81 v93 k0_hw10 k0_t1 k0_h3 => k0_hw10.1.2.2.2.2.2.2.2.2.2.2.2.1 k0_t1 k0_h3
theorem k0_off49_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h3 : k0_cond3 v10 v21 v33 v45 v57 v69 v81 v93 k0_t1 = 1#1), ∀ a, (k0_off49 v10 v21 v33 v45 v57 v69 v81 v93 k0_t1) a + S1x256x2816.size a ≤ S2x3072x2816.size a := fun v10 v21 v33 v45 v57 v69 v81 v93 k0_hw10 k0_t1 k0_h3 => k0_hw10.1.2.2.2.2.2.2.2.2.2.2.2.2.1 k0_t1 k0_h3
theorem k0_off49_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h3 : k0_cond3 v10 v21 v33 v45 v57 v69 v81 v93 k0_t1 = 1#1), (Rect.unit (s := S2x3072x2816) (k0_off49 v10 v21 v33 v45 v57 v69 v81 v93 k0_t1) S1x256x2816.size (k0_off49_inb v10 v21 v33 v45 v57 v69 v81 v93 k0_hw10 k0_t1 k0_h3)).WholeWords (EltTy.packing .i8) := fun v10 v21 v33 v45 v57 v69 v81 v93 k0_hw10 k0_t1 k0_h3 => k0_hw10.1.2.2.2.2.2.2.2.2.2.2.2.2.2.1 k0_t1 k0_h3 (k0_off49_inb v10 v21 v33 v45 v57 v69 v81 v93 k0_hw10 k0_t1 k0_h3)
theorem k0_off51_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h3 : k0_cond3 v10 v21 v33 v45 v57 v69 v81 v93 k0_t1 = 1#1), ∀ a, (k0_off51 v10 v21 v33 v45 v57 v69 v81 v93 k0_t1) a + S1x1.size a ≤ S2x6.size a := fun v10 v21 v33 v45 v57 v69 v81 v93 k0_hw10 k0_t1 k0_h3 => k0_hw10.1.2.2.2.2.2.2.2.2.2.2.2.2.2.2.1 k0_t1 k0_h3
theorem k0_off52_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h3 : k0_cond3 v10 v21 v33 v45 v57 v69 v81 v93 k0_t1 = 1#1), ∀ a, (k0_off52 v10 v21 v33 v45 v57 v69 v81 v93 k0_t1) a + S1x256x2816.size a ≤ S2x3072x2816.size a := fun v10 v21 v33 v45 v57 v69 v81 v93 k0_hw10 k0_t1 k0_h3 => k0_hw10.1.2.2.2.2.2.2.2.2.2.2.2.2.2.2.2.1 k0_t1 k0_h3
theorem k0_off52_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h3 : k0_cond3 v10 v21 v33 v45 v57 v69 v81 v93 k0_t1 = 1#1), (Rect.unit (s := S2x3072x2816) (k0_off52 v10 v21 v33 v45 v57 v69 v81 v93 k0_t1) S1x256x2816.size (k0_off52_inb v10 v21 v33 v45 v57 v69 v81 v93 k0_hw10 k0_t1 k0_h3)).WholeWords (EltTy.packing .i8) := fun v10 v21 v33 v45 v57 v69 v81 v93 k0_hw10 k0_t1 k0_h3 => k0_hw10.1.2.2.2.2.2.2.2.2.2.2.2.2.2.2.2.2.1 k0_t1 k0_h3 (k0_off52_inb v10 v21 v33 v45 v57 v69 v81 v93 k0_hw10 k0_t1 k0_h3)
theorem k0_off54_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off54 v10 v21 v33 v45 v57 v69 v81 v93 k0_t1) a + S1x1.size a ≤ S2x6.size a := fun v10 v21 v33 v45 v57 v69 v81 v93 k0_hw10 k0_t1 => k0_hw10.1.2.2.2.2.2.2.2.2.2.2.2.2.2.2.2.2.2.1 k0_t1
theorem k0_off55_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off55 v10 v21 v33 v45 v57 v69 v81 v93 k0_t1) a + S1x256x2816.size a ≤ S2x3072x2816.size a := fun v10 v21 v33 v45 v57 v69 v81 v93 k0_hw10 k0_t1 => k0_hw10.1.2.2.2.2.2.2.2.2.2.2.2.2.2.2.2.2.2.2.1 k0_t1
theorem k0_off55_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), (Rect.unit (s := S2x3072x2816) (k0_off55 v10 v21 v33 v45 v57 v69 v81 v93 k0_t1) S1x256x2816.size (k0_off55_inb v10 v21 v33 v45 v57 v69 v81 v93 k0_hw10 k0_t1)).WholeWords (EltTy.packing .i8) := fun v10 v21 v33 v45 v57 v69 v81 v93 k0_hw10 k0_t1 => k0_hw10.1.2.2.2.2.2.2.2.2.2.2.2.2.2.2.2.2.2.2.2.1 k0_t1 (k0_off55_inb v10 v21 v33 v45 v57 v69 v81 v93 k0_hw10 k0_t1)
theorem k0_off57_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off57 v10 v21 v33 v45 v57 v69 v81 v93 k0_t1) a + S1x256x2816.size a ≤ S2x3072x2816.size a := fun v10 v21 v33 v45 v57 v69 v81 v93 k0_hw10 k0_t1 => k0_hw10.1.2.2.2.2.2.2.2.2.2.2.2.2.2.2.2.2.2.2.2.2.1 k0_t1
theorem k0_off57_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), (Rect.unit (s := S2x3072x2816) (k0_off57 v10 v21 v33 v45 v57 v69 v81 v93 k0_t1) S1x256x2816.size (k0_off57_inb v10 v21 v33 v45 v57 v69 v81 v93 k0_hw10 k0_t1)).WholeWords (EltTy.packing .i8) := fun v10 v21 v33 v45 v57 v69 v81 v93 k0_hw10 k0_t1 => k0_hw10.1.2.2.2.2.2.2.2.2.2.2.2.2.2.2.2.2.2.2.2.2.2.1 k0_t1 (k0_off57_inb v10 v21 v33 v45 v57 v69 v81 v93 k0_hw10 k0_t1)
theorem k0_off59_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off59 v10 v21 v33 v45 v57 v69 v81 v93 k0_t1) a + S1x256x2816.size a ≤ S2x3072x2816.size a := fun v10 v21 v33 v45 v57 v69 v81 v93 k0_hw10 k0_t1 => k0_hw10.1.2.2.2.2.2.2.2.2.2.2.2.2.2.2.2.2.2.2.2.2.2.2.1 k0_t1
theorem k0_off60_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off60 v10 v21 v33 v45 v57 v69 v81 v93 k0_t1) a + S1x256x2816.size a ≤ S2x3072x2816.size a := fun v10 v21 v33 v45 v57 v69 v81 v93 k0_hw10 k0_t1 => k0_hw10.1.2.2.2.2.2.2.2.2.2.2.2.2.2.2.2.2.2.2.2.2.2.2.2.1 k0_t1
theorem k0_off63_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h4 : k0_cond4 v10 v21 v33 v45 v57 v69 v81 v93 k0_t1 = 1#1), ∀ a, (k0_off63 v10 v21 v33 v45 v57 v69 v81 v93 k0_t1) a + S1x1.size a ≤ S2x6.size a := fun v10 v21 v33 v45 v57 v69 v81 v93 k0_hw10 k0_t1 k0_h4 => k0_hw10.1.2.2.2.2.2.2.2.2.2.2.2.2.2.2.2.2.2.2.2.2.2.2.2.2.1 k0_t1 k0_h4
theorem k0_off64_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h4 : k0_cond4 v10 v21 v33 v45 v57 v69 v81 v93 k0_t1 = 1#1), ∀ a, (k0_off64 v10 v21 v33 v45 v57 v69 v81 v93 k0_t1) a + S1x256x2816.size a ≤ S2x3072x2816.size a := fun v10 v21 v33 v45 v57 v69 v81 v93 k0_hw10 k0_t1 k0_h4 => k0_hw10.1.2.2.2.2.2.2.2.2.2.2.2.2.2.2.2.2.2.2.2.2.2.2.2.2.2.1 k0_t1 k0_h4
theorem k0_off64_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h4 : k0_cond4 v10 v21 v33 v45 v57 v69 v81 v93 k0_t1 = 1#1), (Rect.unit (s := S2x3072x2816) (k0_off64 v10 v21 v33 v45 v57 v69 v81 v93 k0_t1) S1x256x2816.size (k0_off64_inb v10 v21 v33 v45 v57 v69 v81 v93 k0_hw10 k0_t1 k0_h4)).WholeWords (EltTy.packing .i8) := fun v10 v21 v33 v45 v57 v69 v81 v93 k0_hw10 k0_t1 k0_h4 => k0_hw10.1.2.2.2.2.2.2.2.2.2.2.2.2.2.2.2.2.2.2.2.2.2.2.2.2.2.2.1 k0_t1 k0_h4 (k0_off64_inb v10 v21 v33 v45 v57 v69 v81 v93 k0_hw10 k0_t1 k0_h4)
theorem k0_off66_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h4 : k0_cond4 v10 v21 v33 v45 v57 v69 v81 v93 k0_t1 = 1#1), ∀ a, (k0_off66 v10 v21 v33 v45 v57 v69 v81 v93 k0_t1) a + S1x256x2816.size a ≤ S2x3072x2816.size a := fun v10 v21 v33 v45 v57 v69 v81 v93 k0_hw10 k0_t1 k0_h4 => k0_hw10.1.2.2.2.2.2.2.2.2.2.2.2.2.2.2.2.2.2.2.2.2.2.2.2.2.2.2.2.1 k0_t1 k0_h4
theorem k0_off66_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h4 : k0_cond4 v10 v21 v33 v45 v57 v69 v81 v93 k0_t1 = 1#1), (Rect.unit (s := S2x3072x2816) (k0_off66 v10 v21 v33 v45 v57 v69 v81 v93 k0_t1) S1x256x2816.size (k0_off66_inb v10 v21 v33 v45 v57 v69 v81 v93 k0_hw10 k0_t1 k0_h4)).WholeWords (EltTy.packing .i8) := fun v10 v21 v33 v45 v57 v69 v81 v93 k0_hw10 k0_t1 k0_h4 => k0_hw10.1.2.2.2.2.2.2.2.2.2.2.2.2.2.2.2.2.2.2.2.2.2.2.2.2.2.2.2.2.1 k0_t1 k0_h4 (k0_off66_inb v10 v21 v33 v45 v57 v69 v81 v93 k0_hw10 k0_t1 k0_h4)
theorem k0_off68_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off68 v10 v21 v33 v45 v57 v69 v81 v93 k0_t1) a + S1x1.size a ≤ S2x6.size a := fun v10 v21 v33 v45 v57 v69 v81 v93 k0_hw10 k0_t1 => k0_hw10.1.2.2.2.2.2.2.2.2.2.2.2.2.2.2.2.2.2.2.2.2.2.2.2.2.2.2.2.2.2.1 k0_t1
theorem k0_off69_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off69 v10 v21 v33 v45 v57 v69 v81 v93 k0_t1) a + S1x256x2816.size a ≤ S2x3072x2816.size a := fun v10 v21 v33 v45 v57 v69 v81 v93 k0_hw10 k0_t1 => k0_hw10.1.2.2.2.2.2.2.2.2.2.2.2.2.2.2.2.2.2.2.2.2.2.2.2.2.2.2.2.2.2.2.1 k0_t1
theorem k0_off69_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), (Rect.unit (s := S2x3072x2816) (k0_off69 v10 v21 v33 v45 v57 v69 v81 v93 k0_t1) S1x256x2816.size (k0_off69_inb v10 v21 v33 v45 v57 v69 v81 v93 k0_hw10 k0_t1)).WholeWords (EltTy.packing .i8) := fun v10 v21 v33 v45 v57 v69 v81 v93 k0_hw10 k0_t1 => k0_hw10.1.2.2.2.2.2.2.2.2.2.2.2.2.2.2.2.2.2.2.2.2.2.2.2.2.2.2.2.2.2.2.2 k0_t1 (k0_off69_inb v10 v21 v33 v45 v57 v69 v81 v93 k0_hw10 k0_t1)
theorem k0_off71_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off71 v10 v21 v33 v45 v57 v69 v81 v93 k0_t1) a + S1x256x2816.size a ≤ S2x3072x2816.size a := fun v10 v21 v33 v45 v57 v69 v81 v93 k0_hw10 k0_t1 => k0_hw10.2.1.1 k0_t1
theorem k0_off71_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), (Rect.unit (s := S2x3072x2816) (k0_off71 v10 v21 v33 v45 v57 v69 v81 v93 k0_t1) S1x256x2816.size (k0_off71_inb v10 v21 v33 v45 v57 v69 v81 v93 k0_hw10 k0_t1)).WholeWords (EltTy.packing .i8) := fun v10 v21 v33 v45 v57 v69 v81 v93 k0_hw10 k0_t1 => k0_hw10.2.1.2.1 k0_t1 (k0_off71_inb v10 v21 v33 v45 v57 v69 v81 v93 k0_hw10 k0_t1)
theorem k0_off73_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off73 v10 v21 v33 v45 v57 v69 v81 v93 k0_t1) a + S1x256x2816.size a ≤ S2x3072x2816.size a := fun v10 v21 v33 v45 v57 v69 v81 v93 k0_hw10 k0_t1 => k0_hw10.2.1.2.2.1 k0_t1
theorem k0_off74_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off74 v10 v21 v33 v45 v57 v69 v81 v93 k0_t1) a + S1x256x2816.size a ≤ S2x3072x2816.size a := fun v10 v21 v33 v45 v57 v69 v81 v93 k0_hw10 k0_t1 => k0_hw10.2.1.2.2.2.1 k0_t1
theorem k0_off77_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h5 : k0_cond5 v10 v21 v33 v45 v57 v69 v81 v93 k0_t1 = 1#1), ∀ a, (k0_off77 v10 v21 v33 v45 v57 v69 v81 v93 k0_t1) a + S1x1.size a ≤ S2x6.size a := fun v10 v21 v33 v45 v57 v69 v81 v93 k0_hw10 k0_t1 k0_h5 => k0_hw10.2.1.2.2.2.2.1 k0_t1 k0_h5
theorem k0_off78_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h5 : k0_cond5 v10 v21 v33 v45 v57 v69 v81 v93 k0_t1 = 1#1), ∀ a, (k0_off78 v10 v21 v33 v45 v57 v69 v81 v93 k0_t1) a + S1x256x2816.size a ≤ S2x3072x2816.size a := fun v10 v21 v33 v45 v57 v69 v81 v93 k0_hw10 k0_t1 k0_h5 => k0_hw10.2.1.2.2.2.2.2.1 k0_t1 k0_h5
theorem k0_off78_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h5 : k0_cond5 v10 v21 v33 v45 v57 v69 v81 v93 k0_t1 = 1#1), (Rect.unit (s := S2x3072x2816) (k0_off78 v10 v21 v33 v45 v57 v69 v81 v93 k0_t1) S1x256x2816.size (k0_off78_inb v10 v21 v33 v45 v57 v69 v81 v93 k0_hw10 k0_t1 k0_h5)).WholeWords (EltTy.packing .i8) := fun v10 v21 v33 v45 v57 v69 v81 v93 k0_hw10 k0_t1 k0_h5 => k0_hw10.2.1.2.2.2.2.2.2.1 k0_t1 k0_h5 (k0_off78_inb v10 v21 v33 v45 v57 v69 v81 v93 k0_hw10 k0_t1 k0_h5)
theorem k0_off80_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h5 : k0_cond5 v10 v21 v33 v45 v57 v69 v81 v93 k0_t1 = 1#1), ∀ a, (k0_off80 v10 v21 v33 v45 v57 v69 v81 v93 k0_t1) a + S1x256x2816.size a ≤ S2x3072x2816.size a := fun v10 v21 v33 v45 v57 v69 v81 v93 k0_hw10 k0_t1 k0_h5 => k0_hw10.2.1.2.2.2.2.2.2.2.1 k0_t1 k0_h5
theorem k0_off80_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h5 : k0_cond5 v10 v21 v33 v45 v57 v69 v81 v93 k0_t1 = 1#1), (Rect.unit (s := S2x3072x2816) (k0_off80 v10 v21 v33 v45 v57 v69 v81 v93 k0_t1) S1x256x2816.size (k0_off80_inb v10 v21 v33 v45 v57 v69 v81 v93 k0_hw10 k0_t1 k0_h5)).WholeWords (EltTy.packing .i8) := fun v10 v21 v33 v45 v57 v69 v81 v93 k0_hw10 k0_t1 k0_h5 => k0_hw10.2.1.2.2.2.2.2.2.2.2.1 k0_t1 k0_h5 (k0_off80_inb v10 v21 v33 v45 v57 v69 v81 v93 k0_hw10 k0_t1 k0_h5)
theorem k0_off82_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off82 v10 v21 v33 v45 v57 v69 v81 v93 k0_t1) a + S1x1.size a ≤ S2x6.size a := fun v10 v21 v33 v45 v57 v69 v81 v93 k0_hw10 k0_t1 => k0_hw10.2.1.2.2.2.2.2.2.2.2.2.1 k0_t1
theorem k0_off83_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off83 v10 v21 v33 v45 v57 v69 v81 v93 k0_t1) a + S1x256x2816.size a ≤ S2x3072x2816.size a := fun v10 v21 v33 v45 v57 v69 v81 v93 k0_hw10 k0_t1 => k0_hw10.2.1.2.2.2.2.2.2.2.2.2.2.1 k0_t1
theorem k0_off83_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), (Rect.unit (s := S2x3072x2816) (k0_off83 v10 v21 v33 v45 v57 v69 v81 v93 k0_t1) S1x256x2816.size (k0_off83_inb v10 v21 v33 v45 v57 v69 v81 v93 k0_hw10 k0_t1)).WholeWords (EltTy.packing .i8) := fun v10 v21 v33 v45 v57 v69 v81 v93 k0_hw10 k0_t1 => k0_hw10.2.1.2.2.2.2.2.2.2.2.2.2.2.1 k0_t1 (k0_off83_inb v10 v21 v33 v45 v57 v69 v81 v93 k0_hw10 k0_t1)
theorem k0_off85_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off85 v10 v21 v33 v45 v57 v69 v81 v93 k0_t1) a + S1x256x2816.size a ≤ S2x3072x2816.size a := fun v10 v21 v33 v45 v57 v69 v81 v93 k0_hw10 k0_t1 => k0_hw10.2.1.2.2.2.2.2.2.2.2.2.2.2.2.1 k0_t1
theorem k0_off85_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), (Rect.unit (s := S2x3072x2816) (k0_off85 v10 v21 v33 v45 v57 v69 v81 v93 k0_t1) S1x256x2816.size (k0_off85_inb v10 v21 v33 v45 v57 v69 v81 v93 k0_hw10 k0_t1)).WholeWords (EltTy.packing .i8) := fun v10 v21 v33 v45 v57 v69 v81 v93 k0_hw10 k0_t1 => k0_hw10.2.1.2.2.2.2.2.2.2.2.2.2.2.2.2.1 k0_t1 (k0_off85_inb v10 v21 v33 v45 v57 v69 v81 v93 k0_hw10 k0_t1)
theorem k0_off87_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off87 v10 v21 v33 v45 v57 v69 v81 v93 k0_t1) a + S1x256x2816.size a ≤ S2x3072x2816.size a := fun v10 v21 v33 v45 v57 v69 v81 v93 k0_hw10 k0_t1 => k0_hw10.2.1.2.2.2.2.2.2.2.2.2.2.2.2.2.2.1 k0_t1
theorem k0_off88_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off88 v10 v21 v33 v45 v57 v69 v81 v93 k0_t1) a + S1x256x2816.size a ≤ S2x3072x2816.size a := fun v10 v21 v33 v45 v57 v69 v81 v93 k0_hw10 k0_t1 => k0_hw10.2.1.2.2.2.2.2.2.2.2.2.2.2.2.2.2.2.1 k0_t1
theorem k0_off91_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h6 : k0_cond6 v10 v21 v33 v45 v57 v69 v81 v93 k0_t1 = 1#1), ∀ a, (k0_off91 v10 v21 v33 v45 v57 v69 v81 v93 k0_t1) a + S1x1.size a ≤ S2x6.size a := fun v10 v21 v33 v45 v57 v69 v81 v93 k0_hw10 k0_t1 k0_h6 => k0_hw10.2.1.2.2.2.2.2.2.2.2.2.2.2.2.2.2.2.2.1 k0_t1 k0_h6
theorem k0_off92_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h6 : k0_cond6 v10 v21 v33 v45 v57 v69 v81 v93 k0_t1 = 1#1), ∀ a, (k0_off92 v10 v21 v33 v45 v57 v69 v81 v93 k0_t1) a + S1x256x2816.size a ≤ S2x3072x2816.size a := fun v10 v21 v33 v45 v57 v69 v81 v93 k0_hw10 k0_t1 k0_h6 => k0_hw10.2.1.2.2.2.2.2.2.2.2.2.2.2.2.2.2.2.2.2.1 k0_t1 k0_h6
theorem k0_off92_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h6 : k0_cond6 v10 v21 v33 v45 v57 v69 v81 v93 k0_t1 = 1#1), (Rect.unit (s := S2x3072x2816) (k0_off92 v10 v21 v33 v45 v57 v69 v81 v93 k0_t1) S1x256x2816.size (k0_off92_inb v10 v21 v33 v45 v57 v69 v81 v93 k0_hw10 k0_t1 k0_h6)).WholeWords (EltTy.packing .i8) := fun v10 v21 v33 v45 v57 v69 v81 v93 k0_hw10 k0_t1 k0_h6 => k0_hw10.2.1.2.2.2.2.2.2.2.2.2.2.2.2.2.2.2.2.2.2.1 k0_t1 k0_h6 (k0_off92_inb v10 v21 v33 v45 v57 v69 v81 v93 k0_hw10 k0_t1 k0_h6)
theorem k0_off94_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h6 : k0_cond6 v10 v21 v33 v45 v57 v69 v81 v93 k0_t1 = 1#1), ∀ a, (k0_off94 v10 v21 v33 v45 v57 v69 v81 v93 k0_t1) a + S1x256x2816.size a ≤ S2x3072x2816.size a := fun v10 v21 v33 v45 v57 v69 v81 v93 k0_hw10 k0_t1 k0_h6 => k0_hw10.2.1.2.2.2.2.2.2.2.2.2.2.2.2.2.2.2.2.2.2.2.1 k0_t1 k0_h6
theorem k0_off94_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h6 : k0_cond6 v10 v21 v33 v45 v57 v69 v81 v93 k0_t1 = 1#1), (Rect.unit (s := S2x3072x2816) (k0_off94 v10 v21 v33 v45 v57 v69 v81 v93 k0_t1) S1x256x2816.size (k0_off94_inb v10 v21 v33 v45 v57 v69 v81 v93 k0_hw10 k0_t1 k0_h6)).WholeWords (EltTy.packing .i8) := fun v10 v21 v33 v45 v57 v69 v81 v93 k0_hw10 k0_t1 k0_h6 => k0_hw10.2.1.2.2.2.2.2.2.2.2.2.2.2.2.2.2.2.2.2.2.2.2.1 k0_t1 k0_h6 (k0_off94_inb v10 v21 v33 v45 v57 v69 v81 v93 k0_hw10 k0_t1 k0_h6)
theorem k0_off96_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off96 v10 v21 v33 v45 v57 v69 v81 v93 k0_t1) a + S1x1.size a ≤ S2x6.size a := fun v10 v21 v33 v45 v57 v69 v81 v93 k0_hw10 k0_t1 => k0_hw10.2.1.2.2.2.2.2.2.2.2.2.2.2.2.2.2.2.2.2.2.2.2.2.1 k0_t1
theorem k0_off97_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off97 v10 v21 v33 v45 v57 v69 v81 v93 k0_t1) a + S1x256x2816.size a ≤ S2x3072x2816.size a := fun v10 v21 v33 v45 v57 v69 v81 v93 k0_hw10 k0_t1 => k0_hw10.2.1.2.2.2.2.2.2.2.2.2.2.2.2.2.2.2.2.2.2.2.2.2.2.1 k0_t1
theorem k0_off97_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), (Rect.unit (s := S2x3072x2816) (k0_off97 v10 v21 v33 v45 v57 v69 v81 v93 k0_t1) S1x256x2816.size (k0_off97_inb v10 v21 v33 v45 v57 v69 v81 v93 k0_hw10 k0_t1)).WholeWords (EltTy.packing .i8) := fun v10 v21 v33 v45 v57 v69 v81 v93 k0_hw10 k0_t1 => k0_hw10.2.1.2.2.2.2.2.2.2.2.2.2.2.2.2.2.2.2.2.2.2.2.2.2.2.1 k0_t1 (k0_off97_inb v10 v21 v33 v45 v57 v69 v81 v93 k0_hw10 k0_t1)
theorem k0_off99_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off99 v10 v21 v33 v45 v57 v69 v81 v93 k0_t1) a + S1x256x2816.size a ≤ S2x3072x2816.size a := fun v10 v21 v33 v45 v57 v69 v81 v93 k0_hw10 k0_t1 => k0_hw10.2.1.2.2.2.2.2.2.2.2.2.2.2.2.2.2.2.2.2.2.2.2.2.2.2.2.1 k0_t1
theorem k0_off99_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), (Rect.unit (s := S2x3072x2816) (k0_off99 v10 v21 v33 v45 v57 v69 v81 v93 k0_t1) S1x256x2816.size (k0_off99_inb v10 v21 v33 v45 v57 v69 v81 v93 k0_hw10 k0_t1)).WholeWords (EltTy.packing .i8) := fun v10 v21 v33 v45 v57 v69 v81 v93 k0_hw10 k0_t1 => k0_hw10.2.1.2.2.2.2.2.2.2.2.2.2.2.2.2.2.2.2.2.2.2.2.2.2.2.2.2.1 k0_t1 (k0_off99_inb v10 v21 v33 v45 v57 v69 v81 v93 k0_hw10 k0_t1)
theorem k0_off101_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off101 v10 v21 v33 v45 v57 v69 v81 v93 k0_t1) a + S1x256x2816.size a ≤ S2x3072x2816.size a := fun v10 v21 v33 v45 v57 v69 v81 v93 k0_hw10 k0_t1 => k0_hw10.2.1.2.2.2.2.2.2.2.2.2.2.2.2.2.2.2.2.2.2.2.2.2.2.2.2.2.2.1 k0_t1
theorem k0_off102_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off102 v10 v21 v33 v45 v57 v69 v81 v93 k0_t1) a + S1x256x2816.size a ≤ S2x3072x2816.size a := fun v10 v21 v33 v45 v57 v69 v81 v93 k0_hw10 k0_t1 => k0_hw10.2.1.2.2.2.2.2.2.2.2.2.2.2.2.2.2.2.2.2.2.2.2.2.2.2.2.2.2.2.1 k0_t1
theorem k0_off105_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h7 : k0_cond7 v10 v21 v33 v45 v57 v69 v81 v93 k0_t1 = 1#1), ∀ a, (k0_off105 v10 v21 v33 v45 v57 v69 v81 v93 k0_t1) a + S1x1.size a ≤ S2x6.size a := fun v10 v21 v33 v45 v57 v69 v81 v93 k0_hw10 k0_t1 k0_h7 => k0_hw10.2.1.2.2.2.2.2.2.2.2.2.2.2.2.2.2.2.2.2.2.2.2.2.2.2.2.2.2.2.2.1 k0_t1 k0_h7
theorem k0_off106_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h7 : k0_cond7 v10 v21 v33 v45 v57 v69 v81 v93 k0_t1 = 1#1), ∀ a, (k0_off106 v10 v21 v33 v45 v57 v69 v81 v93 k0_t1) a + S1x256x2816.size a ≤ S2x3072x2816.size a := fun v10 v21 v33 v45 v57 v69 v81 v93 k0_hw10 k0_t1 k0_h7 => k0_hw10.2.1.2.2.2.2.2.2.2.2.2.2.2.2.2.2.2.2.2.2.2.2.2.2.2.2.2.2.2.2.2.1 k0_t1 k0_h7
theorem k0_off106_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h7 : k0_cond7 v10 v21 v33 v45 v57 v69 v81 v93 k0_t1 = 1#1), (Rect.unit (s := S2x3072x2816) (k0_off106 v10 v21 v33 v45 v57 v69 v81 v93 k0_t1) S1x256x2816.size (k0_off106_inb v10 v21 v33 v45 v57 v69 v81 v93 k0_hw10 k0_t1 k0_h7)).WholeWords (EltTy.packing .i8) := fun v10 v21 v33 v45 v57 v69 v81 v93 k0_hw10 k0_t1 k0_h7 => k0_hw10.2.1.2.2.2.2.2.2.2.2.2.2.2.2.2.2.2.2.2.2.2.2.2.2.2.2.2.2.2.2.2.2.1 k0_t1 k0_h7 (k0_off106_inb v10 v21 v33 v45 v57 v69 v81 v93 k0_hw10 k0_t1 k0_h7)
theorem k0_off108_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h7 : k0_cond7 v10 v21 v33 v45 v57 v69 v81 v93 k0_t1 = 1#1), ∀ a, (k0_off108 v10 v21 v33 v45 v57 v69 v81 v93 k0_t1) a + S1x256x2816.size a ≤ S2x3072x2816.size a := fun v10 v21 v33 v45 v57 v69 v81 v93 k0_hw10 k0_t1 k0_h7 => k0_hw10.2.1.2.2.2.2.2.2.2.2.2.2.2.2.2.2.2.2.2.2.2.2.2.2.2.2.2.2.2.2.2.2.2 k0_t1 k0_h7
theorem k0_off108_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h7 : k0_cond7 v10 v21 v33 v45 v57 v69 v81 v93 k0_t1 = 1#1), (Rect.unit (s := S2x3072x2816) (k0_off108 v10 v21 v33 v45 v57 v69 v81 v93 k0_t1) S1x256x2816.size (k0_off108_inb v10 v21 v33 v45 v57 v69 v81 v93 k0_hw10 k0_t1 k0_h7)).WholeWords (EltTy.packing .i8) := fun v10 v21 v33 v45 v57 v69 v81 v93 k0_hw10 k0_t1 k0_h7 => k0_hw10.2.2.1.1 k0_t1 k0_h7 (k0_off108_inb v10 v21 v33 v45 v57 v69 v81 v93 k0_hw10 k0_t1 k0_h7)
theorem k0_off110_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off110 v10 v21 v33 v45 v57 v69 v81 v93 k0_t1) a + S1x1.size a ≤ S2x6.size a := fun v10 v21 v33 v45 v57 v69 v81 v93 k0_hw10 k0_t1 => k0_hw10.2.2.1.2.1 k0_t1
theorem k0_off111_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off111 v10 v21 v33 v45 v57 v69 v81 v93 k0_t1) a + S1x256x2816.size a ≤ S2x3072x2816.size a := fun v10 v21 v33 v45 v57 v69 v81 v93 k0_hw10 k0_t1 => k0_hw10.2.2.1.2.2.1 k0_t1
theorem k0_off111_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), (Rect.unit (s := S2x3072x2816) (k0_off111 v10 v21 v33 v45 v57 v69 v81 v93 k0_t1) S1x256x2816.size (k0_off111_inb v10 v21 v33 v45 v57 v69 v81 v93 k0_hw10 k0_t1)).WholeWords (EltTy.packing .i8) := fun v10 v21 v33 v45 v57 v69 v81 v93 k0_hw10 k0_t1 => k0_hw10.2.2.1.2.2.2.1 k0_t1 (k0_off111_inb v10 v21 v33 v45 v57 v69 v81 v93 k0_hw10 k0_t1)
theorem k0_off113_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off113 v10 v21 v33 v45 v57 v69 v81 v93 k0_t1) a + S1x256x2816.size a ≤ S2x3072x2816.size a := fun v10 v21 v33 v45 v57 v69 v81 v93 k0_hw10 k0_t1 => k0_hw10.2.2.1.2.2.2.2.1 k0_t1
theorem k0_off113_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), (Rect.unit (s := S2x3072x2816) (k0_off113 v10 v21 v33 v45 v57 v69 v81 v93 k0_t1) S1x256x2816.size (k0_off113_inb v10 v21 v33 v45 v57 v69 v81 v93 k0_hw10 k0_t1)).WholeWords (EltTy.packing .i8) := fun v10 v21 v33 v45 v57 v69 v81 v93 k0_hw10 k0_t1 => k0_hw10.2.2.1.2.2.2.2.2.1 k0_t1 (k0_off113_inb v10 v21 v33 v45 v57 v69 v81 v93 k0_hw10 k0_t1)
theorem k0_off115_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off115 v10 v21 v33 v45 v57 v69 v81 v93 k0_t1) a + S1x256x2816.size a ≤ S2x3072x2816.size a := fun v10 v21 v33 v45 v57 v69 v81 v93 k0_hw10 k0_t1 => k0_hw10.2.2.1.2.2.2.2.2.2.1 k0_t1
theorem k0_off116_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off116 v10 v21 v33 v45 v57 v69 v81 v93 k0_t1) a + S1x256x2816.size a ≤ S2x3072x2816.size a := fun v10 v21 v33 v45 v57 v69 v81 v93 k0_hw10 k0_t1 => k0_hw10.2.2.1.2.2.2.2.2.2.2.1 k0_t1
theorem k0_off119_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h8 : k0_cond8 v10 v21 v33 v45 v57 v69 v81 v93 k0_t1 = 1#1), ∀ a, (k0_off119 v10 v21 v33 v45 v57 v69 v81 v93 k0_t1) a + S1x1.size a ≤ S2x6.size a := fun v10 v21 v33 v45 v57 v69 v81 v93 k0_hw10 k0_t1 k0_h8 => k0_hw10.2.2.1.2.2.2.2.2.2.2.2.1 k0_t1 k0_h8
theorem k0_off120_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h8 : k0_cond8 v10 v21 v33 v45 v57 v69 v81 v93 k0_t1 = 1#1), ∀ a, (k0_off120 v10 v21 v33 v45 v57 v69 v81 v93 k0_t1) a + S1x256x2816.size a ≤ S2x3072x2816.size a := fun v10 v21 v33 v45 v57 v69 v81 v93 k0_hw10 k0_t1 k0_h8 => k0_hw10.2.2.1.2.2.2.2.2.2.2.2.2.1 k0_t1 k0_h8
theorem k0_off120_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h8 : k0_cond8 v10 v21 v33 v45 v57 v69 v81 v93 k0_t1 = 1#1), (Rect.unit (s := S2x3072x2816) (k0_off120 v10 v21 v33 v45 v57 v69 v81 v93 k0_t1) S1x256x2816.size (k0_off120_inb v10 v21 v33 v45 v57 v69 v81 v93 k0_hw10 k0_t1 k0_h8)).WholeWords (EltTy.packing .i8) := fun v10 v21 v33 v45 v57 v69 v81 v93 k0_hw10 k0_t1 k0_h8 => k0_hw10.2.2.1.2.2.2.2.2.2.2.2.2.2.1 k0_t1 k0_h8 (k0_off120_inb v10 v21 v33 v45 v57 v69 v81 v93 k0_hw10 k0_t1 k0_h8)
theorem k0_off122_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h8 : k0_cond8 v10 v21 v33 v45 v57 v69 v81 v93 k0_t1 = 1#1), ∀ a, (k0_off122 v10 v21 v33 v45 v57 v69 v81 v93 k0_t1) a + S1x256x2816.size a ≤ S2x3072x2816.size a := fun v10 v21 v33 v45 v57 v69 v81 v93 k0_hw10 k0_t1 k0_h8 => k0_hw10.2.2.1.2.2.2.2.2.2.2.2.2.2.2.1 k0_t1 k0_h8
theorem k0_off122_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h8 : k0_cond8 v10 v21 v33 v45 v57 v69 v81 v93 k0_t1 = 1#1), (Rect.unit (s := S2x3072x2816) (k0_off122 v10 v21 v33 v45 v57 v69 v81 v93 k0_t1) S1x256x2816.size (k0_off122_inb v10 v21 v33 v45 v57 v69 v81 v93 k0_hw10 k0_t1 k0_h8)).WholeWords (EltTy.packing .i8) := fun v10 v21 v33 v45 v57 v69 v81 v93 k0_hw10 k0_t1 k0_h8 => k0_hw10.2.2.1.2.2.2.2.2.2.2.2.2.2.2.2.1 k0_t1 k0_h8 (k0_off122_inb v10 v21 v33 v45 v57 v69 v81 v93 k0_hw10 k0_t1 k0_h8)
theorem k0_off124_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off124 v10 v21 v33 v45 v57 v69 v81 v93 k0_t1) a + S1x1.size a ≤ S2x2.size a := fun v10 v21 v33 v45 v57 v69 v81 v93 k0_hw10 k0_t1 => k0_hw10.2.2.1.2.2.2.2.2.2.2.2.2.2.2.2.2.1 k0_t1
theorem k0_off125_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off125 v10 v21 v33 v45 v57 v69 v81 v93 k0_t1) a + S1x1408x1536.size a ≤ S2x2816x1536.size a := fun v10 v21 v33 v45 v57 v69 v81 v93 k0_hw10 k0_t1 => k0_hw10.2.2.1.2.2.2.2.2.2.2.2.2.2.2.2.2.2.1 k0_t1
theorem k0_off125_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), (Rect.unit (s := S2x2816x1536) (k0_off125 v10 v21 v33 v45 v57 v69 v81 v93 k0_t1) S1x1408x1536.size (k0_off125_inb v10 v21 v33 v45 v57 v69 v81 v93 k0_hw10 k0_t1)).WholeWords (EltTy.packing .i8) := fun v10 v21 v33 v45 v57 v69 v81 v93 k0_hw10 k0_t1 => k0_hw10.2.2.1.2.2.2.2.2.2.2.2.2.2.2.2.2.2.2.1 k0_t1 (k0_off125_inb v10 v21 v33 v45 v57 v69 v81 v93 k0_hw10 k0_t1)
theorem k0_off127_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off127 v10 v21 v33 v45 v57 v69 v81 v93 k0_t1) a + S1x1408x1536.size a ≤ S2x2816x1536.size a := fun v10 v21 v33 v45 v57 v69 v81 v93 k0_hw10 k0_t1 => k0_hw10.2.2.1.2.2.2.2.2.2.2.2.2.2.2.2.2.2.2.2.1 k0_t1
theorem k0_off129_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h9 : k0_cond9 v10 v21 v33 v45 v57 v69 v81 v93 k0_t1 = 1#1), ∀ a, (k0_off129 v10 v21 v33 v45 v57 v69 v81 v93 k0_t1) a + S1x1.size a ≤ S2x2.size a := fun v10 v21 v33 v45 v57 v69 v81 v93 k0_hw10 k0_t1 k0_h9 => k0_hw10.2.2.1.2.2.2.2.2.2.2.2.2.2.2.2.2.2.2.2.2.1 k0_t1 k0_h9
theorem k0_off130_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h9 : k0_cond9 v10 v21 v33 v45 v57 v69 v81 v93 k0_t1 = 1#1), ∀ a, (k0_off130 v10 v21 v33 v45 v57 v69 v81 v93 k0_t1) a + S1x1408x1536.size a ≤ S2x2816x1536.size a := fun v10 v21 v33 v45 v57 v69 v81 v93 k0_hw10 k0_t1 k0_h9 => k0_hw10.2.2.1.2.2.2.2.2.2.2.2.2.2.2.2.2.2.2.2.2.2.1 k0_t1 k0_h9
theorem k0_off130_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h9 : k0_cond9 v10 v21 v33 v45 v57 v69 v81 v93 k0_t1 = 1#1), (Rect.unit (s := S2x2816x1536) (k0_off130 v10 v21 v33 v45 v57 v69 v81 v93 k0_t1) S1x1408x1536.size (k0_off130_inb v10 v21 v33 v45 v57 v69 v81 v93 k0_hw10 k0_t1 k0_h9)).WholeWords (EltTy.packing .i8) := fun v10 v21 v33 v45 v57 v69 v81 v93 k0_hw10 k0_t1 k0_h9 => k0_hw10.2.2.1.2.2.2.2.2.2.2.2.2.2.2.2.2.2.2.2.2.2.2.1 k0_t1 k0_h9 (k0_off130_inb v10 v21 v33 v45 v57 v69 v81 v93 k0_hw10 k0_t1 k0_h9)
theorem k0_off132_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off132 v10 v21 v33 v45 v57 v69 v81 v93 k0_t1) a + S1x1.size a ≤ S2x2.size a := fun v10 v21 v33 v45 v57 v69 v81 v93 k0_hw10 k0_t1 => k0_hw10.2.2.1.2.2.2.2.2.2.2.2.2.2.2.2.2.2.2.2.2.2.2.2.1 k0_t1
theorem k0_off133_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off133 v10 v21 v33 v45 v57 v69 v81 v93 k0_t1) a + S1x1408x1536.size a ≤ S2x2816x1536.size a := fun v10 v21 v33 v45 v57 v69 v81 v93 k0_hw10 k0_t1 => k0_hw10.2.2.1.2.2.2.2.2.2.2.2.2.2.2.2.2.2.2.2.2.2.2.2.2.1 k0_t1
theorem k0_off133_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), (Rect.unit (s := S2x2816x1536) (k0_off133 v10 v21 v33 v45 v57 v69 v81 v93 k0_t1) S1x1408x1536.size (k0_off133_inb v10 v21 v33 v45 v57 v69 v81 v93 k0_hw10 k0_t1)).WholeWords (EltTy.packing .i8) := fun v10 v21 v33 v45 v57 v69 v81 v93 k0_hw10 k0_t1 => k0_hw10.2.2.1.2.2.2.2.2.2.2.2.2.2.2.2.2.2.2.2.2.2.2.2.2.2.1 k0_t1 (k0_off133_inb v10 v21 v33 v45 v57 v69 v81 v93 k0_hw10 k0_t1)
theorem k0_off135_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ a, (k0_off135 v10 v21 v33 v45 v57 v69 v81 v93 k0_t1) a + S1x1408x1536.size a ≤ S2x2816x1536.size a := fun v10 v21 v33 v45 v57 v69 v81 v93 k0_hw10 k0_t1 => k0_hw10.2.2.1.2.2.2.2.2.2.2.2.2.2.2.2.2.2.2.2.2.2.2.2.2.2.2.1 k0_t1
theorem k0_off137_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h10 : k0_cond10 v10 v21 v33 v45 v57 v69 v81 v93 k0_t1 = 1#1), ∀ a, (k0_off137 v10 v21 v33 v45 v57 v69 v81 v93 k0_t1) a + S1x1.size a ≤ S2x2.size a := fun v10 v21 v33 v45 v57 v69 v81 v93 k0_hw10 k0_t1 k0_h10 => k0_hw10.2.2.1.2.2.2.2.2.2.2.2.2.2.2.2.2.2.2.2.2.2.2.2.2.2.2.2.1 k0_t1 k0_h10
theorem k0_off138_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h10 : k0_cond10 v10 v21 v33 v45 v57 v69 v81 v93 k0_t1 = 1#1), ∀ a, (k0_off138 v10 v21 v33 v45 v57 v69 v81 v93 k0_t1) a + S1x1408x1536.size a ≤ S2x2816x1536.size a := fun v10 v21 v33 v45 v57 v69 v81 v93 k0_hw10 k0_t1 k0_h10 => k0_hw10.2.2.1.2.2.2.2.2.2.2.2.2.2.2.2.2.2.2.2.2.2.2.2.2.2.2.2.2.1 k0_t1 k0_h10
theorem k0_off138_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t1 : Fin (k0_t1_loop v10 v21 v33 v45 v57 v69 v81 v93).trips), ∀ (k0_h10 : k0_cond10 v10 v21 v33 v45 v57 v69 v81 v93 k0_t1 = 1#1), (Rect.unit (s := S2x2816x1536) (k0_off138 v10 v21 v33 v45 v57 v69 v81 v93 k0_t1) S1x1408x1536.size (k0_off138_inb v10 v21 v33 v45 v57 v69 v81 v93 k0_hw10 k0_t1 k0_h10)).WholeWords (EltTy.packing .i8) := fun v10 v21 v33 v45 v57 v69 v81 v93 k0_hw10 k0_t1 k0_h10 => k0_hw10.2.2.1.2.2.2.2.2.2.2.2.2.2.2.2.2.2.2.2.2.2.2.2.2.2.2.2.2.2.1 k0_t1 k0_h10 (k0_off138_inb v10 v21 v33 v45 v57 v69 v81 v93 k0_hw10 k0_t1 k0_h10)
theorem k0_t2_ok : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93), (k0_t2_loop v10 v21 v33 v45 v57 v69 v81 v93).OK := fun v10 v21 v33 v45 v57 v69 v81 v93 k0_hw10 => k0_hw10.2.2.1.2.2.2.2.2.2.2.2.2.2.2.2.2.2.2.2.2.2.2.2.2.2.2.2.2.2.2.1
theorem k0_off140_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off140 v10 v21 v33 v45 v57 v69 v81 v93 k0_t2) a + S1.size a ≤ S9.size a := fun v10 v21 v33 v45 v57 v69 v81 v93 k0_hw10 k0_t2 => k0_hw10.2.2.1.2.2.2.2.2.2.2.2.2.2.2.2.2.2.2.2.2.2.2.2.2.2.2.2.2.2.2.2.1 k0_t2
theorem k0_off141_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off141 v10 v21 v33 v45 v57 v69 v81 v93 k0_t2) a + S1.size a ≤ S9.size a := fun v10 v21 v33 v45 v57 v69 v81 v93 k0_hw10 k0_t2 => k0_hw10.2.2.1.2.2.2.2.2.2.2.2.2.2.2.2.2.2.2.2.2.2.2.2.2.2.2.2.2.2.2.2.2.1 k0_t2
theorem k0_off142_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off142 v10 v21 v33 v45 v57 v69 v81 v93 k0_t2) a + S1x1.size a ≤ S2x6.size a := fun v10 v21 v33 v45 v57 v69 v81 v93 k0_hw10 k0_t2 => k0_hw10.2.2.1.2.2.2.2.2.2.2.2.2.2.2.2.2.2.2.2.2.2.2.2.2.2.2.2.2.2.2.2.2.2.1 k0_t2
theorem k0_off143_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off143 v10 v21 v33 v45 v57 v69 v81 v93 k0_t2) a + S1x256x2816.size a ≤ S2x3072x2816.size a := fun v10 v21 v33 v45 v57 v69 v81 v93 k0_hw10 k0_t2 => k0_hw10.2.2.1.2.2.2.2.2.2.2.2.2.2.2.2.2.2.2.2.2.2.2.2.2.2.2.2.2.2.2.2.2.2.2 k0_t2
theorem k0_off143_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), (Rect.unit (s := S2x3072x2816) (k0_off143 v10 v21 v33 v45 v57 v69 v81 v93 k0_t2) S1x256x2816.size (k0_off143_inb v10 v21 v33 v45 v57 v69 v81 v93 k0_hw10 k0_t2)).WholeWords (EltTy.packing .i8) := fun v10 v21 v33 v45 v57 v69 v81 v93 k0_hw10 k0_t2 => k0_hw10.2.2.2.1.1 k0_t2 (k0_off143_inb v10 v21 v33 v45 v57 v69 v81 v93 k0_hw10 k0_t2)
theorem k0_off145_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off145 v10 v21 v33 v45 v57 v69 v81 v93 k0_t2) a + S1x1.size a ≤ S2x6.size a := fun v10 v21 v33 v45 v57 v69 v81 v93 k0_hw10 k0_t2 => k0_hw10.2.2.2.1.2.1 k0_t2
theorem k0_off146_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off146 v10 v21 v33 v45 v57 v69 v81 v93 k0_t2) a + S1x256x2816.size a ≤ S2x3072x2816.size a := fun v10 v21 v33 v45 v57 v69 v81 v93 k0_hw10 k0_t2 => k0_hw10.2.2.2.1.2.2.1 k0_t2
theorem k0_off146_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), (Rect.unit (s := S2x3072x2816) (k0_off146 v10 v21 v33 v45 v57 v69 v81 v93 k0_t2) S1x256x2816.size (k0_off146_inb v10 v21 v33 v45 v57 v69 v81 v93 k0_hw10 k0_t2)).WholeWords (EltTy.packing .i8) := fun v10 v21 v33 v45 v57 v69 v81 v93 k0_hw10 k0_t2 => k0_hw10.2.2.2.1.2.2.2.1 k0_t2 (k0_off146_inb v10 v21 v33 v45 v57 v69 v81 v93 k0_hw10 k0_t2)
theorem k0_off148_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off148 v10 v21 v33 v45 v57 v69 v81 v93 k0_t2) a + S1x256x2816.size a ≤ S2x3072x2816.size a := fun v10 v21 v33 v45 v57 v69 v81 v93 k0_hw10 k0_t2 => k0_hw10.2.2.2.1.2.2.2.2.1 k0_t2
theorem k0_off149_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off149 v10 v21 v33 v45 v57 v69 v81 v93 k0_t2) a + S1x256x2816.size a ≤ S2x3072x2816.size a := fun v10 v21 v33 v45 v57 v69 v81 v93 k0_hw10 k0_t2 => k0_hw10.2.2.2.1.2.2.2.2.2.1 k0_t2
theorem k0_off152_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h11 : k0_cond11 v10 v21 v33 v45 v57 v69 v81 v93 k0_t2 = 1#1), ∀ a, (k0_off152 v10 v21 v33 v45 v57 v69 v81 v93 k0_t2) a + S1x1.size a ≤ S2x6.size a := fun v10 v21 v33 v45 v57 v69 v81 v93 k0_hw10 k0_t2 k0_h11 => k0_hw10.2.2.2.1.2.2.2.2.2.2.1 k0_t2 k0_h11
theorem k0_off153_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h11 : k0_cond11 v10 v21 v33 v45 v57 v69 v81 v93 k0_t2 = 1#1), ∀ a, (k0_off153 v10 v21 v33 v45 v57 v69 v81 v93 k0_t2) a + S1x256x2816.size a ≤ S2x3072x2816.size a := fun v10 v21 v33 v45 v57 v69 v81 v93 k0_hw10 k0_t2 k0_h11 => k0_hw10.2.2.2.1.2.2.2.2.2.2.2.1 k0_t2 k0_h11
theorem k0_off153_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h11 : k0_cond11 v10 v21 v33 v45 v57 v69 v81 v93 k0_t2 = 1#1), (Rect.unit (s := S2x3072x2816) (k0_off153 v10 v21 v33 v45 v57 v69 v81 v93 k0_t2) S1x256x2816.size (k0_off153_inb v10 v21 v33 v45 v57 v69 v81 v93 k0_hw10 k0_t2 k0_h11)).WholeWords (EltTy.packing .i8) := fun v10 v21 v33 v45 v57 v69 v81 v93 k0_hw10 k0_t2 k0_h11 => k0_hw10.2.2.2.1.2.2.2.2.2.2.2.2.1 k0_t2 k0_h11 (k0_off153_inb v10 v21 v33 v45 v57 v69 v81 v93 k0_hw10 k0_t2 k0_h11)
theorem k0_off155_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h11 : k0_cond11 v10 v21 v33 v45 v57 v69 v81 v93 k0_t2 = 1#1), ∀ a, (k0_off155 v10 v21 v33 v45 v57 v69 v81 v93 k0_t2) a + S1x1.size a ≤ S2x6.size a := fun v10 v21 v33 v45 v57 v69 v81 v93 k0_hw10 k0_t2 k0_h11 => k0_hw10.2.2.2.1.2.2.2.2.2.2.2.2.2.1 k0_t2 k0_h11
theorem k0_off156_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h11 : k0_cond11 v10 v21 v33 v45 v57 v69 v81 v93 k0_t2 = 1#1), ∀ a, (k0_off156 v10 v21 v33 v45 v57 v69 v81 v93 k0_t2) a + S1x256x2816.size a ≤ S2x3072x2816.size a := fun v10 v21 v33 v45 v57 v69 v81 v93 k0_hw10 k0_t2 k0_h11 => k0_hw10.2.2.2.1.2.2.2.2.2.2.2.2.2.2.1 k0_t2 k0_h11
theorem k0_off156_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h11 : k0_cond11 v10 v21 v33 v45 v57 v69 v81 v93 k0_t2 = 1#1), (Rect.unit (s := S2x3072x2816) (k0_off156 v10 v21 v33 v45 v57 v69 v81 v93 k0_t2) S1x256x2816.size (k0_off156_inb v10 v21 v33 v45 v57 v69 v81 v93 k0_hw10 k0_t2 k0_h11)).WholeWords (EltTy.packing .i8) := fun v10 v21 v33 v45 v57 v69 v81 v93 k0_hw10 k0_t2 k0_h11 => k0_hw10.2.2.2.1.2.2.2.2.2.2.2.2.2.2.2.1 k0_t2 k0_h11 (k0_off156_inb v10 v21 v33 v45 v57 v69 v81 v93 k0_hw10 k0_t2 k0_h11)
theorem k0_off158_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off158 v10 v21 v33 v45 v57 v69 v81 v93 k0_t2) a + S1x1.size a ≤ S2x6.size a := fun v10 v21 v33 v45 v57 v69 v81 v93 k0_hw10 k0_t2 => k0_hw10.2.2.2.1.2.2.2.2.2.2.2.2.2.2.2.2.1 k0_t2
theorem k0_off159_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off159 v10 v21 v33 v45 v57 v69 v81 v93 k0_t2) a + S1x256x2816.size a ≤ S2x3072x2816.size a := fun v10 v21 v33 v45 v57 v69 v81 v93 k0_hw10 k0_t2 => k0_hw10.2.2.2.1.2.2.2.2.2.2.2.2.2.2.2.2.2.1 k0_t2
theorem k0_off159_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), (Rect.unit (s := S2x3072x2816) (k0_off159 v10 v21 v33 v45 v57 v69 v81 v93 k0_t2) S1x256x2816.size (k0_off159_inb v10 v21 v33 v45 v57 v69 v81 v93 k0_hw10 k0_t2)).WholeWords (EltTy.packing .i8) := fun v10 v21 v33 v45 v57 v69 v81 v93 k0_hw10 k0_t2 => k0_hw10.2.2.2.1.2.2.2.2.2.2.2.2.2.2.2.2.2.2.1 k0_t2 (k0_off159_inb v10 v21 v33 v45 v57 v69 v81 v93 k0_hw10 k0_t2)
theorem k0_off161_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off161 v10 v21 v33 v45 v57 v69 v81 v93 k0_t2) a + S1x256x2816.size a ≤ S2x3072x2816.size a := fun v10 v21 v33 v45 v57 v69 v81 v93 k0_hw10 k0_t2 => k0_hw10.2.2.2.1.2.2.2.2.2.2.2.2.2.2.2.2.2.2.2.1 k0_t2
theorem k0_off161_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), (Rect.unit (s := S2x3072x2816) (k0_off161 v10 v21 v33 v45 v57 v69 v81 v93 k0_t2) S1x256x2816.size (k0_off161_inb v10 v21 v33 v45 v57 v69 v81 v93 k0_hw10 k0_t2)).WholeWords (EltTy.packing .i8) := fun v10 v21 v33 v45 v57 v69 v81 v93 k0_hw10 k0_t2 => k0_hw10.2.2.2.1.2.2.2.2.2.2.2.2.2.2.2.2.2.2.2.2.1 k0_t2 (k0_off161_inb v10 v21 v33 v45 v57 v69 v81 v93 k0_hw10 k0_t2)
theorem k0_off163_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off163 v10 v21 v33 v45 v57 v69 v81 v93 k0_t2) a + S1x256x2816.size a ≤ S2x3072x2816.size a := fun v10 v21 v33 v45 v57 v69 v81 v93 k0_hw10 k0_t2 => k0_hw10.2.2.2.1.2.2.2.2.2.2.2.2.2.2.2.2.2.2.2.2.2.1 k0_t2
theorem k0_off164_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off164 v10 v21 v33 v45 v57 v69 v81 v93 k0_t2) a + S1x256x2816.size a ≤ S2x3072x2816.size a := fun v10 v21 v33 v45 v57 v69 v81 v93 k0_hw10 k0_t2 => k0_hw10.2.2.2.1.2.2.2.2.2.2.2.2.2.2.2.2.2.2.2.2.2.2.1 k0_t2
theorem k0_off167_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h12 : k0_cond12 v10 v21 v33 v45 v57 v69 v81 v93 k0_t2 = 1#1), ∀ a, (k0_off167 v10 v21 v33 v45 v57 v69 v81 v93 k0_t2) a + S1x1.size a ≤ S2x6.size a := fun v10 v21 v33 v45 v57 v69 v81 v93 k0_hw10 k0_t2 k0_h12 => k0_hw10.2.2.2.1.2.2.2.2.2.2.2.2.2.2.2.2.2.2.2.2.2.2.2.1 k0_t2 k0_h12
theorem k0_off168_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h12 : k0_cond12 v10 v21 v33 v45 v57 v69 v81 v93 k0_t2 = 1#1), ∀ a, (k0_off168 v10 v21 v33 v45 v57 v69 v81 v93 k0_t2) a + S1x256x2816.size a ≤ S2x3072x2816.size a := fun v10 v21 v33 v45 v57 v69 v81 v93 k0_hw10 k0_t2 k0_h12 => k0_hw10.2.2.2.1.2.2.2.2.2.2.2.2.2.2.2.2.2.2.2.2.2.2.2.2.1 k0_t2 k0_h12
theorem k0_off168_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h12 : k0_cond12 v10 v21 v33 v45 v57 v69 v81 v93 k0_t2 = 1#1), (Rect.unit (s := S2x3072x2816) (k0_off168 v10 v21 v33 v45 v57 v69 v81 v93 k0_t2) S1x256x2816.size (k0_off168_inb v10 v21 v33 v45 v57 v69 v81 v93 k0_hw10 k0_t2 k0_h12)).WholeWords (EltTy.packing .i8) := fun v10 v21 v33 v45 v57 v69 v81 v93 k0_hw10 k0_t2 k0_h12 => k0_hw10.2.2.2.1.2.2.2.2.2.2.2.2.2.2.2.2.2.2.2.2.2.2.2.2.2.1 k0_t2 k0_h12 (k0_off168_inb v10 v21 v33 v45 v57 v69 v81 v93 k0_hw10 k0_t2 k0_h12)
theorem k0_off170_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h12 : k0_cond12 v10 v21 v33 v45 v57 v69 v81 v93 k0_t2 = 1#1), ∀ a, (k0_off170 v10 v21 v33 v45 v57 v69 v81 v93 k0_t2) a + S1x256x2816.size a ≤ S2x3072x2816.size a := fun v10 v21 v33 v45 v57 v69 v81 v93 k0_hw10 k0_t2 k0_h12 => k0_hw10.2.2.2.1.2.2.2.2.2.2.2.2.2.2.2.2.2.2.2.2.2.2.2.2.2.2.1 k0_t2 k0_h12
theorem k0_off170_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h12 : k0_cond12 v10 v21 v33 v45 v57 v69 v81 v93 k0_t2 = 1#1), (Rect.unit (s := S2x3072x2816) (k0_off170 v10 v21 v33 v45 v57 v69 v81 v93 k0_t2) S1x256x2816.size (k0_off170_inb v10 v21 v33 v45 v57 v69 v81 v93 k0_hw10 k0_t2 k0_h12)).WholeWords (EltTy.packing .i8) := fun v10 v21 v33 v45 v57 v69 v81 v93 k0_hw10 k0_t2 k0_h12 => k0_hw10.2.2.2.1.2.2.2.2.2.2.2.2.2.2.2.2.2.2.2.2.2.2.2.2.2.2.2.1 k0_t2 k0_h12 (k0_off170_inb v10 v21 v33 v45 v57 v69 v81 v93 k0_hw10 k0_t2 k0_h12)
theorem k0_off172_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off172 v10 v21 v33 v45 v57 v69 v81 v93 k0_t2) a + S1x1.size a ≤ S2x6.size a := fun v10 v21 v33 v45 v57 v69 v81 v93 k0_hw10 k0_t2 => k0_hw10.2.2.2.1.2.2.2.2.2.2.2.2.2.2.2.2.2.2.2.2.2.2.2.2.2.2.2.2.1 k0_t2
theorem k0_off173_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off173 v10 v21 v33 v45 v57 v69 v81 v93 k0_t2) a + S1x256x2816.size a ≤ S2x3072x2816.size a := fun v10 v21 v33 v45 v57 v69 v81 v93 k0_hw10 k0_t2 => k0_hw10.2.2.2.1.2.2.2.2.2.2.2.2.2.2.2.2.2.2.2.2.2.2.2.2.2.2.2.2.2.1 k0_t2
theorem k0_off173_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), (Rect.unit (s := S2x3072x2816) (k0_off173 v10 v21 v33 v45 v57 v69 v81 v93 k0_t2) S1x256x2816.size (k0_off173_inb v10 v21 v33 v45 v57 v69 v81 v93 k0_hw10 k0_t2)).WholeWords (EltTy.packing .i8) := fun v10 v21 v33 v45 v57 v69 v81 v93 k0_hw10 k0_t2 => k0_hw10.2.2.2.1.2.2.2.2.2.2.2.2.2.2.2.2.2.2.2.2.2.2.2.2.2.2.2.2.2.2.1 k0_t2 (k0_off173_inb v10 v21 v33 v45 v57 v69 v81 v93 k0_hw10 k0_t2)
theorem k0_off175_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off175 v10 v21 v33 v45 v57 v69 v81 v93 k0_t2) a + S1x256x2816.size a ≤ S2x3072x2816.size a := fun v10 v21 v33 v45 v57 v69 v81 v93 k0_hw10 k0_t2 => k0_hw10.2.2.2.1.2.2.2.2.2.2.2.2.2.2.2.2.2.2.2.2.2.2.2.2.2.2.2.2.2.2.2.1 k0_t2
theorem k0_off175_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), (Rect.unit (s := S2x3072x2816) (k0_off175 v10 v21 v33 v45 v57 v69 v81 v93 k0_t2) S1x256x2816.size (k0_off175_inb v10 v21 v33 v45 v57 v69 v81 v93 k0_hw10 k0_t2)).WholeWords (EltTy.packing .i8) := fun v10 v21 v33 v45 v57 v69 v81 v93 k0_hw10 k0_t2 => k0_hw10.2.2.2.1.2.2.2.2.2.2.2.2.2.2.2.2.2.2.2.2.2.2.2.2.2.2.2.2.2.2.2.2.1 k0_t2 (k0_off175_inb v10 v21 v33 v45 v57 v69 v81 v93 k0_hw10 k0_t2)
theorem k0_off177_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off177 v10 v21 v33 v45 v57 v69 v81 v93 k0_t2) a + S1x256x2816.size a ≤ S2x3072x2816.size a := fun v10 v21 v33 v45 v57 v69 v81 v93 k0_hw10 k0_t2 => k0_hw10.2.2.2.1.2.2.2.2.2.2.2.2.2.2.2.2.2.2.2.2.2.2.2.2.2.2.2.2.2.2.2.2.2.1 k0_t2
theorem k0_off178_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off178 v10 v21 v33 v45 v57 v69 v81 v93 k0_t2) a + S1x256x2816.size a ≤ S2x3072x2816.size a := fun v10 v21 v33 v45 v57 v69 v81 v93 k0_hw10 k0_t2 => k0_hw10.2.2.2.1.2.2.2.2.2.2.2.2.2.2.2.2.2.2.2.2.2.2.2.2.2.2.2.2.2.2.2.2.2.2.1 k0_t2
theorem k0_off181_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h13 : k0_cond13 v10 v21 v33 v45 v57 v69 v81 v93 k0_t2 = 1#1), ∀ a, (k0_off181 v10 v21 v33 v45 v57 v69 v81 v93 k0_t2) a + S1x1.size a ≤ S2x6.size a := fun v10 v21 v33 v45 v57 v69 v81 v93 k0_hw10 k0_t2 k0_h13 => k0_hw10.2.2.2.1.2.2.2.2.2.2.2.2.2.2.2.2.2.2.2.2.2.2.2.2.2.2.2.2.2.2.2.2.2.2.2 k0_t2 k0_h13
theorem k0_off182_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h13 : k0_cond13 v10 v21 v33 v45 v57 v69 v81 v93 k0_t2 = 1#1), ∀ a, (k0_off182 v10 v21 v33 v45 v57 v69 v81 v93 k0_t2) a + S1x256x2816.size a ≤ S2x3072x2816.size a := fun v10 v21 v33 v45 v57 v69 v81 v93 k0_hw10 k0_t2 k0_h13 => k0_hw10.2.2.2.2.1.1 k0_t2 k0_h13
theorem k0_off182_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h13 : k0_cond13 v10 v21 v33 v45 v57 v69 v81 v93 k0_t2 = 1#1), (Rect.unit (s := S2x3072x2816) (k0_off182 v10 v21 v33 v45 v57 v69 v81 v93 k0_t2) S1x256x2816.size (k0_off182_inb v10 v21 v33 v45 v57 v69 v81 v93 k0_hw10 k0_t2 k0_h13)).WholeWords (EltTy.packing .i8) := fun v10 v21 v33 v45 v57 v69 v81 v93 k0_hw10 k0_t2 k0_h13 => k0_hw10.2.2.2.2.1.2.1 k0_t2 k0_h13 (k0_off182_inb v10 v21 v33 v45 v57 v69 v81 v93 k0_hw10 k0_t2 k0_h13)
theorem k0_off184_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h13 : k0_cond13 v10 v21 v33 v45 v57 v69 v81 v93 k0_t2 = 1#1), ∀ a, (k0_off184 v10 v21 v33 v45 v57 v69 v81 v93 k0_t2) a + S1x256x2816.size a ≤ S2x3072x2816.size a := fun v10 v21 v33 v45 v57 v69 v81 v93 k0_hw10 k0_t2 k0_h13 => k0_hw10.2.2.2.2.1.2.2.1 k0_t2 k0_h13
theorem k0_off184_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h13 : k0_cond13 v10 v21 v33 v45 v57 v69 v81 v93 k0_t2 = 1#1), (Rect.unit (s := S2x3072x2816) (k0_off184 v10 v21 v33 v45 v57 v69 v81 v93 k0_t2) S1x256x2816.size (k0_off184_inb v10 v21 v33 v45 v57 v69 v81 v93 k0_hw10 k0_t2 k0_h13)).WholeWords (EltTy.packing .i8) := fun v10 v21 v33 v45 v57 v69 v81 v93 k0_hw10 k0_t2 k0_h13 => k0_hw10.2.2.2.2.1.2.2.2.1 k0_t2 k0_h13 (k0_off184_inb v10 v21 v33 v45 v57 v69 v81 v93 k0_hw10 k0_t2 k0_h13)
theorem k0_off186_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off186 v10 v21 v33 v45 v57 v69 v81 v93 k0_t2) a + S1x1.size a ≤ S2x6.size a := fun v10 v21 v33 v45 v57 v69 v81 v93 k0_hw10 k0_t2 => k0_hw10.2.2.2.2.1.2.2.2.2.1 k0_t2
theorem k0_off187_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off187 v10 v21 v33 v45 v57 v69 v81 v93 k0_t2) a + S1x256x2816.size a ≤ S2x3072x2816.size a := fun v10 v21 v33 v45 v57 v69 v81 v93 k0_hw10 k0_t2 => k0_hw10.2.2.2.2.1.2.2.2.2.2.1 k0_t2
theorem k0_off187_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), (Rect.unit (s := S2x3072x2816) (k0_off187 v10 v21 v33 v45 v57 v69 v81 v93 k0_t2) S1x256x2816.size (k0_off187_inb v10 v21 v33 v45 v57 v69 v81 v93 k0_hw10 k0_t2)).WholeWords (EltTy.packing .i8) := fun v10 v21 v33 v45 v57 v69 v81 v93 k0_hw10 k0_t2 => k0_hw10.2.2.2.2.1.2.2.2.2.2.2.1 k0_t2 (k0_off187_inb v10 v21 v33 v45 v57 v69 v81 v93 k0_hw10 k0_t2)
theorem k0_off189_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off189 v10 v21 v33 v45 v57 v69 v81 v93 k0_t2) a + S1x256x2816.size a ≤ S2x3072x2816.size a := fun v10 v21 v33 v45 v57 v69 v81 v93 k0_hw10 k0_t2 => k0_hw10.2.2.2.2.1.2.2.2.2.2.2.2.1 k0_t2
theorem k0_off189_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), (Rect.unit (s := S2x3072x2816) (k0_off189 v10 v21 v33 v45 v57 v69 v81 v93 k0_t2) S1x256x2816.size (k0_off189_inb v10 v21 v33 v45 v57 v69 v81 v93 k0_hw10 k0_t2)).WholeWords (EltTy.packing .i8) := fun v10 v21 v33 v45 v57 v69 v81 v93 k0_hw10 k0_t2 => k0_hw10.2.2.2.2.1.2.2.2.2.2.2.2.2.1 k0_t2 (k0_off189_inb v10 v21 v33 v45 v57 v69 v81 v93 k0_hw10 k0_t2)
theorem k0_off191_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off191 v10 v21 v33 v45 v57 v69 v81 v93 k0_t2) a + S1x256x2816.size a ≤ S2x3072x2816.size a := fun v10 v21 v33 v45 v57 v69 v81 v93 k0_hw10 k0_t2 => k0_hw10.2.2.2.2.1.2.2.2.2.2.2.2.2.2.1 k0_t2
theorem k0_off192_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off192 v10 v21 v33 v45 v57 v69 v81 v93 k0_t2) a + S1x256x2816.size a ≤ S2x3072x2816.size a := fun v10 v21 v33 v45 v57 v69 v81 v93 k0_hw10 k0_t2 => k0_hw10.2.2.2.2.1.2.2.2.2.2.2.2.2.2.2.1 k0_t2
theorem k0_off195_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h14 : k0_cond14 v10 v21 v33 v45 v57 v69 v81 v93 k0_t2 = 1#1), ∀ a, (k0_off195 v10 v21 v33 v45 v57 v69 v81 v93 k0_t2) a + S1x1.size a ≤ S2x6.size a := fun v10 v21 v33 v45 v57 v69 v81 v93 k0_hw10 k0_t2 k0_h14 => k0_hw10.2.2.2.2.1.2.2.2.2.2.2.2.2.2.2.2.1 k0_t2 k0_h14
theorem k0_off196_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h14 : k0_cond14 v10 v21 v33 v45 v57 v69 v81 v93 k0_t2 = 1#1), ∀ a, (k0_off196 v10 v21 v33 v45 v57 v69 v81 v93 k0_t2) a + S1x256x2816.size a ≤ S2x3072x2816.size a := fun v10 v21 v33 v45 v57 v69 v81 v93 k0_hw10 k0_t2 k0_h14 => k0_hw10.2.2.2.2.1.2.2.2.2.2.2.2.2.2.2.2.2.1 k0_t2 k0_h14
theorem k0_off196_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h14 : k0_cond14 v10 v21 v33 v45 v57 v69 v81 v93 k0_t2 = 1#1), (Rect.unit (s := S2x3072x2816) (k0_off196 v10 v21 v33 v45 v57 v69 v81 v93 k0_t2) S1x256x2816.size (k0_off196_inb v10 v21 v33 v45 v57 v69 v81 v93 k0_hw10 k0_t2 k0_h14)).WholeWords (EltTy.packing .i8) := fun v10 v21 v33 v45 v57 v69 v81 v93 k0_hw10 k0_t2 k0_h14 => k0_hw10.2.2.2.2.1.2.2.2.2.2.2.2.2.2.2.2.2.2.1 k0_t2 k0_h14 (k0_off196_inb v10 v21 v33 v45 v57 v69 v81 v93 k0_hw10 k0_t2 k0_h14)
theorem k0_off198_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h14 : k0_cond14 v10 v21 v33 v45 v57 v69 v81 v93 k0_t2 = 1#1), ∀ a, (k0_off198 v10 v21 v33 v45 v57 v69 v81 v93 k0_t2) a + S1x256x2816.size a ≤ S2x3072x2816.size a := fun v10 v21 v33 v45 v57 v69 v81 v93 k0_hw10 k0_t2 k0_h14 => k0_hw10.2.2.2.2.1.2.2.2.2.2.2.2.2.2.2.2.2.2.2.1 k0_t2 k0_h14
theorem k0_off198_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h14 : k0_cond14 v10 v21 v33 v45 v57 v69 v81 v93 k0_t2 = 1#1), (Rect.unit (s := S2x3072x2816) (k0_off198 v10 v21 v33 v45 v57 v69 v81 v93 k0_t2) S1x256x2816.size (k0_off198_inb v10 v21 v33 v45 v57 v69 v81 v93 k0_hw10 k0_t2 k0_h14)).WholeWords (EltTy.packing .i8) := fun v10 v21 v33 v45 v57 v69 v81 v93 k0_hw10 k0_t2 k0_h14 => k0_hw10.2.2.2.2.1.2.2.2.2.2.2.2.2.2.2.2.2.2.2.2.1 k0_t2 k0_h14 (k0_off198_inb v10 v21 v33 v45 v57 v69 v81 v93 k0_hw10 k0_t2 k0_h14)
theorem k0_off200_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off200 v10 v21 v33 v45 v57 v69 v81 v93 k0_t2) a + S1x1.size a ≤ S2x6.size a := fun v10 v21 v33 v45 v57 v69 v81 v93 k0_hw10 k0_t2 => k0_hw10.2.2.2.2.1.2.2.2.2.2.2.2.2.2.2.2.2.2.2.2.2.1 k0_t2
theorem k0_off201_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off201 v10 v21 v33 v45 v57 v69 v81 v93 k0_t2) a + S1x256x2816.size a ≤ S2x3072x2816.size a := fun v10 v21 v33 v45 v57 v69 v81 v93 k0_hw10 k0_t2 => k0_hw10.2.2.2.2.1.2.2.2.2.2.2.2.2.2.2.2.2.2.2.2.2.2.1 k0_t2
theorem k0_off201_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), (Rect.unit (s := S2x3072x2816) (k0_off201 v10 v21 v33 v45 v57 v69 v81 v93 k0_t2) S1x256x2816.size (k0_off201_inb v10 v21 v33 v45 v57 v69 v81 v93 k0_hw10 k0_t2)).WholeWords (EltTy.packing .i8) := fun v10 v21 v33 v45 v57 v69 v81 v93 k0_hw10 k0_t2 => k0_hw10.2.2.2.2.1.2.2.2.2.2.2.2.2.2.2.2.2.2.2.2.2.2.2.1 k0_t2 (k0_off201_inb v10 v21 v33 v45 v57 v69 v81 v93 k0_hw10 k0_t2)
theorem k0_off203_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off203 v10 v21 v33 v45 v57 v69 v81 v93 k0_t2) a + S1x256x2816.size a ≤ S2x3072x2816.size a := fun v10 v21 v33 v45 v57 v69 v81 v93 k0_hw10 k0_t2 => k0_hw10.2.2.2.2.1.2.2.2.2.2.2.2.2.2.2.2.2.2.2.2.2.2.2.2.1 k0_t2
theorem k0_off203_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), (Rect.unit (s := S2x3072x2816) (k0_off203 v10 v21 v33 v45 v57 v69 v81 v93 k0_t2) S1x256x2816.size (k0_off203_inb v10 v21 v33 v45 v57 v69 v81 v93 k0_hw10 k0_t2)).WholeWords (EltTy.packing .i8) := fun v10 v21 v33 v45 v57 v69 v81 v93 k0_hw10 k0_t2 => k0_hw10.2.2.2.2.1.2.2.2.2.2.2.2.2.2.2.2.2.2.2.2.2.2.2.2.2.1 k0_t2 (k0_off203_inb v10 v21 v33 v45 v57 v69 v81 v93 k0_hw10 k0_t2)
theorem k0_off205_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off205 v10 v21 v33 v45 v57 v69 v81 v93 k0_t2) a + S1x256x2816.size a ≤ S2x3072x2816.size a := fun v10 v21 v33 v45 v57 v69 v81 v93 k0_hw10 k0_t2 => k0_hw10.2.2.2.2.1.2.2.2.2.2.2.2.2.2.2.2.2.2.2.2.2.2.2.2.2.2.1 k0_t2
theorem k0_off206_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off206 v10 v21 v33 v45 v57 v69 v81 v93 k0_t2) a + S1x256x2816.size a ≤ S2x3072x2816.size a := fun v10 v21 v33 v45 v57 v69 v81 v93 k0_hw10 k0_t2 => k0_hw10.2.2.2.2.1.2.2.2.2.2.2.2.2.2.2.2.2.2.2.2.2.2.2.2.2.2.2.1 k0_t2
theorem k0_off209_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h15 : k0_cond15 v10 v21 v33 v45 v57 v69 v81 v93 k0_t2 = 1#1), ∀ a, (k0_off209 v10 v21 v33 v45 v57 v69 v81 v93 k0_t2) a + S1x1.size a ≤ S2x6.size a := fun v10 v21 v33 v45 v57 v69 v81 v93 k0_hw10 k0_t2 k0_h15 => k0_hw10.2.2.2.2.1.2.2.2.2.2.2.2.2.2.2.2.2.2.2.2.2.2.2.2.2.2.2.2.1 k0_t2 k0_h15
theorem k0_off210_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h15 : k0_cond15 v10 v21 v33 v45 v57 v69 v81 v93 k0_t2 = 1#1), ∀ a, (k0_off210 v10 v21 v33 v45 v57 v69 v81 v93 k0_t2) a + S1x256x2816.size a ≤ S2x3072x2816.size a := fun v10 v21 v33 v45 v57 v69 v81 v93 k0_hw10 k0_t2 k0_h15 => k0_hw10.2.2.2.2.1.2.2.2.2.2.2.2.2.2.2.2.2.2.2.2.2.2.2.2.2.2.2.2.2.1 k0_t2 k0_h15
theorem k0_off210_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h15 : k0_cond15 v10 v21 v33 v45 v57 v69 v81 v93 k0_t2 = 1#1), (Rect.unit (s := S2x3072x2816) (k0_off210 v10 v21 v33 v45 v57 v69 v81 v93 k0_t2) S1x256x2816.size (k0_off210_inb v10 v21 v33 v45 v57 v69 v81 v93 k0_hw10 k0_t2 k0_h15)).WholeWords (EltTy.packing .i8) := fun v10 v21 v33 v45 v57 v69 v81 v93 k0_hw10 k0_t2 k0_h15 => k0_hw10.2.2.2.2.1.2.2.2.2.2.2.2.2.2.2.2.2.2.2.2.2.2.2.2.2.2.2.2.2.2.1 k0_t2 k0_h15 (k0_off210_inb v10 v21 v33 v45 v57 v69 v81 v93 k0_hw10 k0_t2 k0_h15)
theorem k0_off212_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h15 : k0_cond15 v10 v21 v33 v45 v57 v69 v81 v93 k0_t2 = 1#1), ∀ a, (k0_off212 v10 v21 v33 v45 v57 v69 v81 v93 k0_t2) a + S1x256x2816.size a ≤ S2x3072x2816.size a := fun v10 v21 v33 v45 v57 v69 v81 v93 k0_hw10 k0_t2 k0_h15 => k0_hw10.2.2.2.2.1.2.2.2.2.2.2.2.2.2.2.2.2.2.2.2.2.2.2.2.2.2.2.2.2.2.2.1 k0_t2 k0_h15
theorem k0_off212_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h15 : k0_cond15 v10 v21 v33 v45 v57 v69 v81 v93 k0_t2 = 1#1), (Rect.unit (s := S2x3072x2816) (k0_off212 v10 v21 v33 v45 v57 v69 v81 v93 k0_t2) S1x256x2816.size (k0_off212_inb v10 v21 v33 v45 v57 v69 v81 v93 k0_hw10 k0_t2 k0_h15)).WholeWords (EltTy.packing .i8) := fun v10 v21 v33 v45 v57 v69 v81 v93 k0_hw10 k0_t2 k0_h15 => k0_hw10.2.2.2.2.1.2.2.2.2.2.2.2.2.2.2.2.2.2.2.2.2.2.2.2.2.2.2.2.2.2.2.2.1 k0_t2 k0_h15 (k0_off212_inb v10 v21 v33 v45 v57 v69 v81 v93 k0_hw10 k0_t2 k0_h15)
theorem k0_off214_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off214 v10 v21 v33 v45 v57 v69 v81 v93 k0_t2) a + S1x1.size a ≤ S2x6.size a := fun v10 v21 v33 v45 v57 v69 v81 v93 k0_hw10 k0_t2 => k0_hw10.2.2.2.2.1.2.2.2.2.2.2.2.2.2.2.2.2.2.2.2.2.2.2.2.2.2.2.2.2.2.2.2.2.1 k0_t2
theorem k0_off215_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off215 v10 v21 v33 v45 v57 v69 v81 v93 k0_t2) a + S1x256x2816.size a ≤ S2x3072x2816.size a := fun v10 v21 v33 v45 v57 v69 v81 v93 k0_hw10 k0_t2 => k0_hw10.2.2.2.2.1.2.2.2.2.2.2.2.2.2.2.2.2.2.2.2.2.2.2.2.2.2.2.2.2.2.2.2.2.2.1 k0_t2
theorem k0_off215_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), (Rect.unit (s := S2x3072x2816) (k0_off215 v10 v21 v33 v45 v57 v69 v81 v93 k0_t2) S1x256x2816.size (k0_off215_inb v10 v21 v33 v45 v57 v69 v81 v93 k0_hw10 k0_t2)).WholeWords (EltTy.packing .i8) := fun v10 v21 v33 v45 v57 v69 v81 v93 k0_hw10 k0_t2 => k0_hw10.2.2.2.2.1.2.2.2.2.2.2.2.2.2.2.2.2.2.2.2.2.2.2.2.2.2.2.2.2.2.2.2.2.2.2.1 k0_t2 (k0_off215_inb v10 v21 v33 v45 v57 v69 v81 v93 k0_hw10 k0_t2)
theorem k0_off217_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off217 v10 v21 v33 v45 v57 v69 v81 v93 k0_t2) a + S1x256x2816.size a ≤ S2x3072x2816.size a := fun v10 v21 v33 v45 v57 v69 v81 v93 k0_hw10 k0_t2 => k0_hw10.2.2.2.2.1.2.2.2.2.2.2.2.2.2.2.2.2.2.2.2.2.2.2.2.2.2.2.2.2.2.2.2.2.2.2.2 k0_t2
theorem k0_off217_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), (Rect.unit (s := S2x3072x2816) (k0_off217 v10 v21 v33 v45 v57 v69 v81 v93 k0_t2) S1x256x2816.size (k0_off217_inb v10 v21 v33 v45 v57 v69 v81 v93 k0_hw10 k0_t2)).WholeWords (EltTy.packing .i8) := fun v10 v21 v33 v45 v57 v69 v81 v93 k0_hw10 k0_t2 => k0_hw10.2.2.2.2.2.1 k0_t2 (k0_off217_inb v10 v21 v33 v45 v57 v69 v81 v93 k0_hw10 k0_t2)
theorem k0_off219_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off219 v10 v21 v33 v45 v57 v69 v81 v93 k0_t2) a + S1x256x2816.size a ≤ S2x3072x2816.size a := fun v10 v21 v33 v45 v57 v69 v81 v93 k0_hw10 k0_t2 => k0_hw10.2.2.2.2.2.2.1 k0_t2
theorem k0_off220_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off220 v10 v21 v33 v45 v57 v69 v81 v93 k0_t2) a + S1x256x2816.size a ≤ S2x3072x2816.size a := fun v10 v21 v33 v45 v57 v69 v81 v93 k0_hw10 k0_t2 => k0_hw10.2.2.2.2.2.2.2.1 k0_t2
theorem k0_off223_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h16 : k0_cond16 v10 v21 v33 v45 v57 v69 v81 v93 k0_t2 = 1#1), ∀ a, (k0_off223 v10 v21 v33 v45 v57 v69 v81 v93 k0_t2) a + S1x1.size a ≤ S2x6.size a := fun v10 v21 v33 v45 v57 v69 v81 v93 k0_hw10 k0_t2 k0_h16 => k0_hw10.2.2.2.2.2.2.2.2.1 k0_t2 k0_h16
theorem k0_off224_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h16 : k0_cond16 v10 v21 v33 v45 v57 v69 v81 v93 k0_t2 = 1#1), ∀ a, (k0_off224 v10 v21 v33 v45 v57 v69 v81 v93 k0_t2) a + S1x256x2816.size a ≤ S2x3072x2816.size a := fun v10 v21 v33 v45 v57 v69 v81 v93 k0_hw10 k0_t2 k0_h16 => k0_hw10.2.2.2.2.2.2.2.2.2.1 k0_t2 k0_h16
theorem k0_off224_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h16 : k0_cond16 v10 v21 v33 v45 v57 v69 v81 v93 k0_t2 = 1#1), (Rect.unit (s := S2x3072x2816) (k0_off224 v10 v21 v33 v45 v57 v69 v81 v93 k0_t2) S1x256x2816.size (k0_off224_inb v10 v21 v33 v45 v57 v69 v81 v93 k0_hw10 k0_t2 k0_h16)).WholeWords (EltTy.packing .i8) := fun v10 v21 v33 v45 v57 v69 v81 v93 k0_hw10 k0_t2 k0_h16 => k0_hw10.2.2.2.2.2.2.2.2.2.2.1 k0_t2 k0_h16 (k0_off224_inb v10 v21 v33 v45 v57 v69 v81 v93 k0_hw10 k0_t2 k0_h16)
theorem k0_off226_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h16 : k0_cond16 v10 v21 v33 v45 v57 v69 v81 v93 k0_t2 = 1#1), ∀ a, (k0_off226 v10 v21 v33 v45 v57 v69 v81 v93 k0_t2) a + S1x256x2816.size a ≤ S2x3072x2816.size a := fun v10 v21 v33 v45 v57 v69 v81 v93 k0_hw10 k0_t2 k0_h16 => k0_hw10.2.2.2.2.2.2.2.2.2.2.2.1 k0_t2 k0_h16
theorem k0_off226_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h16 : k0_cond16 v10 v21 v33 v45 v57 v69 v81 v93 k0_t2 = 1#1), (Rect.unit (s := S2x3072x2816) (k0_off226 v10 v21 v33 v45 v57 v69 v81 v93 k0_t2) S1x256x2816.size (k0_off226_inb v10 v21 v33 v45 v57 v69 v81 v93 k0_hw10 k0_t2 k0_h16)).WholeWords (EltTy.packing .i8) := fun v10 v21 v33 v45 v57 v69 v81 v93 k0_hw10 k0_t2 k0_h16 => k0_hw10.2.2.2.2.2.2.2.2.2.2.2.2.1 k0_t2 k0_h16 (k0_off226_inb v10 v21 v33 v45 v57 v69 v81 v93 k0_hw10 k0_t2 k0_h16)
theorem k0_off228_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off228 v10 v21 v33 v45 v57 v69 v81 v93 k0_t2) a + S1x1.size a ≤ S2x2.size a := fun v10 v21 v33 v45 v57 v69 v81 v93 k0_hw10 k0_t2 => k0_hw10.2.2.2.2.2.2.2.2.2.2.2.2.2.1 k0_t2
theorem k0_off229_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off229 v10 v21 v33 v45 v57 v69 v81 v93 k0_t2) a + S1x1408x1536.size a ≤ S2x2816x1536.size a := fun v10 v21 v33 v45 v57 v69 v81 v93 k0_hw10 k0_t2 => k0_hw10.2.2.2.2.2.2.2.2.2.2.2.2.2.2.1 k0_t2
theorem k0_off229_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), (Rect.unit (s := S2x2816x1536) (k0_off229 v10 v21 v33 v45 v57 v69 v81 v93 k0_t2) S1x1408x1536.size (k0_off229_inb v10 v21 v33 v45 v57 v69 v81 v93 k0_hw10 k0_t2)).WholeWords (EltTy.packing .i8) := fun v10 v21 v33 v45 v57 v69 v81 v93 k0_hw10 k0_t2 => k0_hw10.2.2.2.2.2.2.2.2.2.2.2.2.2.2.2.1 k0_t2 (k0_off229_inb v10 v21 v33 v45 v57 v69 v81 v93 k0_hw10 k0_t2)
theorem k0_off231_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off231 v10 v21 v33 v45 v57 v69 v81 v93 k0_t2) a + S1x1408x1536.size a ≤ S2x2816x1536.size a := fun v10 v21 v33 v45 v57 v69 v81 v93 k0_hw10 k0_t2 => k0_hw10.2.2.2.2.2.2.2.2.2.2.2.2.2.2.2.2.1 k0_t2
theorem k0_off233_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h17 : k0_cond17 v10 v21 v33 v45 v57 v69 v81 v93 k0_t2 = 1#1), ∀ a, (k0_off233 v10 v21 v33 v45 v57 v69 v81 v93 k0_t2) a + S1x1.size a ≤ S2x2.size a := fun v10 v21 v33 v45 v57 v69 v81 v93 k0_hw10 k0_t2 k0_h17 => k0_hw10.2.2.2.2.2.2.2.2.2.2.2.2.2.2.2.2.2.1 k0_t2 k0_h17
theorem k0_off234_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h17 : k0_cond17 v10 v21 v33 v45 v57 v69 v81 v93 k0_t2 = 1#1), ∀ a, (k0_off234 v10 v21 v33 v45 v57 v69 v81 v93 k0_t2) a + S1x1408x1536.size a ≤ S2x2816x1536.size a := fun v10 v21 v33 v45 v57 v69 v81 v93 k0_hw10 k0_t2 k0_h17 => k0_hw10.2.2.2.2.2.2.2.2.2.2.2.2.2.2.2.2.2.2.1 k0_t2 k0_h17
theorem k0_off234_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h17 : k0_cond17 v10 v21 v33 v45 v57 v69 v81 v93 k0_t2 = 1#1), (Rect.unit (s := S2x2816x1536) (k0_off234 v10 v21 v33 v45 v57 v69 v81 v93 k0_t2) S1x1408x1536.size (k0_off234_inb v10 v21 v33 v45 v57 v69 v81 v93 k0_hw10 k0_t2 k0_h17)).WholeWords (EltTy.packing .i8) := fun v10 v21 v33 v45 v57 v69 v81 v93 k0_hw10 k0_t2 k0_h17 => k0_hw10.2.2.2.2.2.2.2.2.2.2.2.2.2.2.2.2.2.2.2.1 k0_t2 k0_h17 (k0_off234_inb v10 v21 v33 v45 v57 v69 v81 v93 k0_hw10 k0_t2 k0_h17)
theorem k0_off236_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off236 v10 v21 v33 v45 v57 v69 v81 v93 k0_t2) a + S1x1.size a ≤ S2x2.size a := fun v10 v21 v33 v45 v57 v69 v81 v93 k0_hw10 k0_t2 => k0_hw10.2.2.2.2.2.2.2.2.2.2.2.2.2.2.2.2.2.2.2.2.1 k0_t2
theorem k0_off237_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off237 v10 v21 v33 v45 v57 v69 v81 v93 k0_t2) a + S1x1408x1536.size a ≤ S2x2816x1536.size a := fun v10 v21 v33 v45 v57 v69 v81 v93 k0_hw10 k0_t2 => k0_hw10.2.2.2.2.2.2.2.2.2.2.2.2.2.2.2.2.2.2.2.2.2.1 k0_t2
theorem k0_off237_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), (Rect.unit (s := S2x2816x1536) (k0_off237 v10 v21 v33 v45 v57 v69 v81 v93 k0_t2) S1x1408x1536.size (k0_off237_inb v10 v21 v33 v45 v57 v69 v81 v93 k0_hw10 k0_t2)).WholeWords (EltTy.packing .i8) := fun v10 v21 v33 v45 v57 v69 v81 v93 k0_hw10 k0_t2 => k0_hw10.2.2.2.2.2.2.2.2.2.2.2.2.2.2.2.2.2.2.2.2.2.2.1 k0_t2 (k0_off237_inb v10 v21 v33 v45 v57 v69 v81 v93 k0_hw10 k0_t2)
theorem k0_off239_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ a, (k0_off239 v10 v21 v33 v45 v57 v69 v81 v93 k0_t2) a + S1x1408x1536.size a ≤ S2x2816x1536.size a := fun v10 v21 v33 v45 v57 v69 v81 v93 k0_hw10 k0_t2 => k0_hw10.2.2.2.2.2.2.2.2.2.2.2.2.2.2.2.2.2.2.2.2.2.2.2.1 k0_t2
theorem k0_off241_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h18 : k0_cond18 v10 v21 v33 v45 v57 v69 v81 v93 k0_t2 = 1#1), ∀ a, (k0_off241 v10 v21 v33 v45 v57 v69 v81 v93 k0_t2) a + S1x1.size a ≤ S2x2.size a := fun v10 v21 v33 v45 v57 v69 v81 v93 k0_hw10 k0_t2 k0_h18 => k0_hw10.2.2.2.2.2.2.2.2.2.2.2.2.2.2.2.2.2.2.2.2.2.2.2.2.1 k0_t2 k0_h18
theorem k0_off242_inb : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h18 : k0_cond18 v10 v21 v33 v45 v57 v69 v81 v93 k0_t2 = 1#1), ∀ a, (k0_off242 v10 v21 v33 v45 v57 v69 v81 v93 k0_t2) a + S1x1408x1536.size a ≤ S2x2816x1536.size a := fun v10 v21 v33 v45 v57 v69 v81 v93 k0_hw10 k0_t2 k0_h18 => k0_hw10.2.2.2.2.2.2.2.2.2.2.2.2.2.2.2.2.2.2.2.2.2.2.2.2.2.1 k0_t2 k0_h18
theorem k0_off242_wordsi8 : ∀ (v10 : BitVec 32) (v21 : BitVec 32) (v33 : BitVec 32) (v45 : BitVec 32) (v57 : BitVec 32) (v69 : BitVec 32) (v81 : BitVec 32) (v93 : BitVec 32) (k0_hw10 : k0_chk10 v10 v21 v33 v45 v57 v69 v81 v93) (k0_t2 : Fin (k0_t2_loop v10 v21 v33 v45 v57 v69 v81 v93).trips), ∀ (k0_h18 : k0_cond18 v10 v21 v33 v45 v57 v69 v81 v93 k0_t2 = 1#1), (Rect.unit (s := S2x2816x1536) (k0_off242 v10 v21 v33 v45 v57 v69 v81 v93 k0_t2) S1x1408x1536.size (k0_off242_inb v10 v21 v33 v45 v57 v69 v81 v93 k0_hw10 k0_t2 k0_h18)).WholeWords (EltTy.packing .i8) := fun v10 v21 v33 v45 v57 v69 v81 v93 k0_hw10 k0_t2 k0_h18 => k0_hw10.2.2.2.2.2.2.2.2.2.2.2.2.2.2.2.2.2.2.2.2.2.2.2.2.2.2 k0_t2 k0_h18 (k0_off242_inb v10 v21 v33 v45 v57 v69 v81 v93 k0_hw10 k0_t2 k0_h18)

abbrev stage0_0 : Fin 1 → Memref sig .tc .vmem S128x4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S128x1x2816 : Shape := ⟨3, ![128, 1, 2816]⟩
abbrev S128x1x4 : Shape := ⟨3, ![128, 1, 4]⟩
abbrev S8x3072x2816 : Shape := ⟨3, ![8, 3072, 2816]⟩
abbrev S8x3072 : Shape := ⟨2, ![8, 3072]⟩
abbrev S8x2816x1536 : Shape := ⟨3, ![8, 2816, 1536]⟩
abbrev S8x2816 : Shape := ⟨2, ![8, 2816]⟩
abbrev S128x4 : Shape := ⟨2, ![128, 4]⟩
abbrev S128x2816 : Shape := ⟨2, ![128, 2816]⟩
abbrev S1x128x2816 : Shape := ⟨3, ![1, 128, 2816]⟩
abbrev S8x128x2816 : Shape := ⟨3, ![8, 128, 2816]⟩
abbrev S8x128x3072 : Shape := ⟨3, ![8, 128, 3072]⟩
abbrev S8x1x3072 : Shape := ⟨3, ![8, 1, 3072]⟩
abbrev S8x128x1536 : Shape := ⟨3, ![8, 128, 1536]⟩
abbrev S8x1x2816 : Shape := ⟨3, ![8, 1, 2816]⟩
abbrev S8x128x4 : Shape := ⟨3, ![8, 128, 4]⟩
abbrev S1x128x4 : Shape := ⟨3, ![1, 128, 4]⟩
abbrev S8x128 : Shape := ⟨2, ![8, 128]⟩
abbrev S8x128x1 : Shape := ⟨3, ![8, 128, 1]⟩

abbrev nBuf : Space → Nat
  | .hbm => 11
  | .vmem => 8
  | .smem => 0
  | _ => 0

abbrev bufTy : (tb : Table) → Fin (tcTables nBuf tb) → BufTy
  | .hbm, ⟨0, _⟩ => ⟨S128x1x2816, .bf16⟩
  | .hbm, ⟨1, _⟩ => ⟨S128x1x4, .i32⟩
  | .hbm, ⟨2, _⟩ => ⟨S128x1x4, .f32⟩
  | .hbm, ⟨3, _⟩ => ⟨S8x3072x2816, .i8⟩
  | .hbm, ⟨4, _⟩ => ⟨S8x3072, .f32⟩
  | .hbm, ⟨5, _⟩ => ⟨S8x2816x1536, .i8⟩
  | .hbm, ⟨6, _⟩ => ⟨S8x2816, .f32⟩
  | .hbm, ⟨7, _⟩ => ⟨S128x4, .i32⟩
  | .hbm, ⟨8, _⟩ => ⟨S128x4, .f32⟩
  | .hbm, ⟨9, _⟩ => ⟨S128x2816, .bf16⟩
  | .hbm, ⟨10, _⟩ => ⟨S128x2816, .bf16⟩
  | .local _ .vmem, ⟨0, _⟩ => ⟨S128x4, .i32⟩
  | .local _ .vmem, ⟨1, _⟩ => ⟨S128x4, .f32⟩
  | .local _ .vmem, ⟨2, _⟩ => ⟨S128x2816, .bf16⟩
  | .local _ .vmem, ⟨3, _⟩ => ⟨S8x3072, .f32⟩
  | .local _ .vmem, ⟨4, _⟩ => ⟨S8x2816, .f32⟩
  | .local _ .vmem, ⟨5, _⟩ => ⟨S8x3072x2816, .i8⟩
  | .local _ .vmem, ⟨6, _⟩ => ⟨S8x2816x1536, .i8⟩
  | .local _ .vmem, ⟨7, _⟩ => ⟨S128x2816, .bf16⟩
  | _, _ => ⟨S128x1x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S128x4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x3072x2816 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2816x1536 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KI.Mem.lean ====
/-
  The weight windows of the kernel: an expert's rows in HBM, the slot's rows in VMEM they are copied to, the DMA
  semaphore cell they complete on, and what is held of a cell while its copies are absent, in flight or landed.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Batch
public import Idealize.ShloMosaic.Lib.Tactic
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch shareTokN)
open Idealize.ShloMosaic.ValueIdx (ix1 ix2 ix3)

variable {F : FTy → Type} [FloatOps F]

/-- The proof's resource algebra: the pipeline library's beside the transfers' counters. -/
local notation "𝕄" => MT nD τ sig Unit (Elt F) ℕ (Pipeline.UD sig nD τ) ℕ

/-- The counters' place in it. -/
local notation "𝔼" => countersEmb (U := Pipeline.UD sig nD τ)

/-- A program run as the kernel's core. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

theorem ret_bind' {E : Type → Type} {α β : Type} (a : α) (k : α → Prog E β) : (Prog.ret a).bind k = k a := rfl

/-! ## The windows -/

/-- Rows of an expert's (or slot's) gate-and-up weights as a memref of their own. -/
abbrev win13 {sp : Space} {S : Shape} (m : Memref sig .tc sp S .i8) (off : Fin S.rank → ℕ)
    (size : Fin S.rank → ℕ) (inb : ∀ a, off a + size a ≤ S.size a) (T : Shape)
    (h : (Rect.unit (s := S) off size inb).shape.Squeezes T) : Memref sig .tc sp T .i8 :=
  (m.slice (Rect.unit (s := S) off size inb) (fun _ => rfl)).squeeze T h

theorem inbD13 (s : Fin 2) (ch : Fin 6) (hf : Fin 2) :
    ∀ a, (![s.val, hf.val * 1536 + ch.val * 256, 0] : Fin 3 → ℕ) a + S1x256x2816.size a ≤ S2x3072x2816.size a := by
  intro a; fin_cases a <;> simp [Shape.size] <;> omega
theorem inbS13 (e : Fin 8) (ch : Fin 6) (hf : Fin 2) :
    ∀ a, (![e.val, hf.val * 1536 + ch.val * 256, 0] : Fin 3 → ℕ) a + S1x256x2816.size a ≤ S8x3072x2816.size a := by
  intro a; fin_cases a <;> simp [Shape.size] <;> omega
theorem inbD2 (s : Fin 2) (d : Fin 2) :
    ∀ a, (![s.val, d.val * 1408, 0] : Fin 3 → ℕ) a + S1x1408x1536.size a ≤ S2x2816x1536.size a := by
  intro a; fin_cases a <;> simp [Shape.size] <;> omega
theorem inbS2 (e : Fin 8) (d : Fin 2) :
    ∀ a, (![e.val, d.val * 1408, 0] : Fin 3 → ℕ) a + S1x1408x1536.size a ≤ S8x2816x1536.size a := by
  intro a; fin_cases a <;> simp [Shape.size] <;> omega

/-- Slot `s`'s rows for chunk `ch`: the gate's (`hf = 0`) or the up projection's (`hf = 1`). -/
abbrev dst13 (s : Fin 2) (ch : Fin 6) (hf : Fin 2) : Memref sig .tc .vmem S256x2816 .i8 :=
  win13 (Memref.whole cc0_scratch0) ![s.val, hf.val * 1536 + ch.val * 256, 0] S1x256x2816.size (inbD13 s ch hf) S256x2816
    squeezes_S1x256x2816_S256x2816
/-- Expert `e`'s rows for chunk `ch`. -/
abbrev src13 (e : Fin 8) (ch : Fin 6) (hf : Fin 2) : Memref sig .tc .hbm S256x2816 .i8 :=
  win13 (Memref.whole main_arg3) ![e.val, hf.val * 1536 + ch.val * 256, 0] S1x256x2816.size (inbS13 e ch hf) S256x2816
    squeezes_S1x256x2816_S256x2816
/-- Slot `s`'s down-projection rows for column half `d`. -/
abbrev dst2 (s : Fin 2) (d : Fin 2) : Memref sig .tc .vmem S1408x1536 .i8 :=
  win13 (Memref.whole cc0_scratch1) ![s.val, d.val * 1408, 0] S1x1408x1536.size (inbD2 s d) S1408x1536
    squeezes_S1x1408x1536_S1408x1536
/-- Expert `e`'s down-projection rows for column half `d`. -/
abbrev src2 (e : Fin 8) (d : Fin 2) : Memref sig .tc .hbm S1408x1536 .i8 :=
  win13 (Memref.whole main_arg5) ![e.val, d.val * 1408, 0] S1x1408x1536.size (inbS2 e d) S1408x1536
    squeezes_S1x1408x1536_S1408x1536

theorem inbSem13 (s : Fin 2) (ch : Fin 6) : ∀ a, (![s.val, ch.val] : Fin 2 → ℕ) a + S1x1.size a ≤ S2x6.size a := by
  intro a; fin_cases a <;> simp [Shape.size] <;> omega
theorem inbSem2 (s : Fin 2) (d : Fin 2) : ∀ a, (![s.val, d.val] : Fin 2 → ℕ) a + S1x1.size a ≤ S2x2.size a := by
  intro a; fin_cases a <;> simp [Shape.size] <;> omega

/-- The cell the two copies of slot `s`, chunk `ch` complete on. -/
abbrev sem13 (s : Fin 2) (ch : Fin 6) : DmaSem sig :=
  ((cc0_scratch5.slice (Rect.unit (s := S2x6) ![s.val, ch.val] S1x1.size (inbSem13 s ch))).squeeze S_ squeezes_S1x1_S_).sem
/-- The cell the copy of slot `s`, column half `d` completes on. -/
abbrev sem2 (s : Fin 2) (d : Fin 2) : DmaSem sig :=
  ((cc0_scratch6.slice (Rect.unit (s := S2x2) ![s.val, d.val] S1x1.size (inbSem2 s d))).squeeze S_ squeezes_S1x1_S_).sem

theorem sem13_eq (s : Fin 2) (ch : Fin 6) : sem13 s ch = ⟨6 + s.val * 6 + ch.val, by have := s.isLt; have := ch.isLt; show _ < 22; omega⟩ := by
  revert s ch; decide
theorem sem2_eq (s : Fin 2) (d : Fin 2) : sem2 s d = ⟨18 + s.val * 2 + d.val, by have := s.isLt; have := d.isLt; show _ < 22; omega⟩ := by
  revert s d; decide

/-! ## What lands -/

/-- The slot's gate-and-up rows when they are expert `e`'s, whatever the slot. -/
def cont13 (w : S8x3072x2816.Idx → Elt F .i8) (e : Fin 8) : S2x3072x2816.Idx → Elt F .i8 :=
  fun j => w (ix3 (n0 := 8) (n1 := 3072) (n2 := 2816) e (j 1) (j 2))
/-- The slot's down-projection rows when they are expert `e`'s. -/
def cont2 (w : S8x2816x1536.Idx → Elt F .i8) (e : Fin 8) : S2x2816x1536.Idx → Elt F .i8 :=
  fun j => w (ix3 (n0 := 8) (n1 := 2816) (n2 := 1536) e (j 1) (j 2))

/-- A copy's delivery is its destination at contents `G` when `G` agrees with what the source reads. -/
theorem landed_eq (c : Dev nD) {sp sp' : Space} {S : Shape} (src : Memref sig .tc sp S .i8) (dst : Memref sig .tc sp' S .i8)
    (fs : Buf (Elt F) (src.view.loc (c : Thread nD τ))) (fd G : Buf (Elt F) (dst.view.loc (c : Thread nD τ)))
    (h : ∀ x, dst.view.read (Elt F) G x = src.view.read (Elt F) fs x) :
    (dst.view.loc (c : Thread nD τ) ↦[dst.view.set]{fullShare}
        (dst.view.write (Elt F) fd ((ReadAs.same (Val := Elt F)).apply (src.view.read (Elt F) fs)) Finset.univ) : sProp 𝕄)
      = (dst.view.loc (c : Thread nD τ) ↦[dst.view.set]{fullShare} G) :=
  pointsTo_congr fun i hi => by
    obtain ⟨x, -, rfl⟩ := Finset.mem_map.mp hi
    rw [View.write_emb_of_mem _ _ (Finset.mem_univ _)]
    have := h x
    rw [View.read_apply] at this
    show _root_.cast _ (src.view.read (Elt F) fs x) = _
    rw [← this]
    simp

theorem read13 (w : S8x3072x2816.Idx → Elt F .i8) (e : Fin 8) (s : Fin 2) (ch : Fin 6) (hf : Fin 2) (x : S256x2816.Idx) :
    (dst13 s ch hf).view.read (Elt F) (cont13 w e) x = (src13 e ch hf).view.read (Elt F) w x := by
  show w _ = w _
  congr 1
  have h0 : ((Shape.reshapeEquiv squeezes_S1x256x2816_S256x2816.numel_eq x : S1x256x2816.Idx) 0).val < 1 :=
    (Shape.reshapeEquiv squeezes_S1x256x2816_S256x2816.numel_eq x 0).isLt
  funext a
  apply Fin.ext
  fin_cases a
  · show e.val = e.val + 1 * ((Shape.reshapeEquiv squeezes_S1x256x2816_S256x2816.numel_eq x : S1x256x2816.Idx) 0).val
    omega
  · rfl
  · rfl

theorem read2 (w : S8x2816x1536.Idx → Elt F .i8) (e : Fin 8) (s : Fin 2) (d : Fin 2) (x : S1408x1536.Idx) :
    (dst2 s d).view.read (Elt F) (cont2 w e) x = (src2 e d).view.read (Elt F) w x := by
  show w _ = w _
  congr 1
  have h0 : ((Shape.reshapeEquiv squeezes_S1x1408x1536_S1408x1536.numel_eq x : S1x1408x1536.Idx) 0).val < 1 :=
    (Shape.reshapeEquiv squeezes_S1x1408x1536_S1408x1536.numel_eq x 0).isLt
  funext a
  apply Fin.ext
  fin_cases a
  · show e.val = e.val + 1 * ((Shape.reshapeEquiv squeezes_S1x1408x1536_S1408x1536.numel_eq x : S1x1408x1536.Idx) 0).val
    omega
  · rfl
  · rfl

/-! ## What is held of a cell -/

/-- A window held by exactly its own elements. -/
abbrev own (c : Dev nD) {sp : Space} {S : Shape} (M : Memref sig .tc sp S .i8) (q : PosShare TreeShare)
    (f : Buf (Elt F) (M.view.loc (c : Thread nD τ))) : sProp 𝕄 :=
  M.view.loc (c : Thread nD τ) ↦[M.view.set]{q} f

/-- The read share of the expert weights lent to a slot's window. -/
abbrev q13 (s : Fin 2) (ch : Fin 6) (hf : Fin 2) : PosShare TreeShare := shareTokN fullShare (s.val * 12 + ch.val * 2 + hf.val)
abbrev q2 (s : Fin 2) (d : Fin 2) : PosShare TreeShare := shareTokN fullShare (s.val * 2 + d.val)

/-- A read share of the whole gate-and-up (down-projection) weights. -/
abbrev tok13 (c : Dev nD) (w : S8x3072x2816.Idx → Elt F .i8) (s : Fin 2) (ch : Fin 6) (hf : Fin 2) : sProp 𝕄 :=
  (Memref.whole main_arg3).view.loc (c : Thread nD τ) ↦{q13 s ch hf} w
abbrev tok2 (c : Dev nD) (w : S8x2816x1536.Idx → Elt F .i8) (s : Fin 2) (d : Fin 2) : sProp 𝕄 :=
  (Memref.whole main_arg5).view.loc (c : Thread nD τ) ↦{q2 s d} w
/-- The same with an expert's rows taken out. -/
abbrev rest13 (c : Dev nD) (w : S8x3072x2816.Idx → Elt F .i8) (s : Fin 2) (ch : Fin 6) (hf : Fin 2) (e : Fin 8) : sProp 𝕄 :=
  (src13 e ch hf).view.loc (c : Thread nD τ) ↦[Finset.univ \ (src13 e ch hf).view.set]{q13 s ch hf} w
abbrev rest2 (c : Dev nD) (w : S8x2816x1536.Idx → Elt F .i8) (s : Fin 2) (d : Fin 2) (e : Fin 8) : sProp 𝕄 :=
  (src2 e d).view.loc (c : Thread nD τ) ↦[Finset.univ \ (src2 e d).view.set]{q2 s d} w

/-- What the two copies of a chunk deliver: the gate's rows, then the up projection's. -/
def del13 (c : Dev nD) (w : S8x3072x2816.Idx → Elt F .i8) (e : Fin 8) (s : Fin 2) (ch : Fin 6) : Fin 2 → sProp 𝕄
  | 0 => iprop(own c (dst13 s ch 0) fullShare (cont13 w e) ∗ own c (src13 e ch 0) (q13 s ch 0) w)
  | 1 => iprop(own c (dst13 s ch 1) fullShare (cont13 w e) ∗ own c (src13 e ch 1) (q13 s ch 1) w)
/-- What the one copy of a column half delivers. -/
def del2 (c : Dev nD) (w : S8x2816x1536.Idx → Elt F .i8) (e : Fin 8) (s : Fin 2) (d : Fin 2) : Fin 1 → sProp 𝕄
  | 0 => iprop(own c (dst2 s d) fullShare (cont2 w e) ∗ own c (src2 e d) (q2 s d) w)

instance del13_storable (c : Dev nD) (w : S8x3072x2816.Idx → Elt F .i8) (e : Fin 8) (s : Fin 2) (ch : Fin 6) (t : Fin 2) :
    Storable (upEmb : UEmb _ 𝕄) (del13 c w e s ch t) := by
  fin_cases t <;> simp only [del13] <;> infer_instance
instance del2_storable (c : Dev nD) (w : S8x2816x1536.Idx → Elt F .i8) (e : Fin 8) (s : Fin 2) (d : Fin 2) (t : Fin 1) :
    Storable (upEmb : UEmb _ 𝕄) (del2 c w e s d t) := by
  fin_cases t; simp only [del2]; infer_instance

theorem del13_split (c : Dev nD) (w : S8x3072x2816.Idx → Elt F .i8) (e : Fin 8) (s : Fin 2) (ch : Fin 6) :
    (bigSep Finset.univ (del13 c w e s ch) : sProp 𝕄)
      ⊢ iprop((own c (dst13 s ch 0) fullShare (cont13 w e) ∗ own c (src13 e ch 0) (q13 s ch 0) w)
        ∗ (own c (dst13 s ch 1) fullShare (cont13 w e) ∗ own c (src13 e ch 1) (q13 s ch 1) w)) := by
  rw [Idealize.SL.BI.bigSep_univ_eq_bigSepL [0, 1] (by decide) (by decide) _]; exact .rfl
theorem del2_split (c : Dev nD) (w : S8x2816x1536.Idx → Elt F .i8) (e : Fin 8) (s : Fin 2) (d : Fin 2) :
    (bigSep Finset.univ (del2 c w e s d) : sProp 𝕄)
      ⊢ iprop(own c (dst2 s d) fullShare (cont2 w e) ∗ own c (src2 e d) (q2 s d) w) := by
  rw [Idealize.SL.BI.bigSep_univ_eq_bigSepL [0] (by decide) (by decide) _]; exact .rfl

/-- The units one copy of each kind completes with. -/
abbrev N13 : ℕ := (dst13 0 0 0).view.dmaCredit
abbrev N2 : ℕ := (dst2 0 0).view.dmaCredit

theorem N13_pos : 0 < N13 := by decide
theorem N2_pos : 0 < N2 := by decide

abbrev bat13 (c : Dev nD) (w : S8x3072x2816.Idx → Elt F .i8) (e : Fin 8) (s : Fin 2) (ch : Fin 6) (k u : ℕ) : sProp 𝕄 :=
  Batch 𝔼 (c : Thread nD τ) (.dma (sem13 s ch)) () N13 (del13 c w e s ch) k u
abbrev bat2 (c : Dev nD) (w : S8x2816x1536.Idx → Elt F .i8) (e : Fin 8) (s : Fin 2) (d : Fin 2) (k u : ℕ) : sProp 𝕄 :=
  Batch 𝔼 (c : Thread nD τ) (.dma (sem2 s d)) () N2 (del2 c w e s d) k u

/-- A chunk's cell with no copy in flight. -/
def idle13 (c : Dev nD) (w : S8x3072x2816.Idx → Elt F .i8) (s : Fin 2) (ch : Fin 6) : sProp 𝕄 :=
  iprop(semVal ((c : Thread nD τ), .dma (sem13 s ch)) 0 ∗ (∃ f, own c (dst13 s ch 0) fullShare f) ∗ (∃ f, own c (dst13 s ch 1) fullShare f)
    ∗ tok13 c w s ch 0 ∗ tok13 c w s ch 1)
/-- With the gate's copy of expert `e` started. -/
def half13 (c : Dev nD) (w : S8x3072x2816.Idx → Elt F .i8) (s : Fin 2) (ch : Fin 6) (e : Fin 8) : sProp 𝕄 :=
  iprop(bat13 c w e s ch 1 0 ∗ (∃ f, own c (dst13 s ch 1) fullShare f) ∗ rest13 c w s ch 0 e ∗ tok13 c w s ch 1)
/-- With both copies of expert `e` started and `u` units of them waited for. -/
def busy13 (c : Dev nD) (w : S8x3072x2816.Idx → Elt F .i8) (s : Fin 2) (ch : Fin 6) (e : Fin 8) (u : ℕ) : sProp 𝕄 :=
  iprop(bat13 c w e s ch 2 u ∗ rest13 c w s ch 0 e ∗ rest13 c w s ch 1 e)
/-- With both landed. -/
def full13 (c : Dev nD) (w : S8x3072x2816.Idx → Elt F .i8) (s : Fin 2) (ch : Fin 6) (e : Fin 8) : sProp 𝕄 :=
  iprop(semVal ((c : Thread nD τ), .dma (sem13 s ch)) 0 ∗ own c (dst13 s ch 0) fullShare (cont13 w e) ∗ own c (dst13 s ch 1) fullShare (cont13 w e)
    ∗ tok13 c w s ch 0 ∗ tok13 c w s ch 1)
/-- A column half's cell with no copy in flight, with expert `e`'s started, with it landed. -/
def idle2 (c : Dev nD) (w : S8x2816x1536.Idx → Elt F .i8) (s : Fin 2) (d : Fin 2) : sProp 𝕄 :=
  iprop(semVal ((c : Thread nD τ), .dma (sem2 s d)) 0 ∗ (∃ f, own c (dst2 s d) fullShare f) ∗ tok2 c w s d)
def busy2 (c : Dev nD) (w : S8x2816x1536.Idx → Elt F .i8) (s : Fin 2) (d : Fin 2) (e : Fin 8) : sProp 𝕄 :=
  iprop(bat2 c w e s d 1 0 ∗ rest2 c w s d e)
def full2 (c : Dev nD) (w : S8x2816x1536.Idx → Elt F .i8) (s : Fin 2) (d : Fin 2) (e : Fin 8) : sProp 𝕄 :=
  iprop(semVal ((c : Thread nD τ), .dma (sem2 s d)) 0 ∗ own c (dst2 s d) fullShare (cont2 w e) ∗ tok2 c w s d)

/-- A cell between trips: idle, or with an expert's copies in flight. -/
def pend13 (c : Dev nD) (w : S8x3072x2816.Idx → Elt F .i8) (s : Fin 2) (ch : Fin 6) : Option (Fin 8) → sProp 𝕄
  | none => idle13 c w s ch
  | some e => busy13 c w s ch e 0
def pend2 (c : Dev nD) (w : S8x2816x1536.Idx → Elt F .i8) (s : Fin 2) (d : Fin 2) : Option (Fin 8) → sProp 𝕄
  | none => idle2 c w s d
  | some e => busy2 c w s d e

theorem full13_idle (c : Dev nD) (w : S8x3072x2816.Idx → Elt F .i8) (s : Fin 2) (ch : Fin 6) (e : Fin 8) :
    full13 c w s ch e ⊢ (idle13 c w s ch : sProp 𝕄) := by
  unfold full13 idle13
  iintro ⟨H1, H2, H3, H4, H5⟩
  isplitl [H1]; · iexact H1
  isplitl [H2]; · iexists _; iexact H2
  isplitl [H3]; · iexists _; iexact H3
  isplitl [H4]; · iexact H4
  iexact H5

theorem full2_idle (c : Dev nD) (w : S8x2816x1536.Idx → Elt F .i8) (s : Fin 2) (d : Fin 2) (e : Fin 8) :
    full2 c w s d e ⊢ (idle2 c w s d : sProp 𝕄) := by
  unfold full2 idle2
  iintro ⟨H1, H2, H3⟩
  isplitl [H1]; · iexact H1
  isplitl [H2]; · iexists _; iexact H2
  iexact H3

/-! ## Starting and awaiting the copies -/

section Rules

variable (c : Dev nD) {α : Type} {k : PUnit → Prog (TpuEff nD τ sig (Elt F) Λ₀ .tc) α}
variable {Q : α → sProp (MT nD τ sig Unit (Elt F) ℕ (Pipeline.UD sig nD τ) ℕ)}

/-- Starting the gate's copy of a chunk. -/
theorem wp_issueA (w : S8x3072x2816.Idx → Elt F .i8) (s : Fin 2) (ch : Fin 6) (e : Fin 8)
    {oq : Fin 2 → ℕ} {os od : Fin 3 → ℕ} (hq : oq = ![s.val, ch.val]) (hd : od = ![s.val, (0 : Fin 2).val * 1536 + ch.val * 256, 0])
    (hs : os = ![e.val, (0 : Fin 2).val * 1536 + ch.val * 256, 0]) {inbq inbd inbs}
    {hsrc : (win13 (Memref.whole main_arg3) os S1x256x2816.size inbs S256x2816 squeezes_S1x256x2816_S256x2816).view.WordExact}
    {hdst : (win13 (Memref.whole cc0_scratch0) od S1x256x2816.size inbd S256x2816 squeezes_S1x256x2816_S256x2816).view.WordExact}
    {hsem} :
    idle13 c w s ch ⊢ iprop((half13 c w s ch e -∗ WP c (k ⟨⟩) Q) -∗ WP c (.op (.enqueueDmaAs
      (win13 (Memref.whole main_arg3) os S1x256x2816.size inbs S256x2816 squeezes_S1x256x2816_S256x2816)
      (.here (win13 (Memref.whole cc0_scratch0) od S1x256x2816.size inbd S256x2816 squeezes_S1x256x2816_S256x2816)) ReadAs.same
      (.dma (((cc0_scratch5.slice (Rect.unit (s := S2x6) oq S1x1.size inbq)).squeeze S_ squeezes_S1x1_S_).sem)) hsrc hdst hsem) k) Q) := by
  subst hq; subst hd; subst hs
  unfold idle13 half13
  iintro ⟨Hv, ⟨%f, Hd0⟩, Hd1, Ht0, Ht1⟩ Hk
  imod (Transfers.batch_alloc' (Lvl := ℕ) 𝔼 (c : Thread nD τ) () N13 (del13 c w e s ch) (sm := .dma (sem13 s ch)) (E := Set.univ)) $$ Hv with HB
  ihave Hsp := (pointsTo_split_subset (Finset.subset_univ (src13 e ch 0).view.set)).1 $$ Ht0
  icases Hsp with ⟨Hs, Hr⟩
  iapply (Transfers.wp_dmaBatch 𝔼 Variants.none (c : Thread nD τ) none (src := src13 e ch 0) (dst := dst13 s ch 0) () N13 rfl subset_rfl
    (D := del13 c w e s ch) (j := 0) (u := 0) (by decide) (Nat.zero_le _)
    (by rw [landed_eq c (src13 e ch 0) (dst13 s ch 0) w f (cont13 w e) (read13 w e s ch 0)]; exact .rfl)) $$ [Hs Hd0 HB]
  · isplitl [Hs]; · iexact Hs
    isplitl [Hd0]; · iexact Hd0
    iexact HB
  iintro HB
  iapply Hk
  isplitl [HB]; · iexact HB
  isplitl [Hd1]; · iexact Hd1
  isplitl [Hr]; · iexact Hr
  iexact Ht1

/-- Starting the up projection's copy of a chunk. -/
theorem wp_issueB (w : S8x3072x2816.Idx → Elt F .i8) (s : Fin 2) (ch : Fin 6) (e : Fin 8)
    {oq : Fin 2 → ℕ} {os od : Fin 3 → ℕ} (hq : oq = ![s.val, ch.val]) (hd : od = ![s.val, (1 : Fin 2).val * 1536 + ch.val * 256, 0])
    (hs : os = ![e.val, (1 : Fin 2).val * 1536 + ch.val * 256, 0]) {inbq inbd inbs}
    {hsrc : (win13 (Memref.whole main_arg3) os S1x256x2816.size inbs S256x2816 squeezes_S1x256x2816_S256x2816).view.WordExact}
    {hdst : (win13 (Memref.whole cc0_scratch0) od S1x256x2816.size inbd S256x2816 squeezes_S1x256x2816_S256x2816).view.WordExact}
    {hsem} :
    half13 c w s ch e ⊢ iprop((busy13 c w s ch e 0 -∗ WP c (k ⟨⟩) Q) -∗ WP c (.op (.enqueueDmaAs
      (win13 (Memref.whole main_arg3) os S1x256x2816.size inbs S256x2816 squeezes_S1x256x2816_S256x2816)
      (.here (win13 (Memref.whole cc0_scratch0) od S1x256x2816.size inbd S256x2816 squeezes_S1x256x2816_S256x2816)) ReadAs.same
      (.dma (((cc0_scratch5.slice (Rect.unit (s := S2x6) oq S1x1.size inbq)).squeeze S_ squeezes_S1x1_S_).sem)) hsrc hdst hsem) k) Q) := by
  subst hq; subst hd; subst hs
  unfold half13 busy13
  iintro ⟨HB, ⟨%f, Hd1⟩, Hr0, Ht1⟩ Hk
  ihave Hsp := (pointsTo_split_subset (Finset.subset_univ (src13 e ch 1).view.set)).1 $$ Ht1
  icases Hsp with ⟨Hs, Hr⟩
  iapply (Transfers.wp_dmaBatch 𝔼 Variants.none (c : Thread nD τ) none (src := src13 e ch 1) (dst := dst13 s ch 1) () N13 rfl subset_rfl
    (D := del13 c w e s ch) (j := 1) (u := 0) (by decide) (Nat.zero_le _)
    (by rw [landed_eq c (src13 e ch 1) (dst13 s ch 1) w f (cont13 w e) (read13 w e s ch 1)]; exact .rfl)) $$ [Hs Hd1 HB]
  · isplitl [Hs]; · iexact Hs
    isplitl [Hd1]; · iexact Hd1
    iexact HB
  iintro HB
  iapply Hk
  isplitl [HB]; · iexact HB
  isplitl [Hr0]; · iexact Hr0
  iexact Hr

/-- Starting a column half's copy. -/
theorem wp_issue2 (w : S8x2816x1536.Idx → Elt F .i8) (s : Fin 2) (d : Fin 2) (e : Fin 8)
    {oq : Fin 2 → ℕ} {os od : Fin 3 → ℕ} (hq : oq = ![s.val, d.val]) (hd : od = ![s.val, d.val * 1408, 0])
    (hs : os = ![e.val, d.val * 1408, 0]) {inbq inbd inbs}
    {hsrc : (win13 (Memref.whole main_arg5) os S1x1408x1536.size inbs S1408x1536 squeezes_S1x1408x1536_S1408x1536).view.WordExact}
    {hdst : (win13 (Memref.whole cc0_scratch1) od S1x1408x1536.size inbd S1408x1536 squeezes_S1x1408x1536_S1408x1536).view.WordExact}
    {hsem} :
    idle2 c w s d ⊢ iprop((busy2 c w s d e -∗ WP c (k ⟨⟩) Q) -∗ WP c (.op (.enqueueDmaAs
      (win13 (Memref.whole main_arg5) os S1x1408x1536.size inbs S1408x1536 squeezes_S1x1408x1536_S1408x1536)
      (.here (win13 (Memref.whole cc0_scratch1) od S1x1408x1536.size inbd S1408x1536 squeezes_S1x1408x1536_S1408x1536)) ReadAs.same
      (.dma (((cc0_scratch6.slice (Rect.unit (s := S2x2) oq S1x1.size inbq)).squeeze S_ squeezes_S1x1_S_).sem)) hsrc hdst hsem) k) Q) := by
  subst hq; subst hd; subst hs
  unfold idle2 busy2
  iintro ⟨Hv, ⟨%f, Hd0⟩, Ht0⟩ Hk
  imod (Transfers.batch_alloc' (Lvl := ℕ) 𝔼 (c : Thread nD τ) () N2 (del2 c w e s d) (sm := .dma (sem2 s d)) (E := Set.univ)) $$ Hv with HB
  ihave Hsp := (pointsTo_split_subset (Finset.subset_univ (src2 e d).view.set)).1 $$ Ht0
  icases Hsp with ⟨Hs, Hr⟩
  iapply (Transfers.wp_dmaBatch 𝔼 Variants.none (c : Thread nD τ) none (src := src2 e d) (dst := dst2 s d) () N2 rfl subset_rfl
    (D := del2 c w e s d) (j := 0) (u := 0) (by decide) (Nat.zero_le _)
    (by rw [landed_eq c (src2 e d) (dst2 s d) w f (cont2 w e) (read2 w e s d)]; exact .rfl)) $$ [Hs Hd0 HB]
  · isplitl [Hs]; · iexact Hs
    isplitl [Hd0]; · iexact Hd0
    iexact HB
  iintro HB
  iapply Hk
  isplitl [HB]; · iexact HB
  iexact Hr

/-- The first wait of a chunk's cell: one copy's units, nothing handed back. -/
theorem wp_waitA (w : S8x3072x2816.Idx → Elt F .i8) (s : Fin 2) (ch : Fin 6) (e : Fin 8)
    {oq : Fin 2 → ℕ} {os od : Fin 3 → ℕ} (hq : oq = ![s.val, ch.val]) {inbq inbd inbs}
    {hsrc : (win13 (Memref.whole main_arg3) os S1x256x2816.size inbs S256x2816 squeezes_S1x256x2816_S256x2816).view.WordExact}
    {hdst : (win13 (Memref.whole cc0_scratch0) od S1x256x2816.size inbd S256x2816 squeezes_S1x256x2816_S256x2816).view.WordExact} :
    iprop(busy13 c w s ch e 0 ∗ ∃ W, owes (c : Thread nD τ) 0 W)
      ⊢ iprop((iprop(busy13 c w s ch e N13 ∗ ∃ W, owes (c : Thread nD τ) 0 W) -∗ WP c (k ⟨⟩) Q) -∗ WP c (.op (.waitDma2
      (((cc0_scratch5.slice (Rect.unit (s := S2x6) oq S1x1.size inbq)).squeeze S_ squeezes_S1x1_S_).sem)
      (win13 (Memref.whole main_arg3) os S1x256x2816.size inbs S256x2816 squeezes_S1x256x2816_S256x2816)
      (win13 (Memref.whole cc0_scratch0) od S1x256x2816.size inbd S256x2816 squeezes_S1x256x2816_S256x2816) hsrc hdst) k) Q) := by
  subst hq
  unfold busy13
  iintro ⟨⟨HB, Hr0, Hr1⟩, %W, HO⟩ Hk
  iapply (Transfers.wp_waitBatch 𝔼 Variants.none (c : Thread nD τ) none () (srcw := win13 (Memref.whole main_arg3) os S1x256x2816.size inbs S256x2816 squeezes_S1x256x2816_S256x2816) (dstw := win13 (Memref.whole cc0_scratch0) od S1x256x2816.size inbd S256x2816 squeezes_S1x256x2816_S256x2816)
    (hsrc := hsrc) (hdst := hdst) (N := N13) rfl (D := del13 c w e s ch) (u := 0)
    (by have := N13_pos; omega)) $$ [HB HO]
  · isplitl [HB] <;> iassumption
  rw [Nat.zero_add]
  iintro ⟨HB, HO⟩
  iapply Hk
  isplitl [HB Hr0 Hr1]
  · isplitl [HB]; · iexact HB
    isplitl [Hr0]; · iexact Hr0
    iexact Hr1
  iexists _; iexact HO

/-- The second wait: both windows landed. -/
theorem wp_waitB (w : S8x3072x2816.Idx → Elt F .i8) (s : Fin 2) (ch : Fin 6) (e : Fin 8)
    {oq : Fin 2 → ℕ} {os od : Fin 3 → ℕ} (hq : oq = ![s.val, ch.val]) {inbq inbd inbs}
    {hsrc : (win13 (Memref.whole main_arg3) os S1x256x2816.size inbs S256x2816 squeezes_S1x256x2816_S256x2816).view.WordExact}
    {hdst : (win13 (Memref.whole cc0_scratch0) od S1x256x2816.size inbd S256x2816 squeezes_S1x256x2816_S256x2816).view.WordExact} :
    iprop(busy13 c w s ch e N13 ∗ ∃ W, owes (c : Thread nD τ) 0 W)
      ⊢ iprop((iprop(full13 c w s ch e ∗ ∃ W, owes (c : Thread nD τ) 0 W) -∗ WP c (k ⟨⟩) Q) -∗ WP c (.op (.waitDma2
      (((cc0_scratch5.slice (Rect.unit (s := S2x6) oq S1x1.size inbq)).squeeze S_ squeezes_S1x1_S_).sem)
      (win13 (Memref.whole main_arg3) os S1x256x2816.size inbs S256x2816 squeezes_S1x256x2816_S256x2816)
      (win13 (Memref.whole cc0_scratch0) od S1x256x2816.size inbd S256x2816 squeezes_S1x256x2816_S256x2816) hsrc hdst) k) Q) := by
  subst hq
  unfold busy13 full13
  iintro ⟨⟨HB, Hr0, Hr1⟩, %W, HO⟩ Hk
  iapply (Transfers.wp_waitBatchLast 𝔼 Variants.none (c : Thread nD τ) none () (srcw := win13 (Memref.whole main_arg3) os S1x256x2816.size inbs S256x2816 squeezes_S1x256x2816_S256x2816) (dstw := win13 (Memref.whole cc0_scratch0) od S1x256x2816.size inbd S256x2816 squeezes_S1x256x2816_S256x2816)
    (hsrc := hsrc) (hdst := hdst) (N := N13) rfl N13_pos (D := del13 c w e s ch) (u := N13)
    (by omega)) $$ [HB HO]
  · isplitl [HB] <;> iassumption
  iintro ⟨HD, Hv, HO⟩
  ihave HD' := (del13_split c w e s ch) $$ HD
  icases HD' with ⟨⟨Hd0, Hs0⟩, Hd1, Hs1⟩
  iapply Hk
  isplitr [HO]
  · isplitl [Hv]; · iexact Hv
    isplitl [Hd0]; · iexact Hd0
    isplitl [Hd1]; · iexact Hd1
    isplitl [Hs0 Hr0]
    · iapply (pointsTo_split_subset (Finset.subset_univ (src13 e ch 0).view.set)).2
      isplitl [Hs0] <;> iassumption
    · iapply (pointsTo_split_subset (Finset.subset_univ (src13 e ch 1).view.set)).2
      isplitl [Hs1] <;> iassumption
  iexists _; iexact HO

/-- The wait of a column half's cell. -/
theorem wp_wait2 (w : S8x2816x1536.Idx → Elt F .i8) (s : Fin 2) (d : Fin 2) (e : Fin 8)
    {oq : Fin 2 → ℕ} {os od : Fin 3 → ℕ} (hq : oq = ![s.val, d.val]) {inbq inbd inbs}
    {hsrc : (win13 (Memref.whole main_arg5) os S1x1408x1536.size inbs S1408x1536 squeezes_S1x1408x1536_S1408x1536).view.WordExact}
    {hdst : (win13 (Memref.whole cc0_scratch1) od S1x1408x1536.size inbd S1408x1536 squeezes_S1x1408x1536_S1408x1536).view.WordExact} :
    iprop(busy2 c w s d e ∗ ∃ W, owes (c : Thread nD τ) 0 W)
      ⊢ iprop((iprop(full2 c w s d e ∗ ∃ W, owes (c : Thread nD τ) 0 W) -∗ WP c (k ⟨⟩) Q) -∗ WP c (.op (.waitDma2
      (((cc0_scratch6.slice (Rect.unit (s := S2x2) oq S1x1.size inbq)).squeeze S_ squeezes_S1x1_S_).sem)
      (win13 (Memref.whole main_arg5) os S1x1408x1536.size inbs S1408x1536 squeezes_S1x1408x1536_S1408x1536)
      (win13 (Memref.whole cc0_scratch1) od S1x1408x1536.size inbd S1408x1536 squeezes_S1x1408x1536_S1408x1536) hsrc hdst) k) Q) := by
  subst hq
  unfold busy2 full2
  iintro ⟨⟨HB, Hr0⟩, %W, HO⟩ Hk
  iapply (Transfers.wp_waitBatchLast 𝔼 Variants.none (c : Thread nD τ) none () (srcw := win13 (Memref.whole main_arg5) os S1x1408x1536.size inbs S1408x1536 squeezes_S1x1408x1536_S1408x1536) (dstw := win13 (Memref.whole cc0_scratch1) od S1x1408x1536.size inbd S1408x1536 squeezes_S1x1408x1536_S1408x1536)
    (hsrc := hsrc) (hdst := hdst) (N := N2) rfl N2_pos (D := del2 c w e s d) (u := 0)
    (by omega)) $$ [HB HO]
  · isplitl [HB] <;> iassumption
  iintro ⟨HD, Hv, HO⟩
  ihave HD' := (del2_split c w e s d) $$ HD
  icases HD' with ⟨Hd0, Hs0⟩
  iapply Hk
  isplitr [HO]
  · isplitl [Hv]; · iexact Hv
    isplitl [Hd0]; · iexact Hd0
    iapply (pointsTo_split_subset (Finset.subset_univ (src2 e d).view.set)).2
    isplitl [Hs0] <;> iassumption
  iexists _; iexact HO

end Rules

end Cert.KernelIdeal.Hand
end
-- ==== Proof.KI.Chunk.lean ====
/-
  One chunk of one expert: its two waits, the loads it reads, the columns of the hidden activations it writes, and the
  next expert's copies it starts in the same slot; and the same for one column half of the down projection.
-/
module

public import proofs.«01_k».proof.Proof.KI.Mem

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch shareTokN)
open Idealize.ShloMosaic.ValueIdx (ix1 ix2 ix3)

variable {F : FTy → Type} [FloatOps F]

/-- The proof's resource algebra: the pipeline library's beside the transfers' counters. -/
local notation "𝕄" => MT nD τ sig Unit (Elt F) ℕ (Pipeline.UD sig nD τ) ℕ

/-- A whole buffer held at contents `f`. -/
abbrev held (c : Dev nD) (b : Ref sig .tc) (f : Buf (Elt F) ((Memref.whole b).view.loc (c : Thread nD τ))) : sProp 𝕄 :=
  (Memref.whole b).view.loc (c : Thread nD τ) ↦{fullShare} f

/-! ## What the loads read -/

/-- The rows of expert `e` a chunk reads, as the kernel loads them. -/
def rows13 (w : S8x3072x2816.Idx → Elt F .i8) (e : Fin 8) (ch : Fin 6) (hf : Fin 2) : Vec F S1x256x2816 .i8 :=
  fun j => w (ix3 (n0 := 8) (n1 := 3072) (n2 := 2816) e ⟨hf.val * 1536 + ch.val * 256 + (j 1).val, by
    have : (j 1).val < 256 := (j 1).isLt; omega⟩ (j 2))
/-- The rows of expert `e`'s down projection a column half reads. -/
def rows2 (w : S8x2816x1536.Idx → Elt F .i8) (e : Fin 8) (d : Fin 2) : Vec F S1x1408x1536 .i8 :=
  fun j => w (ix3 (n0 := 8) (n1 := 2816) (n2 := 1536) e ⟨d.val * 1408 + (j 1).val, by
    have : (j 1).val < 1408 := (j 1).isLt; omega⟩ (j 2))
/-- The chunk's scales. -/
def scale13 (sc : S8x3072.Idx → Elt F .f32) (e : Fin 8) (ch : Fin 6) (hf : Fin 2) : Vec F S1x256 .f32 :=
  fun j => sc (ix2 (n0 := 8) (n1 := 3072) e ⟨hf.val * 1536 + ch.val * 256 + (j 1).val, by
    have : (j 1).val < 256 := (j 1).isLt; omega⟩)
/-- The column half's scales. -/
def scale2 (sc : S8x2816.Idx → Elt F .f32) (e : Fin 8) (d : Fin 2) : Vec F S1x1408 .f32 :=
  fun j => sc (ix2 (n0 := 8) (n1 := 2816) e ⟨d.val * 1408 + (j 1).val, by
    have : (j 1).val < 1408 := (j 1).isLt; omega⟩)

section Rules

variable (c : Dev nD) {α : Type}
variable {Q : α → sProp (MT nD τ sig Unit (Elt F) ℕ (Pipeline.UD sig nD τ) ℕ)}

/-- A load from a landed gate-and-up window. -/
theorem wp_load13 (w : S8x3072x2816.Idx → Elt F .i8) (s : Fin 2) (ch : Fin 6) (hf : Fin 2) (e : Fin 8)
    {o : Fin 3 → ℕ} (ho : o = ![s.val, hf.val * 1536 + ch.val * 256, 0]) {inb hl}
    {k : Vec F S1x256x2816 .i8 → Prog (TpuEff nD τ sig (Elt F) Λ₀ .tc) α} :
    own c (dst13 s ch hf) fullShare (cont13 w e) ⊢ iprop((own c (dst13 s ch hf) fullShare (cont13 w e) -∗ WP c (k (rows13 w e ch hf)) Q)
      -∗ WP c (.op (.load (Memref.whole cc0_scratch0) (Rect.unit (s := S2x3072x2816) o S1x256x2816.size inb).toLoadRect hl) k) Q) := by
  subst ho
  have h : ((Memref.whole cc0_scratch0).access (Rect.unit (s := S2x3072x2816) ![s.val, hf.val * 1536 + ch.val * 256, 0] S1x256x2816.size inb)).read (Elt F) (cont13 w e)
      = rows13 w e ch hf := by
    funext j
    show w _ = w _
    congr 1
    funext a; apply Fin.ext
    fin_cases a
    · rfl
    · show hf.val * 1536 + ch.val * 256 + 1 * (j 1).val = _
      simp
    · show 0 + 1 * (j 2).val = _
      simp
  rw [← h]
  exact wp_load_rect Variants.none (c : Thread nD τ) none Set.univ (by rw [View.set_reshape])

theorem wp_load2 (w : S8x2816x1536.Idx → Elt F .i8) (s : Fin 2) (d : Fin 2) (e : Fin 8)
    {o : Fin 3 → ℕ} (ho : o = ![s.val, d.val * 1408, 0]) {inb hl}
    {k : Vec F S1x1408x1536 .i8 → Prog (TpuEff nD τ sig (Elt F) Λ₀ .tc) α} :
    own c (dst2 s d) fullShare (cont2 w e) ⊢ iprop((own c (dst2 s d) fullShare (cont2 w e) -∗ WP c (k (rows2 w e d)) Q)
      -∗ WP c (.op (.load (Memref.whole cc0_scratch1) (Rect.unit (s := S2x2816x1536) o S1x1408x1536.size inb).toLoadRect hl) k) Q) := by
  subst ho
  have h : ((Memref.whole cc0_scratch1).access (Rect.unit (s := S2x2816x1536) ![s.val, d.val * 1408, 0] S1x1408x1536.size inb)).read (Elt F) (cont2 w e)
      = rows2 w e d := by
    funext j
    show w _ = w _
    congr 1
    funext a; apply Fin.ext
    fin_cases a
    · rfl
    · show d.val * 1408 + 1 * (j 1).val = _
      simp
    · show 0 + 1 * (j 2).val = _
      simp
  rw [← h]
  exact wp_load_rect Variants.none (c : Thread nD τ) none Set.univ (by rw [View.set_reshape])

/-- A load of part of a buffer held whole, whatever it reads. -/
theorem wp_ld {cs : CoreSpace} {S : Shape} {e : EltTy} (m : Memref sig .tc cs S e) {r : Rect S} {hl : m.view.LoadsAt r.toLoadRect}
    (f : Buf (Elt F) (m.view.loc (c : Thread nD τ)))
    {k : (r.shape.Idx → Elt F e) → Prog (TpuEff nD τ sig (Elt F) Λ₀ .tc) α}
    (g : r.shape.Idx → Elt F e) (hg : (m.access r).read (Elt F) f = g) :
    (m.view.loc (c : Thread nD τ) ↦{fullShare} f : sProp 𝕄)
      ⊢ iprop(((m.view.loc (c : Thread nD τ) ↦{fullShare} f) -∗ WP c (k g) Q) -∗ WP c (.op (.load m r.toLoadRect hl) k) Q) := by
  subst hg
  exact wp_load_rect (defs := defs₀ (F := F)) (Q := Q) Variants.none (c : Thread nD τ) none (Γ := []) Set.univ (m := m) (r := r) (hl := hl) (k := k)
    (S := Finset.univ) (q := fullShare) (f := f) (Finset.subset_univ _)

/-- A store over part of a buffer held whole. -/
theorem wp_st {cs : CoreSpace} {S : Shape} {e : EltTy} (m : Memref sig .tc cs S e) {r : Rect S} {x : r.shape.Idx → Elt F e}
    {hx : (m.access r).Stores Finset.univ} {hm : (Finset.univ : Finset r.shape.Idx) = Finset.univ ∨ ∀ a, r.stride a = 1}
    (f : Buf (Elt F) (m.view.loc (c : Thread nD τ)))
    {k : PUnit → Prog (TpuEff nD τ sig (Elt F) Λ₀ .tc) α} :
    (m.view.loc (c : Thread nD τ) ↦{fullShare} f : sProp 𝕄)
      ⊢ iprop(((m.view.loc (c : Thread nD τ) ↦{fullShare} ((m.access r).write (Elt F) f x Finset.univ)) -∗ WP c (k ⟨⟩) Q)
      -∗ WP c (.op (.store m r x Finset.univ hx hm) k) Q) :=
  wp_store (defs := defs₀ (F := F)) (Q := Q) Variants.none (c : Thread nD τ) none (Γ := []) Set.univ (m := m) (r := r) (w := x)
    (Mk := Finset.univ) (hx := hx) (hm := hm) (k := k) (S := Finset.univ) (f := f) (Finset.subset_univ _)

/-- The guarded start of a chunk's next copies. -/
theorem wp_guard13 (w : S8x3072x2816.Idx → Elt F .i8) (s : Fin 2) (ch : Fin 6) (e : Fin 8) (nxt : Option (Fin 8))
    {P : Prop} [Decidable P] (hP : P ↔ nxt.isSome = true)
    {oq oq' : Fin 2 → ℕ} {os od os' od' : Fin 3 → ℕ}
    (hq : oq = ![s.val, ch.val]) (hd : od = ![s.val, (0 : Fin 2).val * 1536 + ch.val * 256, 0])
    (hs : ∀ e' ∈ nxt, os = ![e'.val, (0 : Fin 2).val * 1536 + ch.val * 256, 0])
    (hq' : oq' = ![s.val, ch.val]) (hd' : od' = ![s.val, (1 : Fin 2).val * 1536 + ch.val * 256, 0])
    (hs' : ∀ e' ∈ nxt, os' = ![e'.val, (1 : Fin 2).val * 1536 + ch.val * 256, 0])
    {inbq : P → _} {inbd : P → _} {inbs : P → _} {inbq' : P → _} {inbd' : P → _} {inbs' : P → _}
    {hsrc : ∀ h : P, (win13 (Memref.whole main_arg3) os S1x256x2816.size (inbs h) S256x2816 squeezes_S1x256x2816_S256x2816).view.WordExact}
    {hdst : ∀ h : P, (win13 (Memref.whole cc0_scratch0) od S1x256x2816.size (inbd h) S256x2816 squeezes_S1x256x2816_S256x2816).view.WordExact}
    {hsrc' : ∀ h : P, (win13 (Memref.whole main_arg3) os' S1x256x2816.size (inbs' h) S256x2816 squeezes_S1x256x2816_S256x2816).view.WordExact}
    {hdst' : ∀ h : P, (win13 (Memref.whole cc0_scratch0) od' S1x256x2816.size (inbd' h) S256x2816 squeezes_S1x256x2816_S256x2816).view.WordExact}
    {k : PUnit → Prog (TpuEff nD τ sig (Elt F) Λ₀ .tc) α} :
    full13 c w s ch e ⊢ iprop((pend13 c w s ch nxt -∗ WP c (k ⟨⟩) Q) -∗ WP c (Prog.bind (if h : P then (do
      Prog.lift (.enqueueDma
        (win13 (Memref.whole main_arg3) os S1x256x2816.size (inbs h) S256x2816 squeezes_S1x256x2816_S256x2816)
        (.here (win13 (Memref.whole cc0_scratch0) od S1x256x2816.size (inbd h) S256x2816 squeezes_S1x256x2816_S256x2816))
        (.dma (((cc0_scratch5.slice (Rect.unit (s := S2x6) oq S1x1.size (inbq h))).squeeze S_ squeezes_S1x1_S_).sem)) (hsrc h) (hdst h) ⟨Or.inl rfl, trivial⟩)
      Prog.lift (.enqueueDma
        (win13 (Memref.whole main_arg3) os' S1x256x2816.size (inbs' h) S256x2816 squeezes_S1x256x2816_S256x2816)
        (.here (win13 (Memref.whole cc0_scratch0) od' S1x256x2816.size (inbd' h) S256x2816 squeezes_S1x256x2816_S256x2816))
        (.dma (((cc0_scratch5.slice (Rect.unit (s := S2x6) oq' S1x1.size (inbq' h))).squeeze S_ squeezes_S1x1_S_).sem)) (hsrc' h) (hdst' h) ⟨Or.inl rfl, trivial⟩)
      pure ⟨⟩) else pure ⟨⟩) k) Q) := by
  iintro H Hk
  match nxt with
  | none =>
    rw [dif_neg (by simp [hP])]
    iapply Hk
    iapply (show full13 c w s ch e ⊢ (pend13 c w s ch none : sProp 𝕄) from full13_idle c w s ch e) $$ H
  | some e' =>
    rw [dif_pos (by simp [hP])]
    ihave H := (full13_idle c w s ch e) $$ H
    iapply (wp_issueA c w s ch e' hq hd (hs e' rfl)) $$ H
    iintro H
    iapply (wp_issueB c w s ch e' hq' hd' (hs' e' rfl)) $$ H
    iexact Hk

/-- The guarded start of a column half's next copy. -/
theorem wp_guard2 (w : S8x2816x1536.Idx → Elt F .i8) (s : Fin 2) (d : Fin 2) (e : Fin 8) (nxt : Option (Fin 8))
    {P : Prop} [Decidable P] (hP : P ↔ nxt.isSome = true)
    {oq : Fin 2 → ℕ} {os od : Fin 3 → ℕ}
    (hq : oq = ![s.val, d.val]) (hd : od = ![s.val, d.val * 1408, 0])
    (hs : ∀ e' ∈ nxt, os = ![e'.val, d.val * 1408, 0])
    {inbq : P → _} {inbd : P → _} {inbs : P → _}
    {hsrc : ∀ h : P, (win13 (Memref.whole main_arg5) os S1x1408x1536.size (inbs h) S1408x1536 squeezes_S1x1408x1536_S1408x1536).view.WordExact}
    {hdst : ∀ h : P, (win13 (Memref.whole cc0_scratch1) od S1x1408x1536.size (inbd h) S1408x1536 squeezes_S1x1408x1536_S1408x1536).view.WordExact}
    {k : PUnit → Prog (TpuEff nD τ sig (Elt F) Λ₀ .tc) α} :
    full2 c w s d e ⊢ iprop((pend2 c w s d nxt -∗ WP c (k ⟨⟩) Q) -∗ WP c (Prog.bind (if h : P then (do
      Prog.lift (.enqueueDma
        (win13 (Memref.whole main_arg5) os S1x1408x1536.size (inbs h) S1408x1536 squeezes_S1x1408x1536_S1408x1536)
        (.here (win13 (Memref.whole cc0_scratch1) od S1x1408x1536.size (inbd h) S1408x1536 squeezes_S1x1408x1536_S1408x1536))
        (.dma (((cc0_scratch6.slice (Rect.unit (s := S2x2) oq S1x1.size (inbq h))).squeeze S_ squeezes_S1x1_S_).sem)) (hsrc h) (hdst h) ⟨Or.inl rfl, trivial⟩)
      pure ⟨⟩) else pure ⟨⟩) k) Q) := by
  iintro H Hk
  match nxt with
  | none =>
    rw [dif_neg (by simp [hP])]
    iapply Hk
    iapply (show full2 c w s d e ⊢ (pend2 c w s d none : sProp 𝕄) from full2_idle c w s d e) $$ H
  | some e' =>
    rw [dif_pos (by simp [hP])]
    ihave H := (full2_idle c w s d e) $$ H
    iapply (wp_issue2 c w s d e' hq hd (hs e' rfl)) $$ H
    iexact Hk

/-- The guarded start of a chunk's next copy, the rest of the program inside the branches and a continuation outside. -/
theorem wp_guard13B (w : S8x3072x2816.Idx → Elt F .i8) (s : Fin 2) (ch : Fin 6) (e : Fin 8) (nxt : Option (Fin 8))
    {P : Prop} [Decidable P] (hP : P ↔ nxt.isSome = true)
    {oq oq' : Fin 2 → ℕ} {os od os' od' : Fin 3 → ℕ}
    (hq : oq = ![s.val, ch.val]) (hd : od = ![s.val, (0 : Fin 2).val * 1536 + ch.val * 256, 0])
    (hs : ∀ e' ∈ nxt, os = ![e'.val, (0 : Fin 2).val * 1536 + ch.val * 256, 0])
    (hq' : oq' = ![s.val, ch.val]) (hd' : od' = ![s.val, (1 : Fin 2).val * 1536 + ch.val * 256, 0])
    (hs' : ∀ e' ∈ nxt, os' = ![e'.val, (1 : Fin 2).val * 1536 + ch.val * 256, 0])
    {inbq : P → _} {inbd : P → _} {inbs : P → _} {inbq' : P → _} {inbd' : P → _} {inbs' : P → _}
    {hsrc : ∀ h : P, (win13 (Memref.whole main_arg3) os S1x256x2816.size (inbs h) S256x2816 squeezes_S1x256x2816_S256x2816).view.WordExact}
    {hdst : ∀ h : P, (win13 (Memref.whole cc0_scratch0) od S1x256x2816.size (inbd h) S256x2816 squeezes_S1x256x2816_S256x2816).view.WordExact}
    {hsrc' : ∀ h : P, (win13 (Memref.whole main_arg3) os' S1x256x2816.size (inbs' h) S256x2816 squeezes_S1x256x2816_S256x2816).view.WordExact}
    {hdst' : ∀ h : P, (win13 (Memref.whole cc0_scratch0) od' S1x256x2816.size (inbd' h) S256x2816 squeezes_S1x256x2816_S256x2816).view.WordExact}
    {β : Type} {kk : Prog (TpuEff nD τ sig (Elt F) Λ₀ .tc) β} {k : β → Prog (TpuEff nD τ sig (Elt F) Λ₀ .tc) α} :
    full13 c w s ch e ⊢ iprop((pend13 c w s ch nxt -∗ WP c (Prog.bind kk k) Q) -∗ WP c (Prog.bind (dite P (fun h =>
      .op (.enqueueDma
        (win13 (Memref.whole main_arg3) os S1x256x2816.size (inbs h) S256x2816 squeezes_S1x256x2816_S256x2816)
        (.here (win13 (Memref.whole cc0_scratch0) od S1x256x2816.size (inbd h) S256x2816 squeezes_S1x256x2816_S256x2816))
        (.dma (((cc0_scratch5.slice (Rect.unit (s := S2x6) oq S1x1.size (inbq h))).squeeze S_ squeezes_S1x1_S_).sem)) (hsrc h) (hdst h) ⟨Or.inl rfl, trivial⟩) fun _ =>
      .op (.enqueueDma
        (win13 (Memref.whole main_arg3) os' S1x256x2816.size (inbs' h) S256x2816 squeezes_S1x256x2816_S256x2816)
        (.here (win13 (Memref.whole cc0_scratch0) od' S1x256x2816.size (inbd' h) S256x2816 squeezes_S1x256x2816_S256x2816))
        (.dma (((cc0_scratch5.slice (Rect.unit (s := S2x6) oq' S1x1.size (inbq' h))).squeeze S_ squeezes_S1x1_S_).sem)) (hsrc' h) (hdst' h) ⟨Or.inl rfl, trivial⟩) fun _ => kk) fun _ => kk) k) Q) := by
  have h := wp_guard13 (Q := Q) c w s ch e nxt hP hq hd hs hq' hd' hs' (inbq := inbq) (inbd := inbd) (inbs := inbs) (inbq' := inbq') (inbd' := inbd') (inbs' := inbs') (hsrc := hsrc) (hdst := hdst) (hsrc' := hsrc') (hdst' := hdst') (k := fun _ => Prog.bind kk k)
  by_cases hp : P
  · rw [dif_pos hp] at h ⊢; exact h
  · rw [dif_neg hp] at h ⊢; exact h

/-- The guarded start of a column half's next copy, the rest of the program inside the branches and a continuation outside. -/
theorem wp_guard2B (w : S8x2816x1536.Idx → Elt F .i8) (s : Fin 2) (d : Fin 2) (e : Fin 8) (nxt : Option (Fin 8))
    {P : Prop} [Decidable P] (hP : P ↔ nxt.isSome = true)
    {oq : Fin 2 → ℕ} {os od : Fin 3 → ℕ}
    (hq : oq = ![s.val, d.val]) (hd : od = ![s.val, d.val * 1408, 0])
    (hs : ∀ e' ∈ nxt, os = ![e'.val, d.val * 1408, 0])
    {inbq : P → _} {inbd : P → _} {inbs : P → _}
    {hsrc : ∀ h : P, (win13 (Memref.whole main_arg5) os S1x1408x1536.size (inbs h) S1408x1536 squeezes_S1x1408x1536_S1408x1536).view.WordExact}
    {hdst : ∀ h : P, (win13 (Memref.whole cc0_scratch1) od S1x1408x1536.size (inbd h) S1408x1536 squeezes_S1x1408x1536_S1408x1536).view.WordExact}
    {β : Type} {kk : Prog (TpuEff nD τ sig (Elt F) Λ₀ .tc) β} {k : β → Prog (TpuEff nD τ sig (Elt F) Λ₀ .tc) α} :
    full2 c w s d e ⊢ iprop((pend2 c w s d nxt -∗ WP c (Prog.bind kk k) Q) -∗ WP c (Prog.bind (dite P (fun h =>
      .op (.enqueueDma
        (win13 (Memref.whole main_arg5) os S1x1408x1536.size (inbs h) S1408x1536 squeezes_S1x1408x1536_S1408x1536)
        (.here (win13 (Memref.whole cc0_scratch1) od S1x1408x1536.size (inbd h) S1408x1536 squeezes_S1x1408x1536_S1408x1536))
        (.dma (((cc0_scratch6.slice (Rect.unit (s := S2x2) oq S1x1.size (inbq h))).squeeze S_ squeezes_S1x1_S_).sem)) (hsrc h) (hdst h) ⟨Or.inl rfl, trivial⟩) fun _ => kk) fun _ => kk) k) Q) := by
  have h := wp_guard2 (Q := Q) c w s d e nxt hP hq hd hs (inbq := inbq) (inbd := inbd) (inbs := inbs) (hsrc := hsrc) (hdst := hdst) (k := fun _ => Prog.bind kk k)
  by_cases hp : P
  · rw [dif_pos hp] at h ⊢; exact h
  · rw [dif_neg hp] at h ⊢; exact h

/-- The guarded start of a column half's next copy, the rest of the program inside the branches. -/
theorem wp_guard2C (w : S8x2816x1536.Idx → Elt F .i8) (s : Fin 2) (d : Fin 2) (e : Fin 8) (nxt : Option (Fin 8))
    {P : Prop} [Decidable P] (hP : P ↔ nxt.isSome = true)
    {oq : Fin 2 → ℕ} {os od : Fin 3 → ℕ}
    (hq : oq = ![s.val, d.val]) (hd : od = ![s.val, d.val * 1408, 0])
    (hs : ∀ e' ∈ nxt, os = ![e'.val, d.val * 1408, 0])
    {inbq : P → _} {inbd : P → _} {inbs : P → _}
    {hsrc : ∀ h : P, (win13 (Memref.whole main_arg5) os S1x1408x1536.size (inbs h) S1408x1536 squeezes_S1x1408x1536_S1408x1536).view.WordExact}
    {hdst : ∀ h : P, (win13 (Memref.whole cc0_scratch1) od S1x1408x1536.size (inbd h) S1408x1536 squeezes_S1x1408x1536_S1408x1536).view.WordExact}
    {kk : Prog (TpuEff nD τ sig (Elt F) Λ₀ .tc) α} :
    full2 c w s d e ⊢ iprop((pend2 c w s d nxt -∗ WP c kk Q) -∗ WP c (dite P (fun h =>
      .op (.enqueueDma
        (win13 (Memref.whole main_arg5) os S1x1408x1536.size (inbs h) S1408x1536 squeezes_S1x1408x1536_S1408x1536)
        (.here (win13 (Memref.whole cc0_scratch1) od S1x1408x1536.size (inbd h) S1408x1536 squeezes_S1x1408x1536_S1408x1536))
        (.dma (((cc0_scratch6.slice (Rect.unit (s := S2x2) oq S1x1.size (inbq h))).squeeze S_ squeezes_S1x1_S_).sem)) (hsrc h) (hdst h) ⟨Or.inl rfl, trivial⟩) fun _ => kk) fun _ => kk) Q) := by
  have h := wp_guard2 (Q := Q) c w s d e nxt hP hq hd hs (inbq := inbq) (inbd := inbd) (inbs := inbs) (hsrc := hsrc) (hdst := hdst) (k := fun _ => kk)
  by_cases hp : P
  · rw [dif_pos hp] at h ⊢; exact h
  · rw [dif_neg hp] at h ⊢; exact h

end Rules

end Cert.KernelIdeal.Hand
end
-- ==== Proof.KI.Trip.lean ====
/-
  A chunk of an expert as one step of the kernel's program, and a column half of its down projection as another.
-/
module

public import proofs.«01_k».proof.Proof.KI.Chunk

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch shareTokN)
open Idealize.ShloMosaic.ValueIdx (ix1 ix2 ix3)

variable {F : FTy → Type} [FloatOps F]

/-- The proof's resource algebra: the pipeline library's beside the transfers' counters. -/
local notation "𝕄" => MT nD τ sig Unit (Elt F) ℕ (Pipeline.UD sig nD τ) ℕ

/-! ## Columns of the hidden activations and of the accumulator -/

/-- The first `n` chunks of columns of the hidden activations hold `H`. -/
def AgreeH (f : S128x1536.Idx → Elt F .bf16) (H : Fin 6 → Vec F S128x256 .bf16) (n : ℕ) : Prop :=
  ∀ ch : Fin 6, ch.val < n → ∀ j : S128x256.Idx,
    f (ix2 (n0 := 128) (n1 := 1536) (j 0) ⟨ch.val * 256 + (j 1).val, by have : (j 1).val < 256 := (j 1).isLt; omega⟩) = H ch j

/-- The hidden activations of an expert from its chunks. -/
def hFull (H : Fin 6 → Vec F S128x256 .bf16) : Vec F S128x1536 .bf16 := fun j =>
  H ⟨(j 1).val / 256, by have : (j 1).val < 1536 := (j 1).isLt; omega⟩
    (ix2 (n0 := 128) (n1 := 256) (j 0) ⟨(j 1).val % 256, Nat.mod_lt _ (by decide)⟩)

/-- All six chunks written are the whole. -/
theorem AgreeH.full {f : S128x1536.Idx → Elt F .bf16} {H : Fin 6 → Vec F S128x256 .bf16} (h : AgreeH f H 6) : f = hFull H := by
  funext j
  have hj : (j 1).val < 1536 := (j 1).isLt
  have := h ⟨(j 1).val / 256, by omega⟩ (by show (j 1).val / 256 < 6; omega)
    (ix2 (n0 := 128) (n1 := 256) (j 0) ⟨(j 1).val % 256, Nat.mod_lt _ (by decide)⟩)
  rw [hFull, ← this]
  congr 1
  funext a; apply Fin.ext
  fin_cases a
  · rfl
  · show (j 1).val = (j 1).val / 256 * 256 + (j 1).val % 256
    omega

/-- Nothing is asked of no chunk. -/
theorem AgreeH.zero (f : S128x1536.Idx → Elt F .bf16) (H : Fin 6 → Vec F S128x256 .bf16) : AgreeH f H 0 :=
  fun _ h => absurd h (Nat.not_lt_zero _)

/-- A chunk stored. -/
theorem AgreeH.store {f : S128x1536.Idx → Elt F .bf16} {H : Fin 6 → Vec F S128x256 .bf16} (ch : Fin 6) (h : AgreeH f H ch.val)
    (inb : ∀ a, (![0, ch.val * 256] : Fin 2 → ℕ) a + S128x256.size a ≤ S128x1536.size a) :
    AgreeH (((Memref.whole cc0_scratch2).access (Rect.unit (s := S128x1536) ![0, ch.val * 256] S128x256.size inb)).write (Elt F) f (H ch) Finset.univ)
      H (ch.val + 1) := by
  intro ch' hch' j
  have hj0 : (j 0).val < 128 := (j 0).isLt
  have hj : (j 1).val < 256 := (j 1).isLt
  by_cases hc : ch' = ch
  · subst hc
    have e : ((Memref.whole cc0_scratch2).access (Rect.unit (s := S128x1536) ![0, ch'.val * 256] S128x256.size inb)).emb j
        = ix2 (n0 := 128) (n1 := 1536) (j 0) ⟨ch'.val * 256 + (j 1).val, by omega⟩ := by
      funext a; apply Fin.ext
      fin_cases a
      · show 0 + 1 * (j 0).val = (j 0).val; omega
      · show ch'.val * 256 + 1 * (j 1).val = ch'.val * 256 + (j 1).val; omega
    rw [← e, View.write_emb_of_mem _ _ (Finset.mem_univ _)]
    rfl
  · rw [View.write_of_not_mem, h ch' (by have : ch'.val ≠ ch.val := fun h => hc (Fin.ext h); omega) j]
    intro hm
    obtain ⟨x, -, hx⟩ := Finset.mem_map.mp hm
    have hx1 : (x 1).val < 256 := (x 1).isLt
    have h1 : ch.val * 256 + 1 * (x 1).val = ch'.val * 256 + (j 1).val := congrArg (fun i => (i 1).val) hx
    have : ch'.val ≠ ch.val := fun h => hc (Fin.ext h)
    omega

/-- A column half of the accumulator, read and replaced. -/
def getHalf (a : S128x2816.Idx → Elt F .f32) (d : Fin 2) : Vec F S128x1408 .f32 := fun j =>
  a (ix2 (n0 := 128) (n1 := 2816) (j 0) ⟨d.val * 1408 + (j 1).val, by have : (j 1).val < 1408 := (j 1).isLt; omega⟩)
def putHalf (a : S128x2816.Idx → Elt F .f32) (d : Fin 2) (x : Vec F S128x1408 .f32) : S128x2816.Idx → Elt F .f32 := fun j =>
  if h : d.val * 1408 ≤ (j 1).val ∧ (j 1).val < d.val * 1408 + 1408 then
    x (ix2 (n0 := 128) (n1 := 1408) (j 0) ⟨(j 1).val - d.val * 1408, by omega⟩)
  else a j

/-- The load of a half reads it. -/
theorem read_half (a : S128x2816.Idx → Elt F .f32) (d : Fin 2)
    (inb : ∀ a, (![0, d.val * 1408] : Fin 2 → ℕ) a + S128x1408.size a ≤ S128x2816.size a) :
    ((Memref.whole cc0_scratch3).access (Rect.unit (s := S128x2816) ![0, d.val * 1408] S128x1408.size inb)).read (Elt F) a = getHalf a d := by
  funext j
  show a _ = a _
  congr 1
  funext b; apply Fin.ext
  fin_cases b
  · show 0 + 1 * (j 0).val = (j 0).val; omega
  · show d.val * 1408 + 1 * (j 1).val = d.val * 1408 + (j 1).val; omega

/-- The store of a half replaces it. -/
theorem write_half (a : S128x2816.Idx → Elt F .f32) (d : Fin 2) (x : Vec F S128x1408 .f32)
    (inb : ∀ a, (![0, d.val * 1408] : Fin 2 → ℕ) a + S128x1408.size a ≤ S128x2816.size a) :
    ((Memref.whole cc0_scratch3).access (Rect.unit (s := S128x2816) ![0, d.val * 1408] S128x1408.size inb)).write (Elt F) a x Finset.univ
      = putHalf a d x := by
  funext j
  unfold putHalf
  split
  · next h =>
    have e : ((Memref.whole cc0_scratch3).access (Rect.unit (s := S128x2816) ![0, d.val * 1408] S128x1408.size inb)).emb
        (ix2 (n0 := 128) (n1 := 1408) (j 0) ⟨(j 1).val - d.val * 1408, by omega⟩) = j := by
      funext b; apply Fin.ext
      fin_cases b
      · show 0 + 1 * (j 0).val = (j 0).val; omega
      · show d.val * 1408 + 1 * ((j 1).val - d.val * 1408) = (j 1).val; omega
    conv_lhs => rw [← e]
    rw [View.write_emb_of_mem _ _ (Finset.mem_univ _)]
    rfl
  · next h =>
    rw [View.write_of_not_mem]
    intro hm
    obtain ⟨y, -, hy⟩ := Finset.mem_map.mp hm
    have hy1 : (y 1).val < 1408 := (y 1).isLt
    have h1 : d.val * 1408 + 1 * (y 1).val = (j 1).val := congrArg (fun i => (i 1).val) hy
    omega

/-! ## The steps -/

section Rules

variable (c : Dev nD) {α : Type}
variable {Q : α → sProp (MT nD τ sig Unit (Elt F) ℕ (Pipeline.UD sig nD τ) ℕ)}

/-- What a chunk holds besides its cell: the tokens' activations, the scales, the hidden activations with the first `n`
    chunks written, and the waits recorded. -/
def chunkRes (x : S128x2816.Idx → Elt F .bf16) (sc : S8x3072.Idx → Elt F .f32) (H : Fin 6 → Vec F S128x256 .bf16) (n : ℕ) : sProp 𝕄 :=
  iprop(held c cc0_stg2_0 x ∗ held c cc0_stg3_0 sc ∗ (∃ f, held c cc0_scratch2 f ∗ ⌜AgreeH f H n⌝) ∗ ∃ W, owes (c : Thread nD τ) 0 W)

/-- A chunk of an expert: the waits for its gate and up rows, its columns of the hidden activations stored, and the next
    copies into the windows. -/
theorem wp_chunk (w : S8x3072x2816.Idx → Elt F .i8) (x : S128x2816.Idx → Elt F .bf16) (sc : S8x3072.Idx → Elt F .f32)
    (H : Fin 6 → Vec F S128x256 .bf16) (s : Fin 2) (ch : Fin 6) (e : Fin 8)
    (pay : Vec F S128x2816 .bf16 → Vec F S1x256x2816 .i8 → Vec F S1x256x2816 .i8 → Vec F S1x256 .f32 → Vec F S1x256 .f32 → Vec F S128x256 .bf16)
    (hH : H ch = pay x (rows13 w e ch 0) (rows13 w e ch 1) (scale13 sc e ch 0) (scale13 sc e ch 1))
    {ga gu gh nc nc' : ℕ} (hga : (0 : Fin 2).val * 1536 + ch.val * 256 = ga) (hgu : (1 : Fin 2).val * 1536 + ch.val * 256 = gu)
    (hgh : ch.val * 256 = gh) (hnc : ch.val = nc) (hnc' : ch.val + 1 = nc')
    {qa qb : Fin 2 → ℕ} {sa da sb db : Fin 3 → ℕ} (hqa : qa = ![s.val, nc]) (hqb : qb = ![s.val, nc])
    {og ou : Fin 3 → ℕ} (hog : og = ![s.val, ga, 0]) (hou : ou = ![s.val, gu, 0])
    {osg osu : Fin 2 → ℕ} (hosg : osg = ![e.val, ga]) (hosu : osu = ![e.val, gu])
    {oh oh' : Fin 2 → ℕ} (hoh : oh = ![0, gh])
    {inbqa inbqb inbsa inbda inbsb inbdb}
    {hsrca : (win13 (Memref.whole main_arg3) sa S1x256x2816.size inbsa S256x2816 squeezes_S1x256x2816_S256x2816).view.WordExact}
    {hdsta : (win13 (Memref.whole cc0_scratch0) da S1x256x2816.size inbda S256x2816 squeezes_S1x256x2816_S256x2816).view.WordExact}
    {hsrcb : (win13 (Memref.whole main_arg3) sb S1x256x2816.size inbsb S256x2816 squeezes_S1x256x2816_S256x2816).view.WordExact}
    {hdstb : (win13 (Memref.whole cc0_scratch0) db S1x256x2816.size inbdb S256x2816 squeezes_S1x256x2816_S256x2816).view.WordExact}
    {inbx hlx inbg hlg inbu hlu inbsg hlsg inbsu hlsu inbh' hlh inbh hxh hmh}
    {tl : Prog (TpuEff nD τ sig (Elt F) Λ₀ .tc) α} :
    iprop(busy13 c w s ch e 0 ∗ chunkRes c x sc H nc)
      ⊢ iprop((iprop(full13 c w s ch e ∗ chunkRes c x sc H nc') -∗ WP c tl Q) -∗ WP c
    (.op (.waitDma2 (((cc0_scratch5.slice (Rect.unit (s := S2x6) qa S1x1.size inbqa)).squeeze S_ squeezes_S1x1_S_).sem)
      (win13 (Memref.whole main_arg3) sa S1x256x2816.size inbsa S256x2816 squeezes_S1x256x2816_S256x2816)
      (win13 (Memref.whole cc0_scratch0) da S1x256x2816.size inbda S256x2816 squeezes_S1x256x2816_S256x2816) hsrca hdsta) fun _ =>
    .op (.waitDma2 (((cc0_scratch5.slice (Rect.unit (s := S2x6) qb S1x1.size inbqb)).squeeze S_ squeezes_S1x1_S_).sem)
      (win13 (Memref.whole main_arg3) sb S1x256x2816.size inbsb S256x2816 squeezes_S1x256x2816_S256x2816)
      (win13 (Memref.whole cc0_scratch0) db S1x256x2816.size inbdb S256x2816 squeezes_S1x256x2816_S256x2816) hsrcb hdstb) fun _ =>
    .op (.load (Memref.whole cc0_stg2_0) (Rect.unit (s := S128x2816) ![0, 0] S128x2816.size inbx).toLoadRect hlx) fun vx =>
    .op (.load (Memref.whole cc0_scratch0) (Rect.unit (s := S2x3072x2816) og S1x256x2816.size inbg).toLoadRect hlg) fun vg =>
    .op (.load (Memref.whole cc0_scratch0) (Rect.unit (s := S2x3072x2816) ou S1x256x2816.size inbu).toLoadRect hlu) fun vu =>
    .op (.load (Memref.whole cc0_stg3_0) (Rect.unit (s := S8x3072) osg S1x256.size inbsg).toLoadRect hlsg) fun vsg =>
    .op (.load (Memref.whole cc0_stg3_0) (Rect.unit (s := S8x3072) osu S1x256.size inbsu).toLoadRect hlsu) fun vsu =>
    .op (.load (Memref.whole cc0_scratch2) (Rect.unit (s := S128x1536) oh' S128x256.size inbh').toLoadRect hlh) fun _ =>
    .op (.store (Memref.whole cc0_scratch2) (Rect.unit (s := S128x1536) oh S128x256.size inbh) (pay vx vg vu vsg vsu) Finset.univ hxh hmh) fun _ => tl) Q) := by
  subst hga hgu hgh hnc hnc'
  subst hosg hosu hoh
  unfold chunkRes
  iintro ⟨HB, Hx, Hsc, ⟨%f, Hh, %hf⟩, HO⟩ Hk
  iapply (wp_waitA c w s ch e hqa) $$ [HB HO]
  · isplitl [HB] <;> iassumption
  iintro ⟨HB, HO⟩
  iapply (wp_waitB c w s ch e hqb) $$ [HB HO]
  · isplitl [HB] <;> iassumption
  iintro ⟨HB, HO⟩
  unfold full13
  icases HB with ⟨Hv, Hd0, Hd1, Ht0, Ht1⟩
  iapply (wp_ld c (Memref.whole cc0_stg2_0) x x (by
    funext j; show x _ = x _; congr 1; funext a; apply Fin.ext
    fin_cases a
    · show 0 + 1 * (j 0).val = (j 0).val; omega
    · show 0 + 1 * (j 1).val = (j 1).val; omega)) $$ Hx
  iintro Hx
  iapply (wp_load13 c w s ch 0 e hog) $$ Hd0
  iintro Hd0
  iapply (wp_load13 c w s ch 1 e hou) $$ Hd1
  iintro Hd1
  iapply (wp_ld c (Memref.whole cc0_stg3_0) sc (scale13 sc e ch 0) (by
    funext j; show sc _ = sc _; congr 1; funext a; apply Fin.ext
    have hj0 : (j 0).val < 1 := (j 0).isLt
    fin_cases a
    · show e.val + 1 * (j 0).val = e.val; omega
    · show (0 : Fin 2).val * 1536 + ch.val * 256 + 1 * (j 1).val = (0 : Fin 2).val * 1536 + ch.val * 256 + (j 1).val; omega)) $$ Hsc
  iintro Hsc
  iapply (wp_ld c (Memref.whole cc0_stg3_0) sc (scale13 sc e ch 1) (by
    funext j; show sc _ = sc _; congr 1; funext a; apply Fin.ext
    have hj0 : (j 0).val < 1 := (j 0).isLt
    fin_cases a
    · show e.val + 1 * (j 0).val = e.val; omega
    · show (1 : Fin 2).val * 1536 + ch.val * 256 + 1 * (j 1).val = (1 : Fin 2).val * 1536 + ch.val * 256 + (j 1).val; omega)) $$ Hsc
  iintro Hsc
  iapply (wp_ld c (Memref.whole cc0_scratch2) f _ rfl) $$ Hh
  iintro Hh
  rw [← hH]
  iapply (wp_st c (Memref.whole cc0_scratch2) f) $$ Hh
  iintro Hh
  iapply Hk
  isplitl [Hv Hd0 Hd1 Ht0 Ht1]
  · isplitl [Hv]; · iexact Hv
    isplitl [Hd0]; · iexact Hd0
    isplitl [Hd1]; · iexact Hd1
    isplitl [Ht0] <;> iassumption
  isplitl [Hx]; · iexact Hx
  isplitl [Hsc]; · iexact Hsc
  isplitl [Hh]
  · iexists _
    isplitl [Hh]; · iexact Hh
    ipureintro
    exact hf.store ch _
  iexact HO

/-- What a column half of the down projection holds besides its cell: the scales, the hidden activations, the accumulator,
    and the waits recorded. -/
def halfRes (sc : S8x2816.Idx → Elt F .f32) (H : S128x1536.Idx → Elt F .bf16) (a : S128x2816.Idx → Elt F .f32) : sProp 𝕄 :=
  iprop(held c cc0_stg4_0 sc ∗ held c cc0_scratch2 H ∗ held c cc0_scratch3 a ∗ ∃ W, owes (c : Thread nD τ) 0 W)

/-- A column half of an expert's down projection: the wait for its rows, the product added to the accumulator's half, and
    the next copy into the window. -/
theorem wp_half (w : S8x2816x1536.Idx → Elt F .i8) (sc : S8x2816.Idx → Elt F .f32) (H : Vec F S128x1536 .bf16) (a : S128x2816.Idx → Elt F .f32)
    (s d : Fin 2) (e : Fin 8)
    (pay : Vec F S128x1536 .bf16 → Vec F S1x1408x1536 .i8 → Vec F S1x1408 .f32 → Vec F S128x1408 .f32 → Vec F S128x1408 .f32)
    {gd nd : ℕ} (hgd : d.val * 1408 = gd) (hnd : d.val = nd)
    {qa : Fin 2 → ℕ} {sa da : Fin 3 → ℕ} (hqa : qa = ![s.val, nd])
    {og : Fin 3 → ℕ} (hog : og = ![s.val, gd, 0])
    {osg : Fin 2 → ℕ} (hosg : osg = ![e.val, gd])
    {oa oa' oa'' : Fin 2 → ℕ} (hoa : oa = ![0, gd]) (hoa' : oa' = ![0, gd]) (hoa'' : oa'' = ![0, gd])
    {inbqa inbsa inbda}
    {hsrca : (win13 (Memref.whole main_arg5) sa S1x1408x1536.size inbsa S1408x1536 squeezes_S1x1408x1536_S1408x1536).view.WordExact}
    {hdsta : (win13 (Memref.whole cc0_scratch1) da S1x1408x1536.size inbda S1408x1536 squeezes_S1x1408x1536_S1408x1536).view.WordExact}
    {inbh hlh inbg hlg inbsg hlsg inba hla inba' hla' inba'' hxa hma}
    {tl : Prog (TpuEff nD τ sig (Elt F) Λ₀ .tc) α} :
    iprop(busy2 c w s d e ∗ halfRes c sc H a)
      ⊢ iprop((iprop(full2 c w s d e ∗ halfRes c sc H (putHalf a d (pay H (rows2 w e d) (scale2 sc e d) (getHalf a d)))) -∗ WP c tl Q) -∗ WP c
    (.op (.waitDma2 (((cc0_scratch6.slice (Rect.unit (s := S2x2) qa S1x1.size inbqa)).squeeze S_ squeezes_S1x1_S_).sem)
      (win13 (Memref.whole main_arg5) sa S1x1408x1536.size inbsa S1408x1536 squeezes_S1x1408x1536_S1408x1536)
      (win13 (Memref.whole cc0_scratch1) da S1x1408x1536.size inbda S1408x1536 squeezes_S1x1408x1536_S1408x1536) hsrca hdsta) fun _ =>
    .op (.load (Memref.whole cc0_scratch2) (Rect.unit (s := S128x1536) ![0, 0] S128x1536.size inbh).toLoadRect hlh) fun vh =>
    .op (.load (Memref.whole cc0_scratch1) (Rect.unit (s := S2x2816x1536) og S1x1408x1536.size inbg).toLoadRect hlg) fun vg =>
    .op (.load (Memref.whole cc0_stg4_0) (Rect.unit (s := S8x2816) osg S1x1408.size inbsg).toLoadRect hlsg) fun vsg =>
    .op (.load (Memref.whole cc0_scratch3) (Rect.unit (s := S128x2816) oa S128x1408.size inba).toLoadRect hla) fun va =>
    .op (.load (Memref.whole cc0_scratch3) (Rect.unit (s := S128x2816) oa' S128x1408.size inba').toLoadRect hla') fun _ =>
    .op (.store (Memref.whole cc0_scratch3) (Rect.unit (s := S128x2816) oa'' S128x1408.size inba'') (pay vh vg vsg va) Finset.univ hxa hma) fun _ => tl) Q) := by
  subst hgd hnd
  subst hosg hoa hoa' hoa''
  unfold halfRes
  iintro ⟨HB, Hsc, Hh, Ha, HO⟩ Hk
  iapply (wp_wait2 c w s d e hqa) $$ [HB HO]
  · isplitl [HB] <;> iassumption
  iintro ⟨HB, HO⟩
  unfold full2
  icases HB with ⟨Hv, Hd, Ht⟩
  iapply (wp_ld c (Memref.whole cc0_scratch2) H H (by
    funext j; show H _ = H _; congr 1; funext b; apply Fin.ext
    fin_cases b
    · show 0 + 1 * (j 0).val = (j 0).val; omega
    · show 0 + 1 * (j 1).val = (j 1).val; omega)) $$ Hh
  iintro Hh
  iapply (wp_load2 c w s d e hog) $$ Hd
  iintro Hd
  iapply (wp_ld c (Memref.whole cc0_stg4_0) sc (scale2 sc e d) (by
    funext j; show sc _ = sc _; congr 1; funext b; apply Fin.ext
    have hj0 : (j 0).val < 1 := (j 0).isLt
    fin_cases b
    · show e.val + 1 * (j 0).val = e.val; omega
    · show d.val * 1408 + 1 * (j 1).val = d.val * 1408 + (j 1).val; omega)) $$ Hsc
  iintro Hsc
  iapply (wp_ld c (Memref.whole cc0_scratch3) a (getHalf a d) (read_half a d _)) $$ Ha
  iintro Ha
  iapply (wp_ld c (Memref.whole cc0_scratch3) a (getHalf a d) (read_half a d _)) $$ Ha
  iintro Ha
  iapply (wp_st c (Memref.whole cc0_scratch3) a) $$ Ha
  rw [write_half]
  iintro Ha
  iapply Hk
  isplitl [Hv Hd Ht]
  · isplitl [Hv]; · iexact Hv
    isplitl [Hd] <;> iassumption
  isplitl [Hsc]; · iexact Hsc
  isplitl [Hh]; · iexact Hh
  isplitl [Ha]; · iexact Ha
  iexact HO

end Rules

end Cert.KernelIdeal.Hand
end
-- ==== Proof.KI.Words.lean ====
/-
  The kernel's words: the count of experts in use, the loop's trips, the offsets, the conditions and the side conditions it assumes.
-/
module

public import proofs.«01_k».proof.Proof.KI.Trip

@[expose] public section

set_option maxRecDepth 16384

noncomputable section

namespace Cert.KernelIdeal.Hand

open Cert.KernelIdeal Cert.KernelIdeal.Gen
open Idealize.ShloMosaic Idealize.ShloMosaic.TcCoe

/-! ## The experts in use -/

/-- A used flag is a bit. -/
def Flag (v : BitVec 32) : Prop := v = 0#32 ∨ v = 1#32

/-- The list of the experts in use, grown by `k` when its flag is set. -/
def snocIf (v : BitVec 32) (k : Fin 8) (L : List (Fin 8)) : List (Fin 8) := if v = 1#32 then L ++ [k] else L

theorem snocIf_length (v : BitVec 32) (k : Fin 8) (L : List (Fin 8)) : (snocIf v k L).length ≤ L.length + 1 := by
  unfold snocIf; split <;> simp

/-- The running count counts the list. -/
theorem snocIf_count {v w : BitVec 32} {L : List (Fin 8)} (k : Fin 8) (hv : Flag v) (hw : w = BitVec.ofNat 32 L.length) :
    Scalar.addi w v = BitVec.ofNat 32 (snocIf v k L).length := by
  unfold snocIf
  rcases hv with rfl | rfl
  · rw [if_neg (by decide), hw]
    show BitVec.ofNat 32 L.length + 0#32 = _
    rw [BitVec.add_zero]
  · rw [if_pos rfl, hw, List.length_append]
    show BitVec.ofNat 32 L.length + BitVec.ofNat 32 1 = _
    rw [← BitVec.ofNat_add]; rfl

section Words

variable (v10 v21 v33 v45 v57 v69 v81 v93 : BitVec 32)

/-- The experts in use, in increasing order. -/
def acts : List (Fin 8) :=
  snocIf v93 7 (snocIf v81 6 (snocIf v69 5 (snocIf v57 4 (snocIf v45 3 (snocIf v33 2 (snocIf v21 1 (snocIf v10 0 [])))))))

/-- The number of experts in use, as the kernel adds it up. -/
def cnt : BitVec 32 :=
  Scalar.addi (Scalar.addi (Scalar.addi (Scalar.addi (Scalar.addi (Scalar.addi (Scalar.addi (Scalar.addi 0#32 v10) v21) v33) v45) v57) v69) v81) v93

end Words

/-! ## Offsets -/

theorem word_lt8 {n m : ℕ} (h : n ≤ m) (hm : m ≤ 8) : (BitVec.ofNat 32 n).toNat = n := by
  rw [BitVec.toNat_ofNat]; exact Nat.mod_eq_of_lt (by omega)

theorem slot_word : ∀ t : Fin 8, (Scalar.remsi (Scalar.addi 0#32 (Scalar.muli (Scf.iv 0#32 1#32 t.val) 1#32)) 2#32).toNat = t.val % 2 := by decide
theorem here_word : ∀ t : Fin 8, (Scalar.indexCast (Scalar.addi 0#32 (Scalar.muli (Scf.iv 0#32 1#32 t.val) 1#32))).toNat = t.val := by decide
theorem next_word : ∀ t : Fin 8, (Scalar.indexCast (Scalar.minsi (Scalar.addi (Scalar.addi 0#32 (Scalar.muli (Scf.iv 0#32 1#32 t.val) 1#32)) 2#32) 7#32)).toNat = min (t.val + 2) 7 := by decide
theorem cond_word : ∀ t : Fin 8, ∀ n : Fin 9, (Scalar.cmpi .ne (Scalar.extui (Scalar.cmpi .slt (Scalar.addi (Scalar.addi 0#32 (Scalar.muli (Scf.iv 0#32 1#32 t.val) 1#32)) 2#32) (BitVec.ofNat 32 n.val)) : BitVec 32) 0#32) = 1#1
    ↔ t.val + 2 < n.val := by decide
theorem some_word : ∀ k : Fin 2, ∀ n : Fin 9, (Scalar.cmpi .ne (Scalar.extui (Scalar.cmpi .sgt (BitVec.ofNat 32 n.val) (BitVec.ofNat 32 k.val)) : BitVec 32) 0#32) = 1#1
    ↔ k.val < n.val := by decide

/-- The first loop of a count. -/
def loop1 (w : BitVec 32) : Scf.Loop 32 :=
  ⟨0#32, Scalar.addi 0#32 (Scalar.muli (Scalar.divsi (Scalar.subi (Scalar.divsi (Scalar.addi (Scalar.subi w 0#32) (Scalar.subi 1#32 1#32)) 1#32) 0#32) 1#32) 1#32), 1#32⟩
/-- The second loop of a count, which makes no trip. -/
def loop2 (w : BitVec 32) : Scf.Loop 32 :=
  ⟨Scalar.addi 0#32 (Scalar.muli (Scalar.divsi (Scalar.subi (Scalar.divsi (Scalar.addi (Scalar.subi w 0#32) (Scalar.subi 1#32 1#32)) 1#32) 0#32) 1#32) 1#32),
    Scalar.addi 0#32 (Scalar.subi (Scalar.divsi (Scalar.addi (Scalar.subi w 0#32) (Scalar.subi 1#32 1#32)) 1#32) 0#32), 1#32⟩

theorem loop1_trips : ∀ n : Fin 9, (loop1 (BitVec.ofNat 32 n.val)).trips = n.val := by decide
theorem loop2_trips : ∀ n : Fin 9, (loop2 (BitVec.ofNat 32 n.val)).trips = 0 := by decide
theorem loop1_ok : ∀ n : Fin 9, (loop1 (BitVec.ofNat 32 n.val)).OK := by decide
theorem loop2_ok : ∀ n : Fin 9, (loop2 (BitVec.ofNat 32 n.val)).OK := by decide

/-! ## Windows in bounds -/

theorem inbV13 {z x : ℕ} (hz : z < 2) (hx : x ≤ 2816) : ∀ a, (![z, x, 0] : Fin 3 → ℕ) a + S1x256x2816.size a ≤ S2x3072x2816.size a := by
  intro a; fin_cases a
  · show z + 1 ≤ 2; omega
  · show x + 256 ≤ 3072; omega
  · show 0 + 2816 ≤ 2816; omega
theorem inbH13 {z x : ℕ} (hz : z < 8) (hx : x ≤ 2816) : ∀ a, (![z, x, 0] : Fin 3 → ℕ) a + S1x256x2816.size a ≤ S8x3072x2816.size a := by
  intro a; fin_cases a
  · show z + 1 ≤ 8; omega
  · show x + 256 ≤ 3072; omega
  · show 0 + 2816 ≤ 2816; omega
theorem inbV2 {z x : ℕ} (hz : z < 2) (hx : x ≤ 1408) : ∀ a, (![z, x, 0] : Fin 3 → ℕ) a + S1x1408x1536.size a ≤ S2x2816x1536.size a := by
  intro a; fin_cases a
  · show z + 1 ≤ 2; omega
  · show x + 1408 ≤ 2816; omega
  · show 0 + 1536 ≤ 1536; omega
theorem inbH2 {z x : ℕ} (hz : z < 8) (hx : x ≤ 1408) : ∀ a, (![z, x, 0] : Fin 3 → ℕ) a + S1x1408x1536.size a ≤ S8x2816x1536.size a := by
  intro a; fin_cases a
  · show z + 1 ≤ 8; omega
  · show x + 1408 ≤ 2816; omega
  · show 0 + 1536 ≤ 1536; omega
theorem inbF13 {z x : ℕ} (hz : z < 8) (hx : x ≤ 2816) : ∀ a, (![z, x] : Fin 2 → ℕ) a + S1x256.size a ≤ S8x3072.size a := by
  intro a; fin_cases a
  · show z + 1 ≤ 8; omega
  · show x + 256 ≤ 3072; omega
theorem inbF2 {z x : ℕ} (hz : z < 8) (hx : x ≤ 1408) : ∀ a, (![z, x] : Fin 2 → ℕ) a + S1x1408.size a ≤ S8x2816.size a := by
  intro a; fin_cases a
  · show z + 1 ≤ 8; omega
  · show x + 1408 ≤ 2816; omega
theorem inbC13 {z x : ℕ} (hz : z < 2) (hx : x ≤ 5) : ∀ a, (![z, x] : Fin 2 → ℕ) a + S1x1.size a ≤ S2x6.size a := by
  intro a; fin_cases a
  · show z + 1 ≤ 2; omega
  · show x + 1 ≤ 6; omega
theorem inbC2 {z x : ℕ} (hz : z < 2) (hx : x ≤ 1) : ∀ a, (![z, x] : Fin 2 → ℕ) a + S1x1.size a ≤ S2x2.size a := by
  intro a; fin_cases a
  · show z + 1 ≤ 2; omega
  · show x + 1 ≤ 2; omega
theorem inbT {z : ℕ} (hz : z < 9) : ∀ a, (![z] : Fin 1 → ℕ) a + S1.size a ≤ S9.size a := by
  intro a; fin_cases a
  show z + 1 ≤ 9; omega

theorem wwV13 {z x : ℕ} (h : x % 4 = 0) {inb} : (Rect.unit (s := S2x3072x2816) ![z, x, 0] S1x256x2816.size inb).WholeWords (EltTy.packing .i8) :=
  .inl (.inr ⟨Nat.le_succ 2, rfl, .inl ⟨show 4 ∣ x from Nat.dvd_of_mod_eq_zero h, ⟨64, rfl⟩⟩⟩)
theorem wwH13 {z x : ℕ} (h : x % 4 = 0) {inb} : (Rect.unit (s := S8x3072x2816) ![z, x, 0] S1x256x2816.size inb).WholeWords (EltTy.packing .i8) :=
  .inl (.inr ⟨Nat.le_succ 2, rfl, .inl ⟨show 4 ∣ x from Nat.dvd_of_mod_eq_zero h, ⟨64, rfl⟩⟩⟩)
theorem wwV2 {z x : ℕ} (h : x % 4 = 0) {inb} : (Rect.unit (s := S2x2816x1536) ![z, x, 0] S1x1408x1536.size inb).WholeWords (EltTy.packing .i8) :=
  .inl (.inr ⟨Nat.le_succ 2, rfl, .inl ⟨show 4 ∣ x from Nat.dvd_of_mod_eq_zero h, ⟨352, rfl⟩⟩⟩)
theorem wwH2 {z x : ℕ} (h : x % 4 = 0) {inb} : (Rect.unit (s := S8x2816x1536) ![z, x, 0] S1x1408x1536.size inb).WholeWords (EltTy.packing .i8) :=
  .inl (.inr ⟨Nat.le_succ 2, rfl, .inl ⟨show 4 ∣ x from Nat.dvd_of_mod_eq_zero h, ⟨352, rfl⟩⟩⟩)

/-! ## The side conditions -/

section Checks

variable {v10 v21 v33 v45 v57 v69 v81 v93 : BitVec 32} {n : ℕ}

theorem t1_trips (hn : n ≤ 8) (hw : cnt v10 v21 v33 v45 v57 v69 v81 v93 = BitVec.ofNat 32 n) :
    (k0_t1_loop v10 v21 v33 v45 v57 v69 v81 v93).trips = n := by
  show (loop1 (cnt v10 v21 v33 v45 v57 v69 v81 v93)).trips = n
  rw [hw]; exact loop1_trips ⟨n, by omega⟩
theorem t2_trips (hn : n ≤ 8) (hw : cnt v10 v21 v33 v45 v57 v69 v81 v93 = BitVec.ofNat 32 n) :
    (k0_t2_loop v10 v21 v33 v45 v57 v69 v81 v93).trips = 0 := by
  show (loop2 (cnt v10 v21 v33 v45 v57 v69 v81 v93)).trips = 0
  rw [hw]; exact loop2_trips ⟨n, by omega⟩

variable (hn : n ≤ 8) (hw : cnt v10 v21 v33 v45 v57 v69 v81 v93 = BitVec.ofNat 32 n)
include hn hw

theorem t1_lt (t : Fin (k0_t1_loop v10 v21 v33 v45 v57 v69 v81 v93).trips) : t.val < n :=
  Nat.lt_of_lt_of_eq t.isLt (t1_trips hn hw)

theorem slot_t (t : Fin (k0_t1_loop v10 v21 v33 v45 v57 v69 v81 v93).trips) :
    (Scalar.remsi (Scalar.addi 0#32 (Scalar.muli (Scf.iv 0#32 1#32 t.val) 1#32)) 2#32).toNat = t.val % 2 :=
  slot_word ⟨t.val, by have := t1_lt hn hw t; omega⟩
theorem slot_lt (t : Fin (k0_t1_loop v10 v21 v33 v45 v57 v69 v81 v93).trips) :
    (Scalar.remsi (Scalar.addi 0#32 (Scalar.muli (Scf.iv 0#32 1#32 t.val) 1#32)) 2#32).toNat < 2 := by
  rw [slot_t hn hw t]; omega
theorem here_t (t : Fin (k0_t1_loop v10 v21 v33 v45 v57 v69 v81 v93).trips) : k0_off36 v10 v21 v33 v45 v57 v69 v81 v93 t = ![t.val] :=
  congrArg (fun z => ![z]) (here_word ⟨t.val, by have := t1_lt hn hw t; omega⟩)
theorem next_t (t : Fin (k0_t1_loop v10 v21 v33 v45 v57 v69 v81 v93).trips) : k0_off37 v10 v21 v33 v45 v57 v69 v81 v93 t = ![min (t.val + 2) 7] :=
  congrArg (fun z => ![z]) (next_word ⟨t.val, by have := t1_lt hn hw t; omega⟩)
theorem cond_t (t : Fin (k0_t1_loop v10 v21 v33 v45 v57 v69 v81 v93).trips) :
    (Scalar.cmpi .ne (Scalar.extui (Scalar.cmpi .slt (Scalar.addi (Scalar.addi 0#32 (Scalar.muli (Scf.iv 0#32 1#32 t.val) 1#32)) 2#32) (cnt v10 v21 v33 v45 v57 v69 v81 v93)) : BitVec 32) 0#32) = 1#1
    ↔ t.val + 2 < n := by
  rw [hw]; exact cond_word ⟨t.val, by have := t1_lt hn hw t; omega⟩ ⟨n, by omega⟩

theorem chk10_0 : k0_chk10_0 v10 v21 v33 v45 v57 v69 v81 v93 := by
  have hs := slot_lt hn hw
  have h2 : ∀ t : Fin (k0_t2_loop v10 v21 v33 v45 v57 v69 v81 v93).trips, False := fun t =>
    absurd (Nat.lt_of_lt_of_eq t.isLt (t2_trips hn hw)) (Nat.not_lt_zero _)
  refine And.intro (by show (loop1 (cnt v10 v21 v33 v45 v57 v69 v81 v93)).OK; rw [hw]; exact loop1_ok ⟨n, by omega⟩) ?_
  refine And.intro (fun t => by rw [here_t hn hw t]; exact inbT (by have := t1_lt hn hw t; omega)) ?_
  refine And.intro (fun t => by rw [next_t hn hw t]; exact inbT (by have := t1_lt hn hw t; omega)) ?_
  repeat' with_reducible refine And.intro ?_ ?_
  all_goals first
    | with_reducible exact fun t => (h2 t).elim
    | exact fun t => inbV13 (hs t) (by decide)
    | exact fun t => inbC13 (hs t) (by decide)
    | exact fun t _ => inbV13 (hs t) (by decide)
    | exact fun t _ => inbC13 (hs t) (by decide)
    | exact fun t => inbV2 (hs t) (by decide)
    | exact fun t => inbC2 (hs t) (by decide)
    | exact fun t _ => inbV2 (hs t) (by decide)
    | exact fun t _ => inbC2 (hs t) (by decide)
    | exact fun _ _ => wwV13 (by decide)
    | exact fun _ _ _ => wwV13 (by decide)
    | exact fun _ _ => wwV2 (by decide)
    | exact fun _ _ _ => wwV2 (by decide)
    | (show (loop2 (cnt v10 v21 v33 v45 v57 v69 v81 v93)).OK; rw [hw]; exact loop2_ok ⟨n, by omega⟩)

theorem chk10_1 : k0_chk10_1 v10 v21 v33 v45 v57 v69 v81 v93 := by
  have hs := slot_lt hn hw
  have h2 : ∀ t : Fin (k0_t2_loop v10 v21 v33 v45 v57 v69 v81 v93).trips, False := fun t =>
    absurd (Nat.lt_of_lt_of_eq t.isLt (t2_trips hn hw)) (Nat.not_lt_zero _)
  unfold k0_chk10_1
  repeat' with_reducible refine And.intro ?_ ?_
  all_goals first
    | with_reducible exact fun t => (h2 t).elim
    | exact fun t => inbV13 (hs t) (by decide)
    | exact fun t => inbC13 (hs t) (by decide)
    | exact fun t _ => inbV13 (hs t) (by decide)
    | exact fun t _ => inbC13 (hs t) (by decide)
    | exact fun t => inbV2 (hs t) (by decide)
    | exact fun t => inbC2 (hs t) (by decide)
    | exact fun t _ => inbV2 (hs t) (by decide)
    | exact fun t _ => inbC2 (hs t) (by decide)
    | exact fun _ _ => wwV13 (by decide)
    | exact fun _ _ _ => wwV13 (by decide)
    | exact fun _ _ => wwV2 (by decide)
    | exact fun _ _ _ => wwV2 (by decide)
    | (show (loop2 (cnt v10 v21 v33 v45 v57 v69 v81 v93)).OK; rw [hw]; exact loop2_ok ⟨n, by omega⟩)

theorem chk10_2 : k0_chk10_2 v10 v21 v33 v45 v57 v69 v81 v93 := by
  have hs := slot_lt hn hw
  have h2 : ∀ t : Fin (k0_t2_loop v10 v21 v33 v45 v57 v69 v81 v93).trips, False := fun t =>
    absurd (Nat.lt_of_lt_of_eq t.isLt (t2_trips hn hw)) (Nat.not_lt_zero _)
  unfold k0_chk10_2
  repeat' with_reducible refine And.intro ?_ ?_
  all_goals first
    | with_reducible exact fun t => (h2 t).elim
    | exact fun t => inbV13 (hs t) (by decide)
    | exact fun t => inbC13 (hs t) (by decide)
    | exact fun t _ => inbV13 (hs t) (by decide)
    | exact fun t _ => inbC13 (hs t) (by decide)
    | exact fun t => inbV2 (hs t) (by decide)
    | exact fun t => inbC2 (hs t) (by decide)
    | exact fun t _ => inbV2 (hs t) (by decide)
    | exact fun t _ => inbC2 (hs t) (by decide)
    | exact fun _ _ => wwV13 (by decide)
    | exact fun _ _ _ => wwV13 (by decide)
    | exact fun _ _ => wwV2 (by decide)
    | exact fun _ _ _ => wwV2 (by decide)
    | (show (loop2 (cnt v10 v21 v33 v45 v57 v69 v81 v93)).OK; rw [hw]; exact loop2_ok ⟨n, by omega⟩)

theorem chk10_3 : k0_chk10_3 v10 v21 v33 v45 v57 v69 v81 v93 := by
  have hs := slot_lt hn hw
  have h2 : ∀ t : Fin (k0_t2_loop v10 v21 v33 v45 v57 v69 v81 v93).trips, False := fun t =>
    absurd (Nat.lt_of_lt_of_eq t.isLt (t2_trips hn hw)) (Nat.not_lt_zero _)
  unfold k0_chk10_3
  repeat' with_reducible refine And.intro ?_ ?_
  all_goals first
    | with_reducible exact fun t => (h2 t).elim
    | exact fun t => inbV13 (hs t) (by decide)
    | exact fun t => inbC13 (hs t) (by decide)
    | exact fun t _ => inbV13 (hs t) (by decide)
    | exact fun t _ => inbC13 (hs t) (by decide)
    | exact fun t => inbV2 (hs t) (by decide)
    | exact fun t => inbC2 (hs t) (by decide)
    | exact fun t _ => inbV2 (hs t) (by decide)
    | exact fun t _ => inbC2 (hs t) (by decide)
    | exact fun _ _ => wwV13 (by decide)
    | exact fun _ _ _ => wwV13 (by decide)
    | exact fun _ _ => wwV2 (by decide)
    | exact fun _ _ _ => wwV2 (by decide)
    | (show (loop2 (cnt v10 v21 v33 v45 v57 v69 v81 v93)).OK; rw [hw]; exact loop2_ok ⟨n, by omega⟩)

theorem chk10_4 : k0_chk10_4 v10 v21 v33 v45 v57 v69 v81 v93 := by
  have hs := slot_lt hn hw
  have h2 : ∀ t : Fin (k0_t2_loop v10 v21 v33 v45 v57 v69 v81 v93).trips, False := fun t =>
    absurd (Nat.lt_of_lt_of_eq t.isLt (t2_trips hn hw)) (Nat.not_lt_zero _)
  unfold k0_chk10_4
  repeat' with_reducible refine And.intro ?_ ?_
  all_goals first
    | with_reducible exact fun t => (h2 t).elim
    | exact fun t => inbV13 (hs t) (by decide)
    | exact fun t => inbC13 (hs t) (by decide)
    | exact fun t _ => inbV13 (hs t) (by decide)
    | exact fun t _ => inbC13 (hs t) (by decide)
    | exact fun t => inbV2 (hs t) (by decide)
    | exact fun t => inbC2 (hs t) (by decide)
    | exact fun t _ => inbV2 (hs t) (by decide)
    | exact fun t _ => inbC2 (hs t) (by decide)
    | exact fun _ _ => wwV13 (by decide)
    | exact fun _ _ _ => wwV13 (by decide)
    | exact fun _ _ => wwV2 (by decide)
    | exact fun _ _ _ => wwV2 (by decide)
    | (show (loop2 (cnt v10 v21 v33 v45 v57 v69 v81 v93)).OK; rw [hw]; exact loop2_ok ⟨n, by omega⟩)

theorem chk10_5 : k0_chk10_5 v10 v21 v33 v45 v57 v69 v81 v93 := by
  have hs := slot_lt hn hw
  have h2 : ∀ t : Fin (k0_t2_loop v10 v21 v33 v45 v57 v69 v81 v93).trips, False := fun t =>
    absurd (Nat.lt_of_lt_of_eq t.isLt (t2_trips hn hw)) (Nat.not_lt_zero _)
  unfold k0_chk10_5
  repeat' with_reducible refine And.intro ?_ ?_
  all_goals first
    | with_reducible exact fun t => (h2 t).elim
    | exact fun t => inbV13 (hs t) (by decide)
    | exact fun t => inbC13 (hs t) (by decide)
    | exact fun t _ => inbV13 (hs t) (by decide)
    | exact fun t _ => inbC13 (hs t) (by decide)
    | exact fun t => inbV2 (hs t) (by decide)
    | exact fun t => inbC2 (hs t) (by decide)
    | exact fun t _ => inbV2 (hs t) (by decide)
    | exact fun t _ => inbC2 (hs t) (by decide)
    | exact fun _ _ => wwV13 (by decide)
    | exact fun _ _ _ => wwV13 (by decide)
    | exact fun _ _ => wwV2 (by decide)
    | exact fun _ _ _ => wwV2 (by decide)
    | (show (loop2 (cnt v10 v21 v33 v45 v57 v69 v81 v93)).OK; rw [hw]; exact loop2_ok ⟨n, by omega⟩)

/-- The side condition of the used flags. -/
theorem chk10 : k0_chk10 v10 v21 v33 v45 v57 v69 v81 v93 :=
  ⟨chk10_0 hn hw, chk10_1 hn hw, chk10_2 hn hw, chk10_3 hn hw, chk10_4 hn hw, chk10_5 hn hw⟩

omit hn hw in
theorem chk11_0 {v : BitVec 32} (hv : v.toNat < 8) : k0_chk11_0 v := by
  unfold k0_chk11_0
  repeat' with_reducible refine And.intro ?_ ?_
  all_goals first
    | exact inbH13 hv (by decide)
    | exact inbH2 hv (by decide)
    | exact inbF13 hv (by decide)
    | exact inbF2 hv (by decide)
    | exact fun _ => wwH13 (by decide)
    | exact fun _ => wwH2 (by decide)
omit hn hw in
theorem chk11_1 {v : BitVec 32} (hv : v.toNat < 8) : k0_chk11_1 v := by
  unfold k0_chk11_1
  repeat' with_reducible refine And.intro ?_ ?_
  all_goals first
    | exact inbH13 hv (by decide)
    | exact inbH2 hv (by decide)
    | exact inbF13 hv (by decide)
    | exact inbF2 hv (by decide)
    | exact fun _ => wwH13 (by decide)
    | exact fun _ => wwH2 (by decide)
omit hn hw in
/-- The side condition of an expert's word. -/
theorem chk11 {v : BitVec 32} (hv : v.toNat < 8) : k0_chk11 v := ⟨chk11_0 hv, chk11_1 hv⟩

/-- The side condition of the word of the expert two trips on, wanted only when there is one. -/
theorem chk12 (t : Fin (k0_t1_loop v10 v21 v33 v45 v57 v69 v81 v93).trips) {v : BitVec 32} (hv : t.val + 2 < n → v.toNat < 8) :
    k0_chk12 v10 v21 v33 v45 v57 v69 v81 v93 t v := by
  have h := fun hc => hv ((cond_t hn hw t).mp hc)
  unfold k0_chk12
  repeat' with_reducible refine And.intro ?_ ?_
  all_goals first
    | exact fun hc => inbH13 (h hc) (by decide)
    | exact fun hc => inbH2 (h hc) (by decide)
    | exact fun _ _ => wwH13 (by decide)
    | exact fun _ _ => wwH2 (by decide)

theorem cond1_iff : k0_cond1 v10 v21 v33 v45 v57 v69 v81 v93 = 1#1 ↔ 0 < n := by
  show Scalar.cmpi .ne (Scalar.extui (Scalar.cmpi .sgt (cnt v10 v21 v33 v45 v57 v69 v81 v93) 0#32)) 0#32 = 1#1 ↔ _
  rw [hw]; exact some_word 0 ⟨n, by omega⟩
theorem cond2_iff : k0_cond2 v10 v21 v33 v45 v57 v69 v81 v93 = 1#1 ↔ 1 < n := by
  show Scalar.cmpi .ne (Scalar.extui (Scalar.cmpi .sgt (cnt v10 v21 v33 v45 v57 v69 v81 v93) 1#32)) 0#32 = 1#1 ↔ _
  rw [hw]; exact some_word 1 ⟨n, by omega⟩

omit hn hw in
/-- The side condition of the first expert's word. -/
theorem chk8 {v : BitVec 32} (hv : v.toNat < 8) : k0_chk8 v10 v21 v33 v45 v57 v69 v81 v93 v := by
  unfold k0_chk8
  repeat' with_reducible refine And.intro ?_ ?_
  all_goals first
    | exact fun _ => inbH13 hv (by decide)
    | exact fun _ => inbH2 hv (by decide)
    | exact fun _ _ => wwH13 (by decide)
    | exact fun _ _ => wwH2 (by decide)
omit hn hw in
/-- The side condition of the second expert's word. -/
theorem chk9 {v : BitVec 32} (hv : v.toNat < 8) : k0_chk9 v10 v21 v33 v45 v57 v69 v81 v93 v := by
  unfold k0_chk9
  repeat' with_reducible refine And.intro ?_ ?_
  all_goals first
    | exact fun _ => inbH13 hv (by decide)
    | exact fun _ => inbH2 hv (by decide)
    | exact fun _ _ => wwH13 (by decide)
    | exact fun _ _ => wwH2 (by decide)

end Checks

end Cert.KernelIdeal.Hand
end
-- ==== Proof.KI.Loop.lean ====
/-
  One trip of the kernel's loop: an expert's six chunks, its two column halves, and the next copies into its slot.
-/
module

public import proofs.«01_k».proof.Proof.KI.Words

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

/-- The proof's resource algebra: the pipeline library's beside the transfers' counters. -/
local notation "𝕄" => MT nD τ sig Unit (Elt F) ℕ (Pipeline.UD sig nD τ) ℕ

/-! ## What a trip computes -/

/-- A chunk's columns of the hidden activations, from the loads. -/
def payC (ch : Fin 6) (p : IVec S128x1 1) (x : Vec F S128x2816 .bf16) (g u : Vec F S1x256x2816 .i8) (sg su : Vec F S1x256 .f32) : Vec F S128x256 .bf16 :=
  match ch with
  | 0 => k0_pay7 p x g u sg su
  | 1 => k0_pay9 (k0_pay8 p x g u sg su)
  | 2 => k0_pay13 p (k0_pay11 x u) (k0_pay12 x g sg) su
  | 3 => k0_pay16 p (k0_pay14 x) (k0_pay15 x g) u sg su
  | 4 => k0_pay17 p x g u sg su
  | 5 => k0_pay18 p x g u sg su

/-- The kernel's operands in memory. -/
structure Ops (F : FTy → Type) [FloatOps F] where
  ids : S128x4.Idx → Elt F .i32
  ew : S128x4.Idx → Elt F .f32
  x : S128x2816.Idx → Elt F .bf16
  w13 : S8x3072x2816.Idx → Elt F .i8
  s13 : S8x3072.Idx → Elt F .f32
  w2 : S8x2816x1536.Idx → Elt F .i8
  s2 : S8x2816.Idx → Elt F .f32

variable (o : Ops F)

/-- The tokens routed to an expert. -/
def maskOf (e : Fin 8) : IVec S128x1 1 := k0_pay5 (F := F) (BitVec.ofNat 32 e.val) o.ids
/-- The tokens' weights on an expert. -/
def weightOf (e : Fin 8) : FVec F S128x1 .f32 := k0_pay6 (F := F) (BitVec.ofNat 32 e.val) o.ids o.ew
/-- An expert's chunk of hidden activations. -/
def chunkOf (e : Fin 8) (ch : Fin 6) : Vec F S128x256 .bf16 :=
  payC ch (maskOf o e) o.x (rows13 o.w13 e ch 0) (rows13 o.w13 e ch 1) (scale13 o.s13 e ch 0) (scale13 o.s13 e ch 1)
/-- An expert's hidden activations. -/
def hiddenOf (e : Fin 8) : Vec F S128x1536 .bf16 := hFull (chunkOf o e)
theorem chunkOf_0 (e : Fin 8) : chunkOf o e 0 = k0_pay7 (k0_pay5 (F := F) (BitVec.ofNat 32 e.val) o.ids) o.x (rows13 o.w13 e 0 0) (rows13 o.w13 e 0 1) (scale13 o.s13 e 0 0) (scale13 o.s13 e 0 1) := rfl
theorem chunkOf_1 (e : Fin 8) : chunkOf o e 1 = k0_pay9 (k0_pay8 (k0_pay5 (F := F) (BitVec.ofNat 32 e.val) o.ids) o.x (rows13 o.w13 e 1 0) (rows13 o.w13 e 1 1) (scale13 o.s13 e 1 0) (scale13 o.s13 e 1 1)) := rfl
theorem chunkOf_2 (e : Fin 8) : chunkOf o e 2 = k0_pay13 (k0_pay5 (F := F) (BitVec.ofNat 32 e.val) o.ids) (k0_pay11 o.x (rows13 o.w13 e 2 1)) (k0_pay12 o.x (rows13 o.w13 e 2 0) (scale13 o.s13 e 2 0)) (scale13 o.s13 e 2 1) := rfl
theorem chunkOf_3 (e : Fin 8) : chunkOf o e 3 = k0_pay16 (k0_pay5 (F := F) (BitVec.ofNat 32 e.val) o.ids) (k0_pay14 o.x) (k0_pay15 o.x (rows13 o.w13 e 3 0)) (rows13 o.w13 e 3 1) (scale13 o.s13 e 3 0) (scale13 o.s13 e 3 1) := rfl
theorem chunkOf_4 (e : Fin 8) : chunkOf o e 4 = k0_pay17 (k0_pay5 (F := F) (BitVec.ofNat 32 e.val) o.ids) o.x (rows13 o.w13 e 4 0) (rows13 o.w13 e 4 1) (scale13 o.s13 e 4 0) (scale13 o.s13 e 4 1) := rfl
theorem chunkOf_5 (e : Fin 8) : chunkOf o e 5 = k0_pay18 (k0_pay5 (F := F) (BitVec.ofNat 32 e.val) o.ids) o.x (rows13 o.w13 e 5 0) (rows13 o.w13 e 5 1) (scale13 o.s13 e 5 0) (scale13 o.s13 e 5 1) := rfl
/-- The accumulator after an expert's first column half. -/
def accFst (e : Fin 8) (a : S128x2816.Idx → Elt F .f32) : S128x2816.Idx → Elt F .f32 :=
  putHalf a 0 (k0_pay19 (weightOf o e) (hiddenOf o e) (rows2 o.w2 e 0) (scale2 o.s2 e 0) (getHalf a 0))
/-- The accumulator after an expert. -/
def accStep (e : Fin 8) (a : S128x2816.Idx → Elt F .f32) : S128x2816.Idx → Elt F .f32 :=
  putHalf (accFst o e a) 1 (k0_pay1 (weightOf o e) (hiddenOf o e) (rows2 o.w2 e 1) (scale2 o.s2 e 1) (getHalf (accFst o e a) 1))

/-! ## What a trip holds -/

variable (c : Dev nD)

/-- A slot's cells, with the same expert in flight into all of them or none. -/
def slotP (s : Fin 2) (q : Option (Fin 8)) : sProp 𝕄 :=
  iprop(pend13 c o.w13 s 0 q ∗ pend13 c o.w13 s 1 q ∗ pend13 c o.w13 s 2 q ∗ pend13 c o.w13 s 3 q ∗ pend13 c o.w13 s 4 q ∗ pend13 c o.w13 s 5 q
    ∗ pend2 c o.w2 s 0 q ∗ pend2 c o.w2 s 1 q)

/-- The operands staged, the table, the hidden activations, the accumulator and the waits recorded. -/
def tripRes (T : S9.Idx → Elt F .i32) (a : S128x2816.Idx → Elt F .f32) : sProp 𝕄 :=
  iprop(held c cc0_scratch4 T ∗ held c cc0_stg0_0 o.ids ∗ held c cc0_stg1_0 o.ew ∗ held c cc0_stg2_0 o.x ∗ held c cc0_stg3_0 o.s13
    ∗ held c cc0_stg4_0 o.s2 ∗ (∃ f, held c cc0_scratch2 f) ∗ held c cc0_scratch3 a ∗ ∃ W, owes (c : Thread nD τ) 0 W)

/-- A slot with an expert in flight. -/
theorem slotP_some (s : Fin 2) (e : Fin 8) : slotP o c s (some e)
    = iprop(busy13 c o.w13 s 0 e 0 ∗ busy13 c o.w13 s 1 e 0 ∗ busy13 c o.w13 s 2 e 0 ∗ busy13 c o.w13 s 3 e 0 ∗ busy13 c o.w13 s 4 e 0 ∗ busy13 c o.w13 s 5 e 0
      ∗ busy2 c o.w2 s 0 e ∗ busy2 c o.w2 s 1 e) := rfl

/-- The table lists the experts in use. -/
def Lists (T : S9.Idx → Elt F .i32) (L : List (Fin 8)) : Prop := ∀ i (hi : i < 9) e, L[i]? = some e → T (ix1 (n := 9) ⟨i, hi⟩) = BitVec.ofNat 32 e.val

section Trip

variable {Q : Unit → sProp (MT nD τ sig Unit (Elt F) ℕ (Pipeline.UD sig nD τ) ℕ)}
variable {v10 v21 v33 v45 v57 v69 v81 v93 : BitVec 32}
variable {h0 : (Memref.whole cc0_stg0_0).IsWhole} {h1 : (Memref.whole cc0_stg1_0).IsWhole} {h2 : (Memref.whole cc0_stg2_0).IsWhole}
  {h3 : (Memref.whole cc0_stg3_0).IsWhole} {h4 : (Memref.whole cc0_stg4_0).IsWhole} {h5 : (Memref.whole main_arg3).IsWhole}
  {h6 : (Memref.whole main_arg5).IsWhole} {h7 : (Memref.whole cc0_stg5_0).IsWhole} {h8 : (Memref.whole cc0_scratch0).IsWhole}
  {h9 : (Memref.whole cc0_scratch1).IsWhole} {h10 : (Memref.whole cc0_scratch2).IsWhole} {h11 : (Memref.whole cc0_scratch3).IsWhole}
  {h12 : (Memref.whole cc0_scratch4).IsWhole}

/-- The word of an expert. -/
theorem expert_word (e : Fin 8) : (BitVec.ofNat 32 e.val).toNat = e.val := word_lt8 (m := 8) (by omega) le_rfl

/-- The table's read at a place. -/
theorem read_table (T : S9.Idx → Elt F .i32) {i : ℕ} (hi : i < 9) {off : Fin 1 → ℕ} (ho : off = ![i])
    (inb : ∀ a, off a + S1.size a ≤ S9.size a) (j : S1.Idx) :
    ((Memref.whole cc0_scratch4).access (Rect.unit (s := S9) off S1.size inb)).read (Elt F) T j = T (ix1 (n := 9) ⟨i, hi⟩) := by
  subst ho
  show T _ = T _
  congr 1
  funext b; apply Fin.ext
  have hj : (j 0).val < 1 := (j 0).isLt
  fin_cases b
  show i + 1 * (j 0).val = i
  omega

/-- A check that holds. -/
theorem wp_as {α : Type} {Q : α → sProp (MT nD τ sig Unit (Elt F) ℕ (Pipeline.UD sig nD τ) ℕ)} {P : Prop} {d : Decidable P}
    {k : PLift P → Prog (TpuEff nD τ sig (Elt F) Λ₀ .tc) α} (h : P) :
    WP c (k ⟨h⟩) Q ⊢ WP c (.op (.assume P d) k) Q :=
  wp_assume (defs := defs₀ (F := F)) (Q := Q) (k := k) Variants.none (c : Thread nD τ) none (Γ := []) Set.univ h

set_option maxHeartbeats 1000000 in
/-- One trip: the slot's expert waited for, its output added to the accumulator, and the expert two on sent for. -/
theorem wp_trip {L : List (Fin 8)} (hL : L.length ≤ 8) (hw : cnt v10 v21 v33 v45 v57 v69 v81 v93 = BitVec.ofNat 32 L.length)
    (k0_hw10 : k0_chk10 v10 v21 v33 v45 v57 v69 v81 v93) (v96 : BitVec 32) (t : Fin (k0_t1_loop v10 v21 v33 v45 v57 v69 v81 v93).trips)
    {T : S9.Idx → Elt F .i32} (hT : Lists T L) (a : S128x2816.Idx → Elt F .f32)
    (s : Fin 2) (hs : s.val = t.val % 2) (e : Fin 8) (he : L[t.val]? = some e) :
    iprop(slotP o c s (some e) ∗ tripRes o c T a)
      ⊢ iprop((iprop(slotP o c s L[t.val + 2]? ∗ tripRes o c T (accStep o e a)) -∗ Q ()) -∗
        WP c (k0_t1_body (Memref.whole cc0_stg0_0) h0 (Memref.whole cc0_stg1_0) h1 (Memref.whole cc0_stg2_0) h2 (Memref.whole cc0_stg3_0) h3
          (Memref.whole cc0_stg4_0) h4 (Memref.whole main_arg3) h5 (Memref.whole main_arg5) h6 (Memref.whole cc0_stg5_0) h7
          (Memref.whole cc0_scratch0) h8 (Memref.whole cc0_scratch1) h9 (Memref.whole cc0_scratch2) h10 (Memref.whole cc0_scratch3) h11
          (Memref.whole cc0_scratch4) h12 cc0_scratch5 cc0_scratch6 v10 v21 v33 v45 v57 v69 v81 v93 k0_hw10 v96 t ()) Q) := by
  have ht : t.val < L.length := t1_lt hL hw t
  have hslot := (slot_t hL hw t).trans hs.symm
  have hcond := cond_t hL hw t
  have hsome : t.val + 2 < L.length ↔ L[t.val + 2]?.isSome = true := by simp
  have hP := hcond.trans hsome
  have hTe := hT t.val (by omega) e he
  have hnx : ∀ e' ∈ L[t.val + 2]?, T (ix1 (n := 9) ⟨min (t.val + 2) 7, by omega⟩) = BitVec.ofNat 32 e'.val := by
    intro e' he'
    have hlt : t.val + 2 < L.length := by
      by_contra hc
      rw [List.getElem?_eq_none (by omega)] at he'
      exact absurd he' (by simp)
    have : (⟨min (t.val + 2) 7, by omega⟩ : Fin 9) = ⟨t.val + 2, by omega⟩ := Fin.ext (by show min (t.val + 2) 7 = t.val + 2; omega)
    rw [this]
    exact hT (t.val + 2) (by omega) e' he'
  have hnw : ∀ e' ∈ L[t.val + 2]?, (T (ix1 (n := 9) ⟨min (t.val + 2) 7, by omega⟩)).toNat = e'.val := fun e' he' => by
    rw [hnx e' he', expert_word]
  have hev : (BitVec.ofNat 32 e.val).toNat = e.val := expert_word e
  have hchk12 : k0_chk12 v10 v21 v33 v45 v57 v69 v81 v93 t (T (ix1 (n := 9) ⟨min (t.val + 2) 7, by omega⟩)) := by
    refine chk12 hL hw t fun hc => ?_
    obtain ⟨e', he'⟩ := Option.isSome_iff_exists.mp (hsome.mp hc)
    rw [hnw e' he']; exact e'.isLt
  have hchk11 : k0_chk11 (BitVec.ofNat 32 e.val) := chk11 (by rw [hev]; exact e.isLt)
  unfold k0_t1_body
  simp only [k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton]
  unfold k0_part7_skel k0_part8_skel k0_part9_skel k0_part10_skel k0_part11_skel k0_part12_skel k0_part13_skel k0_part14_skel k0_part15_skel smemLoad smemLoadElt
  simp only [Prog.bind_op, Prog.bind_lift, Prog.bind_ret, Prog.pure_eq_ret, Prog.bind_assoc]
  rw [slotP_some]
  unfold tripRes
  iintro ⟨⟨P0, P1, P2, P3, P4, P5, R0, R1⟩, HT, Hids, Hew, Hx, Hs13, Hs2, ⟨%f, Hh⟩, Ha, HO⟩ Hk
  iapply (wp_ld c (Memref.whole cc0_scratch4) T (fun _ => BitVec.ofNat 32 e.val)
    (funext fun j => (read_table T (i := t.val) (by omega) (here_t hL hw t) _ j).trans hTe)) $$ HT
  iintro HT
  iapply (wp_as c hchk11)
  iapply (wp_ld c (Memref.whole cc0_scratch4) T (fun _ => T (ix1 (n := 9) ⟨min (t.val + 2) 7, by omega⟩))
    (funext fun j => read_table T (i := min (t.val + 2) 7) (by omega) (next_t hL hw t) _ j)) $$ HT
  iintro HT
  iapply (wp_as c hchk12)
  iapply (wp_ld c (Memref.whole cc0_stg0_0) o.ids o.ids (by
    funext j; show o.ids _ = o.ids _; congr 1; funext b; apply Fin.ext
    fin_cases b
    · show 0 + 1 * (j 0).val = (j 0).val; omega
    · show 0 + 1 * (j 1).val = (j 1).val; omega)) $$ Hids
  iintro Hids
  iapply (wp_ld c (Memref.whole cc0_stg1_0) o.ew o.ew (by
    funext j; show o.ew _ = o.ew _; congr 1; funext b; apply Fin.ext
    fin_cases b
    · show 0 + 1 * (j 0).val = (j 0).val; omega
    · show 0 + 1 * (j 1).val = (j 1).val; omega)) $$ Hew
  iintro Hew
  ihave HR : (chunkRes c o.x o.s13 (chunkOf o e) 0) $$ [Hx Hs13 Hh HO]
  · unfold chunkRes
    isplitl [Hx]; · iexact Hx
    isplitl [Hs13]; · iexact Hs13
    isplitl [Hh]
    · iexists f
      isplitl [Hh]; · iexact Hh
      ipureintro; exact AgreeH.zero _ _
    iexact HO
  iapply (wp_chunk c o.w13 o.x o.s13 (chunkOf o e) s 0 e (fun x g u sg su => k0_pay7 (k0_pay5 (F := F) (BitVec.ofNat 32 e.val) o.ids) x g u sg su) (chunkOf_0 o e)
    (ga := 0) (gu := 1536) (gh := 0) (nc := 0) (nc' := 1) rfl rfl rfl rfl rfl (congrArg (fun z => (![z, 0] : Fin 2 → ℕ)) hslot) (congrArg (fun z => (![z, 0] : Fin 2 → ℕ)) hslot)
    (congrArg (fun z => (![z, 0, 0] : Fin 3 → ℕ)) hslot) (congrArg (fun z => (![z, 1536, 0] : Fin 3 → ℕ)) hslot) (congrArg (fun z => (![z, 0] : Fin 2 → ℕ)) hev) (congrArg (fun z => (![z, 1536] : Fin 2 → ℕ)) hev) rfl) $$ [P0 HR]
  · isplitl [P0]; · iexact P0
    iexact HR
  iintro ⟨P0, HR⟩
  iapply (wp_guard13 c o.w13 s 0 e L[t.val + 2]? hP (congrArg (fun z => (![z, 0] : Fin 2 → ℕ)) hslot) (congrArg (fun z => (![z, 0, 0] : Fin 3 → ℕ)) hslot) (fun e' he' => congrArg (fun z => (![z, 0, 0] : Fin 3 → ℕ)) (hnw e' he'))
    (congrArg (fun z => (![z, 0] : Fin 2 → ℕ)) hslot) (congrArg (fun z => (![z, 1536, 0] : Fin 3 → ℕ)) hslot) (fun e' he' => congrArg (fun z => (![z, 1536, 0] : Fin 3 → ℕ)) (hnw e' he'))) $$ P0
  iintro P0
  iapply (wp_chunk c o.w13 o.x o.s13 (chunkOf o e) s 1 e (fun x g u sg su => k0_pay9 (k0_pay8 (k0_pay5 (F := F) (BitVec.ofNat 32 e.val) o.ids) x g u sg su)) (chunkOf_1 o e)
    (ga := 256) (gu := 1792) (gh := 256) (nc := 1) (nc' := 2) rfl rfl rfl rfl rfl (congrArg (fun z => (![z, 1] : Fin 2 → ℕ)) hslot) (congrArg (fun z => (![z, 1] : Fin 2 → ℕ)) hslot)
    (congrArg (fun z => (![z, 256, 0] : Fin 3 → ℕ)) hslot) (congrArg (fun z => (![z, 1792, 0] : Fin 3 → ℕ)) hslot) (congrArg (fun z => (![z, 256] : Fin 2 → ℕ)) hev) (congrArg (fun z => (![z, 1792] : Fin 2 → ℕ)) hev) rfl) $$ [P1 HR]
  · isplitl [P1]; · iexact P1
    iexact HR
  iintro ⟨P1, HR⟩
  iapply (wp_guard13B c o.w13 s 1 e L[t.val + 2]? hP (congrArg (fun z => (![z, 1] : Fin 2 → ℕ)) hslot) (congrArg (fun z => (![z, 256, 0] : Fin 3 → ℕ)) hslot) (fun e' he' => congrArg (fun z => (![z, 256, 0] : Fin 3 → ℕ)) (hnw e' he'))
    (congrArg (fun z => (![z, 1] : Fin 2 → ℕ)) hslot) (congrArg (fun z => (![z, 1792, 0] : Fin 3 → ℕ)) hslot) (fun e' he' => congrArg (fun z => (![z, 1792, 0] : Fin 3 → ℕ)) (hnw e' he'))) $$ P1
  iintro P1
  iapply (wp_chunk c o.w13 o.x o.s13 (chunkOf o e) s 2 e (fun x g u sg su => k0_pay13 (k0_pay5 (F := F) (BitVec.ofNat 32 e.val) o.ids) (k0_pay11 x u) (k0_pay12 x g sg) su) (chunkOf_2 o e)
    (ga := 512) (gu := 2048) (gh := 512) (nc := 2) (nc' := 3) rfl rfl rfl rfl rfl (congrArg (fun z => (![z, 2] : Fin 2 → ℕ)) hslot) (congrArg (fun z => (![z, 2] : Fin 2 → ℕ)) hslot)
    (congrArg (fun z => (![z, 512, 0] : Fin 3 → ℕ)) hslot) (congrArg (fun z => (![z, 2048, 0] : Fin 3 → ℕ)) hslot) (congrArg (fun z => (![z, 512] : Fin 2 → ℕ)) hev) (congrArg (fun z => (![z, 2048] : Fin 2 → ℕ)) hev) rfl) $$ [P2 HR]
  · isplitl [P2]; · iexact P2
    iexact HR
  iintro ⟨P2, HR⟩
  iapply (wp_guard13B c o.w13 s 2 e L[t.val + 2]? hP (congrArg (fun z => (![z, 2] : Fin 2 → ℕ)) hslot) (congrArg (fun z => (![z, 512, 0] : Fin 3 → ℕ)) hslot) (fun e' he' => congrArg (fun z => (![z, 512, 0] : Fin 3 → ℕ)) (hnw e' he'))
    (congrArg (fun z => (![z, 2] : Fin 2 → ℕ)) hslot) (congrArg (fun z => (![z, 2048, 0] : Fin 3 → ℕ)) hslot) (fun e' he' => congrArg (fun z => (![z, 2048, 0] : Fin 3 → ℕ)) (hnw e' he'))) $$ P2
  iintro P2
  iapply (wp_chunk c o.w13 o.x o.s13 (chunkOf o e) s 3 e (fun x g u sg su => k0_pay16 (k0_pay5 (F := F) (BitVec.ofNat 32 e.val) o.ids) (k0_pay14 x) (k0_pay15 x g) u sg su) (chunkOf_3 o e)
    (ga := 768) (gu := 2304) (gh := 768) (nc := 3) (nc' := 4) rfl rfl rfl rfl rfl (congrArg (fun z => (![z, 3] : Fin 2 → ℕ)) hslot) (congrArg (fun z => (![z, 3] : Fin 2 → ℕ)) hslot)
    (congrArg (fun z => (![z, 768, 0] : Fin 3 → ℕ)) hslot) (congrArg (fun z => (![z, 2304, 0] : Fin 3 → ℕ)) hslot) (congrArg (fun z => (![z, 768] : Fin 2 → ℕ)) hev) (congrArg (fun z => (![z, 2304] : Fin 2 → ℕ)) hev) rfl) $$ [P3 HR]
  · isplitl [P3]; · iexact P3
    iexact HR
  iintro ⟨P3, HR⟩
  iapply (wp_guard13B c o.w13 s 3 e L[t.val + 2]? hP (congrArg (fun z => (![z, 3] : Fin 2 → ℕ)) hslot) (congrArg (fun z => (![z, 768, 0] : Fin 3 → ℕ)) hslot) (fun e' he' => congrArg (fun z => (![z, 768, 0] : Fin 3 → ℕ)) (hnw e' he'))
    (congrArg (fun z => (![z, 3] : Fin 2 → ℕ)) hslot) (congrArg (fun z => (![z, 2304, 0] : Fin 3 → ℕ)) hslot) (fun e' he' => congrArg (fun z => (![z, 2304, 0] : Fin 3 → ℕ)) (hnw e' he'))) $$ P3
  iintro P3
  iapply (wp_chunk c o.w13 o.x o.s13 (chunkOf o e) s 4 e (fun x g u sg su => k0_pay17 (k0_pay5 (F := F) (BitVec.ofNat 32 e.val) o.ids) x g u sg su) (chunkOf_4 o e)
    (ga := 1024) (gu := 2560) (gh := 1024) (nc := 4) (nc' := 5) rfl rfl rfl rfl rfl (congrArg (fun z => (![z, 4] : Fin 2 → ℕ)) hslot) (congrArg (fun z => (![z, 4] : Fin 2 → ℕ)) hslot)
    (congrArg (fun z => (![z, 1024, 0] : Fin 3 → ℕ)) hslot) (congrArg (fun z => (![z, 2560, 0] : Fin 3 → ℕ)) hslot) (congrArg (fun z => (![z, 1024] : Fin 2 → ℕ)) hev) (congrArg (fun z => (![z, 2560] : Fin 2 → ℕ)) hev) rfl) $$ [P4 HR]
  · isplitl [P4]; · iexact P4
    iexact HR
  iintro ⟨P4, HR⟩
  iapply (wp_guard13B c o.w13 s 4 e L[t.val + 2]? hP (congrArg (fun z => (![z, 4] : Fin 2 → ℕ)) hslot) (congrArg (fun z => (![z, 1024, 0] : Fin 3 → ℕ)) hslot) (fun e' he' => congrArg (fun z => (![z, 1024, 0] : Fin 3 → ℕ)) (hnw e' he'))
    (congrArg (fun z => (![z, 4] : Fin 2 → ℕ)) hslot) (congrArg (fun z => (![z, 2560, 0] : Fin 3 → ℕ)) hslot) (fun e' he' => congrArg (fun z => (![z, 2560, 0] : Fin 3 → ℕ)) (hnw e' he'))) $$ P4
  iintro P4
  iapply (wp_chunk c o.w13 o.x o.s13 (chunkOf o e) s 5 e (fun x g u sg su => k0_pay18 (k0_pay5 (F := F) (BitVec.ofNat 32 e.val) o.ids) x g u sg su) (chunkOf_5 o e)
    (ga := 1280) (gu := 2816) (gh := 1280) (nc := 5) (nc' := 6) rfl rfl rfl rfl rfl (congrArg (fun z => (![z, 5] : Fin 2 → ℕ)) hslot) (congrArg (fun z => (![z, 5] : Fin 2 → ℕ)) hslot)
    (congrArg (fun z => (![z, 1280, 0] : Fin 3 → ℕ)) hslot) (congrArg (fun z => (![z, 2816, 0] : Fin 3 → ℕ)) hslot) (congrArg (fun z => (![z, 1280] : Fin 2 → ℕ)) hev) (congrArg (fun z => (![z, 2816] : Fin 2 → ℕ)) hev) rfl) $$ [P5 HR]
  · isplitl [P5]; · iexact P5
    iexact HR
  iintro ⟨P5, HR⟩
  iapply (wp_guard13B c o.w13 s 5 e L[t.val + 2]? hP (congrArg (fun z => (![z, 5] : Fin 2 → ℕ)) hslot) (congrArg (fun z => (![z, 1280, 0] : Fin 3 → ℕ)) hslot) (fun e' he' => congrArg (fun z => (![z, 1280, 0] : Fin 3 → ℕ)) (hnw e' he'))
    (congrArg (fun z => (![z, 5] : Fin 2 → ℕ)) hslot) (congrArg (fun z => (![z, 2816, 0] : Fin 3 → ℕ)) hslot) (fun e' he' => congrArg (fun z => (![z, 2816, 0] : Fin 3 → ℕ)) (hnw e' he'))) $$ P5
  iintro P5
  unfold chunkRes
  icases HR with ⟨Hx, Hs13, ⟨%f', Hh, %hf⟩, HO⟩
  obtain rfl := AgreeH.full hf
  ihave HR : (halfRes c o.s2 (hiddenOf o e) a) $$ [Hs2 Hh Ha HO]
  · unfold halfRes
    isplitl [Hs2]; · iexact Hs2
    isplitl [Hh]; · iexact Hh
    isplitl [Ha]; · iexact Ha
    iexact HO
  iapply (wp_half c o.w2 o.s2 (hiddenOf o e) a s 0 e (k0_pay19 (weightOf o e)) (gd := 0) (nd := 0) rfl rfl (congrArg (fun z => (![z, 0] : Fin 2 → ℕ)) hslot)
    (congrArg (fun z => (![z, 0, 0] : Fin 3 → ℕ)) hslot) (congrArg (fun z => (![z, 0] : Fin 2 → ℕ)) hev) rfl rfl rfl) $$ [R0 HR]
  · isplitl [R0]; · iexact R0
    iexact HR
  iintro ⟨R0, HR⟩
  iapply (wp_guard2B c o.w2 s 0 e L[t.val + 2]? hP (congrArg (fun z => (![z, 0] : Fin 2 → ℕ)) hslot) (congrArg (fun z => (![z, 0, 0] : Fin 3 → ℕ)) hslot) (fun e' he' => congrArg (fun z => (![z, 0, 0] : Fin 3 → ℕ)) (hnw e' he'))) $$ R0
  iintro R0
  iapply (wp_half c o.w2 o.s2 (hiddenOf o e) (accFst o e a) s 1 e (k0_pay1 (weightOf o e)) (gd := 1408) (nd := 1) rfl rfl (congrArg (fun z => (![z, 1] : Fin 2 → ℕ)) hslot)
    (congrArg (fun z => (![z, 1408, 0] : Fin 3 → ℕ)) hslot) (congrArg (fun z => (![z, 1408] : Fin 2 → ℕ)) hev) rfl rfl rfl) $$ [R1 HR]
  · isplitl [R1]; · iexact R1
    iexact HR
  iintro ⟨R1, HR⟩
  iapply (wp_guard2C c o.w2 s 1 e L[t.val + 2]? hP (congrArg (fun z => (![z, 1] : Fin 2 → ℕ)) hslot) (congrArg (fun z => (![z, 1408, 0] : Fin 3 → ℕ)) hslot) (fun e' he' => congrArg (fun z => (![z, 1408, 0] : Fin 3 → ℕ)) (hnw e' he'))) $$ R1
  iintro R1
  unfold halfRes
  icases HR with ⟨Hs2, Hh, Ha, HO⟩
  iapply (show Q () ⊢ WP c (Prog.ret ()) Q by unfold WP; rw [wp_ret]; exact fupd_intro)
  iapply Hk
  unfold slotP
  isplitl [P0 P1 P2 P3 P4 P5 R0 R1]
  · isplitl [P0]; · iexact P0
    isplitl [P1]; · iexact P1
    isplitl [P2]; · iexact P2
    isplitl [P3]; · iexact P3
    isplitl [P4]; · iexact P4
    isplitl [P5]; · iexact P5
    isplitl [R0]; · iexact R0
    iexact R1
  isplitl [HT]; · iexact HT
  isplitl [Hids]; · iexact Hids
  isplitl [Hew]; · iexact Hew
  isplitl [Hx]; · iexact Hx
  isplitl [Hs13]; · iexact Hs13
  isplitl [Hs2]; · iexact Hs2
  isplitl [Hh]; · iexists _; iexact Hh
  isplitl [Ha]; · iexact Ha
  iexact HO

end Trip

end Cert.KernelIdeal.Hand
end
-- ==== Proof.KI.Flags.lean ====
/-
  The flags of the experts in use: a word that is one when some token's pair names the expert, else zero.
-/
module

public import proofs.«01_k».proof.Proof.KI.Words
public import Idealize.ShloMosaic.Lib.Pointwise.Reshape

@[expose] public section

set_option maxRecDepth 65536

noncomputable section

namespace Cert.KernelIdeal.Hand

open Cert.KernelIdeal Cert.KernelIdeal.Gen
open Idealize.ShloMosaic Idealize.ShloMosaic.TcCoe
open Idealize.ShloMosaic.ValueIdx (ix1 ix2 ix3)

variable {F : FTy → Type} [FloatOps F]

/-- The maximum of zeros and ones, from a zero or a one. -/
theorem fold_flags_aux {ι : Type} (g : ι → BitVec 32) (hg : ∀ n, Flag (g n)) (l : List ι) (r : BitVec 32) (hr : Flag r) :
    (l.foldl (fun r n => IntOp.maxsi r (g n)) r = 1#32 ↔ r = 1#32 ∨ ∃ n ∈ l, g n = 1#32) ∧ Flag (l.foldl (fun r n => IntOp.maxsi r (g n)) r) := by
  induction l generalizing r with
  | nil => exact ⟨by simp, hr⟩
  | cons n l ih =>
    have h01 : (IntOp.maxsi r (g n) = 1#32 ↔ r = 1#32 ∨ g n = 1#32) ∧ Flag (IntOp.maxsi r (g n)) := by
      rcases hr with rfl | rfl <;> rcases hg n with h | h <;> rw [h] <;> unfold Flag <;> decide
    obtain ⟨h1, h2⟩ := ih _ h01.2
    refine ⟨?_, h2⟩
    rw [List.foldl_cons, h1, h01.1, or_assoc]
    simp only [List.mem_cons, exists_eq_or_imp]

/-- The maximum of zeros and ones, some of them. -/
theorem fold_flags {ι : Type} (g : ι → BitVec 32) (hg : ∀ n, Flag (g n)) (l : List ι) (hl : l ≠ []) :
    (l.foldl (fun r n => IntOp.maxsi r (g n)) 2147483648#32 = 1#32 ↔ ∃ n ∈ l, g n = 1#32) ∧ Flag (l.foldl (fun r n => IntOp.maxsi r (g n)) 2147483648#32) := by
  cases l with
  | nil => exact absurd rfl hl
  | cons n l =>
    have h0 : IntOp.maxsi 2147483648#32 (g n) = g n := by rcases hg n with h | h <;> rw [h] <;> decide
    rw [List.foldl_cons, h0]
    obtain ⟨h1, h2⟩ := fold_flags_aux g hg l (g n) (hg n)
    refine ⟨?_, h2⟩
    rw [h1]
    simp only [List.mem_cons, exists_eq_or_imp]

/-- The flag of expert `k`: the largest of the tokens' zeros and ones. -/
def flagV (v : IVec S128x4 32) (k : BitVec 32) : BitVec 32 :=
  extractAt ![0, 0, 0] (shapeCast S1x1x1 (multiReductionI .maxsi [1, 2] S1
    (shapeCast S1x128x4 (select (cmpi .eq v (broadcast S128x4 k)) (broadcast S128x4 1#32) (broadcast S128x4 0#32)) shapeCasts_S128x4_S1x128x4)
    2147483648#32 reduces_S1x128x4_S1 rfl) shapeCasts_S1_S1x1x1) inpos_S1x1x1_p0_0_0

/-- One token's pair, compared. -/
theorem pair_flag (v : IVec S128x4 32) (k : BitVec 32) (i : S128x4.Idx) :
    select (cmpi .eq v (broadcast S128x4 k)) (broadcast S128x4 1#32) (broadcast S128x4 0#32) i = if v i = k then 1#32 else 0#32 := by
  show (if (BitVec.ofBool (v i == k)) = 1#1 then 1#32 else 0#32) = _
  by_cases h : v i = k
  · simp [h]
  · rw [if_neg h, beq_eq_false_iff_ne.mpr h]; rfl

theorem flagV_spec (v : IVec S128x4 32) (k : BitVec 32) : (flagV v k = 1#32 ↔ ∃ i, v i = k) ∧ Flag (flagV v k) := by
  have hne : ∀ n, Flag (shapeCast S1x128x4 (select (cmpi .eq v (broadcast S128x4 k)) (broadcast S128x4 1#32) (broadcast S128x4 0#32))
      shapeCasts_S128x4_S1x128x4 (S1x128x4.rowMajor.symm n)) := by
    intro n
    show Flag (select _ _ _ (Shape.reshapeEquiv _ _))
    rw [pair_flag]
    split
    · exact Or.inr rfl
    · exact Or.inl rfl
  have hsub : ∀ a b : S1.Idx, a = b := by
    intro a b; funext i; apply Fin.ext
    have h1 : (a i).val < 1 := lt_of_lt_of_eq (a i).isLt (by fin_cases i; rfl)
    have h2 : (b i).val < 1 := lt_of_lt_of_eq (b i).isLt (by fin_cases i; rfl)
    omega
  obtain ⟨h1, h2⟩ := fold_flags _ hne ((List.finRange S1x128x4.numel).filter fun n =>
      reduces_S1x128x4_S1.drop (S1x128x4.rowMajor.symm n) = Shape.reshapeEquiv shapeCasts_S1_S1x1x1 (fun a => ⟨(![0, 0, 0] : Fin 3 → ℕ) a, inpos_S1x1x1_p0_0_0 a⟩)) (by
    apply List.ne_nil_of_mem (a := ⟨0, by decide⟩)
    simp only [List.mem_filter, List.mem_finRange, true_and, decide_eq_true_eq]
    exact hsub _ _)
  refine ⟨Iff.trans h1 ?_, h2⟩
  constructor
  · rintro ⟨n, -, hn⟩
    refine ⟨Shape.reshapeEquiv shapeCasts_S128x4_S1x128x4 (S1x128x4.rowMajor.symm n), ?_⟩
    have := (pair_flag v k _).symm.trans hn
    by_contra hc
    rw [if_neg hc] at this
    exact absurd this (by decide)
  · rintro ⟨i, hi⟩
    refine ⟨S1x128x4.rowMajor ((Shape.reshapeEquiv shapeCasts_S128x4_S1x128x4).symm i), ?_, ?_⟩
    · simp only [List.mem_filter, List.mem_finRange, true_and, decide_eq_true_eq]
      exact hsub _ _
    · show select _ _ _ (Shape.reshapeEquiv _ _) = _
      rw [pair_flag, if_pos]
      rw [Equiv.symm_apply_apply, Equiv.apply_symm_apply]; exact hi

theorem pay36_eq (v : Vec F S128x4 .i32) : k0_pay36 (F := F) v = v := shapeCast_id _ _

end Cert.KernelIdeal.Hand
end
-- ==== Proof.KI.Body.lean ====
/-
  The kernel's body: the table of the experts in use, the first copies, the loop over the table, and the result.
-/
module

public import proofs.«01_k».proof.Proof.KI.Loop
public import proofs.«01_k».proof.Proof.KI.Flags

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

/-- The proof's resource algebra: the pipeline library's beside the transfers' counters. -/
local notation "𝕄" => MT nD τ sig Unit (Elt F) ℕ (Pipeline.UD sig nD τ) ℕ

/-! ## The table of the experts in use -/

/-- An offset into the table. -/
theorem off_word {w : BitVec 32} {n : ℕ} (h : w = BitVec.ofNat 32 n) (hn : n ≤ 8) : (![(Scalar.indexCast w).toNat] : Fin 1 → ℕ) = ![n] := by
  subst h
  exact congrArg (fun z => (![z] : Fin 1 → ℕ)) (word_lt8 hn le_rfl)

/-- An offset into the table is in bounds. -/
theorem chk_word {off : Fin 1 → ℕ} {n : ℕ} (h : off = ![n]) (hn : n < 9) : ∀ a, off a + S1.size a ≤ S9.size a := by
  subst h; exact inbT hn

/-- A store of an expert at the end of the list: the list grown if the expert is in use. -/
theorem lists_put {T : S9.Idx → Elt F .i32} {L : List (Fin 8)} (hT : Lists (F := F) T L) (hl : L.length < 9) {off : Fin 1 → ℕ} (ho : off = ![L.length])
    (inb : ∀ a, off a + S1.size a ≤ S9.size a) (v : BitVec 32) (k : Fin 8) {x : S1.Idx → Elt F .i32} (hx : x = fun _ => BitVec.ofNat 32 k.val) :
    Lists (F := F) (((Memref.whole cc0_scratch4).access (Rect.unit (s := S9) off S1.size inb)).write (Elt F) T x Finset.univ) (snocIf v k L) := by
  subst ho hx
  have hat : ∀ j : S9.Idx, ((Memref.whole cc0_scratch4).access (Rect.unit (s := S9) ![L.length] S1.size inb)).write (Elt F) T (fun _ => BitVec.ofNat 32 k.val) Finset.univ j
      = if (j 0).val = L.length then BitVec.ofNat 32 k.val else T j := by
    intro j
    split
    · next h =>
      have e : ((Memref.whole cc0_scratch4).access (Rect.unit (s := S9) ![L.length] S1.size inb)).emb (ix1 (n := 1) 0) = j := by
        funext b; apply Fin.ext
        fin_cases b
        show L.length + 1 * 0 = (j 0).val; omega
      conv_lhs => rw [← e]
      rw [View.write_emb_of_mem _ _ (Finset.mem_univ _)]
      rfl
    · next h =>
      rw [View.write_of_not_mem]
      intro hm
      obtain ⟨y, -, hy⟩ := Finset.mem_map.mp hm
      have hy1 : (y 0).val < 1 := (y 0).isLt
      have h1 : L.length + 1 * (y 0).val = (j 0).val := congrArg (fun i => (i 0).val) hy
      omega
  intro i hi e he
  refine (hat _).trans ?_
  show (if i = L.length then _ else _) = _
  unfold snocIf at he
  split at he
  · rcases lt_trichotomy i L.length with h | h | h
    · rw [if_neg (by omega)]
      rw [List.getElem?_append_left h] at he
      exact hT i hi e he
    · subst h
      rw [if_pos rfl]
      rw [List.getElem?_append_right le_rfl] at he
      simp at he
      rw [he]
    · rw [List.getElem?_eq_none (by simp; omega)] at he
      exact absurd he (by simp)
  · have h : i < L.length := by
      by_contra hc
      rw [List.getElem?_eq_none (by omega)] at he
      exact absurd he (by simp)
    rw [if_neg (by omega)]
    exact hT i hi e he

/-- A store over a whole buffer. -/
theorem write_acc (a : S128x2816.Idx → Elt F .f32) (x : Vec F S128x2816 .f32) (inb : ∀ a, (![0, 0] : Fin 2 → ℕ) a + S128x2816.size a ≤ S128x2816.size a) :
    ((Memref.whole cc0_scratch3).access (Rect.unit (s := S128x2816) ![0, 0] S128x2816.size inb)).write (Elt F) a x Finset.univ = x := by
  funext j
  have e : ((Memref.whole cc0_scratch3).access (Rect.unit (s := S128x2816) ![0, 0] S128x2816.size inb)).emb j = j := by
    funext b; apply Fin.ext
    fin_cases b
    · show 0 + 1 * (j 0).val = (j 0).val; omega
    · show 0 + 1 * (j 1).val = (j 1).val; omega
  conv_lhs => rw [← e]
  rw [View.write_emb_of_mem _ _ (Finset.mem_univ _)]
  rfl

theorem write_out (a : S128x2816.Idx → Elt F .bf16) (x : Vec F S128x2816 .bf16) (inb : ∀ a, (![0, 0] : Fin 2 → ℕ) a + S128x2816.size a ≤ S128x2816.size a) :
    ((Memref.whole cc0_stg5_0).access (Rect.unit (s := S128x2816) ![0, 0] S128x2816.size inb)).write (Elt F) a x Finset.univ = x := by
  funext j
  have e : ((Memref.whole cc0_stg5_0).access (Rect.unit (s := S128x2816) ![0, 0] S128x2816.size inb)).emb j = j := by
    funext b; apply Fin.ext
    fin_cases b
    · show 0 + 1 * (j 0).val = (j 0).val; omega
    · show 0 + 1 * (j 1).val = (j 1).val; omega
  conv_lhs => rw [← e]
  rw [View.write_emb_of_mem _ _ (Finset.mem_univ _)]
  rfl

section Rules

variable {α β : Type} {Q : α → sProp (MT nD τ sig Unit (Elt F) ℕ (Pipeline.UD sig nD τ) ℕ)}
variable (c : Dev nD)

/-- An expert put at the end of the table. -/
theorem wp_put {T : S9.Idx → Elt F .i32} {L : List (Fin 8)} (hT : Lists (F := F) T L) (hl : L.length < 9) {off : Fin 1 → ℕ} (ho : off = ![L.length])
    {inb : ∀ a, off a + S1.size a ≤ S9.size a} (v : BitVec 32) (k : Fin 8) {x : S1.Idx → Elt F .i32} (hx : x = fun _ => BitVec.ofNat 32 k.val)
    {h2 h3} {tl : PUnit → Prog (TpuEff nD τ sig (Elt F) Λ₀ .tc) α} :
    (held c cc0_scratch4 T : sProp 𝕄)
      ⊢ iprop((iprop(∃ T', held c cc0_scratch4 T' ∗ ⌜Lists (F := F) T' (snocIf v k L)⌝) -∗ WP c (tl ⟨⟩) Q) -∗
        WP c (.op (.store (Memref.whole cc0_scratch4) (Rect.unit (s := S9) off S1.size inb) x Finset.univ h2 h3) tl) Q) := by
  iintro HT Hk
  iapply (wp_st c (Memref.whole cc0_scratch4) T) $$ HT
  iintro HT
  iapply Hk
  iexists _
  isplitl [HT]; · iexact HT
  ipureintro
  exact lists_put hT hl ho inb v k hx

/-- The load before a store into the table: its value is not used. -/
theorem wp_skip {T : S9.Idx → Elt F .i32} {r : Rect S9} {h1} {tl : Prog (TpuEff nD τ sig (Elt F) Λ₀ .tc) α} :
    (held c cc0_scratch4 T : sProp 𝕄)
      ⊢ iprop((held c cc0_scratch4 T -∗ WP c tl Q) -∗ WP c (.op (.load (Memref.whole cc0_scratch4) r.toLoadRect h1) fun _ => tl) Q) := by
  iintro HT Hk
  iapply (wp_ld c (Memref.whole cc0_scratch4) T _ rfl) $$ HT
  iexact Hk

/-- The end of a program. -/
theorem wp_end {x : α} : Q x ⊢ WP c (Prog.ret x) Q := by
  unfold WP; rw [wp_ret]; exact fupd_intro

/-- A guarded step whose continuation both branches share. -/
theorem wp_join {P : Prop} {dec : Decidable P} {A : P → Prog (TpuEff nD τ sig (Elt F) Λ₀ .tc) α} {kk : Prog (TpuEff nD τ sig (Elt F) Λ₀ .tc) α}
    (R R' : sProp 𝕄) (hA : ∀ h : P, R ⊢ iprop((R' -∗ WP c kk Q) -∗ WP c (A h) Q)) (hB : ¬P → R ⊢ R') :
    R ⊢ iprop((R' -∗ WP c kk Q) -∗ WP c (dite P A fun _ => kk) Q) := by
  by_cases h : P
  · rw [dif_pos h]; exact hA h
  · rw [dif_neg h]
    iintro HR Hk
    iapply Hk
    iapply (hB h) $$ HR

end Rules

/-- The experts in use, in their order. -/
def usedOf (v : IVec S128x4 32) : List (Fin 8) :=
  acts (flagV v 0#32) (flagV v 1#32) (flagV v 2#32) (flagV v 3#32) (flagV v 4#32) (flagV v 5#32) (flagV v 6#32) (flagV v 7#32)

/-- The accumulator after every expert in use. -/
def totalOf (o : Ops F) : S128x2816.Idx → Elt F .f32 := (usedOf (k0_pay36 (F := F) o.ids)).foldl (fun a e => accStep o e a) k0_pay45

section Body

variable (o : Ops F) (c : Dev nD)
variable {h0 : (Memref.whole cc0_stg0_0).IsWhole} {h1 : (Memref.whole cc0_stg1_0).IsWhole} {h2 : (Memref.whole cc0_stg2_0).IsWhole}
  {h3 : (Memref.whole cc0_stg3_0).IsWhole} {h4 : (Memref.whole cc0_stg4_0).IsWhole} {h5 : (Memref.whole main_arg3).IsWhole}
  {h6 : (Memref.whole main_arg5).IsWhole} {h7 : (Memref.whole cc0_stg5_0).IsWhole} {h8 : (Memref.whole cc0_scratch0).IsWhole}
  {h9 : (Memref.whole cc0_scratch1).IsWhole} {h10 : (Memref.whole cc0_scratch2).IsWhole} {h11 : (Memref.whole cc0_scratch3).IsWhole}
  {h12 : (Memref.whole cc0_scratch4).IsWhole}

variable {Γ : sProp (MT nD τ sig Unit (Elt F) ℕ (Pipeline.UD sig nD τ) ℕ)}

/-- A slot with no expert in flight. -/
theorem slotP_none (s : Fin 2) : slotP o c s none
    = iprop(idle13 c o.w13 s 0 ∗ idle13 c o.w13 s 1 ∗ idle13 c o.w13 s 2 ∗ idle13 c o.w13 s 3 ∗ idle13 c o.w13 s 4 ∗ idle13 c o.w13 s 5
      ∗ idle2 c o.w2 s 0 ∗ idle2 c o.w2 s 1) := rfl

/-- The experts in use among the first ones, each when its flag is one. -/
abbrev L1 (v10 : BitVec 32) := snocIf v10 0 []
abbrev L2 (v10 v21 : BitVec 32) := snocIf v21 1 (L1 v10)
abbrev L3 (v10 v21 v33 : BitVec 32) := snocIf v33 2 (L2 v10 v21)
abbrev L4 (v10 v21 v33 v45 : BitVec 32) := snocIf v45 3 (L3 v10 v21 v33)
abbrev L5 (v10 v21 v33 v45 v57 : BitVec 32) := snocIf v57 4 (L4 v10 v21 v33 v45)
abbrev L6 (v10 v21 v33 v45 v57 v69 : BitVec 32) := snocIf v69 5 (L5 v10 v21 v33 v45 v57)
abbrev L7 (v10 v21 v33 v45 v57 v69 v81 : BitVec 32) := snocIf v81 6 (L6 v10 v21 v33 v45 v57 v69)

theorem L1_len (v10 : BitVec 32) : (L1 v10).length ≤ 1 := snocIf_length _ _ _
theorem L2_len (v10 v21 : BitVec 32) : (L2 v10 v21).length ≤ 2 :=
  (snocIf_length _ _ _).trans (Nat.add_le_add_right (L1_len v10) 1)
theorem L3_len (v10 v21 v33 : BitVec 32) : (L3 v10 v21 v33).length ≤ 3 :=
  (snocIf_length _ _ _).trans (Nat.add_le_add_right (L2_len v10 v21) 1)
theorem L4_len (v10 v21 v33 v45 : BitVec 32) : (L4 v10 v21 v33 v45).length ≤ 4 :=
  (snocIf_length _ _ _).trans (Nat.add_le_add_right (L3_len v10 v21 v33) 1)
theorem L5_len (v10 v21 v33 v45 v57 : BitVec 32) : (L5 v10 v21 v33 v45 v57).length ≤ 5 :=
  (snocIf_length _ _ _).trans (Nat.add_le_add_right (L4_len v10 v21 v33 v45) 1)
theorem L6_len (v10 v21 v33 v45 v57 v69 : BitVec 32) : (L6 v10 v21 v33 v45 v57 v69).length ≤ 6 :=
  (snocIf_length _ _ _).trans (Nat.add_le_add_right (L5_len v10 v21 v33 v45 v57) 1)
theorem L7_len (v10 v21 v33 v45 v57 v69 v81 : BitVec 32) : (L7 v10 v21 v33 v45 v57 v69 v81).length ≤ 7 :=
  (snocIf_length _ _ _).trans (Nat.add_le_add_right (L6_len v10 v21 v33 v45 v57 v69) 1)
theorem L8_len (v10 v21 v33 v45 v57 v69 v81 v93 : BitVec 32) : (acts v10 v21 v33 v45 v57 v69 v81 v93).length ≤ 8 :=
  (snocIf_length _ _ _).trans (Nat.add_le_add_right (L7_len v10 v21 v33 v45 v57 v69 v81) 1)

/-- The flags as the kernel computes them. -/
abbrev fl0 (v : S128x4.Idx → Elt F .i32) : BitVec 32 := extractAt ![0, 0, 0] (k0_pay37 (F := F) v) inpos_S1x1x1_p0_0_0
theorem fl0_eq (v : S128x4.Idx → Elt F .i32) : fl0 v = flagV (k0_pay36 (F := F) v) 0#32 := rfl
abbrev fl1 (v : S128x4.Idx → Elt F .i32) : BitVec 32 := extractAt ![0, 0, 0] (k0_pay38 (F := F) v) inpos_S1x1x1_p0_0_0
theorem fl1_eq (v : S128x4.Idx → Elt F .i32) : fl1 v = flagV (k0_pay36 (F := F) v) 1#32 := rfl
abbrev fl2 (v : S128x4.Idx → Elt F .i32) : BitVec 32 := extractAt ![0, 0, 0] (k0_pay39 (F := F) v) inpos_S1x1x1_p0_0_0
theorem fl2_eq (v : S128x4.Idx → Elt F .i32) : fl2 v = flagV (k0_pay36 (F := F) v) 2#32 := rfl
abbrev fl3 (v : IVec S128x4 32) : BitVec 32 := extractAt ![0, 0, 0] (k0_pay40 v) inpos_S1x1x1_p0_0_0
theorem fl3_eq (v : IVec S128x4 32) : fl3 v = flagV v 3#32 := rfl
abbrev fl4 (v : IVec S128x4 32) : BitVec 32 := extractAt ![0, 0, 0] (k0_pay41 v) inpos_S1x1x1_p0_0_0
theorem fl4_eq (v : IVec S128x4 32) : fl4 v = flagV v 4#32 := rfl
abbrev fl5 (v : IVec S128x4 32) : BitVec 32 := extractAt ![0, 0, 0] (k0_pay42 v) inpos_S1x1x1_p0_0_0
theorem fl5_eq (v : IVec S128x4 32) : fl5 v = flagV v 5#32 := rfl
abbrev fl6 (v : IVec S128x4 32) : BitVec 32 := extractAt ![0, 0, 0] (k0_pay43 v 6#32) inpos_S1x1x1_p0_0_0
theorem fl6_eq (v : IVec S128x4 32) : fl6 v = flagV v 6#32 := rfl
abbrev fl7 (v : IVec S128x4 32) : BitVec 32 := extractAt ![0, 0, 0] (k0_pay44 v) inpos_S1x1x1_p0_0_0
theorem fl7_eq (v : IVec S128x4 32) : fl7 v = flagV v 7#32 := rfl

set_option maxHeartbeats 1000000 in
/-- Statements 1–60: the first two experts put in the table. -/
theorem wp_p25 (T : S9.Idx → Elt F .i32)
    {Q : (Σ' (v1 : IVec S128x4 32) (v10 : BitVec 32) (v21 : BitVec 32) (k0_hw2 : k0_chk2 v10 v21) (v24 : BitVec 32) (v33 : BitVec 32)
      (k0_hw3 : k0_chk3 v10 v21 v33), BitVec 32) → sProp (MT nD τ sig Unit (Elt F) ℕ (Pipeline.UD sig nD τ) ℕ)}
    (hk : ∀ v10 v21 v33 hw2 v24 hw3 T', v10 = flagV (k0_pay36 (F := F) o.ids) 0#32 → v21 = flagV (k0_pay36 (F := F) o.ids) 1#32 →
      v33 = flagV (k0_pay36 (F := F) o.ids) 2#32 → Lists (F := F) T' (L2 v10 v21) →
      iprop(held c cc0_scratch4 T' ∗ held c cc0_stg0_0 o.ids ∗ Γ) ⊢ Q ⟨k0_pay36 (F := F) o.ids, v10, v21, hw2, v24, v33, hw3, 2#32⟩) :
    iprop(held c cc0_scratch4 T ∗ held c cc0_stg0_0 o.ids ∗ Γ) ⊢ WP c (k0_part25 (Memref.whole cc0_stg0_0) h0 (Memref.whole cc0_stg1_0) h1 (Memref.whole cc0_stg2_0) h2 (Memref.whole cc0_stg3_0) h3
      (Memref.whole cc0_stg4_0) h4 (Memref.whole main_arg3) h5 (Memref.whole main_arg5) h6 (Memref.whole cc0_stg5_0) h7
      (Memref.whole cc0_scratch0) h8 (Memref.whole cc0_scratch1) h9 (Memref.whole cc0_scratch2) h10 (Memref.whole cc0_scratch3) h11
      (Memref.whole cc0_scratch4) h12 cc0_scratch5 cc0_scratch6) Q := by
  rw [k0_part25_eq_skeleton]
  unfold k0_part25_skel smemLoad smemLoadElt
  simp only [Prog.bind_op, Prog.bind_lift, Prog.bind_ret, Prog.pure_eq_ret, Prog.bind_assoc]
  iintro ⟨HT, Hids, HG⟩
  iapply (wp_ld c (Memref.whole cc0_stg0_0) o.ids o.ids (by
    funext j; show o.ids _ = o.ids _; congr 1; funext b; apply Fin.ext
    fin_cases b
    · show 0 + 1 * (j 0).val = (j 0).val; omega
    · show 0 + 1 * (j 1).val = (j 1).val; omega)) $$ Hids
  iintro Hids
  have f10 : Flag (fl0 o.ids) := (flagV_spec _ _).2
  have f21 : Flag (fl1 o.ids) := (flagV_spec _ _).2
  have f33 : Flag (fl2 o.ids) := (flagV_spec _ _).2
  have c1 := snocIf_count (w := 0#32) (L := []) 0 f10 rfl
  have c2 := snocIf_count 1 f21 c1
  have c3 := snocIf_count 2 f33 c2
  have l1 := L1_len (fl0 o.ids)
  have l2 := L2_len (fl0 o.ids) (fl1 o.ids)
  have l3 := L3_len (fl0 o.ids) (fl1 o.ids) (fl2 o.ids)
  have o1 : k0_off1 (fl0 o.ids) = ![(L1 (fl0 o.ids)).length] := off_word c1 (by omega)
  have q1 : k0_chk1 (fl0 o.ids) := chk_word o1 (by omega)
  have o2 : k0_off2 (fl0 o.ids) (fl1 o.ids) = ![(L2 (fl0 o.ids) (fl1 o.ids)).length] := off_word c2 (by omega)
  have q2 : k0_chk2 (fl0 o.ids) (fl1 o.ids) := chk_word o2 (by omega)
  have o3 : k0_off3 (fl0 o.ids) (fl1 o.ids) (fl2 o.ids) = ![(L3 (fl0 o.ids) (fl1 o.ids) (fl2 o.ids)).length] := off_word c3 (by omega)
  have q3 : k0_chk3 (fl0 o.ids) (fl1 o.ids) (fl2 o.ids) := chk_word o3 (by omega)
  iapply (wp_as c q1)
  iapply (wp_skip c) $$ HT
  iintro HT
  iapply (wp_put c (L := []) (fun i hi e he => absurd he (by simp)) (by simp) rfl (fl0 o.ids) 0 rfl) $$ HT
  iintro ⟨%T1, HT, %hT1⟩
  iapply (wp_as c q2)
  iapply (wp_skip c) $$ HT
  iintro HT
  iapply (wp_put c hT1 (lt_of_le_of_lt l1 (by omega)) o1 (fl1 o.ids) 1 rfl) $$ HT
  iintro ⟨%T2, HT, %hT2⟩
  iapply (wp_as c q3)
  iapply (wp_skip c) $$ HT
  iintro HT
  iapply (wp_end c)
  iapply (hk (fl0 o.ids) (fl1 o.ids) (fl2 o.ids) _ _ _ T2 (fl0_eq _) (fl1_eq _) (fl2_eq _) hT2)
  isplitl [HT]; · iexact HT
  isplitl [Hids]; · iexact Hids
  iexact HG

set_option maxHeartbeats 1000000 in
/-- Statements 61–120: the next four experts put in the table. -/
theorem wp_p26 {v1 : IVec S128x4 32} {v10 v21 v33 : BitVec 32} (f10 : Flag v10) (f21 : Flag v21) (f33 : Flag v33) {hw2 : k0_chk2 v10 v21} {v24 : BitVec 32}
    {hw3 : k0_chk3 v10 v21 v33} {T : S9.Idx → Elt F .i32} (hT : Lists (F := F) T (L2 v10 v21))
    {Q : (Σ' (v45 : BitVec 32) (v57 : BitVec 32) (v69 : BitVec 32) (k0_hw6 : k0_chk6 v10 v21 v33 v45 v57 v69) (v72 : BitVec 32), BitVec 32) → sProp (MT nD τ sig Unit (Elt F) ℕ (Pipeline.UD sig nD τ) ℕ)}
    (hk : ∀ v45 v57 v69 hw6 v72 T', v45 = flagV v1 3#32 → v57 = flagV v1 4#32 → v69 = flagV v1 5#32 → Lists (F := F) T' (L6 v10 v21 v33 v45 v57 v69) →
      iprop(held c cc0_scratch4 T' ∗ Γ) ⊢ Q ⟨v45, v57, v69, hw6, v72, 6#32⟩) :
    iprop(held c cc0_scratch4 T ∗ Γ) ⊢ WP c (k0_part26 (Memref.whole cc0_stg0_0) h0 (Memref.whole cc0_stg1_0) h1 (Memref.whole cc0_stg2_0) h2 (Memref.whole cc0_stg3_0) h3
      (Memref.whole cc0_stg4_0) h4 (Memref.whole main_arg3) h5 (Memref.whole main_arg5) h6 (Memref.whole cc0_stg5_0) h7
      (Memref.whole cc0_scratch0) h8 (Memref.whole cc0_scratch1) h9 (Memref.whole cc0_scratch2) h10 (Memref.whole cc0_scratch3) h11
      (Memref.whole cc0_scratch4) h12 cc0_scratch5 cc0_scratch6 v1 v10 v21 hw2 v24 v33 hw3 2#32) Q := by
  rw [k0_part26_eq_skeleton]
  unfold k0_part26_skel smemLoad smemLoadElt
  simp only [Prog.bind_op, Prog.bind_lift, Prog.bind_ret, Prog.pure_eq_ret, Prog.bind_assoc]
  iintro ⟨HT, HG⟩
  have f45 : Flag (fl3 v1) := (flagV_spec _ _).2
  have f57 : Flag (fl4 v1) := (flagV_spec _ _).2
  have f69 : Flag (fl5 v1) := (flagV_spec _ _).2
  have c2 := snocIf_count 1 f21 (snocIf_count (w := 0#32) (L := []) 0 f10 rfl)
  have c3 := snocIf_count 2 f33 c2
  have c4 := snocIf_count 3 f45 c3
  have c5 := snocIf_count 4 f57 c4
  have c6 := snocIf_count 5 f69 c5
  have l1 := L1_len v10
  have l2 := L2_len v10 v21
  have l3 := L3_len v10 v21 v33
  have l4 := L4_len v10 v21 v33 (fl3 v1)
  have l5 := L5_len v10 v21 v33 (fl3 v1) (fl4 v1)
  have l6 := L6_len v10 v21 v33 (fl3 v1) (fl4 v1) (fl5 v1)
  have o2 : k0_off2 v10 v21 = ![(L2 v10 v21).length] := off_word c2 (by omega)
  have o3 : k0_off3 v10 v21 v33 = ![(L3 v10 v21 v33).length] := off_word c3 (by omega)
  have o4 : k0_off4 v10 v21 v33 (fl3 v1) = ![(L4 v10 v21 v33 (fl3 v1)).length] := off_word c4 (by omega)
  have q4 : k0_chk4 v10 v21 v33 (fl3 v1) := chk_word o4 (by omega)
  have o5 : k0_off5 v10 v21 v33 (fl3 v1) (fl4 v1) = ![(L5 v10 v21 v33 (fl3 v1) (fl4 v1)).length] := off_word c5 (by omega)
  have q5 : k0_chk5 v10 v21 v33 (fl3 v1) (fl4 v1) := chk_word o5 (by omega)
  have o6 : k0_off6 v10 v21 v33 (fl3 v1) (fl4 v1) (fl5 v1) = ![(L6 v10 v21 v33 (fl3 v1) (fl4 v1) (fl5 v1)).length] := off_word c6 (by omega)
  have q6 : k0_chk6 v10 v21 v33 (fl3 v1) (fl4 v1) (fl5 v1) := chk_word o6 (by omega)
  iapply (wp_put c hT (lt_of_le_of_lt l2 (by omega)) o2 v33 2 rfl) $$ HT
  iintro ⟨%T3, HT, %hT3⟩
  iapply (wp_as c q4)
  iapply (wp_skip c) $$ HT
  iintro HT
  iapply (wp_put c hT3 (lt_of_le_of_lt l3 (by omega)) o3 (fl3 v1) 3 rfl) $$ HT
  iintro ⟨%T4, HT, %hT4⟩
  iapply (wp_as c q5)
  iapply (wp_skip c) $$ HT
  iintro HT
  iapply (wp_put c hT4 (lt_of_le_of_lt l4 (by omega)) o4 (fl4 v1) 4 rfl) $$ HT
  iintro ⟨%T5, HT, %hT5⟩
  iapply (wp_as c q6)
  iapply (wp_skip c) $$ HT
  iintro HT
  iapply (wp_put c hT5 (lt_of_le_of_lt l5 (by omega)) o5 (fl5 v1) 5 rfl) $$ HT
  iintro ⟨%T6, HT, %hT6⟩
  iapply (wp_end c)
  iapply (hk (fl3 v1) (fl4 v1) (fl5 v1) _ _ T6 (fl3_eq _) (fl4_eq _) (fl5_eq _) hT6)
  isplitl [HT]; · iexact HT
  iexact HG

set_option maxHeartbeats 1000000 in
/-- Statements 121–180: the last two experts put in the table, and the first two experts in use sent for. -/
theorem wp_p27 {v1 : IVec S128x4 32} {v10 v21 v33 v45 v57 v69 : BitVec 32} (f10 : Flag v10) (f21 : Flag v21) (f33 : Flag v33) (f45 : Flag v45)
    (f57 : Flag v57) (f69 : Flag v69) {hw6 : k0_chk6 v10 v21 v33 v45 v57 v69} {v72 : BitVec 32}
    {T : S9.Idx → Elt F .i32} (hT : Lists (F := F) T (L6 v10 v21 v33 v45 v57 v69)) (a : S128x2816.Idx → Elt F .f32)
    {Q : (Σ' (v81 : BitVec 32) (v93 : BitVec 32) (k0_hw10 : k0_chk10 v10 v21 v33 v45 v57 v69 v81 v93) (v96 : BitVec 32) (v107 : BitVec 32), BitVec 32) → sProp (MT nD τ sig Unit (Elt F) ℕ (Pipeline.UD sig nD τ) ℕ)}
    (hk : ∀ v81 v93 hw10 v96 v107 T', v81 = flagV v1 6#32 → v93 = flagV v1 7#32 → Lists (F := F) T' (acts v10 v21 v33 v45 v57 v69 v81 v93) →
      iprop(held c cc0_scratch4 T' ∗ slotP o c 0 (acts v10 v21 v33 v45 v57 v69 v81 v93)[0]? ∗ slotP o c 1 (acts v10 v21 v33 v45 v57 v69 v81 v93)[1]?
        ∗ held c cc0_scratch3 (k0_pay45 (F := F)) ∗ Γ) ⊢ Q ⟨v81, v93, hw10, v96, v107, 1#32⟩) :
    iprop(held c cc0_scratch4 T ∗ slotP o c 0 none ∗ slotP o c 1 none ∗ held c cc0_scratch3 a ∗ Γ) ⊢
      WP c (k0_part27 (Memref.whole cc0_stg0_0) h0 (Memref.whole cc0_stg1_0) h1 (Memref.whole cc0_stg2_0) h2 (Memref.whole cc0_stg3_0) h3
      (Memref.whole cc0_stg4_0) h4 (Memref.whole main_arg3) h5 (Memref.whole main_arg5) h6 (Memref.whole cc0_stg5_0) h7
      (Memref.whole cc0_scratch0) h8 (Memref.whole cc0_scratch1) h9 (Memref.whole cc0_scratch2) h10 (Memref.whole cc0_scratch3) h11
      (Memref.whole cc0_scratch4) h12 cc0_scratch5 cc0_scratch6 v1 v10 v21 v33 v45 v57 v69 hw6 v72 6#32) Q := by
  rw [k0_part27_eq_skeleton]
  unfold k0_part27_skel smemLoad smemLoadElt
  simp only [Prog.bind_op, Prog.bind_lift, Prog.bind_ret, Prog.pure_eq_ret, Prog.bind_assoc]
  iintro ⟨HT, S0, S1, Ha, HG⟩
  have f81 : Flag (fl6 v1) := (flagV_spec _ _).2
  have f93 : Flag (fl7 v1) := (flagV_spec _ _).2
  have c6 := snocIf_count 5 f69 (snocIf_count 4 f57 (snocIf_count 3 f45 (snocIf_count 2 f33 (snocIf_count 1 f21 (snocIf_count (w := 0#32) (L := []) 0 f10 rfl)))))
  have c7 := snocIf_count 6 f81 c6
  have c8 : cnt v10 v21 v33 v45 v57 v69 (fl6 v1) (fl7 v1) = BitVec.ofNat 32 (acts v10 v21 v33 v45 v57 v69 (fl6 v1) (fl7 v1)).length := snocIf_count 7 f93 c7
  have l1 := L1_len v10
  have l2 := L2_len v10 v21
  have l3 := L3_len v10 v21 v33
  have l4 := L4_len v10 v21 v33 v45
  have l5 := L5_len v10 v21 v33 v45 v57
  have l6 := L6_len v10 v21 v33 v45 v57 v69
  have l7 := L7_len v10 v21 v33 v45 v57 v69 (fl6 v1)
  have l8 := L8_len v10 v21 v33 v45 v57 v69 (fl6 v1) (fl7 v1)
  have o6 : k0_off6 v10 v21 v33 v45 v57 v69 = ![(L6 v10 v21 v33 v45 v57 v69).length] := off_word c6 (by omega)
  have o7 : k0_off7 v10 v21 v33 v45 v57 v69 (fl6 v1) = ![(L7 v10 v21 v33 v45 v57 v69 (fl6 v1)).length] := off_word c7 (by omega)
  have q7 : k0_chk7 v10 v21 v33 v45 v57 v69 (fl6 v1) := chk_word o7 (by omega)
  iapply (wp_as c q7)
  iapply (wp_skip c) $$ HT
  iintro HT
  iapply (wp_put c hT (lt_of_le_of_lt l6 (by omega)) o6 (fl6 v1) 6 rfl) $$ HT
  iintro ⟨%T7, HT, %hT7⟩
  iapply (wp_as c (chk10 (by omega) c8))
  iapply (wp_skip c) $$ HT
  iintro HT
  iapply (wp_put c hT7 (lt_of_le_of_lt l7 (by omega)) o7 (fl7 v1) 7 rfl) $$ HT
  iintro ⟨%T8, HT, %hT8⟩
  replace hT8 : Lists (F := F) T8 (acts v10 v21 v33 v45 v57 v69 (fl6 v1) (fl7 v1)) := hT8
  obtain ⟨L, hL⟩ : ∃ L, acts v10 v21 v33 v45 v57 v69 (fl6 v1) (fl7 v1) = L := ⟨_, rfl⟩
  have hk' := hk (fl6 v1) (fl7 v1)
  rw [hL] at hT8 c8 l8 hk'
  ihave HR : iprop(slotP o c 0 none ∗ held c cc0_scratch4 T8 : sProp 𝕄) $$ [S0 HT]
  · isplitl [S0]; · iexact S0
    iexact HT
  iapply (wp_join c iprop(slotP o c 0 none ∗ held c cc0_scratch4 T8) iprop(slotP o c 0 L[0]? ∗ held c cc0_scratch4 T8) (fun h => ?_) (fun h => ?_)) $$ HR
  · have hlt : 0 < L.length := (cond1_iff l8 c8).mp h
    obtain ⟨e, he⟩ : ∃ e, L[0]? = some e := ⟨_, List.getElem?_eq_getElem hlt⟩
    have hTe := hT8 0 (by omega) e he
    have hq : k0_chk8 v10 v21 v33 v45 v57 v69 (fl6 v1) (fl7 v1) (BitVec.ofNat 32 e.val) := chk8 (by rw [expert_word]; exact e.isLt)
    rw [he, slotP_some, slotP_none]
    simp only [k0_part1_eq_skeleton, k0_part2_eq_skeleton, k0_part3_eq_skeleton]
    unfold k0_part1_skel k0_part2_skel k0_part3_skel smemLoad smemLoadElt
    simp only [Prog.bind_op, Prog.bind_lift, Prog.bind_ret, Prog.pure_eq_ret, Prog.bind_assoc]
    iintro ⟨⟨P0, P1, P2, P3, P4, P5, R0, R1⟩, HT⟩ Hk
    iapply (wp_ld c (Memref.whole cc0_scratch4) T8 (fun _ => BitVec.ofNat 32 e.val)
      (funext fun j => (read_table T8 (i := 0) (by omega) rfl _ j).trans hTe)) $$ HT
    iintro HT
    iapply (wp_as c hq)
    iapply (wp_issueA c o.w13 0 0 e rfl rfl (congrArg (fun z => (![z, 0, 0] : Fin 3 → ℕ)) (expert_word e))) $$ P0
    iintro P0
    iapply (wp_issueB c o.w13 0 0 e rfl rfl (congrArg (fun z => (![z, 1536, 0] : Fin 3 → ℕ)) (expert_word e))) $$ P0
    iintro P0
    iapply (wp_issueA c o.w13 0 1 e rfl rfl (congrArg (fun z => (![z, 256, 0] : Fin 3 → ℕ)) (expert_word e))) $$ P1
    iintro P1
    iapply (wp_issueB c o.w13 0 1 e rfl rfl (congrArg (fun z => (![z, 1792, 0] : Fin 3 → ℕ)) (expert_word e))) $$ P1
    iintro P1
    iapply (wp_issueA c o.w13 0 2 e rfl rfl (congrArg (fun z => (![z, 512, 0] : Fin 3 → ℕ)) (expert_word e))) $$ P2
    iintro P2
    iapply (wp_issueB c o.w13 0 2 e rfl rfl (congrArg (fun z => (![z, 2048, 0] : Fin 3 → ℕ)) (expert_word e))) $$ P2
    iintro P2
    iapply (wp_issueA c o.w13 0 3 e rfl rfl (congrArg (fun z => (![z, 768, 0] : Fin 3 → ℕ)) (expert_word e))) $$ P3
    iintro P3
    iapply (wp_issueB c o.w13 0 3 e rfl rfl (congrArg (fun z => (![z, 2304, 0] : Fin 3 → ℕ)) (expert_word e))) $$ P3
    iintro P3
    iapply (wp_issueA c o.w13 0 4 e rfl rfl (congrArg (fun z => (![z, 1024, 0] : Fin 3 → ℕ)) (expert_word e))) $$ P4
    iintro P4
    iapply (wp_issueB c o.w13 0 4 e rfl rfl (congrArg (fun z => (![z, 2560, 0] : Fin 3 → ℕ)) (expert_word e))) $$ P4
    iintro P4
    iapply (wp_issueA c o.w13 0 5 e rfl rfl (congrArg (fun z => (![z, 1280, 0] : Fin 3 → ℕ)) (expert_word e))) $$ P5
    iintro P5
    iapply (wp_issueB c o.w13 0 5 e rfl rfl (congrArg (fun z => (![z, 2816, 0] : Fin 3 → ℕ)) (expert_word e))) $$ P5
    iintro P5
    iapply (wp_issue2 c o.w2 0 0 e rfl rfl (congrArg (fun z => (![z, 0, 0] : Fin 3 → ℕ)) (expert_word e))) $$ R0
    iintro R0
    iapply (wp_issue2 c o.w2 0 1 e rfl rfl (congrArg (fun z => (![z, 1408, 0] : Fin 3 → ℕ)) (expert_word e))) $$ R1
    iintro R1
    iapply Hk
    isplitl [P0 P1 P2 P3 P4 P5 R0 R1]
    · isplitl [P0]; · iexact P0
      isplitl [P1]; · iexact P1
      isplitl [P2]; · iexact P2
      isplitl [P3]; · iexact P3
      isplitl [P4]; · iexact P4
      isplitl [P5]; · iexact P5
      isplitl [R0]; · iexact R0
      iexact R1
    iexact HT
  · have hge : ¬ 0 < L.length := fun hc => h ((cond1_iff l8 c8).mpr hc)
    rw [List.getElem?_eq_none (by omega)]

  iintro ⟨S0, HT⟩
  ihave HR : iprop(slotP o c 1 none ∗ held c cc0_scratch4 T8 : sProp 𝕄) $$ [S1 HT]
  · isplitl [S1]; · iexact S1
    iexact HT
  iapply (wp_join c iprop(slotP o c 1 none ∗ held c cc0_scratch4 T8) iprop(slotP o c 1 L[1]? ∗ held c cc0_scratch4 T8) (fun h => ?_) (fun h => ?_)) $$ HR
  · have hlt : 1 < L.length := (cond2_iff l8 c8).mp h
    obtain ⟨e, he⟩ : ∃ e, L[1]? = some e := ⟨_, List.getElem?_eq_getElem hlt⟩
    have hTe := hT8 1 (by omega) e he
    have hq : k0_chk9 v10 v21 v33 v45 v57 v69 (fl6 v1) (fl7 v1) (BitVec.ofNat 32 e.val) := chk9 (by rw [expert_word]; exact e.isLt)
    rw [he, slotP_some, slotP_none]
    simp only [k0_part4_eq_skeleton, k0_part5_eq_skeleton, k0_part6_eq_skeleton]
    unfold k0_part4_skel k0_part5_skel k0_part6_skel smemLoad smemLoadElt
    simp only [Prog.bind_op, Prog.bind_lift, Prog.bind_ret, Prog.pure_eq_ret, Prog.bind_assoc]
    iintro ⟨⟨P0, P1, P2, P3, P4, P5, R0, R1⟩, HT⟩ Hk
    iapply (wp_ld c (Memref.whole cc0_scratch4) T8 (fun _ => BitVec.ofNat 32 e.val)
      (funext fun j => (read_table T8 (i := 1) (by omega) rfl _ j).trans hTe)) $$ HT
    iintro HT
    iapply (wp_as c hq)
    iapply (wp_issueA c o.w13 1 0 e rfl rfl (congrArg (fun z => (![z, 0, 0] : Fin 3 → ℕ)) (expert_word e))) $$ P0
    iintro P0
    iapply (wp_issueB c o.w13 1 0 e rfl rfl (congrArg (fun z => (![z, 1536, 0] : Fin 3 → ℕ)) (expert_word e))) $$ P0
    iintro P0
    iapply (wp_issueA c o.w13 1 1 e rfl rfl (congrArg (fun z => (![z, 256, 0] : Fin 3 → ℕ)) (expert_word e))) $$ P1
    iintro P1
    iapply (wp_issueB c o.w13 1 1 e rfl rfl (congrArg (fun z => (![z, 1792, 0] : Fin 3 → ℕ)) (expert_word e))) $$ P1
    iintro P1
    iapply (wp_issueA c o.w13 1 2 e rfl rfl (congrArg (fun z => (![z, 512, 0] : Fin 3 → ℕ)) (expert_word e))) $$ P2
    iintro P2
    iapply (wp_issueB c o.w13 1 2 e rfl rfl (congrArg (fun z => (![z, 2048, 0] : Fin 3 → ℕ)) (expert_word e))) $$ P2
    iintro P2
    iapply (wp_issueA c o.w13 1 3 e rfl rfl (congrArg (fun z => (![z, 768, 0] : Fin 3 → ℕ)) (expert_word e))) $$ P3
    iintro P3
    iapply (wp_issueB c o.w13 1 3 e rfl rfl (congrArg (fun z => (![z, 2304, 0] : Fin 3 → ℕ)) (expert_word e))) $$ P3
    iintro P3
    iapply (wp_issueA c o.w13 1 4 e rfl rfl (congrArg (fun z => (![z, 1024, 0] : Fin 3 → ℕ)) (expert_word e))) $$ P4
    iintro P4
    iapply (wp_issueB c o.w13 1 4 e rfl rfl (congrArg (fun z => (![z, 2560, 0] : Fin 3 → ℕ)) (expert_word e))) $$ P4
    iintro P4
    iapply (wp_issueA c o.w13 1 5 e rfl rfl (congrArg (fun z => (![z, 1280, 0] : Fin 3 → ℕ)) (expert_word e))) $$ P5
    iintro P5
    iapply (wp_issueB c o.w13 1 5 e rfl rfl (congrArg (fun z => (![z, 2816, 0] : Fin 3 → ℕ)) (expert_word e))) $$ P5
    iintro P5
    iapply (wp_issue2 c o.w2 1 0 e rfl rfl (congrArg (fun z => (![z, 0, 0] : Fin 3 → ℕ)) (expert_word e))) $$ R0
    iintro R0
    iapply (wp_issue2 c o.w2 1 1 e rfl rfl (congrArg (fun z => (![z, 1408, 0] : Fin 3 → ℕ)) (expert_word e))) $$ R1
    iintro R1
    iapply Hk
    isplitl [P0 P1 P2 P3 P4 P5 R0 R1]
    · isplitl [P0]; · iexact P0
      isplitl [P1]; · iexact P1
      isplitl [P2]; · iexact P2
      isplitl [P3]; · iexact P3
      isplitl [P4]; · iexact P4
      isplitl [P5]; · iexact P5
      isplitl [R0]; · iexact R0
      iexact R1
    iexact HT
  · have hge : ¬ 1 < L.length := fun hc => h ((cond2_iff l8 c8).mpr hc)
    rw [List.getElem?_eq_none (by omega)]

  iintro ⟨S1, HT⟩
  iapply (wp_ld c (Memref.whole cc0_scratch3) a _ rfl) $$ Ha
  iintro Ha
  iapply (wp_st c (Memref.whole cc0_scratch3) a) $$ Ha
  iintro Ha
  iapply (wp_end c)
  iapply (hk' _ _ _ T8 (fl6_eq v1) (fl7_eq v1) hT8)
  isplitl [HT]; · iexact HT
  isplitl [S0]; · iexact S0
  isplitl [S1]; · iexact S1
  isplitl [Ha]
  · rw [write_acc]; iexact Ha
  iexact HG

/-- What the table's filling does not touch. -/
def restR : sProp 𝕄 :=
  iprop(held c cc0_stg1_0 o.ew ∗ held c cc0_stg2_0 o.x ∗ held c cc0_stg3_0 o.s13
    ∗ held c cc0_stg4_0 o.s2 ∗ (∃ f, held c cc0_scratch2 f) ∗ ∃ W, owes (c : Thread nD τ) 0 W)

/-- The slot of a trip. -/
def par (k : ℕ) : Fin 2 := ⟨k % 2, Nat.mod_lt _ (by decide)⟩

/-- The loop's invariant: the next two experts in flight, and the experts before them added up. -/
def inv (L : List (Fin 8)) (T : S9.Idx → Elt F .i32) (k : ℕ) : sProp 𝕄 :=
  iprop(slotP o c (par k) L[k]? ∗ slotP o c (par (k + 1)) L[k + 1]? ∗ tripRes o c T ((L.take k).foldl (fun a e => accStep o e a) (k0_pay45 (F := F))))

/-- One program after another. -/
theorem wp_seq {α β : Type} {p : Prog (TpuEff nD τ sig (Elt F) Λ₀ .tc) β} {k : β → Prog (TpuEff nD τ sig (Elt F) Λ₀ .tc) α}
    {Q : α → sProp (MT nD τ sig Unit (Elt F) ℕ (Pipeline.UD sig nD τ) ℕ)} : WP c p (fun x => WP c (k x) Q) ⊢ WP c (p >>= k) Q := by
  unfold WP; rw [wp_bind]

/-- The slots when the loop is over. -/
theorem inv_end (L : List (Fin 8)) (T : S9.Idx → Elt F .i32) : inv o c L T L.length
    ⊢ iprop(slotP o c 0 none ∗ slotP o c 1 none ∗ tripRes o c T (L.foldl (fun a e => accStep o e a) (k0_pay45 (F := F)))) := by
  unfold inv
  rw [List.getElem?_eq_none le_rfl, List.getElem?_eq_none (Nat.le_succ _), List.take_length]
  rcases Nat.mod_two_eq_zero_or_one L.length with h | h
  · have h0 : par L.length = 0 := Fin.ext h
    have h1 : par (L.length + 1) = 1 := Fin.ext (show (L.length + 1) % 2 = 1 by omega)
    rw [h0, h1]
  · have h0 : par L.length = 1 := Fin.ext h
    have h1 : par (L.length + 1) = 0 := Fin.ext (show (L.length + 1) % 2 = 0 by omega)
    rw [h0, h1]
    iintro ⟨S1, S0, HR⟩
    isplitl [S0]; · iexact S0
    isplitl [S1]; · iexact S1
    iexact HR

set_option maxHeartbeats 1000000 in
/-- The whole body. -/
theorem wp_body (T : S9.Idx → Elt F .i32) (a : S128x2816.Idx → Elt F .f32) (y : S128x2816.Idx → Elt F .bf16)
    {Q : PUnit → sProp (MT nD τ sig Unit (Elt F) ℕ (Pipeline.UD sig nD τ) ℕ)} :
    iprop(slotP o c 0 none ∗ slotP o c 1 none ∗ tripRes o c T a ∗ held c cc0_stg5_0 y)
      ⊢ iprop((iprop(slotP o c 0 none ∗ slotP o c 1 none ∗ (∃ T', tripRes o c T' (totalOf o)) ∗ held c cc0_stg5_0 (k0_pay3 (totalOf o))) -∗ Q ⟨⟩) -∗
        WP c (cc0_moe_w8a16 (Memref.whole cc0_stg0_0) h0 (Memref.whole cc0_stg1_0) h1 (Memref.whole cc0_stg2_0) h2 (Memref.whole cc0_stg3_0) h3
          (Memref.whole cc0_stg4_0) h4 (Memref.whole main_arg3) h5 (Memref.whole main_arg5) h6 (Memref.whole cc0_stg5_0) h7
          (Memref.whole cc0_scratch0) h8 (Memref.whole cc0_scratch1) h9 (Memref.whole cc0_scratch2) h10 (Memref.whole cc0_scratch3) h11
          (Memref.whole cc0_scratch4) h12 cc0_scratch5 cc0_scratch6) Q) := by
  rw [cc0_moe_w8a16_eq_skeleton]
  unfold cc0_moe_w8a16_skel tripRes
  iintro ⟨S0, S1, ⟨HT, Hids, Hew, Hx, Hs13, Hs2, Hh, Ha, HO⟩, Hy⟩ Hk
  ihave HR : restR o c $$ [Hew Hx Hs13 Hs2 Hh HO]
  · unfold restR
    isplitl [Hew]; · iexact Hew
    isplitl [Hx]; · iexact Hx
    isplitl [Hs13]; · iexact Hs13
    isplitl [Hs2]; · iexact Hs2
    isplitl [Hh]; · iexact Hh
    iexact HO
  iapply (wp_seq c)
  iapply (wp_p25 o c T (Γ := iprop(slotP o c 0 none ∗ slotP o c 1 none ∗ restR o c ∗ held c cc0_scratch3 a ∗ held c cc0_stg5_0 y
    ∗ (iprop(slotP o c 0 none ∗ slotP o c 1 none ∗ (∃ T', tripRes o c T' (totalOf o)) ∗ held c cc0_stg5_0 (k0_pay3 (totalOf o))) -∗ Q ⟨⟩)))
    (fun v10 v21 v33 hw2 v24 hw3 T2 e10 e21 e33 hT2 => ?_))
  rotate_left
  · isplitl [HT]; · iexact HT
    isplitl [Hids]; · iexact Hids
    isplitl [S0]; · iexact S0
    isplitl [S1]; · iexact S1
    isplitl [HR]; · iexact HR
    isplitl [Ha]; · iexact Ha
    isplitl [Hy]; · iexact Hy
    iexact Hk
  have f10 : Flag v10 := by rw [e10]; exact (flagV_spec _ _).2
  have f21 : Flag v21 := by rw [e21]; exact (flagV_spec _ _).2
  have f33 : Flag v33 := by rw [e33]; exact (flagV_spec _ _).2
  dsimp only
  iintro ⟨HT, Hids, S0, S1, HR, Ha, Hy, Hk⟩
  iapply (wp_seq c)
  iapply (wp_p26 c f10 f21 f33 hT2 (Γ := iprop(slotP o c 0 none ∗ slotP o c 1 none ∗ restR o c ∗ held c cc0_scratch3 a ∗ held c cc0_stg5_0 y ∗ held c cc0_stg0_0 o.ids
    ∗ (iprop(slotP o c 0 none ∗ slotP o c 1 none ∗ (∃ T', tripRes o c T' (totalOf o)) ∗ held c cc0_stg5_0 (k0_pay3 (totalOf o))) -∗ Q ⟨⟩)))
    (fun v45 v57 v69 hw6 v72 T6 e45 e57 e69 hT6 => ?_))
  rotate_left
  · isplitl [HT]; · iexact HT
    isplitl [S0]; · iexact S0
    isplitl [S1]; · iexact S1
    isplitl [HR]; · iexact HR
    isplitl [Ha]; · iexact Ha
    isplitl [Hy]; · iexact Hy
    isplitl [Hids]; · iexact Hids
    iexact Hk
  have f45 : Flag v45 := by rw [e45]; exact (flagV_spec _ _).2
  have f57 : Flag v57 := by rw [e57]; exact (flagV_spec _ _).2
  have f69 : Flag v69 := by rw [e69]; exact (flagV_spec _ _).2
  dsimp only
  iintro ⟨HT, S0, S1, HR, Ha, Hy, Hids, Hk⟩
  iapply (wp_seq c)
  iapply (wp_p27 o c f10 f21 f33 f45 f57 f69 hT6 a (Γ := iprop(restR o c ∗ held c cc0_stg5_0 y ∗ held c cc0_stg0_0 o.ids
    ∗ (iprop(slotP o c 0 none ∗ slotP o c 1 none ∗ (∃ T', tripRes o c T' (totalOf o)) ∗ held c cc0_stg5_0 (k0_pay3 (totalOf o))) -∗ Q ⟨⟩)))
    (fun v81 v93 hw10 v96 v107 T8 e81 e93 hT8 => ?_))
  rotate_left
  · isplitl [HT]; · iexact HT
    isplitl [S0]; · iexact S0
    isplitl [S1]; · iexact S1
    isplitl [Ha]; · iexact Ha
    isplitl [HR]; · iexact HR
    isplitl [Hy]; · iexact Hy
    isplitl [Hids]; · iexact Hids
    iexact Hk
  have f81 : Flag v81 := by rw [e81]; exact (flagV_spec _ _).2
  have f93 : Flag v93 := by rw [e93]; exact (flagV_spec _ _).2
  have hw : cnt v10 v21 v33 v45 v57 v69 v81 v93 = BitVec.ofNat 32 (acts v10 v21 v33 v45 v57 v69 v81 v93).length :=
    snocIf_count 7 f93 (snocIf_count 6 f81 (snocIf_count 5 f69 (snocIf_count 4 f57 (snocIf_count 3 f45 (snocIf_count 2 f33 (snocIf_count 1 f21
      (snocIf_count (w := 0#32) (L := []) 0 f10 rfl)))))))
  have hL : usedOf (k0_pay36 (F := F) o.ids) = acts v10 v21 v33 v45 v57 v69 v81 v93 := by
    rw [e10, e21, e33, e45, e57, e69, e81, e93]; rfl
  have hlen := L8_len v10 v21 v33 v45 v57 v69 v81 v93
  have htot : totalOf o = (acts v10 v21 v33 v45 v57 v69 v81 v93).foldl (fun a e => accStep o e a) (k0_pay45 (F := F)) := by
    unfold totalOf; rw [hL]
  rw [htot]
  generalize acts v10 v21 v33 v45 v57 v69 v81 v93 = L at hw hlen hT8 ⊢
  clear htot hL
  dsimp only
  iintro ⟨HT, S0, S1, Ha, HR, Hy, Hids, Hk⟩
  unfold restR
  icases HR with ⟨Hew, Hx, Hs13, Hs2, Hh, HO⟩
  iapply (wp_seq c)
  unfold Scf.Loop.for
  iapply (Scf.wp_for _ _ _ _ _ _ _ _ _ (fun k _ => inv o c L T8 k) (fun k acc => ?_))
  · have hk : k.val < L.length := t1_lt hlen hw k
    obtain ⟨e, he⟩ : ∃ e, L[k.val]? = some e := ⟨_, List.getElem?_eq_getElem hk⟩
    unfold inv
    rw [he, List.take_succ, he, Option.toList_some, List.foldl_append]
    iintro ⟨SA, SB, HR⟩
    iapply (wp_trip o c hlen hw hw10 v96 k hT8 _ (par k.val) rfl e he) $$ [SA HR]
    · isplitl [SA]; · iexact SA
      iexact HR
    iintro ⟨SA, HR⟩
    isplitl [SB]; · iexact SB
    isplitl [SA]
    · rw [show par (k.val + 1 + 1) = par k.val from Fin.ext (show (k.val + 1 + 1) % 2 = k.val % 2 by omega)]
      iexact SA
    iexact HR
  isplitl [S0 S1 HT Hids Hew Hx Hs13 Hs2 Hh Ha HO]
  · unfold inv tripRes
    isplitl [S0]; · iexact S0
    isplitl [S1]; · iexact S1
    isplitl [HT]; · iexact HT
    isplitl [Hids]; · iexact Hids
    isplitl [Hew]; · iexact Hew
    isplitl [Hx]; · iexact Hx
    isplitl [Hs13]; · iexact Hs13
    isplitl [Hs2]; · iexact Hs2
    isplitl [Hh]; · iexact Hh
    isplitl [Ha]; · iexact Ha
    iexact HO
  iintro %acc HI
  rw [show Scf.trips _ _ _ = L.length from t1_trips hlen hw]
  ihave HI := (inv_end o c L T8) $$ HI
  icases HI with ⟨S0, S1, HR⟩
  iapply (Scf.wp_for0_bind _ _ _ _ _ _ _ _ (t2_trips hlen hw) _ _ _ .rfl)
  simp only [Prog.bind_op, Prog.bind_lift, Prog.bind_ret, Prog.pure_eq_ret, Prog.bind_assoc]
  generalize L.foldl (fun a e => accStep o e a) (k0_pay45 (F := F)) = b
  unfold tripRes
  icases HR with ⟨HT, Hids, Hew, Hx, Hs13, Hs2, Hh, Ha, HO⟩
  iapply (wp_ld c (Memref.whole cc0_scratch3) b b (by
    funext j; show b _ = b _; congr 1; funext i; apply Fin.ext
    fin_cases i
    · show 0 + 1 * (j 0).val = (j 0).val; omega
    · show 0 + 1 * (j 1).val = (j 1).val; omega)) $$ Ha
  iintro Ha
  iapply (wp_ld c (Memref.whole cc0_stg5_0) y _ rfl) $$ Hy
  iintro Hy
  iapply (wp_st c (Memref.whole cc0_stg5_0) y) $$ Hy
  iintro Hy
  iapply (wp_end c)
  iapply Hk
  isplitl [S0]; · iexact S0
  isplitl [S1]; · iexact S1
  isplitl [HT Hids Hew Hx Hs13 Hs2 Hh Ha HO]
  · iexists T8
    isplitl [HT]; · iexact HT
    isplitl [Hids]; · iexact Hids
    isplitl [Hew]; · iexact Hew
    isplitl [Hx]; · iexact Hx
    isplitl [Hs13]; · iexact Hs13
    isplitl [Hs2]; · iexact Hs2
    isplitl [Hh]; · iexact Hh
    isplitl [Ha]; · iexact Ha
    iexact HO
  rw [write_out]
  iexact Hy

end Body

end Cert.KernelIdeal.Hand
end
-- ==== Proof.KI.Slots.lean ====
/-
  The buffers, cells and weights a launch hands over whole, and the two slots' windows they are cut into.
-/
module

public import proofs.«01_k».proof.Proof.KI.Body
public import proofs.«01_k».proof.Proof.Gen.KernelIdeal.Frame

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (pointsTo_blocks pointsTo_blocks_join_exists)
open Idealize.ShloMosaic.Transfers (shareTokN shareDrop shareTok pointsTo_toks)

variable {F : FTy → Type} [FloatOps F]

/-- The proof's resource algebra: the pipeline library's beside the transfers' counters. -/
local notation "𝕄" => MT nD τ sig Unit (Elt F) ℕ (Pipeline.UD sig nD τ) ℕ

variable (c : Dev nD)

/-- The chunks' and the column halves' places: the slot, then the chunk or half. -/
abbrev J13 := Fin 2 × Fin 6
abbrev J2 := Fin 2 × Fin 2

theorem assocE {M : Type} [URA M] (P Q R : sProp M) : iprop((P ∗ Q) ∗ R) = iprop(P ∗ Q ∗ R) :=
  Entails.antisymm Idealize.SL.BI.sep_assoc Idealize.SL.BI.sep_assoc'

theorem list13 {M : Type} [URA M] (Φ : J13 → sProp M) : bigSep Finset.univ Φ
    = iprop(Φ (0, 0) ∗ Φ (0, 1) ∗ Φ (0, 2) ∗ Φ (0, 3) ∗ Φ (0, 4) ∗ Φ (0, 5) ∗ Φ (1, 0) ∗ Φ (1, 1) ∗ Φ (1, 2) ∗ Φ (1, 3) ∗ Φ (1, 4) ∗ Φ (1, 5)) :=
  Idealize.SL.BI.bigSep_univ_eq_bigSepL [(0, 0), (0, 1), (0, 2), (0, 3), (0, 4), (0, 5), (1, 0), (1, 1), (1, 2), (1, 3), (1, 4), (1, 5)]
    (by decide) (by decide) Φ
theorem list2 {M : Type} [URA M] (Φ : J2 → sProp M) : bigSep Finset.univ Φ = iprop(Φ (0, 0) ∗ Φ (0, 1) ∗ Φ (1, 0) ∗ Φ (1, 1)) :=
  Idealize.SL.BI.bigSep_univ_eq_bigSepL [(0, 0), (0, 1), (1, 0), (1, 1)] (by decide) (by decide) Φ

/-! ## The windows cover their buffers -/

theorem mem_dst13 (s : Fin 2) (ch : Fin 6) (hf : Fin 2) (i : S2x3072x2816.Idx) :
    i ∈ (dst13 s ch hf).view.set ↔ (i 0).val = s.val ∧ hf.val * 1536 + ch.val * 256 ≤ (i 1).val ∧ (i 1).val < hf.val * 1536 + ch.val * 256 + 256 := by
  have h : (dst13 s ch hf).view.set = (Rect.unit (s := S2x3072x2816) ![s.val, hf.val * 1536 + ch.val * 256, 0] S1x256x2816.size (inbD13 s ch hf)).set :=
    (View.set_reshape _ _).trans (View.set_slice_whole cc0_scratch0 _)
  rw [h, Rect.mem_set_unit]
  constructor
  · intro h
    have h0 : s.val ≤ (i 0).val ∧ (i 0).val < s.val + 1 := h 0
    exact ⟨by omega, h 1⟩
  · rintro ⟨h0, h1⟩ a
    fin_cases a
    · show s.val ≤ (i 0).val ∧ (i 0).val < s.val + 1
      omega
    · exact h1
    · exact ⟨Nat.zero_le _, by show (i 2).val < 0 + 2816; have := (i 2).isLt; simpa using this⟩

theorem mem_dst2 (s : Fin 2) (d : Fin 2) (i : S2x2816x1536.Idx) :
    i ∈ (dst2 s d).view.set ↔ (i 0).val = s.val ∧ d.val * 1408 ≤ (i 1).val ∧ (i 1).val < d.val * 1408 + 1408 := by
  have h : (dst2 s d).view.set = (Rect.unit (s := S2x2816x1536) ![s.val, d.val * 1408, 0] S1x1408x1536.size (inbD2 s d)).set :=
    (View.set_reshape _ _).trans (View.set_slice_whole cc0_scratch1 _)
  rw [h, Rect.mem_set_unit]
  constructor
  · intro h
    have h0 : s.val ≤ (i 0).val ∧ (i 0).val < s.val + 1 := h 0
    exact ⟨by omega, h 1⟩
  · rintro ⟨h0, h1⟩ a
    fin_cases a
    · show s.val ≤ (i 0).val ∧ (i 0).val < s.val + 1
      omega
    · exact h1
    · exact ⟨Nat.zero_le _, by show (i 2).val < 0 + 1536; have := (i 2).isLt; simpa using this⟩

/-- A chunk's two windows' elements, the gate's and the up projection's. -/
def set13 (b : J13) : Finset S2x3072x2816.Idx := (dst13 b.1 b.2 0).view.set ∪ (dst13 b.1 b.2 1).view.set
def set2 (b : J2) : Finset S2x2816x1536.Idx := (dst2 b.1 b.2).view.set

theorem pair13 (b : J13) : Disjoint (dst13 b.1 b.2 0).view.set (dst13 b.1 b.2 1).view.set :=
  Finset.disjoint_left.mpr fun i h0 h1 => by
    have h0 := (mem_dst13 b.1 b.2 0 i).mp h0
    have h1 := (mem_dst13 b.1 b.2 1 i).mp h1
    have := b.2.isLt
    simp only [Fin.val_zero, Fin.val_one] at h0 h1
    omega

theorem mem_set13 (b : J13) (i : S2x3072x2816.Idx) : i ∈ set13 b ↔ (i 0).val = b.1.val ∧ (i 1).val % 1536 / 256 = b.2.val := by
  have h1 : (i 1).val < 3072 := (i 1).isLt
  have := b.2.isLt
  unfold set13
  refine Finset.mem_union.trans ((or_congr (mem_dst13 b.1 b.2 0 i) (mem_dst13 b.1 b.2 1 i)).trans ?_)
  simp only [Fin.val_zero, Fin.val_one]
  omega

theorem disj13 (b b' : J13) (h : b ≠ b') : Disjoint (set13 b) (set13 b') :=
  Finset.disjoint_left.mpr fun i h0 h1 => h (by
    have h0 := (mem_set13 b i).mp h0
    have h1 := (mem_set13 b' i).mp h1
    exact Prod.ext (Fin.ext (by omega)) (Fin.ext (by omega)))
theorem cover13 : Finset.univ.biUnion set13 = Finset.univ :=
  Finset.eq_univ_of_forall fun i => Finset.mem_biUnion.mpr
    ⟨(⟨(i 0).val, (i 0).isLt⟩, ⟨(i 1).val % 1536 / 256, by omega⟩), Finset.mem_univ _, (mem_set13 _ i).mpr ⟨rfl, rfl⟩⟩

theorem mem_set2 (b : J2) (i : S2x2816x1536.Idx) : i ∈ set2 b ↔ (i 0).val = b.1.val ∧ (i 1).val / 1408 = b.2.val := by
  have h1 : (i 1).val < 2816 := (i 1).isLt
  have := b.2.isLt
  refine (mem_dst2 b.1 b.2 i).trans ?_
  omega

theorem disj2 (b b' : J2) (h : b ≠ b') : Disjoint (set2 b) (set2 b') :=
  Finset.disjoint_left.mpr fun i h0 h1 => h (by
    have h0 := (mem_set2 b i).mp h0
    have h1 := (mem_set2 b' i).mp h1
    exact Prod.ext (Fin.ext (by omega)) (Fin.ext (by omega)))
theorem cover2 : Finset.univ.biUnion set2 = Finset.univ :=
  Finset.eq_univ_of_forall fun i => by
    have h1 : (i 1).val < 2816 := (i 1).isLt
    exact Finset.mem_biUnion.mpr ⟨(⟨(i 0).val, (i 0).isLt⟩, ⟨(i 1).val / 1408, by omega⟩), Finset.mem_univ _, (mem_set2 _ i).mpr ⟨rfl, rfl⟩⟩

/-! ## The slots' buffers -/

/-- A chunk's two windows at contents nothing names. -/
abbrev two13 (b : J13) : sProp 𝕄 := iprop((∃ f, own c (dst13 b.1 b.2 0) fullShare f) ∗ (∃ f, own c (dst13 b.1 b.2 1) fullShare f))
abbrev one2 (b : J2) : sProp 𝕄 := iprop(∃ f, own c (dst2 b.1 b.2) fullShare f)

theorem bufs13_split : iprop(∃ f, held (F := F) c cc0_scratch0 f) ⊢ bigSep Finset.univ (two13 (F := F) c) := by
  iintro ⟨%f, H⟩
  have h : held (F := F) c cc0_scratch0 f ⊢ bigSep Finset.univ (two13 (F := F) c) := by
    unfold held
    rw [pointsTo_blocks (ℓ := (Memref.whole cc0_scratch0).view.loc (c : Thread nD τ)) set13 disj13 cover13 f]
    refine bigSep_mono fun b _ => (pointsTo_union (pair13 b)).1.trans ?_
    iintro ⟨H0, H1⟩
    isplitl [H0]
    · iexists f; iexact H0
    iexists f; iexact H1
  iapply h; iexact H

/-- Two disjoint parts of a buffer, each at its own contents, are their union at some contents. -/
theorem join_exists {ℓ : Loc nD τ sig} {I J : Finset (Idx ℓ)} (h : Disjoint I J) {q : PosShare TreeShare} (f g : Buf (Elt F) ℓ) :
    (iprop((ℓ ↦[I]{q} f) ∗ ℓ ↦[J]{q} g) : sProp 𝕄) ⊢ iprop(∃ f, ℓ ↦[I ∪ J]{q} f) := by
  iintro H
  ihave H := (pointsTo_join h) $$ H
  iexists _
  iexact H

theorem bufs13_join (f₀ : Buf (Elt F) ((Memref.whole cc0_scratch0).view.loc (c : Thread nD τ))) :
    bigSep Finset.univ (two13 (F := F) c) ⊢ iprop(∃ f, held (F := F) c cc0_scratch0 f) := by
  have hb : ∀ b : J13, two13 (F := F) c b ⊢ iprop(∃ f, (Memref.whole cc0_scratch0).view.loc (c : Thread nD τ) ↦[set13 b]{fullShare} f) := fun b => by
    iintro ⟨⟨%f, H0⟩, ⟨%g, H1⟩⟩
    iapply (join_exists (ℓ := (Memref.whole cc0_scratch0).view.loc (c : Thread nD τ)) (pair13 b) f g)
    isplitl [H0]; · iexact H0
    iexact H1
  exact (bigSep_mono fun b _ => hb b).trans
    (pointsTo_blocks_join_exists (ℓ := (Memref.whole cc0_scratch0).view.loc (c : Thread nD τ)) set13 disj13 cover13 f₀)

theorem bufs2_split : iprop(∃ f, held (F := F) c cc0_scratch1 f) ⊢ bigSep Finset.univ (one2 (F := F) c) := by
  iintro ⟨%f, H⟩
  have h : held (F := F) c cc0_scratch1 f ⊢ bigSep Finset.univ (one2 (F := F) c) := by
    unfold held
    rw [pointsTo_blocks (ℓ := (Memref.whole cc0_scratch1).view.loc (c : Thread nD τ)) set2 disj2 cover2 f]
    have hb : ∀ b : J2, ((Memref.whole cc0_scratch1).view.loc (c : Thread nD τ) ↦[set2 b]{fullShare} f : sProp 𝕄) ⊢ one2 (F := F) c b := fun b => by
      iintro H; iexists f; iexact H
    exact bigSep_mono fun b _ => hb b
  iapply h; iexact H

theorem bufs2_join (f₀ : Buf (Elt F) ((Memref.whole cc0_scratch1).view.loc (c : Thread nD τ))) :
    bigSep Finset.univ (one2 (F := F) c) ⊢ iprop(∃ f, held (F := F) c cc0_scratch1 f) :=
  pointsTo_blocks_join_exists (ℓ := (Memref.whole cc0_scratch1).view.loc (c : Thread nD τ)) set2 disj2 cover2 f₀

/-! ## The weights' read shares -/

variable (w13 : S8x3072x2816.Idx → Elt F .i8) (w2 : S8x2816x1536.Idx → Elt F .i8)

/-- What is left of the weights once a share is lent to every window. -/
abbrev left13 : sProp 𝕄 := (Memref.whole main_arg3).view.loc (c : Thread nD τ) ↦{shareDrop fullShare 24} w13
abbrev left2 : sProp 𝕄 := (Memref.whole main_arg5).view.loc (c : Thread nD τ) ↦{shareDrop fullShare 4} w2

theorem toks13 : (held (F := F) c main_arg3 w13 : sProp 𝕄)
    = iprop(left13 c w13 ∗ bigSep Finset.univ fun b : J13 => iprop(tok13 c w13 b.1 b.2 0 ∗ tok13 c w13 b.1 b.2 1)) := by
  refine (Entails.antisymm (pointsTo_toks fullShare 24).1 (pointsTo_toks fullShare 24).2).trans ?_
  rw [list13, Idealize.SL.BI.bigSep_univ_eq_bigSepL (List.finRange 24) (by decide) (by decide) _]
  simp only [assocE]
  rfl

theorem toks2 : (held (F := F) c main_arg5 w2 : sProp 𝕄)
    = iprop(left2 c w2 ∗ bigSep Finset.univ fun b : J2 => tok2 c w2 b.1 b.2) := by
  refine (Entails.antisymm (pointsTo_toks fullShare 4).1 (pointsTo_toks fullShare 4).2).trans ?_
  rw [list2, Idealize.SL.BI.bigSep_univ_eq_bigSepL (List.finRange 4) (by decide) (by decide) _]
  rfl

/-! ## The slots -/

/-- The chunks' cells all idle, then the column halves'. -/
theorem idles13 : (bigSep Finset.univ fun b : J13 => idle13 c w13 b.1 b.2)
    = iprop((bigSep Finset.univ fun b : J13 => semVal ((c : Thread nD τ), .dma (sem13 b.1 b.2)) 0) ∗ (bigSep Finset.univ (two13 (F := F) c))
      ∗ bigSep Finset.univ fun b : J13 => iprop(tok13 c w13 b.1 b.2 0 ∗ tok13 c w13 b.1 b.2 1)) := by
  have h : (bigSep Finset.univ fun b : J13 => idle13 c w13 b.1 b.2) = bigSep Finset.univ fun b : J13 =>
      iprop(semVal ((c : Thread nD τ), .dma (sem13 b.1 b.2)) 0 ∗ two13 (F := F) c b ∗ iprop(tok13 c w13 b.1 b.2 0 ∗ tok13 c w13 b.1 b.2 1)) :=
    bigSep_congr fun b _ => by unfold idle13; simp only [two13, assocE]
  exact h.trans ((Idealize.SL.BI.bigSep_sep _ _ _).trans (congrArg _ (Idealize.SL.BI.bigSep_sep _ _ _)))

theorem idles2 : (bigSep Finset.univ fun b : J2 => idle2 c w2 b.1 b.2)
    = iprop((bigSep Finset.univ fun b : J2 => semVal ((c : Thread nD τ), .dma (sem2 b.1 b.2)) 0) ∗ (bigSep Finset.univ (one2 (F := F) c))
      ∗ bigSep Finset.univ fun b : J2 => tok2 c w2 b.1 b.2) := by
  exact (Idealize.SL.BI.bigSep_sep _ _ _).trans (congrArg _ (Idealize.SL.BI.bigSep_sep _ _ _))

variable (o : Ops F)

theorem slots_idle : iprop(slotP o c 0 none ∗ slotP o c 1 none)
    ⊢ iprop((bigSep Finset.univ fun b : J13 => idle13 c o.w13 b.1 b.2) ∗ bigSep Finset.univ fun b : J2 => idle2 c o.w2 b.1 b.2) := by
  rw [slotP_none, slotP_none, list13, list2]
  iintro ⟨⟨A0, A1, A2, A3, A4, A5, X0, X1⟩, ⟨B0, B1, B2, B3, B4, B5, Y0, Y1⟩⟩
  isplitl [A0 A1 A2 A3 A4 A5 B0 B1 B2 B3 B4 B5]
  · isplitl [A0]; · iexact A0
    isplitl [A1]; · iexact A1
    isplitl [A2]; · iexact A2
    isplitl [A3]; · iexact A3
    isplitl [A4]; · iexact A4
    isplitl [A5]; · iexact A5
    isplitl [B0]; · iexact B0
    isplitl [B1]; · iexact B1
    isplitl [B2]; · iexact B2
    isplitl [B3]; · iexact B3
    isplitl [B4]; · iexact B4
    iexact B5
  isplitl [X0]; · iexact X0
  isplitl [X1]; · iexact X1
  isplitl [Y0]; · iexact Y0
  iexact Y1

theorem idle_slots : iprop((bigSep Finset.univ fun b : J13 => idle13 c o.w13 b.1 b.2) ∗ bigSep Finset.univ fun b : J2 => idle2 c o.w2 b.1 b.2)
    ⊢ iprop(slotP o c 0 none ∗ slotP o c 1 none) := by
  rw [slotP_none, slotP_none, list13, list2]
  iintro ⟨⟨A0, A1, A2, A3, A4, A5, B0, B1, B2, B3, B4, B5⟩, ⟨X0, X1, Y0, Y1⟩⟩
  isplitl [A0 A1 A2 A3 A4 A5 X0 X1]
  · isplitl [A0]; · iexact A0
    isplitl [A1]; · iexact A1
    isplitl [A2]; · iexact A2
    isplitl [A3]; · iexact A3
    isplitl [A4]; · iexact A4
    isplitl [A5]; · iexact A5
    isplitl [X0]; · iexact X0
    iexact X1
  isplitl [B0]; · iexact B0
  isplitl [B1]; · iexact B1
  isplitl [B2]; · iexact B2
  isplitl [B3]; · iexact B3
  isplitl [B4]; · iexact B4
  isplitl [B5]; · iexact B5
  isplitl [Y0]; · iexact Y0
  iexact Y1

/-- The own cells at zero, the chunks' then the column halves'. -/
abbrev cells0 : sProp 𝕄 := iprop((bigSep Finset.univ fun b : J13 => semVal ((c : Thread nD τ), .dma (sem13 b.1 b.2)) 0)
  ∗ bigSep Finset.univ fun b : J2 => semVal ((c : Thread nD τ), .dma (sem2 b.1 b.2)) 0)

/-- The slots from what the launch hands over; -/
theorem slots_split : iprop((∃ f, held (F := F) c cc0_scratch0 f) ∗ (∃ f, held (F := F) c cc0_scratch1 f) ∗ cells0 c
      ∗ held c main_arg3 o.w13 ∗ held c main_arg5 o.w2)
    ⊢ iprop(slotP o c 0 none ∗ slotP o c 1 none ∗ left13 c o.w13 ∗ left2 c o.w2) := by
  iintro ⟨H0, H1, ⟨S0, S1⟩, W0, W1⟩
  ihave H0 := (bufs13_split (F := F) c) $$ H0
  ihave H1 := (bufs2_split (F := F) c) $$ H1
  ihave W0 := (Entails.of_eq (toks13 c o.w13)) $$ W0
  ihave W1 := (Entails.of_eq (toks2 c o.w2)) $$ W1
  icases W0 with ⟨L0, T0⟩
  icases W1 with ⟨L1, T1⟩
  ihave HS := (idle_slots c o) $$ [H0 H1 S0 S1 T0 T1]
  · rw [idles13, idles2]
    isplitl [S0 H0 T0]
    · isplitl [S0]; · iexact S0
      isplitl [H0]; · iexact H0
      iexact T0
    isplitl [S1]; · iexact S1
    isplitl [H1]; · iexact H1
    iexact T1
  icases HS with ⟨P0, P1⟩
  isplitl [P0]; · iexact P0
  isplitl [P1]; · iexact P1
  isplitl [L0]; · iexact L0
  iexact L1

/-- and back. -/
theorem slots_join (f₀ : Buf (Elt F) ((Memref.whole cc0_scratch0).view.loc (c : Thread nD τ)))
    (f₁ : Buf (Elt F) ((Memref.whole cc0_scratch1).view.loc (c : Thread nD τ))) :
    iprop(slotP o c 0 none ∗ slotP o c 1 none ∗ left13 c o.w13 ∗ left2 c o.w2)
    ⊢ iprop((∃ f, held (F := F) c cc0_scratch0 f) ∗ (∃ f, held (F := F) c cc0_scratch1 f) ∗ cells0 c
      ∗ held c main_arg3 o.w13 ∗ held c main_arg5 o.w2) := by
  iintro ⟨P0, P1, L0, L1⟩
  ihave HS := (slots_idle c o) $$ [P0 P1]
  · isplitl [P0]; · iexact P0
    iexact P1
  rw [idles13, idles2]
  icases HS with ⟨⟨S0, H0, T0⟩, ⟨S1, H1, T1⟩⟩
  isplitl [H0]; · iapply (bufs13_join (F := F) c f₀); iexact H0
  isplitl [H1]; · iapply (bufs2_join (F := F) c f₁); iexact H1
  isplitl [S0 S1]
  · isplitl [S0]; · iexact S0
    iexact S1
  rw [toks13 c o.w13, toks2 c o.w2]
  isplitl [L0 T0]
  · isplitl [L0]; · iexact L0
    iexact T0
  isplitl [L1]; · iexact L1
  iexact T1

end Cert.KernelIdeal.Hand

end
-- ==== Proof.KI.Run.lean ====
/-
  The kernel's launch: the body's triple at the one point of the grid, the run, and the claim that the arguments end
  unchanged with every semaphore at zero.
-/
module

public import proofs.«01_k».proof.Proof.KI.Slots

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The launch's pieces -/

set_option maxHeartbeats 800000 in
/-- The program up to the region. -/
theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's own DMA cells. -/
abbrev osem0 : Fin 16 → SemLoc sig := fun j => (![SemLoc.dma 6, SemLoc.dma 7, SemLoc.dma 8, SemLoc.dma 9, SemLoc.dma 10, SemLoc.dma 11,
  SemLoc.dma 12, SemLoc.dma 13, SemLoc.dma 14, SemLoc.dma 15, SemLoc.dma 16, SemLoc.dma 17, SemLoc.dma 18, SemLoc.dma 19, SemLoc.dma 20,
  SemLoc.dma 21] : Fin 16 → SemLoc sig) j
theorem ownSemFacts0 : Pipeline.OwnSemFacts spec0 osem0 := by decide

theorem cells_eq (c : Dev nD) :
    (Pipeline.ownSems0 (Ix := Unit) (Name := ℕ) (U := Pipeline.UD sig nD τ) (Lvl := ℕ) (Val := Elt F) (τ := τ) osem0 c : sProp 𝕄)
      = cells0 c := by
  rw [Pipeline.ownSems0_eq_of_list c osem0 [0, 1, 2, 3, 4, 5, 6, 7, 8, 9, 10, 11, 12, 13, 14, 15] (by decide) (by decide)]
  unfold cells0
  rw [list13, list2]
  simp only [sem13_eq, sem2_eq, assocE]
  rfl

/-- The operands the body's copies read in HBM. -/
def H0 : Finset (Ref sig .tc) := {main_arg3, main_arg5}
theorem H0_sub : H0 ⊆ Pipeline.restRefs sig spec0 := by decide
theorem hbm_eq (c : Dev nD) :
    (bigSep H0 (fun b => ((c : Thread nD τ).loc b) ↦{fullShare} V m c b) : sProp 𝕄)
      = iprop(held c main_arg3 (V m c main_arg3) ∗ held c main_arg5 (V m c main_arg5)) := by
  rw [BI.bigSep_eq_bigSepL_of_eq [main_arg3, main_arg5] (by decide) (by decide)]; rfl

/-- The operands as the region finds them. -/
def opsOf (c : Dev nD) : Ops F where
  ids := iblk m c 0 t0_0
  ew := iblk m c 1 t0_0
  x := iblk m c 2 t0_0
  w13 := V m c main_arg3
  s13 := iblk m c 3 t0_0
  w2 := V m c main_arg5
  s2 := iblk m c 4 t0_0

/-- What the body holds between its points: the idle slots, what is left of the weights, its scratch and the generator. -/
def PhiK (c : Dev nD) : sProp 𝕄 :=
  iprop((slotP (opsOf m c) c 0 none ∗ slotP (opsOf m c) c 1 none ∗ left13 c (opsOf m c).w13 ∗ left2 c (opsOf m c).w2)
    ∗ (∃ f, held c cc0_scratch2 f) ∗ (∃ f, held c cc0_scratch3 f) ∗ (∃ f, held c cc0_scratch4 f) ∗ ∃ r, prngReg c r)

theorem PhiD_in (c : Dev nD) : (Pipeline.ΦD osem0 spec0 H0 (V m) c : sProp 𝕄) ⊢ PhiK m c := by
  rw [Pipeline.ΦD_eq, scopedRest0_eq, cells_eq, hbm_eq]
  unfold PhiK
  iintro ⟨⟨B0, B1, B2, B3, B4⟩, Hg, Hc, ⟨W0, W1⟩⟩
  isplitl [B0 B1 Hc W0 W1]
  · iapply (slots_split c (opsOf m c))
    isplitl [B0]; · iexact B0
    isplitl [B1]; · iexact B1
    isplitl [Hc]; · iexact Hc
    isplitl [W0]; · iexact W0
    iexact W1
  isplitl [B2]; · iexact B2
  isplitl [B3]; · iexact B3
  isplitl [B4]; · iexact B4
  iexact Hg

theorem PhiD_out (c : Dev nD) : PhiK m c ⊢ (Pipeline.ΦD osem0 spec0 H0 (V m) c : sProp 𝕄) := by
  rw [Pipeline.ΦD_eq, scopedRest0_eq, cells_eq, hbm_eq]
  unfold PhiK
  iintro ⟨HS, B2, B3, B4, Hg⟩
  ihave HS := (slots_join c (opsOf m c) (fun _ => (0 : BitVec 8)) (fun _ => (0 : BitVec 8))) $$ HS
  icases HS with ⟨B0, B1, Hc, W0, W1⟩
  isplitl [B0 B1 B2 B3 B4]
  · isplitl [B0]; · iexact B0
    isplitl [B1]; · iexact B1
    isplitl [B2]; · iexact B2
    isplitl [B3]; · iexact B3
    iexact B4
  isplitl [Hg]; · iexact Hg
  isplitl [Hc]; · iexact Hc
  isplitl [W0]; · iexact W0
  iexact W1

/-! ## The body's triple -/

/-- The result the body leaves. -/
def outOf (c : Dev nD) : S128x2816.Idx → Elt F .bf16 := k0_pay3 (totalOf (opsOf m c))

/-- The proof data of the one pipeline on a core: the arrays as the region finds them, each operand's block left in
    place, the result's buffer at the accumulated sum. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outOf m c
  Φ _ := PhiK m c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outOf m c := by dsimp only [dats]

/-- An operand's staging buffer holds its block when the body runs. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans (by unfold Dat.fetched Dat.blockOf iblk; rw [A_eq]; try rfl)

abbrev ms0 (t : Fin cfg0.N) : Memref sig .tc .vmem S128x4 .i32 := win0_0.stage (cfg0.slots t 0)
abbrev ms1 (t : Fin cfg0.N) : Memref sig .tc .vmem S128x4 .f32 := win0_1.stage (cfg0.slots t 1)
abbrev ms2 (t : Fin cfg0.N) : Memref sig .tc .vmem S128x2816 .bf16 := win0_2.stage (cfg0.slots t 2)
abbrev ms3 (t : Fin cfg0.N) : Memref sig .tc .vmem S8x3072 .f32 := win0_3.stage (cfg0.slots t 3)
abbrev ms4 (t : Fin cfg0.N) : Memref sig .tc .vmem S8x2816 .f32 := win0_4.stage (cfg0.slots t 4)
abbrev ms5 (t : Fin cfg0.N) : Memref sig .tc .vmem S128x2816 .bf16 := win0_5.stage (cfg0.slots t 5)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

/-- A staging buffer whole is held. -/
theorem owns_held (c : Dev nD) (b : Ref sig .tc) (f : b.ty.Contents (Elt F)) :
    (owns (c : Thread nD τ) (Memref.whole b) fullShare f : sProp 𝕄) = held c b f := owns_whole _ _ _ _

theorem stage_eq : ms0 t0_0 = Memref.whole cc0_stg0_0 ∧ ms1 t0_0 = Memref.whole cc0_stg1_0 ∧ ms2 t0_0 = Memref.whole cc0_stg2_0
    ∧ ms3 t0_0 = Memref.whole cc0_stg3_0 ∧ ms4 t0_0 = Memref.whole cc0_stg4_0 ∧ ms5 t0_0 = Memref.whole cc0_stg5_0 :=
  ⟨rfl, rfl, rfl, rfl, rfl, rfl⟩

theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost
  rw [show (dats m 0 c).Φ t0_0.succ = PhiK m c from rfl, show (dats m 0 c).Φ t0_0.castSucc = PhiK m c from rfl,
    after_0, after_1, after_2, after_3, after_4, after_5]
  unfold Dat.owesAt Pipeline.owesWithin PhiK
  rw [show (dats m 0 c).owed t0_0.castSucc = 0 from rfl, show (dats m 0 c).owed t0_0.succ = 0 from rfl]
  simp only [before_0, before_1, before_2, before_3, before_4]
  iintro ⟨⟨⟨P0, P1, L0, L1⟩, B2, ⟨%a, B3⟩, ⟨%T, B4⟩, Hg⟩, ⟨%W, -, HW⟩, ⟨%d0, H0⟩, ⟨%d1, H1⟩, ⟨%d2, H2⟩, ⟨%d3, H3⟩, ⟨%d4, H4⟩, ⟨%d5, H5⟩⟩
  ihave H0 := (Entails.of_eq (owns_held c cc0_stg0_0 (iblk m c 0 t0_0))) $$ H0
  ihave H1 := (Entails.of_eq (owns_held c cc0_stg1_0 (iblk m c 1 t0_0))) $$ H1
  ihave H2 := (Entails.of_eq (owns_held c cc0_stg2_0 (iblk m c 2 t0_0))) $$ H2
  ihave H3 := (Entails.of_eq (owns_held c cc0_stg3_0 (iblk m c 3 t0_0))) $$ H3
  ihave H4 := (Entails.of_eq (owns_held c cc0_stg4_0 (iblk m c 4 t0_0))) $$ H4
  ihave H5 := (Entails.of_eq (owns_held c cc0_stg5_0 _)) $$ H5
  iapply (wp_body (opsOf m c) c T a _) $$ [P0 P1 B2 B3 B4 HW H0 H1 H2 H3 H4 H5]
  · isplitl [P0]; · iexact P0
    isplitl [P1]; · iexact P1
    isplitr [H5]
    · unfold tripRes
      isplitl [B4]; · iexact B4
      isplitl [H0]; · iexact H0
      isplitl [H1]; · iexact H1
      isplitl [H2]; · iexact H2
      isplitl [H3]; · iexact H3
      isplitl [H4]; · iexact H4
      isplitl [B2]; · iexact B2
      isplitl [B3]; · iexact B3
      iexists W; iexact HW
    iexact H5
  unfold tripRes
  iintro ⟨P0, P1, ⟨%T', B4, H0, H1, H2, H3, H4, B2, B3, ⟨%W', HW'⟩⟩, H5⟩
  isplitl [P0 P1 L0 L1 B2 B3 B4 Hg]
  · isplitl [P0 P1 L0 L1]
    · isplitl [P0]; · iexact P0
      isplitl [P1]; · iexact P1
      isplitl [L0]; · iexact L0
      iexact L1
    isplitl [B2]; · iexact B2
    isplitl [B3]; · iexists _; iexact B3
    isplitl [B4]; · iexists _; iexact B4
    iexact Hg
  isplitl [HW']
  · iexists W'; isplitr; · ipureintro; exact fun _ _ => Or.inl trivial
    iexact HW'
  isplitl [H0]; · iapply (Entails.of_eq (owns_held c cc0_stg0_0 (iblk m c 0 t0_0)).symm); iexact H0
  isplitl [H1]; · iapply (Entails.of_eq (owns_held c cc0_stg1_0 (iblk m c 1 t0_0)).symm); iexact H1
  isplitl [H2]; · iapply (Entails.of_eq (owns_held c cc0_stg2_0 (iblk m c 2 t0_0)).symm); iexact H2
  isplitl [H3]; · iapply (Entails.of_eq (owns_held c cc0_stg3_0 (iblk m c 3 t0_0)).symm); iexact H3
  isplitl [H4]; · iapply (Entails.of_eq (owns_held c cc0_stg4_0 (iblk m c 4 t0_0)).symm); iexact H4
  iapply (Entails.of_eq (owns_held c cc0_stg5_0 (outOf m c)).symm); iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => PhiD_in m c) (hout := fun c => PhiD_out m c)

/-- The result's array ends at what the body leaves in it, and the arguments as launched. -/
theorem run_value : θ_run defs (onTc (τ := τ) (main (F := F))) ⟨m, fun _ => 0, ρ⟩ (fun r => ∀ c : Dev nD,
      r.2.mem ((c.tc : Thread nD τ).loc main_v3) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h.1 c).1 5, ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 3).trans (((dats m 0 c).arrAt_in 3 rfl _).trans ((A_eq m c 3).trans (V_main_arg4 m c))),
      ((h.1 c).2 main_arg5 (Pipeline.mem_restRefs_of main_arg5 (by decide) (by decide))).trans (V_main_arg5 m c),
      ((h.1 c).1 4).trans (((dats m 0 c).arrAt_in 4 rfl _).trans ((A_eq m c 4).trans (V_main_arg6 m c)))⟩) (run_main m ρ)

/-- The arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 3).trans (((dats m 0 c).arrAt_in 3 rfl _).trans ((A_eq m c 3).trans (V_main_arg4 m c))),
      ((h.1 c).2 main_arg5 (Pipeline.mem_restRefs_of main_arg5 (by decide) (by decide))).trans (V_main_arg5 m c),
      ((h.1 c).1 4).trans (((dats m 0 c).arrAt_in 4 rfl _).trans ((A_eq m c 4).trans (V_main_arg6 m c)))⟩, h.2⟩) (run_main m ρ)

end Cert.KernelIdeal.Hand

end
-- ==== Proof.Val.Spec.lean ====
/-
  The mixture, element by element over the extended reals.
-/
module

public import Idealize.ShloMosaic.PureOps.Ideal
public import Idealize.ShloMosaic.Lib.Pointwise

@[expose] public section

noncomputable section

namespace Cert.Mixture

open Idealize.ShloMosaic

/-- The arguments, each read at its coordinates. -/
structure Args where
  ids : Fin 128 → Fin 4 → BitVec 32
  ew : Fin 128 → Fin 4 → EReal
  x : Fin 128 → Fin 2816 → EReal
  w13 : Fin 8 → Fin 3072 → Fin 2816 → BitVec 8
  s13 : Fin 8 → Fin 3072 → EReal
  w2 : Fin 8 → Fin 2816 → Fin 1536 → BitVec 8
  s2 : Fin 8 → Fin 2816 → EReal

variable (a : Args)

/-- One projection of a token into an expert. -/
def proj (e : Fin 8) (t : Fin 128) (f : Fin 3072) : EReal := (∑ l : Fin 2816, a.x t l * (((a.w13 e f l).toInt : ℝ) : EReal)) * a.s13 e f
/-- A hidden activation: the gate through its sigmoid, times the up projection. -/
def hid (e : Fin 8) (t : Fin 128) (f : Fin 1536) : EReal :=
  proj a e t ⟨f.val, by omega⟩ * Ideal.logistic (proj a e t ⟨f.val, by omega⟩) * proj a e t ⟨1536 + f.val, by omega⟩
/-- An expert's output on a token. -/
def outE (e : Fin 8) (t : Fin 128) (n : Fin 2816) : EReal := (∑ f : Fin 1536, hid a e t f * (((a.w2 e n f).toInt : ℝ) : EReal)) * a.s2 e n
/-- The weight with which a token chose an expert. -/
def wt (e : Fin 8) (t : Fin 128) : EReal := ∑ k : Fin 4, if a.ids t k = BitVec.ofNat 32 e.val then a.ew t k else 0
/-- The mixture. -/
def mix (t : Fin 128) (n : Fin 2816) : EReal := ∑ e : Fin 8, outE a e t n * wt a e t

/-- The arguments as the programs get them. -/
def argsOf (a0 : (⟨3, ![128, 1, 2816]⟩ : Shape).Idx → EReal) (a1 : (⟨3, ![128, 1, 4]⟩ : Shape).Idx → BitVec 32) (a2 : (⟨3, ![128, 1, 4]⟩ : Shape).Idx → EReal)
    (a3 : (⟨3, ![8, 3072, 2816]⟩ : Shape).Idx → BitVec 8) (a4 : (⟨2, ![8, 3072]⟩ : Shape).Idx → EReal)
    (a5 : (⟨3, ![8, 2816, 1536]⟩ : Shape).Idx → BitVec 8) (a6 : (⟨2, ![8, 2816]⟩ : Shape).Idx → EReal) : Args where
  ids t k := a1 (ix3 t 0 k)
  ew t k := a2 (ix3 t 0 k)
  x t l := a0 (ix3 t 0 l)
  w13 e f l := a3 (ix3 e f l)
  s13 e f := a4 (ix2 e f)
  w2 e n f := a5 (ix3 e n f)
  s2 e n := a6 (ix2 e n)

/-- Taking one of two values by comparing words. -/
theorem select_eq_ite {α : Type} {w : ℕ} (u v : BitVec w) (y z : α) : Scalar.select (IntOp.cmpi .eq u v) y z = if u = v then y else z := by
  by_cases h : u = v
  · simp [Scalar.select, IntOp.cmpi, h]
  · simp [Scalar.select, IntOp.cmpi, h, beq_eq_false_iff_ne.mpr h]

end Cert.Mixture

end
-- ==== Proof.Val.Ker.lean ====
/-
  What the kernel's pieces compute, element by element.
-/
module

public import proofs.«01_k».proof.Proof.KI.Body
public import proofs.«01_k».proof.Proof.Val.Spec

@[expose] public section

set_option maxRecDepth 65536
set_option maxHeartbeats 1000000

noncomputable section

namespace Cert.KernelIdeal.Val

open Cert.KernelIdeal Cert.KernelIdeal.Gen Cert.KernelIdeal.Hand Cert.Mixture Idealize.ShloMosaic

/-- The operands, read at coordinates. -/
def args (o : Ops Ideal) : Args where
  ids t k := o.ids (ix2 t k)
  ew t k := o.ew (ix2 t k)
  x t l := o.x (ix2 t l)
  w13 e f l := o.w13 (ix3 e f l)
  s13 e f := o.s13 (ix2 e f)
  w2 e n f := o.w2 (ix3 e n f)
  s2 e n := o.s2 (ix2 e n)

section Pays

variable (mask : IVec S128x1 1) (x : Vec Ideal S128x2816 .bf16) (g u : Vec Ideal S1x256x2816 .i8) (sg su : Vec Ideal S1x256 .f32)
variable (t : Fin 128) (f : Fin 256)

/-- A chunk's projection. -/
def dotC (w : Vec Ideal S1x256x2816 .i8) (s : Vec Ideal S1x256 .f32) : EReal :=
  (∑ l : Fin 2816, x (ix2 t l) * (((w (ix3 (n0 := 1) (n1 := 256) (n2 := 2816) 0 f l) : BitVec 8).toInt : ℝ) : EReal)) * s (ix2 (n0 := 1) (n1 := 256) 0 f)
/-- A chunk's hidden activation. -/
def hidC : EReal := if mask (ix2 t 0) = 1#1 then dotC x t f g sg * Ideal.logistic (dotC x t f g sg) * dotC x t f u su else 0

/-- Every chunk's payload computes its hidden activations. -/
theorem payC_apply (ch : Fin 6) : payC ch mask x g u sg su (ix2 t f) = hidC mask x g u sg su t f := by
  unfold hidC dotC
  fin_cases ch
  · show k0_pay7 mask x g u sg su (ix2 t f) = _
    unfold_payloads
    pointwise
    rfl
  · show k0_pay9 (k0_pay8 mask x g u sg su) (ix2 t f) = _
    unfold_payloads
    pointwise
    rfl
  · show k0_pay13 mask (k0_pay11 x u) (k0_pay12 x g sg) su (ix2 t f) = _
    unfold_payloads
    pointwise
    rfl
  · show k0_pay16 mask (k0_pay14 x) (k0_pay15 x g) u sg su (ix2 t f) = _
    unfold_payloads
    pointwise
    rfl
  · show k0_pay17 mask x g u sg su (ix2 t f) = _
    unfold_payloads
    pointwise
    rfl
  · show k0_pay18 mask x g u sg su (ix2 t f) = _
    unfold_payloads
    pointwise
    rfl

end Pays

variable (o : Ops Ideal)

/-- The weights are the mixture's. -/
theorem weight_apply (e : Fin 8) (t : Fin 128) : weightOf o e (ix2 t 0) = wt (args o) e t := by
  unfold weightOf k0_pay6 k0_pay4 wt args
  pointwise
  exact Finset.sum_congr rfl fun k _ => select_eq_ite _ _ _ _

/-- Four zeros and ones, one of them a one, add up to more than zero. -/
theorem count_pos (g : Fin 4 → BitVec 32) (hg : ∀ j, g j = 0#32 ∨ g j = 1#32) (k : Fin 4) (hk : g k = 1#32) :
    IntOp.cmpi CmpIPredicate.sgt (Finset.fold IntOp.addi 0#32 g Finset.univ) 0#32 = 1#1 := by
  have e : Finset.fold IntOp.addi 0#32 g Finset.univ = IntOp.addi (g 0) (IntOp.addi (g 1) (IntOp.addi (g 2) (IntOp.addi (g 3) 0#32))) := rfl
  rw [e]
  rcases hg 0 with h0 | h0 <;> rcases hg 1 with h1 | h1 <;> rcases hg 2 with h2 | h2 <;> rcases hg 3 with h3 | h3 <;>
    rw [h0, h1, h2, h3] <;> first | decide | (exfalso; fin_cases k <;> simp_all)

/-- A token is masked out of an expert only if it did not choose it. -/
theorem mask_apply (e : Fin 8) (t : Fin 128) (h : maskOf o e (ix2 t 0) ≠ 1#1) (k : Fin 4) : o.ids (ix2 t k) ≠ BitVec.ofNat 32 e.val := by
  intro hk
  apply h
  unfold maskOf k0_pay5 k0_pay4
  pointwise
  have hb : ∀ j : Fin 4, Scalar.select (IntOp.cmpi CmpIPredicate.eq (o.ids (ix2 t j)) (BitVec.ofNat 32 e.val)) 1#32 0#32
      = if o.ids (ix2 t j) = BitVec.ofNat 32 e.val then 1#32 else 0#32 := fun j => select_eq_ite _ _ _ _
  have hk' : Scalar.select (IntOp.cmpi CmpIPredicate.eq (o.ids (ix2 t k)) (BitVec.ofNat 32 e.val)) 1#32 0#32 = 1#32 := (hb k).trans (if_pos hk)
  exact count_pos _ (fun j => by rw [hb]; split <;> simp) k hk'

/-- A column half's update. -/
theorem half_apply (p : FVec Ideal S128x1 .f32) (h : Vec Ideal S128x1536 .bf16) (w : Vec Ideal S1x1408x1536 .i8) (s : Vec Ideal S1x1408 .f32) (a : Vec Ideal S128x1408 .f32)
    (t : Fin 128) (n : Fin 1408) :
    k0_pay19 p h w s a (ix2 t n) = a (ix2 t n) + (∑ f : Fin 1536, h (ix2 t f) * (((w (ix3 0 n f) : BitVec 8).toInt : ℝ) : EReal)) * s (ix2 0 n) * p (ix2 t 0) := by
  unfold k0_pay19
  pointwise
  rfl

/-- The hidden activations of the tokens that chose the expert; the others' are zero. -/
theorem hidden_apply (e : Fin 8) (t : Fin 128) (f : Fin 1536) :
    hiddenOf o e (ix2 t f) = if maskOf o e (ix2 t 0) = 1#1 then hid (args o) e t f else 0 := by
  have hf : f.val < 1536 := f.isLt
  have key : ∀ (ch : Fin 6) (r : Fin 256) (g : Fin 1536), g.val = ch.val * 256 + r.val →
      chunkOf o e ch (ix2 t r) = if maskOf o e (ix2 t 0) = 1#1 then hid (args o) e t g else 0 := by
    intro ch r g hg
    have e0 : (⟨g.val, by omega⟩ : Fin 3072) = ⟨(0 : Fin 2).val * 1536 + ch.val * 256 + r.val, by have := ch.isLt; have := r.isLt; simp; omega⟩ := Fin.ext (by simp; omega)
    have e1 : (⟨1536 + g.val, by omega⟩ : Fin 3072) = ⟨(1 : Fin 2).val * 1536 + ch.val * 256 + r.val, by have := ch.isLt; have := r.isLt; simp; omega⟩ := Fin.ext (by simp; omega)
    unfold chunkOf
    rw [payC_apply]
    unfold hidC hid
    rw [e0, e1]
    rfl
  exact key ⟨f.val / 256, by omega⟩ ⟨f.val % 256, Nat.mod_lt _ (by decide)⟩ f (by show f.val = f.val / 256 * 256 + f.val % 256; omega)

/-- The accumulator's update, whole. -/
theorem acc_apply (e : Fin 8) (a : S128x2816.Idx → EReal) (t : Fin 128) (n : Fin 2816) :
    accStep o e a (ix2 t n) = a (ix2 t n) + (∑ f : Fin 1536, hiddenOf o e (ix2 t f) * (((o.w2 (ix3 e n f) : BitVec 8).toInt : ℝ) : EReal)) * o.s2 (ix2 e n) * weightOf o e (ix2 t 0) := by
  have hn : n.val < 2816 := n.isLt
  have put : ∀ (b : S128x2816.Idx → EReal) (d : Fin 2) (h : d.val * 1408 ≤ n.val ∧ n.val < d.val * 1408 + 1408),
      putHalf (F := Ideal) b d (k0_pay19 (weightOf o e) (hiddenOf o e) (rows2 o.w2 e d) (scale2 o.s2 e d) (getHalf b d)) (ix2 t n)
        = b (ix2 t n) + (∑ f : Fin 1536, hiddenOf o e (ix2 t f) * (((o.w2 (ix3 e n f) : BitVec 8).toInt : ℝ) : EReal)) * o.s2 (ix2 e n) * weightOf o e (ix2 t 0) := by
    intro b d h
    have en : n = ⟨d.val * 1408 + (n.val - d.val * 1408), by omega⟩ := Fin.ext (by show n.val = d.val * 1408 + (n.val - d.val * 1408); omega)
    refine (dif_pos h).trans ?_
    refine (half_apply _ _ _ _ _ t ⟨n.val - d.val * 1408, by omega⟩).trans ?_
    conv_rhs => rw [en]
    rfl
  have skip : ∀ (b : S128x2816.Idx → EReal) (d : Fin 2) (x : Vec Ideal S128x1408 .f32) (h : ¬ (d.val * 1408 ≤ n.val ∧ n.val < d.val * 1408 + 1408)),
      putHalf (F := Ideal) b d x (ix2 t n) = b (ix2 t n) := fun b d x h => dif_neg h
  by_cases h : n.val < 1408
  · refine (skip (accFst o e a) 1 _ (by show ¬ (1 * 1408 ≤ n.val ∧ _); omega)).trans ?_
    exact put a 0 (by show 0 * 1408 ≤ n.val ∧ n.val < 0 * 1408 + 1408; omega)
  · refine (put (accFst o e a) 1 (by show 1 * 1408 ≤ n.val ∧ n.val < 1 * 1408 + 1408; omega)).trans ?_
    rw [show accFst o e a (ix2 t n) = a (ix2 t n) from skip a 0 _ (by show ¬ (0 * 1408 ≤ n.val ∧ n.val < 0 * 1408 + 1408); omega)]

/-- No token that chose the expert: no weight. -/
theorem wt_zero {e : Fin 8} {t : Fin 128} (h : ∀ k : Fin 4, o.ids (ix2 t k) ≠ BitVec.ofNat 32 e.val) : wt (args o) e t = 0 :=
  Finset.sum_eq_zero fun k _ => if_neg (h k)

/-- An expert adds its term of the mixture. -/
theorem step_apply (e : Fin 8) (a : S128x2816.Idx → EReal) (t : Fin 128) (n : Fin 2816) :
    accStep o e a (ix2 t n) = a (ix2 t n) + outE (args o) e t n * wt (args o) e t := by
  rw [acc_apply, weight_apply]
  by_cases h : maskOf o e (ix2 t 0) = 1#1
  · simp only [hidden_apply, if_pos h]
    rfl
  · rw [wt_zero o (mask_apply o e t h), mul_zero, mul_zero]

/-- A list with or without one more expert. -/
theorem fold_snoc (v : BitVec 32) (e : Fin 8) (L : List (Fin 8)) (hv : v ≠ 1#32 → ∀ i, o.ids i ≠ BitVec.ofNat 32 e.val) (a : S128x2816.Idx → EReal) (t : Fin 128) (n : Fin 2816) :
    (snocIf v e L).foldl (fun b e => accStep o e b) a (ix2 t n) = L.foldl (fun b e => accStep o e b) a (ix2 t n) + outE (args o) e t n * wt (args o) e t := by
  unfold snocIf
  split
  · rw [List.foldl_append]
    exact step_apply o e _ t n
  · rename_i h
    rw [wt_zero o (fun k => hv h _), mul_zero, add_zero]

/-- The accumulator at the end is the mixture. -/
theorem total_apply (t : Fin 128) (n : Fin 2816) : totalOf o (ix2 t n) = mix (args o) t n := by
  have hf : ∀ k : BitVec 32, flagV o.ids k ≠ 1#32 → ∀ i, o.ids i ≠ k := fun k h i hi => h ((flagV_spec o.ids k).1.mpr ⟨i, hi⟩)
  unfold totalOf usedOf acts
  rw [pay36_eq]
  refine (fold_snoc o _ 7 _ (hf 7#32) _ t n).trans ?_
  rw [fold_snoc o (flagV o.ids 6#32) 6 _ (hf 6#32), fold_snoc o (flagV o.ids 5#32) 5 _ (hf 5#32), fold_snoc o (flagV o.ids 4#32) 4 _ (hf 4#32),
    fold_snoc o (flagV o.ids 3#32) 3 _ (hf 3#32), fold_snoc o (flagV o.ids 2#32) 2 _ (hf 2#32), fold_snoc o (flagV o.ids 1#32) 1 _ (hf 1#32),
    fold_snoc o (flagV o.ids 0#32) 0 _ (hf 0#32)]
  unfold mix
  rw [Fin.sum_univ_eight]
  show k0_pay45 (F := Ideal) (ix2 t n) + _ + _ + _ + _ + _ + _ + _ + _ = _
  unfold k0_pay45
  pointwise

end Cert.KernelIdeal.Val

end
-- ==== Proof.Val.Kout.lean ====
/-
  What the kernel's run leaves in its result, from its arguments.
-/
module

public import proofs.«01_k».proof.Proof.KI.Run
public import proofs.«01_k».proof.Proof.Val.Ker
public import Idealize.ShloMosaic.Lib.Pipeline.Value

@[expose] public section

set_option maxRecDepth 65536
set_option maxHeartbeats 1000000

noncomputable section

namespace Cert.KernelIdeal.Val

open Cert.KernelIdeal Cert.KernelIdeal.Gen Cert.KernelIdeal.Hand Cert.Mixture Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (c : Dev nD)

/-- A staged operand is its array, whole. -/
theorem blk_ids : iblk m c 0 t0_0 = V m c main_v0 := by
  funext j
  show V m c main_v0 _ = V m c main_v0 j
  congr 1
  funext b; apply Fin.ext
  fin_cases b
  · show 0 * 128 + 1 * (j 0).val = (j 0).val; omega
  · show 0 * 4 + 1 * (j 1).val = (j 1).val; omega
theorem blk_ew : iblk m c 1 t0_0 = V m c main_v1 := by
  funext j
  show V m c main_v1 _ = V m c main_v1 j
  congr 1
  funext b; apply Fin.ext
  fin_cases b
  · show 0 * 128 + 1 * (j 0).val = (j 0).val; omega
  · show 0 * 4 + 1 * (j 1).val = (j 1).val; omega
theorem blk_x : iblk m c 2 t0_0 = V m c main_v2 := by
  funext j
  show V m c main_v2 _ = V m c main_v2 j
  congr 1
  funext b; apply Fin.ext
  fin_cases b
  · show 0 * 128 + 1 * (j 0).val = (j 0).val; omega
  · show 0 * 2816 + 1 * (j 1).val = (j 1).val; omega
theorem blk_s13 : iblk m c 3 t0_0 = V m c main_arg4 := by
  funext j
  show V m c main_arg4 _ = V m c main_arg4 j
  congr 1
  funext b; apply Fin.ext
  fin_cases b
  · show 0 * 8 + 1 * (j 0).val = (j 0).val; omega
  · show 0 * 3072 + 1 * (j 1).val = (j 1).val; omega
theorem blk_s2 : iblk m c 4 t0_0 = V m c main_arg6 := by
  funext j
  show V m c main_arg6 _ = V m c main_arg6 j
  congr 1
  funext b; apply Fin.ext
  fin_cases b
  · show 0 * 8 + 1 * (j 0).val = (j 0).val; omega
  · show 0 * 2816 + 1 * (j 1).val = (j 1).val; omega

/-- The host's reshapes before the call. -/
theorem V_ids : V m c main_v0 = shapeCast S128x4 (m ((c : Thread nD τ).loc main_arg1)) shapeCasts_S128x1x4_S128x4 := rfl
theorem V_ew : V m c main_v1 = shapeCast S128x4 (m ((c : Thread nD τ).loc main_arg2)) shapeCasts_S128x1x4_S128x4 := rfl
theorem V_x : V m c main_v2 = shapeCast S128x2816 (m ((c : Thread nD τ).loc main_arg0)) shapeCasts_S128x1x2816_S128x2816 := rfl

/-- The result's array ends at what the body leaves. -/
theorem out_eq : (dats m 0 c).arrAt 5 cfg0.N = outOf m c := by
  have hr := (dats m 0 c).read_blk_arrAt_eq_flushed 5 (fun t t' _ _ hne => absurd ((fin_N0 t).trans (fin_N0 t').symm) hne) cfg0.N t0_0 t0_0.isLt (flush0_5 t0_0)
  funext j
  have hj := congrFun hr j
  have hw : ((cfg0.win 5).blk t0_0).view.read (Elt F) ((dats m 0 c).arrAt 5 cfg0.N) j = (dats m 0 c).arrAt 5 cfg0.N j := by
    show (dats m 0 c).arrAt 5 cfg0.N _ = (dats m 0 c).arrAt 5 cfg0.N j
    congr 1
    funext b; apply Fin.ext
    fin_cases b
    · show 0 * 128 + 1 * (j 0).val = (j 0).val; omega
    · show 0 * 2816 + 1 * (j 1).val = (j 1).val; omega
  rw [← hw, hj]
  show (cfg0.win 5).cut (grid0.coords t0_0) ((dats m 0 c).after 5 t0_0) j = _
  rw [after_5]

/-- The operands, from the arguments. -/
theorem args_eq (m : (ℓ : Loc nD τ sig) → Buf (Elt Ideal) ℓ) : args (opsOf m c) = argsOf (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) (m ((c : Thread nD τ).loc main_arg6)) := by
  unfold opsOf
  rw [blk_ids, blk_ew, blk_x, blk_s13, blk_s2, V_ids, V_ew, V_x, V_main_arg3, V_main_arg4, V_main_arg5, V_main_arg6]
  unfold args argsOf
  congr 1
  · funext t k; pointwise
  · funext t k; pointwise
  · funext t k; pointwise

/-- The last rounding changes nothing over the extended reals. -/
theorem round_apply (v : Vec Ideal S128x2816 .f32) (j : S128x2816.Idx) : k0_pay3 v j = v j := rfl

/-- The kernel's result is the mixture of its arguments. -/
theorem value (m : (ℓ : Loc nD τ sig) → Buf (Elt Ideal) ℓ) (t : Fin 128) (n : Fin 2816) : (dats m 0 c).arrAt 5 cfg0.N (ix2 t n) =
    mix (argsOf (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) (m ((c : Thread nD τ).loc main_arg6))) t n := by
  rw [← args_eq]
  exact (congrFun (out_eq m c) _).trans ((round_apply _ _).trans (total_apply (opsOf m c) t n))

end Cert.KernelIdeal.Val

end
-- ==== Proof.Val.Ref.lean ====
/-
  What the reference's one call computes, element by element: the mixture.
-/
module

public import proofs.«01_k».proof.Proof.Gen.ReferenceIdeal.Skeleton
public import proofs.«01_k».proof.Proof.Val.Spec

@[expose] public section

set_option maxRecDepth 65536
set_option maxHeartbeats 1000000

noncomputable section

namespace Cert.ReferenceIdeal.Val

open Cert.ReferenceIdeal Cert.ReferenceIdeal.Gen Cert.Mixture Idealize.ShloMosaic

/-- The arguments of the call, read at coordinates. -/
def args (x : Vec Ideal S128x2816 .bf16) (w13 : Vec Ideal S8x3072x2816 .i8) (s13 : Vec Ideal S8x3072 .f32) (w2 : Vec Ideal S8x2816x1536 .i8)
    (s2 : Vec Ideal S8x2816 .f32) (ids : Vec Ideal S128x4 .i32) (ew : Vec Ideal S128x4 .f32) : Args where
  ids t k := ids (ix2 t k)
  ew t k := ew (ix2 t k)
  x t l := x (ix2 t l)
  w13 e f l := w13 (ix3 e f l)
  s13 e f := s13 (ix2 e f)
  w2 e n f := w2 (ix3 e n f)
  s2 e n := s2 (ix2 e n)

variable (x : Vec Ideal S128x2816 .bf16) (w13 : Vec Ideal S8x3072x2816 .i8) (s13 : Vec Ideal S8x3072 .f32) (w2 : Vec Ideal S8x2816x1536 .i8)
  (s2 : Vec Ideal S8x2816 .f32) (ids : Vec Ideal S128x4 .i32) (ew : Vec Ideal S128x4 .f32)

theorem pay2_apply (e : Fin 8) (t : Fin 128) (n : Fin 2816) :
    k0_pay2 x w13 s13 w2 s2 (ix3 e t n) = outE (args x w13 s13 w2 s2 ids ew) e t n := by
  unfold k0_pay2 outE hid proj args
  pointwise
  rfl

theorem pay3_apply (e : Fin 8) (t : Fin 128) (z : Fin 1) :
    k0_pay3 ids ew (ix3 e t z) = wt (args x w13 s13 w2 s2 ids ew) e t := by
  unfold k0_pay3 wt args
  pointwise
  exact Finset.sum_congr rfl fun k _ => select_eq_ite _ _ _ _

theorem pay1_apply (t : Fin 128) (n : Fin 2816) :
    k0_pay1 (k0_pay2 x w13 s13 w2 s2) (k0_pay3 ids ew) (ix2 t n) = mix (args x w13 s13 w2 s2 ids ew) t n := by
  unfold k0_pay1 mix
  pointwise
  exact Finset.sum_congr rfl fun e _ => by rw [pay2_apply x w13 s13 w2 s2 ids ew, pay3_apply x w13 s13 w2 s2 ids ew]

end Cert.ReferenceIdeal.Val

end
-- ==== Proof.Val.Rout.lean ====
/-
  What the reference's run leaves in its result, from its arguments.
-/
module

public import proofs.«01_k».proof.Proof.Gen.ReferenceIdeal.Value
public import proofs.«01_k».proof.Proof.Val.Ref
public import Idealize.ShloMosaic.Lib.Pipeline.Value

@[expose] public section

set_option maxRecDepth 65536
set_option maxHeartbeats 1000000

noncomputable section

namespace Cert.ReferenceIdeal.Val

open Cert.ReferenceIdeal Cert.ReferenceIdeal.Gen Cert.ReferenceIdeal.Value Cert.Mixture Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (c : Dev nD)

/-- The one point. -/
abbrev t0 : Fin cfg0.N := ⟨0, by decide⟩
/-- There is one point. -/
theorem one (t : Fin cfg0.N) : t = t0 := Fin.ext (by have := t.isLt; have h : cfg0.N = 1 := rfl; omega)
/-- A staged operand is its array, whole. -/
theorem blk_ids : iblk m c 0 t0 = V m c main_v0 := by
  funext j
  show V m c main_v0 _ = V m c main_v0 j
  congr 1
  funext b; apply Fin.ext
  fin_cases b
  · show 0 * 128 + 1 * (j 0).val = (j 0).val; omega
  · show 0 * 4 + 1 * (j 1).val = (j 1).val; omega
theorem blk_ew : iblk m c 1 t0 = V m c main_v1 := by
  funext j
  show V m c main_v1 _ = V m c main_v1 j
  congr 1
  funext b; apply Fin.ext
  fin_cases b
  · show 0 * 128 + 1 * (j 0).val = (j 0).val; omega
  · show 0 * 4 + 1 * (j 1).val = (j 1).val; omega
theorem blk_x : iblk m c 2 t0 = V m c main_v2 := by
  funext j
  show V m c main_v2 _ = V m c main_v2 j
  congr 1
  funext b; apply Fin.ext
  fin_cases b
  · show 0 * 128 + 1 * (j 0).val = (j 0).val; omega
  · show 0 * 2816 + 1 * (j 1).val = (j 1).val; omega
theorem blk_s13 : iblk m c 3 t0 = V m c main_arg4 := by
  funext j
  show V m c main_arg4 _ = V m c main_arg4 j
  congr 1
  funext b; apply Fin.ext
  fin_cases b
  · show 0 * 8 + 1 * (j 0).val = (j 0).val; omega
  · show 0 * 3072 + 1 * (j 1).val = (j 1).val; omega
theorem blk_s2 : iblk m c 4 t0 = V m c main_arg6 := by
  funext j
  show V m c main_arg6 _ = V m c main_arg6 j
  congr 1
  funext b; apply Fin.ext
  fin_cases b
  · show 0 * 8 + 1 * (j 0).val = (j 0).val; omega
  · show 0 * 2816 + 1 * (j 1).val = (j 1).val; omega
theorem blk_w13 : iblk m c 5 t0 = V m c main_arg3 := by
  funext j
  show V m c main_arg3 _ = V m c main_arg3 j
  congr 1
  funext b; apply Fin.ext
  fin_cases b
  · show 0 * 8 + 1 * (j 0).val = (j 0).val; omega
  · show 0 * 3072 + 1 * (j 1).val = (j 1).val; omega
  · show 0 * 2816 + 1 * (j 2).val = (j 2).val; omega
theorem blk_w2 : iblk m c 6 t0 = V m c main_arg5 := by
  funext j
  show V m c main_arg5 _ = V m c main_arg5 j
  congr 1
  funext b; apply Fin.ext
  fin_cases b
  · show 0 * 8 + 1 * (j 0).val = (j 0).val; omega
  · show 0 * 2816 + 1 * (j 1).val = (j 1).val; omega
  · show 0 * 1536 + 1 * (j 2).val = (j 2).val; omega

/-- The host's reshapes before the call. -/
theorem V_ids : V m c main_v0 = shapeCast S128x4 (m ((c : Thread nD τ).loc main_arg1)) shapeCasts_S128x1x4_S128x4 := rfl
theorem V_ew : V m c main_v1 = shapeCast S128x4 (m ((c : Thread nD τ).loc main_arg2)) shapeCasts_S128x1x4_S128x4 := rfl
theorem V_x : V m c main_v2 = shapeCast S128x2816 (m ((c : Thread nD τ).loc main_arg0)) shapeCasts_S128x1x2816_S128x2816 := rfl

/-- The operands, from the arguments. -/
theorem args_eq (m : (ℓ : Loc nD τ sig) → Buf (Elt Ideal) ℓ) : args (iblk m c 2 t0) (iblk m c 5 t0) (iblk m c 3 t0) (iblk m c 6 t0) (iblk m c 4 t0) (iblk m c 0 t0) (iblk m c 1 t0)
    = argsOf (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) (m ((c : Thread nD τ).loc main_arg6)) := by
  rw [blk_ids, blk_ew, blk_x, blk_s13, blk_s2, blk_w13, blk_w2, V_ids, V_ew, V_x, V_main_arg3, V_main_arg4, V_main_arg5, V_main_arg6]
  unfold args argsOf
  congr 1
  · funext t k; pointwise
  · funext t k; pointwise
  · funext t k; pointwise

/-- The body's result, from its operands. -/
theorem out_apply (x0 : Vec Ideal S128x4 .i32) (x1 : Vec Ideal S128x4 .f32) (x2 : Vec Ideal S128x2816 .bf16) (x3 : Vec Ideal S8x3072 .f32) (x4 : Vec Ideal S8x2816 .f32)
    (x5 : Vec Ideal S8x3072x2816 .i8) (x6 : Vec Ideal S8x2816x1536 .i8) (t : Fin 128) (n : Fin 2816) :
    out0_7 x0 x1 x2 x3 x4 x5 x6 (ix2 t n) = mix (args x2 x5 x3 x6 x4 x0 x1) t n := by
  have l0 : View.ld x0 r0_5 = x0 := by funext j; pointwise
  have l1 : View.ld x1 r0_5 = x1 := by funext j; pointwise
  have l2 : View.ld x2 r0_0 = x2 := by funext j; pointwise
  have l3 : View.ld x3 r0_2 = x3 := by funext j; pointwise
  have l4 : View.ld x4 r0_4 = x4 := by funext j; pointwise
  have l5 : View.ld x5 r0_1 = x5 := by funext j; pointwise
  have l6 : View.ld x6 r0_3 = x6 := by funext j; pointwise
  unfold out0_7
  have e : r0_0.idx (ix2 t n) = ix2 t n := by
    funext b; apply Fin.ext
    fin_cases b
    · show 0 + 1 * t.val = t.val; omega
    · show 0 + 1 * n.val = n.val; omega
  have hp := Value.piece7_0 x2 x5 x3 x6 x4 x0 x1 (ix2 t n)
  rw [e] at hp
  rw [l0, l1, l2, l3, l4, l5, l6, Value.canon7_eq, ← pay1_apply]
  exact hp.symm

/-- The reference's result is the mixture of its arguments. -/
theorem value (m : (ℓ : Loc nD τ sig) → Buf (Elt Ideal) ℓ) (t : Fin 128) (n : Fin 2816) : (dats m 0 c).arrAt 7 cfg0.N (ix2 t n) =
    mix (argsOf (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) (m ((c : Thread nD τ).loc main_arg6))) t n := by
  have hr := congrFun (Value.blocks7 m c t0 rfl) (ix2 t n)
  rw [Value.flushed7] at hr
  have hw : ((cfg0.win 7).blk t0).view.read (Elt Ideal) ((dats m 0 c).arrAt 7 cfg0.N) (ix2 t n) = (dats m 0 c).arrAt 7 cfg0.N (ix2 t n) := by
    show (dats m 0 c).arrAt 7 cfg0.N _ = (dats m 0 c).arrAt 7 cfg0.N (ix2 t n)
    congr 1
    funext b; apply Fin.ext
    fin_cases b
    · show 0 * 128 + 1 * t.val = t.val; omega
    · show 0 * 2816 + 1 * n.val = n.val; omega
  rw [← hw, hr, ← args_eq, ← out_apply]
  rfl

end Cert.ReferenceIdeal.Val

end
-- ==== Proof.lean ====
/-
  The proof of the certificate's claims. The two printings of the kernel are the same program, so what is shown of one
  for any floats is shown of the other.
-/
module

public import proofs.«01_k».proof.Defs
public import proofs.«01_k».proof.Proof.Gen.Kernel
public import proofs.«01_k».proof.Proof.Gen.ReferenceIdeal
public import proofs.«01_k».proof.Proof.Gen.ReferenceIdeal.Frame
public import proofs.«01_k».proof.Proof.Gen.ReferenceIdeal.Value
public import proofs.«01_k».proof.Proof.KI.Run
public import proofs.«01_k».proof.Proof.Val.Kout
public import proofs.«01_k».proof.Proof.Val.Rout
public import Idealize.ShloMosaic.Adequacy
public import Idealize.ShloMosaic.Init

@[expose] public section

set_option maxRecDepth 65536

noncomputable section

namespace Cert.Proof

open Idealize.ShloMosaic Idealize.SL.Sem

/-- What the kernel's frame says, of the kernel's printing. -/
abbrev FrameK : Prop := ∀ (m : (ℓ : Loc Cert.Kernel.nD Cert.Kernel.τ Cert.Kernel.sig) → Buf (Elt Bits) ℓ) (g : Dev Cert.Kernel.nD → PrngReg),
  θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
    ∧ r.2.sem = fun _ => 0)
/-- And of the other printing, at the same floats. -/
abbrev FrameKI : Prop := ∀ (m : (ℓ : Loc Cert.KernelIdeal.nD Cert.KernelIdeal.τ Cert.KernelIdeal.sig) → Buf (Elt Bits) ℓ) (g : Dev Cert.KernelIdeal.nD → PrngReg),
  θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
    ∧ r.2.sem = fun _ => 0)

attribute [local instance] Cert.Kernel.Gen.facts Cert.KernelIdeal.Gen.facts

/-- Over the extended reals the kernel and the reference leave the same array: the mixture of the arguments. -/
theorem algebraic : Cert.algebraic_KernelIdeal_ReferenceIdeal := by
  intro m g m' g' _ hm
  refine ⟨fun c => (Cert.KernelIdeal.Hand.dats m 0 c).arrAt 5 Cert.KernelIdeal.cfg0.N, ?_, ?_⟩
  · refine (θ_run _ _ _).mono (fun r h c => ?_) (Cert.KernelIdeal.Hand.run_value (F := Ideal) m g)
    exact h c
  · refine (θ_run _ _ _).mono (fun r h c => ?_) (Cert.ReferenceIdeal.Value.run_blocks (F := Ideal) m' g')
    refine ⟨(h c).1.trans ?_, (h c).2⟩
    obtain ⟨h0, h1, h2, h3, h4, h5, h6⟩ := hm c
    funext j
    rw [eq_ix2 j]
    refine (Cert.ReferenceIdeal.Val.value c m' (j 0) (j 1)).trans ?_
    rw [h0, h1, h2, h3, h4, h5, h6]
    exact (Cert.KernelIdeal.Val.value c m (j 0) (j 1)).symm

/-- The two are one statement: the programs unfold to the same text. -/
theorem frame_same : FrameK = FrameKI := by chain_rfl

theorem frame_kernel : FrameK := cast frame_same.symm fun m g => Cert.KernelIdeal.Hand.frame (F := Bits) m g

theorem claim : Cert.Claim := ⟨Cert.Kernel.Gen.facts, Cert.KernelIdeal.Gen.facts, Cert.ReferenceIdeal.Gen.facts,
  fun m g _ => frame_kernel m g, fun m g _ => Cert.KernelIdeal.Hand.frame m g, fun m g _ => Cert.ReferenceIdeal.Gen.frame m g, trivial, algebraic⟩

end Cert.Proof

end
